-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MergeFKernel (m : (ℓ : Loc Cert.MergeFKernel.nD Cert.MergeFKernel.τ Cert.MergeFKernel.sig) → Buf (Elt Bits) ℓ) : Prop :=
  True

def Pre_MergeFKernelIdeal (m : (ℓ : Loc Cert.MergeFKernelIdeal.nD Cert.MergeFKernelIdeal.τ Cert.MergeFKernelIdeal.sig) → Buf (Elt Ideal) ℓ) : Prop :=
  True

def Pre_MergeFReferenceIdeal (m : (ℓ : Loc Cert.MergeFReferenceIdeal.nD Cert.MergeFReferenceIdeal.τ Cert.MergeFReferenceIdeal.sig) → Buf (Elt Ideal) ℓ) : Prop :=
  True

def Pre_InFKernel (m : (ℓ : Loc Cert.InFKernel.nD Cert.InFKernel.τ Cert.InFKernel.sig) → Buf (Elt Bits) ℓ) : Prop :=
  True

def Pre_InFKernelIdeal (m : (ℓ : Loc Cert.InFKernelIdeal.nD Cert.InFKernelIdeal.τ Cert.InFKernelIdeal.sig) → Buf (Elt Ideal) ℓ) : Prop :=
  True

def Pre_InFReferenceIdeal (m : (ℓ : Loc Cert.InFReferenceIdeal.nD Cert.InFReferenceIdeal.τ Cert.InFReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_AttnFKernel (m : (ℓ : Loc Cert.AttnFKernel.nD Cert.AttnFKernel.τ Cert.AttnFKernel.sig) → Buf (Elt Bits) ℓ) : Prop :=
  True

def Pre_AttnFKernelIdeal (m : (ℓ : Loc Cert.AttnFKernelIdeal.nD Cert.AttnFKernelIdeal.τ Cert.AttnFKernelIdeal.sig) → Buf (Elt Ideal) ℓ) : Prop :=
  True

def Pre_AttnFKernelIdeal_attnf_finite [hPre_attnf_finite : Cert.Pre_attnf_finite.Facts] (m : (ℓ : Loc Cert.AttnFKernelIdeal.nD Cert.AttnFKernelIdeal.τ Cert.AttnFKernelIdeal.sig) → Buf (Elt Ideal) ℓ) : Prop :=
  ∀ c : Dev Cert.AttnFKernelIdeal.nD,
    (Cert.Pre_attnf_finite.fn (F := Ideal) (m ((c.tc : Thread Cert.AttnFKernelIdeal.nD Cert.AttnFKernelIdeal.τ).loc Cert.AttnFKernelIdeal.main_arg0)) (m ((c.tc : Thread Cert.AttnFKernelIdeal.nD Cert.AttnFKernelIdeal.τ).loc Cert.AttnFKernelIdeal.main_arg1)) (m ((c.tc : Thread Cert.AttnFKernelIdeal.nD Cert.AttnFKernelIdeal.τ).loc Cert.AttnFKernelIdeal.main_arg2))).1 = (fun _ => 1#1)
    ∧ (Cert.Pre_attnf_finite.fn (F := Ideal) (m ((c.tc : Thread Cert.AttnFKernelIdeal.nD Cert.AttnFKernelIdeal.τ).loc Cert.AttnFKernelIdeal.main_arg0)) (m ((c.tc : Thread Cert.AttnFKernelIdeal.nD Cert.AttnFKernelIdeal.τ).loc Cert.AttnFKernelIdeal.main_arg1)) (m ((c.tc : Thread Cert.AttnFKernelIdeal.nD Cert.AttnFKernelIdeal.τ).loc Cert.AttnFKernelIdeal.main_arg2))).2 = (fun _ => 1#1)

def Pre_AttnFReferenceIdeal (m : (ℓ : Loc Cert.AttnFReferenceIdeal.nD Cert.AttnFReferenceIdeal.τ Cert.AttnFReferenceIdeal.sig) → Buf (Elt Ideal) ℓ) : Prop :=
  True

def Pre_AttnFReferenceIdeal_attnf_finite [hPre_attnf_finite : Cert.Pre_attnf_finite.Facts] (m : (ℓ : Loc Cert.AttnFReferenceIdeal.nD Cert.AttnFReferenceIdeal.τ Cert.AttnFReferenceIdeal.sig) → Buf (Elt Ideal) ℓ) : Prop :=
  ∀ c : Dev Cert.AttnFReferenceIdeal.nD,
    (Cert.Pre_attnf_finite.fn (F := Ideal) (m ((c.tc : Thread Cert.AttnFReferenceIdeal.nD Cert.AttnFReferenceIdeal.τ).loc Cert.AttnFReferenceIdeal.main_arg0)) (m ((c.tc : Thread Cert.AttnFReferenceIdeal.nD Cert.AttnFReferenceIdeal.τ).loc Cert.AttnFReferenceIdeal.main_arg1)) (m ((c.tc : Thread Cert.AttnFReferenceIdeal.nD Cert.AttnFReferenceIdeal.τ).loc Cert.AttnFReferenceIdeal.main_arg2))).1 = (fun _ => 1#1)
    ∧ (Cert.Pre_attnf_finite.fn (F := Ideal) (m ((c.tc : Thread Cert.AttnFReferenceIdeal.nD Cert.AttnFReferenceIdeal.τ).loc Cert.AttnFReferenceIdeal.main_arg0)) (m ((c.tc : Thread Cert.AttnFReferenceIdeal.nD Cert.AttnFReferenceIdeal.τ).loc Cert.AttnFReferenceIdeal.main_arg1)) (m ((c.tc : Thread Cert.AttnFReferenceIdeal.nD Cert.AttnFReferenceIdeal.τ).loc Cert.AttnFReferenceIdeal.main_arg2))).2 = (fun _ => 1#1)

def Pre_ParamKernel (m : (ℓ : Loc Cert.ParamKernel.nD Cert.ParamKernel.τ Cert.ParamKernel.sig) → Buf (Elt Bits) ℓ) : Prop :=
  True

def Pre_ParamKernelIdeal (m : (ℓ : Loc Cert.ParamKernelIdeal.nD Cert.ParamKernelIdeal.τ Cert.ParamKernelIdeal.sig) → Buf (Elt Ideal) ℓ) : Prop :=
  True

def Pre_ParamKernelIdeal_param_finite [hPre_param_finite : Cert.Pre_param_finite.Facts] (m : (ℓ : Loc Cert.ParamKernelIdeal.nD Cert.ParamKernelIdeal.τ Cert.ParamKernelIdeal.sig) → Buf (Elt Ideal) ℓ) : Prop :=
  ∀ c : Dev Cert.ParamKernelIdeal.nD,
    (Cert.Pre_param_finite.fn (F := Ideal) (m ((c.tc : Thread Cert.ParamKernelIdeal.nD Cert.ParamKernelIdeal.τ).loc Cert.ParamKernelIdeal.main_arg0)) (m ((c.tc : Thread Cert.ParamKernelIdeal.nD Cert.ParamKernelIdeal.τ).loc Cert.ParamKernelIdeal.main_arg1)) (m ((c.tc : Thread Cert.ParamKernelIdeal.nD Cert.ParamKernelIdeal.τ).loc Cert.ParamKernelIdeal.main_arg2)) (m ((c.tc : Thread Cert.ParamKernelIdeal.nD Cert.ParamKernelIdeal.τ).loc Cert.ParamKernelIdeal.main_arg3)) (m ((c.tc : Thread Cert.ParamKernelIdeal.nD Cert.ParamKernelIdeal.τ).loc Cert.ParamKernelIdeal.main_arg4)) (m ((c.tc : Thread Cert.ParamKernelIdeal.nD Cert.ParamKernelIdeal.τ).loc Cert.ParamKernelIdeal.main_arg5)) (m ((c.tc : Thread Cert.ParamKernelIdeal.nD Cert.ParamKernelIdeal.τ).loc Cert.ParamKernelIdeal.main_arg6)) (m ((c.tc : Thread Cert.ParamKernelIdeal.nD Cert.ParamKernelIdeal.τ).loc Cert.ParamKernelIdeal.main_arg7)) (m ((c.tc : Thread Cert.ParamKernelIdeal.nD Cert.ParamKernelIdeal.τ).loc Cert.ParamKernelIdeal.main_arg8))).1 = (fun _ => 1#1)
    ∧ (Cert.Pre_param_finite.fn (F := Ideal) (m ((c.tc : Thread Cert.ParamKernelIdeal.nD Cert.ParamKernelIdeal.τ).loc Cert.ParamKernelIdeal.main_arg0)) (m ((c.tc : Thread Cert.ParamKernelIdeal.nD Cert.ParamKernelIdeal.τ).loc Cert.ParamKernelIdeal.main_arg1)) (m ((c.tc : Thread Cert.ParamKernelIdeal.nD Cert.ParamKernelIdeal.τ).loc Cert.ParamKernelIdeal.main_arg2)) (m ((c.tc : Thread Cert.ParamKernelIdeal.nD Cert.ParamKernelIdeal.τ).loc Cert.ParamKernelIdeal.main_arg3)) (m ((c.tc : Thread Cert.ParamKernelIdeal.nD Cert.ParamKernelIdeal.τ).loc Cert.ParamKernelIdeal.main_arg4)) (m ((c.tc : Thread Cert.ParamKernelIdeal.nD Cert.ParamKernelIdeal.τ).loc Cert.ParamKernelIdeal.main_arg5)) (m ((c.tc : Thread Cert.ParamKernelIdeal.nD Cert.ParamKernelIdeal.τ).loc Cert.ParamKernelIdeal.main_arg6)) (m ((c.tc : Thread Cert.ParamKernelIdeal.nD Cert.ParamKernelIdeal.τ).loc Cert.ParamKernelIdeal.main_arg7)) (m ((c.tc : Thread Cert.ParamKernelIdeal.nD Cert.ParamKernelIdeal.τ).loc Cert.ParamKernelIdeal.main_arg8))).2.1 = (fun _ => 1#1)
    ∧ (Cert.Pre_param_finite.fn (F := Ideal) (m ((c.tc : Thread Cert.ParamKernelIdeal.nD Cert.ParamKernelIdeal.τ).loc Cert.ParamKernelIdeal.main_arg0)) (m ((c.tc : Thread Cert.ParamKernelIdeal.nD Cert.ParamKernelIdeal.τ).loc Cert.ParamKernelIdeal.main_arg1)) (m ((c.tc : Thread Cert.ParamKernelIdeal.nD Cert.ParamKernelIdeal.τ).loc Cert.ParamKernelIdeal.main_arg2)) (m ((c.tc : Thread Cert.ParamKernelIdeal.nD Cert.ParamKernelIdeal.τ).loc Cert.ParamKernelIdeal.main_arg3)) (m ((c.tc : Thread Cert.ParamKernelIdeal.nD Cert.ParamKernelIdeal.τ).loc Cert.ParamKernelIdeal.main_arg4)) (m ((c.tc : Thread Cert.ParamKernelIdeal.nD Cert.ParamKernelIdeal.τ).loc Cert.ParamKernelIdeal.main_arg5)) (m ((c.tc : Thread Cert.ParamKernelIdeal.nD Cert.ParamKernelIdeal.τ).loc Cert.ParamKernelIdeal.main_arg6)) (m ((c.tc : Thread Cert.ParamKernelIdeal.nD Cert.ParamKernelIdeal.τ).loc Cert.ParamKernelIdeal.main_arg7)) (m ((c.tc : Thread Cert.ParamKernelIdeal.nD Cert.ParamKernelIdeal.τ).loc Cert.ParamKernelIdeal.main_arg8))).2.2.1 = (fun _ => 1#1)
    ∧ (Cert.Pre_param_finite.fn (F := Ideal) (m ((c.tc : Thread Cert.ParamKernelIdeal.nD Cert.ParamKernelIdeal.τ).loc Cert.ParamKernelIdeal.main_arg0)) (m ((c.tc : Thread Cert.ParamKernelIdeal.nD Cert.ParamKernelIdeal.τ).loc Cert.ParamKernelIdeal.main_arg1)) (m ((c.tc : Thread Cert.ParamKernelIdeal.nD Cert.ParamKernelIdeal.τ).loc Cert.ParamKernelIdeal.main_arg2)) (m ((c.tc : Thread Cert.ParamKernelIdeal.nD Cert.ParamKernelIdeal.τ).loc Cert.ParamKernelIdeal.main_arg3)) (m ((c.tc : Thread Cert.ParamKernelIdeal.nD Cert.ParamKernelIdeal.τ).loc Cert.ParamKernelIdeal.main_arg4)) (m ((c.tc : Thread Cert.ParamKernelIdeal.nD Cert.ParamKernelIdeal.τ).loc Cert.ParamKernelIdeal.main_arg5)) (m ((c.tc : Thread Cert.ParamKernelIdeal.nD Cert.ParamKernelIdeal.τ).loc Cert.ParamKernelIdeal.main_arg6)) (m ((c.tc : Thread Cert.ParamKernelIdeal.nD Cert.ParamKernelIdeal.τ).loc Cert.ParamKernelIdeal.main_arg7)) (m ((c.tc : Thread Cert.ParamKernelIdeal.nD Cert.ParamKernelIdeal.τ).loc Cert.ParamKernelIdeal.main_arg8))).2.2.2 = (fun _ => 1#1)

def Pre_ParamReferenceIdeal (m : (ℓ : Loc Cert.ParamReferenceIdeal.nD Cert.ParamReferenceIdeal.τ Cert.ParamReferenceIdeal.sig) → Buf (Elt Ideal) ℓ) : Prop :=
  True

def Pre_ParamReferenceIdeal_param_finite [hPre_param_finite : Cert.Pre_param_finite.Facts] (m : (ℓ : Loc Cert.ParamReferenceIdeal.nD Cert.ParamReferenceIdeal.τ Cert.ParamReferenceIdeal.sig) → Buf (Elt Ideal) ℓ) : Prop :=
  ∀ c : Dev Cert.ParamReferenceIdeal.nD,
    (Cert.Pre_param_finite.fn (F := Ideal) (m ((c.tc : Thread Cert.ParamReferenceIdeal.nD Cert.ParamReferenceIdeal.τ).loc Cert.ParamReferenceIdeal.main_arg0)) (m ((c.tc : Thread Cert.ParamReferenceIdeal.nD Cert.ParamReferenceIdeal.τ).loc Cert.ParamReferenceIdeal.main_arg1)) (m ((c.tc : Thread Cert.ParamReferenceIdeal.nD Cert.ParamReferenceIdeal.τ).loc Cert.ParamReferenceIdeal.main_arg2)) (m ((c.tc : Thread Cert.ParamReferenceIdeal.nD Cert.ParamReferenceIdeal.τ).loc Cert.ParamReferenceIdeal.main_arg3)) (m ((c.tc : Thread Cert.ParamReferenceIdeal.nD Cert.ParamReferenceIdeal.τ).loc Cert.ParamReferenceIdeal.main_arg4)) (m ((c.tc : Thread Cert.ParamReferenceIdeal.nD Cert.ParamReferenceIdeal.τ).loc Cert.ParamReferenceIdeal.main_arg5)) (m ((c.tc : Thread Cert.ParamReferenceIdeal.nD Cert.ParamReferenceIdeal.τ).loc Cert.ParamReferenceIdeal.main_arg6)) (m ((c.tc : Thread Cert.ParamReferenceIdeal.nD Cert.ParamReferenceIdeal.τ).loc Cert.ParamReferenceIdeal.main_arg7)) (m ((c.tc : Thread Cert.ParamReferenceIdeal.nD Cert.ParamReferenceIdeal.τ).loc Cert.ParamReferenceIdeal.main_arg8))).1 = (fun _ => 1#1)
    ∧ (Cert.Pre_param_finite.fn (F := Ideal) (m ((c.tc : Thread Cert.ParamReferenceIdeal.nD Cert.ParamReferenceIdeal.τ).loc Cert.ParamReferenceIdeal.main_arg0)) (m ((c.tc : Thread Cert.ParamReferenceIdeal.nD Cert.ParamReferenceIdeal.τ).loc Cert.ParamReferenceIdeal.main_arg1)) (m ((c.tc : Thread Cert.ParamReferenceIdeal.nD Cert.ParamReferenceIdeal.τ).loc Cert.ParamReferenceIdeal.main_arg2)) (m ((c.tc : Thread Cert.ParamReferenceIdeal.nD Cert.ParamReferenceIdeal.τ).loc Cert.ParamReferenceIdeal.main_arg3)) (m ((c.tc : Thread Cert.ParamReferenceIdeal.nD Cert.ParamReferenceIdeal.τ).loc Cert.ParamReferenceIdeal.main_arg4)) (m ((c.tc : Thread Cert.ParamReferenceIdeal.nD Cert.ParamReferenceIdeal.τ).loc Cert.ParamReferenceIdeal.main_arg5)) (m ((c.tc : Thread Cert.ParamReferenceIdeal.nD Cert.ParamReferenceIdeal.τ).loc Cert.ParamReferenceIdeal.main_arg6)) (m ((c.tc : Thread Cert.ParamReferenceIdeal.nD Cert.ParamReferenceIdeal.τ).loc Cert.ParamReferenceIdeal.main_arg7)) (m ((c.tc : Thread Cert.ParamReferenceIdeal.nD Cert.ParamReferenceIdeal.τ).loc Cert.ParamReferenceIdeal.main_arg8))).2.1 = (fun _ => 1#1)
    ∧ (Cert.Pre_param_finite.fn (F := Ideal) (m ((c.tc : Thread Cert.ParamReferenceIdeal.nD Cert.ParamReferenceIdeal.τ).loc Cert.ParamReferenceIdeal.main_arg0)) (m ((c.tc : Thread Cert.ParamReferenceIdeal.nD Cert.ParamReferenceIdeal.τ).loc Cert.ParamReferenceIdeal.main_arg1)) (m ((c.tc : Thread Cert.ParamReferenceIdeal.nD Cert.ParamReferenceIdeal.τ).loc Cert.ParamReferenceIdeal.main_arg2)) (m ((c.tc : Thread Cert.ParamReferenceIdeal.nD Cert.ParamReferenceIdeal.τ).loc Cert.ParamReferenceIdeal.main_arg3)) (m ((c.tc : Thread Cert.ParamReferenceIdeal.nD Cert.ParamReferenceIdeal.τ).loc Cert.ParamReferenceIdeal.main_arg4)) (m ((c.tc : Thread Cert.ParamReferenceIdeal.nD Cert.ParamReferenceIdeal.τ).loc Cert.ParamReferenceIdeal.main_arg5)) (m ((c.tc : Thread Cert.ParamReferenceIdeal.nD Cert.ParamReferenceIdeal.τ).loc Cert.ParamReferenceIdeal.main_arg6)) (m ((c.tc : Thread Cert.ParamReferenceIdeal.nD Cert.ParamReferenceIdeal.τ).loc Cert.ParamReferenceIdeal.main_arg7)) (m ((c.tc : Thread Cert.ParamReferenceIdeal.nD Cert.ParamReferenceIdeal.τ).loc Cert.ParamReferenceIdeal.main_arg8))).2.2.1 = (fun _ => 1#1)
    ∧ (Cert.Pre_param_finite.fn (F := Ideal) (m ((c.tc : Thread Cert.ParamReferenceIdeal.nD Cert.ParamReferenceIdeal.τ).loc Cert.ParamReferenceIdeal.main_arg0)) (m ((c.tc : Thread Cert.ParamReferenceIdeal.nD Cert.ParamReferenceIdeal.τ).loc Cert.ParamReferenceIdeal.main_arg1)) (m ((c.tc : Thread Cert.ParamReferenceIdeal.nD Cert.ParamReferenceIdeal.τ).loc Cert.ParamReferenceIdeal.main_arg2)) (m ((c.tc : Thread Cert.ParamReferenceIdeal.nD Cert.ParamReferenceIdeal.τ).loc Cert.ParamReferenceIdeal.main_arg3)) (m ((c.tc : Thread Cert.ParamReferenceIdeal.nD Cert.ParamReferenceIdeal.τ).loc Cert.ParamReferenceIdeal.main_arg4)) (m ((c.tc : Thread Cert.ParamReferenceIdeal.nD Cert.ParamReferenceIdeal.τ).loc Cert.ParamReferenceIdeal.main_arg5)) (m ((c.tc : Thread Cert.ParamReferenceIdeal.nD Cert.ParamReferenceIdeal.τ).loc Cert.ParamReferenceIdeal.main_arg6)) (m ((c.tc : Thread Cert.ParamReferenceIdeal.nD Cert.ParamReferenceIdeal.τ).loc Cert.ParamReferenceIdeal.main_arg7)) (m ((c.tc : Thread Cert.ParamReferenceIdeal.nD Cert.ParamReferenceIdeal.τ).loc Cert.ParamReferenceIdeal.main_arg8))).2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_MergeFKernel [hMergeFKernel : Cert.MergeFKernel.Facts] : Prop :=
  ∀ (m : (ℓ : Loc Cert.MergeFKernel.nD Cert.MergeFKernel.τ Cert.MergeFKernel.sig) → Buf (Elt Bits) ℓ) (g : Dev Cert.MergeFKernel.nD → PrngReg), Pre_MergeFKernel m →
    θ_run (Cert.MergeFKernel.defs (F := Bits)) (onTc (τ := Cert.MergeFKernel.τ) (Cert.MergeFKernel.main (F := Bits))) ⟨m, fun _ => 0, g⟩ (fun r => (∀ c : Dev Cert.MergeFKernel.nD,
      r.2.mem ((c.tc : Thread Cert.MergeFKernel.nD Cert.MergeFKernel.τ).loc Cert.MergeFKernel.main_arg0) = m ((c.tc : Thread Cert.MergeFKernel.nD Cert.MergeFKernel.τ).loc Cert.MergeFKernel.main_arg0)
      ∧ r.2.mem ((c.tc : Thread Cert.MergeFKernel.nD Cert.MergeFKernel.τ).loc Cert.MergeFKernel.main_arg1) = m ((c.tc : Thread Cert.MergeFKernel.nD Cert.MergeFKernel.τ).loc Cert.MergeFKernel.main_arg1)
      ∧ r.2.mem ((c.tc : Thread Cert.MergeFKernel.nD Cert.MergeFKernel.τ).loc Cert.MergeFKernel.main_arg2) = m ((c.tc : Thread Cert.MergeFKernel.nD Cert.MergeFKernel.τ).loc Cert.MergeFKernel.main_arg2)
      ∧ r.2.mem ((c.tc : Thread Cert.MergeFKernel.nD Cert.MergeFKernel.τ).loc Cert.MergeFKernel.main_arg3) = m ((c.tc : Thread Cert.MergeFKernel.nD Cert.MergeFKernel.τ).loc Cert.MergeFKernel.main_arg3)
      ∧ r.2.mem ((c.tc : Thread Cert.MergeFKernel.nD Cert.MergeFKernel.τ).loc Cert.MergeFKernel.main_arg4) = m ((c.tc : Thread Cert.MergeFKernel.nD Cert.MergeFKernel.τ).loc Cert.MergeFKernel.main_arg4)
      ∧ r.2.mem ((c.tc : Thread Cert.MergeFKernel.nD Cert.MergeFKernel.τ).loc Cert.MergeFKernel.main_arg5) = m ((c.tc : Thread Cert.MergeFKernel.nD Cert.MergeFKernel.τ).loc Cert.MergeFKernel.main_arg5)
      ∧ r.2.mem ((c.tc : Thread Cert.MergeFKernel.nD Cert.MergeFKernel.τ).loc Cert.MergeFKernel.main_arg6) = m ((c.tc : Thread Cert.MergeFKernel.nD Cert.MergeFKernel.τ).loc Cert.MergeFKernel.main_arg6)
      ∧ r.2.mem ((c.tc : Thread Cert.MergeFKernel.nD Cert.MergeFKernel.τ).loc Cert.MergeFKernel.main_arg7) = m ((c.tc : Thread Cert.MergeFKernel.nD Cert.MergeFKernel.τ).loc Cert.MergeFKernel.main_arg7)
      ∧ r.2.mem ((c.tc : Thread Cert.MergeFKernel.nD Cert.MergeFKernel.τ).loc Cert.MergeFKernel.main_arg8) = m ((c.tc : Thread Cert.MergeFKernel.nD Cert.MergeFKernel.τ).loc Cert.MergeFKernel.main_arg8))
      ∧ r.2.sem = fun _ => 0)

def quiescent_MergeFKernelIdeal [hMergeFKernelIdeal : Cert.MergeFKernelIdeal.Facts] : Prop :=
  ∀ (m : (ℓ : Loc Cert.MergeFKernelIdeal.nD Cert.MergeFKernelIdeal.τ Cert.MergeFKernelIdeal.sig) → Buf (Elt Ideal) ℓ) (g : Dev Cert.MergeFKernelIdeal.nD → PrngReg), Pre_MergeFKernelIdeal m →
    θ_run (Cert.MergeFKernelIdeal.defs (F := Ideal)) (onTc (τ := Cert.MergeFKernelIdeal.τ) (Cert.MergeFKernelIdeal.main (F := Ideal))) ⟨m, fun _ => 0, g⟩ (fun r => (∀ c : Dev Cert.MergeFKernelIdeal.nD,
      r.2.mem ((c.tc : Thread Cert.MergeFKernelIdeal.nD Cert.MergeFKernelIdeal.τ).loc Cert.MergeFKernelIdeal.main_arg0) = m ((c.tc : Thread Cert.MergeFKernelIdeal.nD Cert.MergeFKernelIdeal.τ).loc Cert.MergeFKernelIdeal.main_arg0)
      ∧ r.2.mem ((c.tc : Thread Cert.MergeFKernelIdeal.nD Cert.MergeFKernelIdeal.τ).loc Cert.MergeFKernelIdeal.main_arg1) = m ((c.tc : Thread Cert.MergeFKernelIdeal.nD Cert.MergeFKernelIdeal.τ).loc Cert.MergeFKernelIdeal.main_arg1)
      ∧ r.2.mem ((c.tc : Thread Cert.MergeFKernelIdeal.nD Cert.MergeFKernelIdeal.τ).loc Cert.MergeFKernelIdeal.main_arg2) = m ((c.tc : Thread Cert.MergeFKernelIdeal.nD Cert.MergeFKernelIdeal.τ).loc Cert.MergeFKernelIdeal.main_arg2)
      ∧ r.2.mem ((c.tc : Thread Cert.MergeFKernelIdeal.nD Cert.MergeFKernelIdeal.τ).loc Cert.MergeFKernelIdeal.main_arg3) = m ((c.tc : Thread Cert.MergeFKernelIdeal.nD Cert.MergeFKernelIdeal.τ).loc Cert.MergeFKernelIdeal.main_arg3)
      ∧ r.2.mem ((c.tc : Thread Cert.MergeFKernelIdeal.nD Cert.MergeFKernelIdeal.τ).loc Cert.MergeFKernelIdeal.main_arg4) = m ((c.tc : Thread Cert.MergeFKernelIdeal.nD Cert.MergeFKernelIdeal.τ).loc Cert.MergeFKernelIdeal.main_arg4)
      ∧ r.2.mem ((c.tc : Thread Cert.MergeFKernelIdeal.nD Cert.MergeFKernelIdeal.τ).loc Cert.MergeFKernelIdeal.main_arg5) = m ((c.tc : Thread Cert.MergeFKernelIdeal.nD Cert.MergeFKernelIdeal.τ).loc Cert.MergeFKernelIdeal.main_arg5)
      ∧ r.2.mem ((c.tc : Thread Cert.MergeFKernelIdeal.nD Cert.MergeFKernelIdeal.τ).loc Cert.MergeFKernelIdeal.main_arg6) = m ((c.tc : Thread Cert.MergeFKernelIdeal.nD Cert.MergeFKernelIdeal.τ).loc Cert.MergeFKernelIdeal.main_arg6)
      ∧ r.2.mem ((c.tc : Thread Cert.MergeFKernelIdeal.nD Cert.MergeFKernelIdeal.τ).loc Cert.MergeFKernelIdeal.main_arg7) = m ((c.tc : Thread Cert.MergeFKernelIdeal.nD Cert.MergeFKernelIdeal.τ).loc Cert.MergeFKernelIdeal.main_arg7)
      ∧ r.2.mem ((c.tc : Thread Cert.MergeFKernelIdeal.nD Cert.MergeFKernelIdeal.τ).loc Cert.MergeFKernelIdeal.main_arg8) = m ((c.tc : Thread Cert.MergeFKernelIdeal.nD Cert.MergeFKernelIdeal.τ).loc Cert.MergeFKernelIdeal.main_arg8))
      ∧ r.2.sem = fun _ => 0)

def quiescent_MergeFReferenceIdeal [hMergeFReferenceIdeal : Cert.MergeFReferenceIdeal.Facts] : Prop :=
  ∀ (m : (ℓ : Loc Cert.MergeFReferenceIdeal.nD Cert.MergeFReferenceIdeal.τ Cert.MergeFReferenceIdeal.sig) → Buf (Elt Ideal) ℓ) (g : Dev Cert.MergeFReferenceIdeal.nD → PrngReg), Pre_MergeFReferenceIdeal m →
    θ_run (Cert.MergeFReferenceIdeal.defs (F := Ideal)) (onTc (τ := Cert.MergeFReferenceIdeal.τ) (Cert.MergeFReferenceIdeal.main (F := Ideal))) ⟨m, fun _ => 0, g⟩ (fun r => (∀ c : Dev Cert.MergeFReferenceIdeal.nD,
      r.2.mem ((c.tc : Thread Cert.MergeFReferenceIdeal.nD Cert.MergeFReferenceIdeal.τ).loc Cert.MergeFReferenceIdeal.main_arg0) = m ((c.tc : Thread Cert.MergeFReferenceIdeal.nD Cert.MergeFReferenceIdeal.τ).loc Cert.MergeFReferenceIdeal.main_arg0)
      ∧ r.2.mem ((c.tc : Thread Cert.MergeFReferenceIdeal.nD Cert.MergeFReferenceIdeal.τ).loc Cert.MergeFReferenceIdeal.main_arg1) = m ((c.tc : Thread Cert.MergeFReferenceIdeal.nD Cert.MergeFReferenceIdeal.τ).loc Cert.MergeFReferenceIdeal.main_arg1)
      ∧ r.2.mem ((c.tc : Thread Cert.MergeFReferenceIdeal.nD Cert.MergeFReferenceIdeal.τ).loc Cert.MergeFReferenceIdeal.main_arg2) = m ((c.tc : Thread Cert.MergeFReferenceIdeal.nD Cert.MergeFReferenceIdeal.τ).loc Cert.MergeFReferenceIdeal.main_arg2)
      ∧ r.2.mem ((c.tc : Thread Cert.MergeFReferenceIdeal.nD Cert.MergeFReferenceIdeal.τ).loc Cert.MergeFReferenceIdeal.main_arg3) = m ((c.tc : Thread Cert.MergeFReferenceIdeal.nD Cert.MergeFReferenceIdeal.τ).loc Cert.MergeFReferenceIdeal.main_arg3)
      ∧ r.2.mem ((c.tc : Thread Cert.MergeFReferenceIdeal.nD Cert.MergeFReferenceIdeal.τ).loc Cert.MergeFReferenceIdeal.main_arg4) = m ((c.tc : Thread Cert.MergeFReferenceIdeal.nD Cert.MergeFReferenceIdeal.τ).loc Cert.MergeFReferenceIdeal.main_arg4)
      ∧ r.2.mem ((c.tc : Thread Cert.MergeFReferenceIdeal.nD Cert.MergeFReferenceIdeal.τ).loc Cert.MergeFReferenceIdeal.main_arg5) = m ((c.tc : Thread Cert.MergeFReferenceIdeal.nD Cert.MergeFReferenceIdeal.τ).loc Cert.MergeFReferenceIdeal.main_arg5)
      ∧ r.2.mem ((c.tc : Thread Cert.MergeFReferenceIdeal.nD Cert.MergeFReferenceIdeal.τ).loc Cert.MergeFReferenceIdeal.main_arg6) = m ((c.tc : Thread Cert.MergeFReferenceIdeal.nD Cert.MergeFReferenceIdeal.τ).loc Cert.MergeFReferenceIdeal.main_arg6)
      ∧ r.2.mem ((c.tc : Thread Cert.MergeFReferenceIdeal.nD Cert.MergeFReferenceIdeal.τ).loc Cert.MergeFReferenceIdeal.main_arg7) = m ((c.tc : Thread Cert.MergeFReferenceIdeal.nD Cert.MergeFReferenceIdeal.τ).loc Cert.MergeFReferenceIdeal.main_arg7)
      ∧ r.2.mem ((c.tc : Thread Cert.MergeFReferenceIdeal.nD Cert.MergeFReferenceIdeal.τ).loc Cert.MergeFReferenceIdeal.main_arg8) = m ((c.tc : Thread Cert.MergeFReferenceIdeal.nD Cert.MergeFReferenceIdeal.τ).loc Cert.MergeFReferenceIdeal.main_arg8))
      ∧ r.2.sem = fun _ => 0)

def quiescent_InFKernel [hInFKernel : Cert.InFKernel.Facts] : Prop :=
  ∀ (m : (ℓ : Loc Cert.InFKernel.nD Cert.InFKernel.τ Cert.InFKernel.sig) → Buf (Elt Bits) ℓ) (g : Dev Cert.InFKernel.nD → PrngReg), Pre_InFKernel m →
    θ_run (Cert.InFKernel.defs (F := Bits)) (onTc (τ := Cert.InFKernel.τ) (Cert.InFKernel.main (F := Bits))) ⟨m, fun _ => 0, g⟩ (fun r => (∀ c : Dev Cert.InFKernel.nD,
      r.2.mem ((c.tc : Thread Cert.InFKernel.nD Cert.InFKernel.τ).loc Cert.InFKernel.main_arg0) = m ((c.tc : Thread Cert.InFKernel.nD Cert.InFKernel.τ).loc Cert.InFKernel.main_arg0)
      ∧ r.2.mem ((c.tc : Thread Cert.InFKernel.nD Cert.InFKernel.τ).loc Cert.InFKernel.main_arg1) = m ((c.tc : Thread Cert.InFKernel.nD Cert.InFKernel.τ).loc Cert.InFKernel.main_arg1)
      ∧ r.2.mem ((c.tc : Thread Cert.InFKernel.nD Cert.InFKernel.τ).loc Cert.InFKernel.main_arg2) = m ((c.tc : Thread Cert.InFKernel.nD Cert.InFKernel.τ).loc Cert.InFKernel.main_arg2))
      ∧ r.2.sem = fun _ => 0)

def quiescent_InFKernelIdeal [hInFKernelIdeal : Cert.InFKernelIdeal.Facts] : Prop :=
  ∀ (m : (ℓ : Loc Cert.InFKernelIdeal.nD Cert.InFKernelIdeal.τ Cert.InFKernelIdeal.sig) → Buf (Elt Ideal) ℓ) (g : Dev Cert.InFKernelIdeal.nD → PrngReg), Pre_InFKernelIdeal m →
    θ_run (Cert.InFKernelIdeal.defs (F := Ideal)) (onTc (τ := Cert.InFKernelIdeal.τ) (Cert.InFKernelIdeal.main (F := Ideal))) ⟨m, fun _ => 0, g⟩ (fun r => (∀ c : Dev Cert.InFKernelIdeal.nD,
      r.2.mem ((c.tc : Thread Cert.InFKernelIdeal.nD Cert.InFKernelIdeal.τ).loc Cert.InFKernelIdeal.main_arg0) = m ((c.tc : Thread Cert.InFKernelIdeal.nD Cert.InFKernelIdeal.τ).loc Cert.InFKernelIdeal.main_arg0)
      ∧ r.2.mem ((c.tc : Thread Cert.InFKernelIdeal.nD Cert.InFKernelIdeal.τ).loc Cert.InFKernelIdeal.main_arg1) = m ((c.tc : Thread Cert.InFKernelIdeal.nD Cert.InFKernelIdeal.τ).loc Cert.InFKernelIdeal.main_arg1)
      ∧ r.2.mem ((c.tc : Thread Cert.InFKernelIdeal.nD Cert.InFKernelIdeal.τ).loc Cert.InFKernelIdeal.main_arg2) = m ((c.tc : Thread Cert.InFKernelIdeal.nD Cert.InFKernelIdeal.τ).loc Cert.InFKernelIdeal.main_arg2))
      ∧ r.2.sem = fun _ => 0)

def quiescent_InFReferenceIdeal [hInFReferenceIdeal : Cert.InFReferenceIdeal.Facts] : Prop :=
  ∀ (m : (ℓ : Loc Cert.InFReferenceIdeal.nD Cert.InFReferenceIdeal.τ Cert.InFReferenceIdeal.sig) → Buf (Elt Ideal) ℓ) (g : Dev Cert.InFReferenceIdeal.nD → PrngReg), Pre_InFReferenceIdeal m →
    θ_run (Cert.InFReferenceIdeal.defs (F := Ideal)) (onTc (τ := Cert.InFReferenceIdeal.τ) (Cert.InFReferenceIdeal.main (F := Ideal))) ⟨m, fun _ => 0, g⟩ (fun r => (∀ c : Dev Cert.InFReferenceIdeal.nD,
      r.2.mem ((c.tc : Thread Cert.InFReferenceIdeal.nD Cert.InFReferenceIdeal.τ).loc Cert.InFReferenceIdeal.main_arg0) = m ((c.tc : Thread Cert.InFReferenceIdeal.nD Cert.InFReferenceIdeal.τ).loc Cert.InFReferenceIdeal.main_arg0)
      ∧ r.2.mem ((c.tc : Thread Cert.InFReferenceIdeal.nD Cert.InFReferenceIdeal.τ).loc Cert.InFReferenceIdeal.main_arg1) = m ((c.tc : Thread Cert.InFReferenceIdeal.nD Cert.InFReferenceIdeal.τ).loc Cert.InFReferenceIdeal.main_arg1)
      ∧ r.2.mem ((c.tc : Thread Cert.InFReferenceIdeal.nD Cert.InFReferenceIdeal.τ).loc Cert.InFReferenceIdeal.main_arg2) = m ((c.tc : Thread Cert.InFReferenceIdeal.nD Cert.InFReferenceIdeal.τ).loc Cert.InFReferenceIdeal.main_arg2))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8)
      ∧ r.2.mem ((c.tc : Thread Cert.MlaKernel.nD Cert.MlaKernel.τ).loc Cert.MlaKernel.main_arg9) = m ((c.tc : Thread Cert.MlaKernel.nD Cert.MlaKernel.τ).loc Cert.MlaKernel.main_arg9)
      ∧ r.2.mem ((c.tc : Thread Cert.MlaKernel.nD Cert.MlaKernel.τ).loc Cert.MlaKernel.main_arg10) = m ((c.tc : Thread Cert.MlaKernel.nD Cert.MlaKernel.τ).loc Cert.MlaKernel.main_arg10)
      ∧ r.2.mem ((c.tc : Thread Cert.MlaKernel.nD Cert.MlaKernel.τ).loc Cert.MlaKernel.main_arg11) = m ((c.tc : Thread Cert.MlaKernel.nD Cert.MlaKernel.τ).loc Cert.MlaKernel.main_arg11))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
      ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10)
      ∧ r.2.mem ((c.tc : Thread Cert.MlaKernelIdeal.nD Cert.MlaKernelIdeal.τ).loc Cert.MlaKernelIdeal.main_arg11) = m ((c.tc : Thread Cert.MlaKernelIdeal.nD Cert.MlaKernelIdeal.τ).loc Cert.MlaKernelIdeal.main_arg11))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9)
      ∧ r.2.mem ((c.tc : Thread Cert.MlaReferenceIdeal.nD Cert.MlaReferenceIdeal.τ).loc Cert.MlaReferenceIdeal.main_arg10) = m ((c.tc : Thread Cert.MlaReferenceIdeal.nD Cert.MlaReferenceIdeal.τ).loc Cert.MlaReferenceIdeal.main_arg10)
      ∧ r.2.mem ((c.tc : Thread Cert.MlaReferenceIdeal.nD Cert.MlaReferenceIdeal.τ).loc Cert.MlaReferenceIdeal.main_arg11) = m ((c.tc : Thread Cert.MlaReferenceIdeal.nD Cert.MlaReferenceIdeal.τ).loc Cert.MlaReferenceIdeal.main_arg11))
      ∧ r.2.sem = fun _ => 0)

def quiescent_AttnFKernel [hAttnFKernel : Cert.AttnFKernel.Facts] : Prop :=
  ∀ (m : (ℓ : Loc Cert.AttnFKernel.nD Cert.AttnFKernel.τ Cert.AttnFKernel.sig) → Buf (Elt Bits) ℓ) (g : Dev Cert.AttnFKernel.nD → PrngReg), Pre_AttnFKernel m →
    θ_run (Cert.AttnFKernel.defs (F := Bits)) (onTc (τ := Cert.AttnFKernel.τ) (Cert.AttnFKernel.main (F := Bits))) ⟨m, fun _ => 0, g⟩ (fun r => (∀ c : Dev Cert.AttnFKernel.nD,
      r.2.mem ((c.tc : Thread Cert.AttnFKernel.nD Cert.AttnFKernel.τ).loc Cert.AttnFKernel.main_arg0) = m ((c.tc : Thread Cert.AttnFKernel.nD Cert.AttnFKernel.τ).loc Cert.AttnFKernel.main_arg0)
      ∧ r.2.mem ((c.tc : Thread Cert.AttnFKernel.nD Cert.AttnFKernel.τ).loc Cert.AttnFKernel.main_arg1) = m ((c.tc : Thread Cert.AttnFKernel.nD Cert.AttnFKernel.τ).loc Cert.AttnFKernel.main_arg1)
      ∧ r.2.mem ((c.tc : Thread Cert.AttnFKernel.nD Cert.AttnFKernel.τ).loc Cert.AttnFKernel.main_arg2) = m ((c.tc : Thread Cert.AttnFKernel.nD Cert.AttnFKernel.τ).loc Cert.AttnFKernel.main_arg2))
      ∧ r.2.sem = fun _ => 0)

def quiescent_AttnFKernelIdeal [hAttnFKernelIdeal : Cert.AttnFKernelIdeal.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg), Pre_AttnFKernelIdeal m →
    θ_run (Cert.AttnFKernelIdeal.defs (F := Ideal)) (onTc (τ := Cert.AttnFKernelIdeal.τ) (Cert.AttnFKernelIdeal.main (F := Ideal))) ⟨m, fun _ => 0, g⟩ (fun r => (∀ c : Dev Cert.AttnFKernelIdeal.nD,
      r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
      ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1)
      ∧ r.2.mem ((c.tc : Thread Cert.AttnFKernelIdeal.nD Cert.AttnFKernelIdeal.τ).loc Cert.AttnFKernelIdeal.main_arg2) = m ((c.tc : Thread Cert.AttnFKernelIdeal.nD Cert.AttnFKernelIdeal.τ).loc Cert.AttnFKernelIdeal.main_arg2))
      ∧ r.2.sem = fun _ => 0)

def quiescent_AttnFKernelIdeal_pre_attnf_finite [hAttnFKernelIdeal : Cert.AttnFKernelIdeal.Facts] [hPre_attnf_finite : Cert.Pre_attnf_finite.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg), Pre_AttnFKernelIdeal_attnf_finite m →
    θ_run (Cert.AttnFKernelIdeal.defs (F := Ideal)) (onTc (τ := Cert.AttnFKernelIdeal.τ) (Cert.AttnFKernelIdeal.main (F := Ideal))) ⟨m, fun _ => 0, g⟩ (fun r => (∀ c : Dev Cert.AttnFKernelIdeal.nD,
      r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
      ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1)
      ∧ r.2.mem ((c.tc : Thread Cert.AttnFKernelIdeal.nD Cert.AttnFKernelIdeal.τ).loc Cert.AttnFKernelIdeal.main_arg2) = m ((c.tc : Thread Cert.AttnFKernelIdeal.nD Cert.AttnFKernelIdeal.τ).loc Cert.AttnFKernelIdeal.main_arg2))
      ∧ r.2.sem = fun _ => 0)

def quiescent_AttnFReferenceIdeal [hAttnFReferenceIdeal : Cert.AttnFReferenceIdeal.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1)
      ∧ r.2.mem ((c.tc : Thread Cert.AttnFReferenceIdeal.nD Cert.AttnFReferenceIdeal.τ).loc Cert.AttnFReferenceIdeal.main_arg2) = m ((c.tc : Thread Cert.AttnFReferenceIdeal.nD Cert.AttnFReferenceIdeal.τ).loc Cert.AttnFReferenceIdeal.main_arg2))
      ∧ r.2.sem = fun _ => 0)

def quiescent_AttnFReferenceIdeal_pre_attnf_finite [hAttnFReferenceIdeal : Cert.AttnFReferenceIdeal.Facts] [hPre_attnf_finite : Cert.Pre_attnf_finite.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal_attnf_finite m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1)
      ∧ r.2.mem ((c.tc : Thread Cert.AttnFReferenceIdeal.nD Cert.AttnFReferenceIdeal.τ).loc Cert.AttnFReferenceIdeal.main_arg2) = m ((c.tc : Thread Cert.AttnFReferenceIdeal.nD Cert.AttnFReferenceIdeal.τ).loc Cert.AttnFReferenceIdeal.main_arg2))
      ∧ r.2.sem = fun _ => 0)

def quiescent_ParamKernel [hParamKernel : Cert.ParamKernel.Facts] : Prop :=
  ∀ (m : (ℓ : Loc Cert.ParamKernel.nD Cert.ParamKernel.τ Cert.ParamKernel.sig) → Buf (Elt Bits) ℓ) (g : Dev Cert.ParamKernel.nD → PrngReg), Pre_ParamKernel m →
    θ_run (Cert.ParamKernel.defs (F := Bits)) (onTc (τ := Cert.ParamKernel.τ) (Cert.ParamKernel.main (F := Bits))) ⟨m, fun _ => 0, g⟩ (fun r => (∀ c : Dev Cert.ParamKernel.nD,
      r.2.mem ((c.tc : Thread Cert.ParamKernel.nD Cert.ParamKernel.τ).loc Cert.ParamKernel.main_arg0) = m ((c.tc : Thread Cert.ParamKernel.nD Cert.ParamKernel.τ).loc Cert.ParamKernel.main_arg0)
      ∧ r.2.mem ((c.tc : Thread Cert.ParamKernel.nD Cert.ParamKernel.τ).loc Cert.ParamKernel.main_arg1) = m ((c.tc : Thread Cert.ParamKernel.nD Cert.ParamKernel.τ).loc Cert.ParamKernel.main_arg1)
      ∧ r.2.mem ((c.tc : Thread Cert.ParamKernel.nD Cert.ParamKernel.τ).loc Cert.ParamKernel.main_arg2) = m ((c.tc : Thread Cert.ParamKernel.nD Cert.ParamKernel.τ).loc Cert.ParamKernel.main_arg2)
      ∧ r.2.mem ((c.tc : Thread Cert.ParamKernel.nD Cert.ParamKernel.τ).loc Cert.ParamKernel.main_arg3) = m ((c.tc : Thread Cert.ParamKernel.nD Cert.ParamKernel.τ).loc Cert.ParamKernel.main_arg3)
      ∧ r.2.mem ((c.tc : Thread Cert.ParamKernel.nD Cert.ParamKernel.τ).loc Cert.ParamKernel.main_arg4) = m ((c.tc : Thread Cert.ParamKernel.nD Cert.ParamKernel.τ).loc Cert.ParamKernel.main_arg4)
      ∧ r.2.mem ((c.tc : Thread Cert.ParamKernel.nD Cert.ParamKernel.τ).loc Cert.ParamKernel.main_arg5) = m ((c.tc : Thread Cert.ParamKernel.nD Cert.ParamKernel.τ).loc Cert.ParamKernel.main_arg5)
      ∧ r.2.mem ((c.tc : Thread Cert.ParamKernel.nD Cert.ParamKernel.τ).loc Cert.ParamKernel.main_arg6) = m ((c.tc : Thread Cert.ParamKernel.nD Cert.ParamKernel.τ).loc Cert.ParamKernel.main_arg6)
      ∧ r.2.mem ((c.tc : Thread Cert.ParamKernel.nD Cert.ParamKernel.τ).loc Cert.ParamKernel.main_arg7) = m ((c.tc : Thread Cert.ParamKernel.nD Cert.ParamKernel.τ).loc Cert.ParamKernel.main_arg7)
      ∧ r.2.mem ((c.tc : Thread Cert.ParamKernel.nD Cert.ParamKernel.τ).loc Cert.ParamKernel.main_arg8) = m ((c.tc : Thread Cert.ParamKernel.nD Cert.ParamKernel.τ).loc Cert.ParamKernel.main_arg8))
      ∧ r.2.sem = fun _ => 0)

def quiescent_ParamKernelIdeal [hParamKernelIdeal : Cert.ParamKernelIdeal.Facts] : Prop :=
  ∀ (m : (ℓ : Loc Cert.ParamKernelIdeal.nD Cert.ParamKernelIdeal.τ Cert.ParamKernelIdeal.sig) → Buf (Elt Ideal) ℓ) (g : Dev Cert.ParamKernelIdeal.nD → PrngReg), Pre_ParamKernelIdeal m →
    θ_run (Cert.ParamKernelIdeal.defs (F := Ideal)) (onTc (τ := Cert.ParamKernelIdeal.τ) (Cert.ParamKernelIdeal.main (F := Ideal))) ⟨m, fun _ => 0, g⟩ (fun r => (∀ c : Dev Cert.ParamKernelIdeal.nD,
      r.2.mem ((c.tc : Thread Cert.ParamKernelIdeal.nD Cert.ParamKernelIdeal.τ).loc Cert.ParamKernelIdeal.main_arg0) = m ((c.tc : Thread Cert.ParamKernelIdeal.nD Cert.ParamKernelIdeal.τ).loc Cert.ParamKernelIdeal.main_arg0)
      ∧ r.2.mem ((c.tc : Thread Cert.ParamKernelIdeal.nD Cert.ParamKernelIdeal.τ).loc Cert.ParamKernelIdeal.main_arg1) = m ((c.tc : Thread Cert.ParamKernelIdeal.nD Cert.ParamKernelIdeal.τ).loc Cert.ParamKernelIdeal.main_arg1)
      ∧ r.2.mem ((c.tc : Thread Cert.ParamKernelIdeal.nD Cert.ParamKernelIdeal.τ).loc Cert.ParamKernelIdeal.main_arg2) = m ((c.tc : Thread Cert.ParamKernelIdeal.nD Cert.ParamKernelIdeal.τ).loc Cert.ParamKernelIdeal.main_arg2)
      ∧ r.2.mem ((c.tc : Thread Cert.ParamKernelIdeal.nD Cert.ParamKernelIdeal.τ).loc Cert.ParamKernelIdeal.main_arg3) = m ((c.tc : Thread Cert.ParamKernelIdeal.nD Cert.ParamKernelIdeal.τ).loc Cert.ParamKernelIdeal.main_arg3)
      ∧ r.2.mem ((c.tc : Thread Cert.ParamKernelIdeal.nD Cert.ParamKernelIdeal.τ).loc Cert.ParamKernelIdeal.main_arg4) = m ((c.tc : Thread Cert.ParamKernelIdeal.nD Cert.ParamKernelIdeal.τ).loc Cert.ParamKernelIdeal.main_arg4)
      ∧ r.2.mem ((c.tc : Thread Cert.ParamKernelIdeal.nD Cert.ParamKernelIdeal.τ).loc Cert.ParamKernelIdeal.main_arg5) = m ((c.tc : Thread Cert.ParamKernelIdeal.nD Cert.ParamKernelIdeal.τ).loc Cert.ParamKernelIdeal.main_arg5)
      ∧ r.2.mem ((c.tc : Thread Cert.ParamKernelIdeal.nD Cert.ParamKernelIdeal.τ).loc Cert.ParamKernelIdeal.main_arg6) = m ((c.tc : Thread Cert.ParamKernelIdeal.nD Cert.ParamKernelIdeal.τ).loc Cert.ParamKernelIdeal.main_arg6)
      ∧ r.2.mem ((c.tc : Thread Cert.ParamKernelIdeal.nD Cert.ParamKernelIdeal.τ).loc Cert.ParamKernelIdeal.main_arg7) = m ((c.tc : Thread Cert.ParamKernelIdeal.nD Cert.ParamKernelIdeal.τ).loc Cert.ParamKernelIdeal.main_arg7)
      ∧ r.2.mem ((c.tc : Thread Cert.ParamKernelIdeal.nD Cert.ParamKernelIdeal.τ).loc Cert.ParamKernelIdeal.main_arg8) = m ((c.tc : Thread Cert.ParamKernelIdeal.nD Cert.ParamKernelIdeal.τ).loc Cert.ParamKernelIdeal.main_arg8))
      ∧ r.2.sem = fun _ => 0)

def quiescent_ParamKernelIdeal_pre_param_finite [hParamKernelIdeal : Cert.ParamKernelIdeal.Facts] [hPre_param_finite : Cert.Pre_param_finite.Facts] : Prop :=
  ∀ (m : (ℓ : Loc Cert.ParamKernelIdeal.nD Cert.ParamKernelIdeal.τ Cert.ParamKernelIdeal.sig) → Buf (Elt Ideal) ℓ) (g : Dev Cert.ParamKernelIdeal.nD → PrngReg), Pre_ParamKernelIdeal_param_finite m →
    θ_run (Cert.ParamKernelIdeal.defs (F := Ideal)) (onTc (τ := Cert.ParamKernelIdeal.τ) (Cert.ParamKernelIdeal.main (F := Ideal))) ⟨m, fun _ => 0, g⟩ (fun r => (∀ c : Dev Cert.ParamKernelIdeal.nD,
      r.2.mem ((c.tc : Thread Cert.ParamKernelIdeal.nD Cert.ParamKernelIdeal.τ).loc Cert.ParamKernelIdeal.main_arg0) = m ((c.tc : Thread Cert.ParamKernelIdeal.nD Cert.ParamKernelIdeal.τ).loc Cert.ParamKernelIdeal.main_arg0)
      ∧ r.2.mem ((c.tc : Thread Cert.ParamKernelIdeal.nD Cert.ParamKernelIdeal.τ).loc Cert.ParamKernelIdeal.main_arg1) = m ((c.tc : Thread Cert.ParamKernelIdeal.nD Cert.ParamKernelIdeal.τ).loc Cert.ParamKernelIdeal.main_arg1)
      ∧ r.2.mem ((c.tc : Thread Cert.ParamKernelIdeal.nD Cert.ParamKernelIdeal.τ).loc Cert.ParamKernelIdeal.main_arg2) = m ((c.tc : Thread Cert.ParamKernelIdeal.nD Cert.ParamKernelIdeal.τ).loc Cert.ParamKernelIdeal.main_arg2)
      ∧ r.2.mem ((c.tc : Thread Cert.ParamKernelIdeal.nD Cert.ParamKernelIdeal.τ).loc Cert.ParamKernelIdeal.main_arg3) = m ((c.tc : Thread Cert.ParamKernelIdeal.nD Cert.ParamKernelIdeal.τ).loc Cert.ParamKernelIdeal.main_arg3)
      ∧ r.2.mem ((c.tc : Thread Cert.ParamKernelIdeal.nD Cert.ParamKernelIdeal.τ).loc Cert.ParamKernelIdeal.main_arg4) = m ((c.tc : Thread Cert.ParamKernelIdeal.nD Cert.ParamKernelIdeal.τ).loc Cert.ParamKernelIdeal.main_arg4)
      ∧ r.2.mem ((c.tc : Thread Cert.ParamKernelIdeal.nD Cert.ParamKernelIdeal.τ).loc Cert.ParamKernelIdeal.main_arg5) = m ((c.tc : Thread Cert.ParamKernelIdeal.nD Cert.ParamKernelIdeal.τ).loc Cert.ParamKernelIdeal.main_arg5)
      ∧ r.2.mem ((c.tc : Thread Cert.ParamKernelIdeal.nD Cert.ParamKernelIdeal.τ).loc Cert.ParamKernelIdeal.main_arg6) = m ((c.tc : Thread Cert.ParamKernelIdeal.nD Cert.ParamKernelIdeal.τ).loc Cert.ParamKernelIdeal.main_arg6)
      ∧ r.2.mem ((c.tc : Thread Cert.ParamKernelIdeal.nD Cert.ParamKernelIdeal.τ).loc Cert.ParamKernelIdeal.main_arg7) = m ((c.tc : Thread Cert.ParamKernelIdeal.nD Cert.ParamKernelIdeal.τ).loc Cert.ParamKernelIdeal.main_arg7)
      ∧ r.2.mem ((c.tc : Thread Cert.ParamKernelIdeal.nD Cert.ParamKernelIdeal.τ).loc Cert.ParamKernelIdeal.main_arg8) = m ((c.tc : Thread Cert.ParamKernelIdeal.nD Cert.ParamKernelIdeal.τ).loc Cert.ParamKernelIdeal.main_arg8))
      ∧ r.2.sem = fun _ => 0)

def quiescent_ParamReferenceIdeal [hParamReferenceIdeal : Cert.ParamReferenceIdeal.Facts] : Prop :=
  ∀ (m : (ℓ : Loc Cert.ParamReferenceIdeal.nD Cert.ParamReferenceIdeal.τ Cert.ParamReferenceIdeal.sig) → Buf (Elt Ideal) ℓ) (g : Dev Cert.ParamReferenceIdeal.nD → PrngReg), Pre_ParamReferenceIdeal m →
    θ_run (Cert.ParamReferenceIdeal.defs (F := Ideal)) (onTc (τ := Cert.ParamReferenceIdeal.τ) (Cert.ParamReferenceIdeal.main (F := Ideal))) ⟨m, fun _ => 0, g⟩ (fun r => (∀ c : Dev Cert.ParamReferenceIdeal.nD,
      r.2.mem ((c.tc : Thread Cert.ParamReferenceIdeal.nD Cert.ParamReferenceIdeal.τ).loc Cert.ParamReferenceIdeal.main_arg0) = m ((c.tc : Thread Cert.ParamReferenceIdeal.nD Cert.ParamReferenceIdeal.τ).loc Cert.ParamReferenceIdeal.main_arg0)
      ∧ r.2.mem ((c.tc : Thread Cert.ParamReferenceIdeal.nD Cert.ParamReferenceIdeal.τ).loc Cert.ParamReferenceIdeal.main_arg1) = m ((c.tc : Thread Cert.ParamReferenceIdeal.nD Cert.ParamReferenceIdeal.τ).loc Cert.ParamReferenceIdeal.main_arg1)
      ∧ r.2.mem ((c.tc : Thread Cert.ParamReferenceIdeal.nD Cert.ParamReferenceIdeal.τ).loc Cert.ParamReferenceIdeal.main_arg2) = m ((c.tc : Thread Cert.ParamReferenceIdeal.nD Cert.ParamReferenceIdeal.τ).loc Cert.ParamReferenceIdeal.main_arg2)
      ∧ r.2.mem ((c.tc : Thread Cert.ParamReferenceIdeal.nD Cert.ParamReferenceIdeal.τ).loc Cert.ParamReferenceIdeal.main_arg3) = m ((c.tc : Thread Cert.ParamReferenceIdeal.nD Cert.ParamReferenceIdeal.τ).loc Cert.ParamReferenceIdeal.main_arg3)
      ∧ r.2.mem ((c.tc : Thread Cert.ParamReferenceIdeal.nD Cert.ParamReferenceIdeal.τ).loc Cert.ParamReferenceIdeal.main_arg4) = m ((c.tc : Thread Cert.ParamReferenceIdeal.nD Cert.ParamReferenceIdeal.τ).loc Cert.ParamReferenceIdeal.main_arg4)
      ∧ r.2.mem ((c.tc : Thread Cert.ParamReferenceIdeal.nD Cert.ParamReferenceIdeal.τ).loc Cert.ParamReferenceIdeal.main_arg5) = m ((c.tc : Thread Cert.ParamReferenceIdeal.nD Cert.ParamReferenceIdeal.τ).loc Cert.ParamReferenceIdeal.main_arg5)
      ∧ r.2.mem ((c.tc : Thread Cert.ParamReferenceIdeal.nD Cert.ParamReferenceIdeal.τ).loc Cert.ParamReferenceIdeal.main_arg6) = m ((c.tc : Thread Cert.ParamReferenceIdeal.nD Cert.ParamReferenceIdeal.τ).loc Cert.ParamReferenceIdeal.main_arg6)
      ∧ r.2.mem ((c.tc : Thread Cert.ParamReferenceIdeal.nD Cert.ParamReferenceIdeal.τ).loc Cert.ParamReferenceIdeal.main_arg7) = m ((c.tc : Thread Cert.ParamReferenceIdeal.nD Cert.ParamReferenceIdeal.τ).loc Cert.ParamReferenceIdeal.main_arg7)
      ∧ r.2.mem ((c.tc : Thread Cert.ParamReferenceIdeal.nD Cert.ParamReferenceIdeal.τ).loc Cert.ParamReferenceIdeal.main_arg8) = m ((c.tc : Thread Cert.ParamReferenceIdeal.nD Cert.ParamReferenceIdeal.τ).loc Cert.ParamReferenceIdeal.main_arg8))
      ∧ r.2.sem = fun _ => 0)

def quiescent_ParamReferenceIdeal_pre_param_finite [hParamReferenceIdeal : Cert.ParamReferenceIdeal.Facts] [hPre_param_finite : Cert.Pre_param_finite.Facts] : Prop :=
  ∀ (m : (ℓ : Loc Cert.ParamReferenceIdeal.nD Cert.ParamReferenceIdeal.τ Cert.ParamReferenceIdeal.sig) → Buf (Elt Ideal) ℓ) (g : Dev Cert.ParamReferenceIdeal.nD → PrngReg), Pre_ParamReferenceIdeal_param_finite m →
    θ_run (Cert.ParamReferenceIdeal.defs (F := Ideal)) (onTc (τ := Cert.ParamReferenceIdeal.τ) (Cert.ParamReferenceIdeal.main (F := Ideal))) ⟨m, fun _ => 0, g⟩ (fun r => (∀ c : Dev Cert.ParamReferenceIdeal.nD,
      r.2.mem ((c.tc : Thread Cert.ParamReferenceIdeal.nD Cert.ParamReferenceIdeal.τ).loc Cert.ParamReferenceIdeal.main_arg0) = m ((c.tc : Thread Cert.ParamReferenceIdeal.nD Cert.ParamReferenceIdeal.τ).loc Cert.ParamReferenceIdeal.main_arg0)
      ∧ r.2.mem ((c.tc : Thread Cert.ParamReferenceIdeal.nD Cert.ParamReferenceIdeal.τ).loc Cert.ParamReferenceIdeal.main_arg1) = m ((c.tc : Thread Cert.ParamReferenceIdeal.nD Cert.ParamReferenceIdeal.τ).loc Cert.ParamReferenceIdeal.main_arg1)
      ∧ r.2.mem ((c.tc : Thread Cert.ParamReferenceIdeal.nD Cert.ParamReferenceIdeal.τ).loc Cert.ParamReferenceIdeal.main_arg2) = m ((c.tc : Thread Cert.ParamReferenceIdeal.nD Cert.ParamReferenceIdeal.τ).loc Cert.ParamReferenceIdeal.main_arg2)
      ∧ r.2.mem ((c.tc : Thread Cert.ParamReferenceIdeal.nD Cert.ParamReferenceIdeal.τ).loc Cert.ParamReferenceIdeal.main_arg3) = m ((c.tc : Thread Cert.ParamReferenceIdeal.nD Cert.ParamReferenceIdeal.τ).loc Cert.ParamReferenceIdeal.main_arg3)
      ∧ r.2.mem ((c.tc : Thread Cert.ParamReferenceIdeal.nD Cert.ParamReferenceIdeal.τ).loc Cert.ParamReferenceIdeal.main_arg4) = m ((c.tc : Thread Cert.ParamReferenceIdeal.nD Cert.ParamReferenceIdeal.τ).loc Cert.ParamReferenceIdeal.main_arg4)
      ∧ r.2.mem ((c.tc : Thread Cert.ParamReferenceIdeal.nD Cert.ParamReferenceIdeal.τ).loc Cert.ParamReferenceIdeal.main_arg5) = m ((c.tc : Thread Cert.ParamReferenceIdeal.nD Cert.ParamReferenceIdeal.τ).loc Cert.ParamReferenceIdeal.main_arg5)
      ∧ r.2.mem ((c.tc : Thread Cert.ParamReferenceIdeal.nD Cert.ParamReferenceIdeal.τ).loc Cert.ParamReferenceIdeal.main_arg6) = m ((c.tc : Thread Cert.ParamReferenceIdeal.nD Cert.ParamReferenceIdeal.τ).loc Cert.ParamReferenceIdeal.main_arg6)
      ∧ r.2.mem ((c.tc : Thread Cert.ParamReferenceIdeal.nD Cert.ParamReferenceIdeal.τ).loc Cert.ParamReferenceIdeal.main_arg7) = m ((c.tc : Thread Cert.ParamReferenceIdeal.nD Cert.ParamReferenceIdeal.τ).loc Cert.ParamReferenceIdeal.main_arg7)
      ∧ r.2.mem ((c.tc : Thread Cert.ParamReferenceIdeal.nD Cert.ParamReferenceIdeal.τ).loc Cert.ParamReferenceIdeal.main_arg8) = m ((c.tc : Thread Cert.ParamReferenceIdeal.nD Cert.ParamReferenceIdeal.τ).loc Cert.ParamReferenceIdeal.main_arg8))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v27_0)) (v1 : (c : Dev Cert.InKernelIdeal.nD) → Buf (Elt Ideal) ((c.tc : Thread Cert.InKernelIdeal.nD Cert.InKernelIdeal.τ).loc Cert.InKernelIdeal.main_v27_1)) (v2 : (c : Dev Cert.InKernelIdeal.nD) → Buf (Elt Ideal) ((c.tc : Thread Cert.InKernelIdeal.nD Cert.InKernelIdeal.τ).loc Cert.InKernelIdeal.main_v27_2)) (v3 : (c : Dev Cert.InKernelIdeal.nD) → Buf (Elt Ideal) ((c.tc : Thread Cert.InKernelIdeal.nD Cert.InKernelIdeal.τ).loc Cert.InKernelIdeal.main_v27_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v27_0) = v0 c
          ∧ r.2.mem ((c.tc : Thread Cert.InKernelIdeal.nD Cert.InKernelIdeal.τ).loc Cert.InKernelIdeal.main_v27_1) = v1 c
          ∧ r.2.mem ((c.tc : Thread Cert.InKernelIdeal.nD Cert.InKernelIdeal.τ).loc Cert.InKernelIdeal.main_v27_2) = v2 c
          ∧ r.2.mem ((c.tc : Thread Cert.InKernelIdeal.nD Cert.InKernelIdeal.τ).loc Cert.InKernelIdeal.main_v27_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v43) = v1 c
          ∧ r.2.mem ((c.tc : Thread Cert.InReferenceIdeal.nD Cert.InReferenceIdeal.τ).loc Cert.InReferenceIdeal.main_v44) = v2 c
          ∧ r.2.mem ((c.tc : Thread Cert.InReferenceIdeal.nD Cert.InReferenceIdeal.τ).loc Cert.InReferenceIdeal.main_v45) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_MergeFKernel_MergeFKernelIdeal : Prop :=
  True

def algebraic_MergeFKernelIdeal_MergeFReferenceIdeal [hMergeFKernelIdeal : Cert.MergeFKernelIdeal.Facts] [hMergeFReferenceIdeal : Cert.MergeFReferenceIdeal.Facts] : Prop :=
  ∀ (m : (ℓ : Loc Cert.MergeFKernelIdeal.nD Cert.MergeFKernelIdeal.τ Cert.MergeFKernelIdeal.sig) → Buf (Elt Ideal) ℓ) (g : Dev Cert.MergeFKernelIdeal.nD → PrngReg)
    (m' : (ℓ : Loc Cert.MergeFReferenceIdeal.nD Cert.MergeFReferenceIdeal.τ Cert.MergeFReferenceIdeal.sig) → Buf (Elt Ideal) ℓ) (g' : Dev Cert.MergeFReferenceIdeal.nD → PrngReg), Pre_MergeFKernelIdeal m →
    (∀ c : Dev Cert.MergeFKernelIdeal.nD,
      m' ((c.tc : Thread Cert.MergeFReferenceIdeal.nD Cert.MergeFReferenceIdeal.τ).loc Cert.MergeFReferenceIdeal.main_arg0) = m ((c.tc : Thread Cert.MergeFKernelIdeal.nD Cert.MergeFKernelIdeal.τ).loc Cert.MergeFKernelIdeal.main_arg0)
      ∧ m' ((c.tc : Thread Cert.MergeFReferenceIdeal.nD Cert.MergeFReferenceIdeal.τ).loc Cert.MergeFReferenceIdeal.main_arg1) = m ((c.tc : Thread Cert.MergeFKernelIdeal.nD Cert.MergeFKernelIdeal.τ).loc Cert.MergeFKernelIdeal.main_arg1)
      ∧ m' ((c.tc : Thread Cert.MergeFReferenceIdeal.nD Cert.MergeFReferenceIdeal.τ).loc Cert.MergeFReferenceIdeal.main_arg2) = m ((c.tc : Thread Cert.MergeFKernelIdeal.nD Cert.MergeFKernelIdeal.τ).loc Cert.MergeFKernelIdeal.main_arg2)
      ∧ m' ((c.tc : Thread Cert.MergeFReferenceIdeal.nD Cert.MergeFReferenceIdeal.τ).loc Cert.MergeFReferenceIdeal.main_arg3) = m ((c.tc : Thread Cert.MergeFKernelIdeal.nD Cert.MergeFKernelIdeal.τ).loc Cert.MergeFKernelIdeal.main_arg3)
      ∧ m' ((c.tc : Thread Cert.MergeFReferenceIdeal.nD Cert.MergeFReferenceIdeal.τ).loc Cert.MergeFReferenceIdeal.main_arg4) = m ((c.tc : Thread Cert.MergeFKernelIdeal.nD Cert.MergeFKernelIdeal.τ).loc Cert.MergeFKernelIdeal.main_arg4)
      ∧ m' ((c.tc : Thread Cert.MergeFReferenceIdeal.nD Cert.MergeFReferenceIdeal.τ).loc Cert.MergeFReferenceIdeal.main_arg5) = m ((c.tc : Thread Cert.MergeFKernelIdeal.nD Cert.MergeFKernelIdeal.τ).loc Cert.MergeFKernelIdeal.main_arg5)
      ∧ m' ((c.tc : Thread Cert.MergeFReferenceIdeal.nD Cert.MergeFReferenceIdeal.τ).loc Cert.MergeFReferenceIdeal.main_arg6) = m ((c.tc : Thread Cert.MergeFKernelIdeal.nD Cert.MergeFKernelIdeal.τ).loc Cert.MergeFKernelIdeal.main_arg6)
      ∧ m' ((c.tc : Thread Cert.MergeFReferenceIdeal.nD Cert.MergeFReferenceIdeal.τ).loc Cert.MergeFReferenceIdeal.main_arg7) = m ((c.tc : Thread Cert.MergeFKernelIdeal.nD Cert.MergeFKernelIdeal.τ).loc Cert.MergeFKernelIdeal.main_arg7)
      ∧ m' ((c.tc : Thread Cert.MergeFReferenceIdeal.nD Cert.MergeFReferenceIdeal.τ).loc Cert.MergeFReferenceIdeal.main_arg8) = m ((c.tc : Thread Cert.MergeFKernelIdeal.nD Cert.MergeFKernelIdeal.τ).loc Cert.MergeFKernelIdeal.main_arg8)) →
    ∃ (v0 : (c : Dev Cert.MergeFKernelIdeal.nD) → Buf (Elt Ideal) ((c.tc : Thread Cert.MergeFKernelIdeal.nD Cert.MergeFKernelIdeal.τ).loc Cert.MergeFKernelIdeal.main_v10_0)) (v1 : (c : Dev Cert.MergeFKernelIdeal.nD) → Buf (Elt Ideal) ((c.tc : Thread Cert.MergeFKernelIdeal.nD Cert.MergeFKernelIdeal.τ).loc Cert.MergeFKernelIdeal.main_v10_1)) (v2 : (c : Dev Cert.MergeFKernelIdeal.nD) → Buf (Elt Ideal) ((c.tc : Thread Cert.MergeFKernelIdeal.nD Cert.MergeFKernelIdeal.τ).loc Cert.MergeFKernelIdeal.main_v10_2)),
      θ_run (Cert.MergeFKernelIdeal.defs (F := Ideal)) (onTc (τ := Cert.MergeFKernelIdeal.τ) (Cert.MergeFKernelIdeal.main (F := Ideal))) ⟨m, fun _ => 0, g⟩ (fun r => ∀ c : Dev Cert.MergeFKernelIdeal.nD,
          r.2.mem ((c.tc : Thread Cert.MergeFKernelIdeal.nD Cert.MergeFKernelIdeal.τ).loc Cert.MergeFKernelIdeal.main_v10_0) = v0 c
          ∧ r.2.mem ((c.tc : Thread Cert.MergeFKernelIdeal.nD Cert.MergeFKernelIdeal.τ).loc Cert.MergeFKernelIdeal.main_v10_1) = v1 c
          ∧ r.2.mem ((c.tc : Thread Cert.MergeFKernelIdeal.nD Cert.MergeFKernelIdeal.τ).loc Cert.MergeFKernelIdeal.main_v10_2) = v2 c
          ∧ r.2.mem ((c.tc : Thread Cert.MergeFKernelIdeal.nD Cert.MergeFKernelIdeal.τ).loc Cert.MergeFKernelIdeal.main_arg0) = m ((c.tc : Thread Cert.MergeFKernelIdeal.nD Cert.MergeFKernelIdeal.τ).loc Cert.MergeFKernelIdeal.main_arg0)
          ∧ r.2.mem ((c.tc : Thread Cert.MergeFKernelIdeal.nD Cert.MergeFKernelIdeal.τ).loc Cert.MergeFKernelIdeal.main_arg1) = m ((c.tc : Thread Cert.MergeFKernelIdeal.nD Cert.MergeFKernelIdeal.τ).loc Cert.MergeFKernelIdeal.main_arg1)
          ∧ r.2.mem ((c.tc : Thread Cert.MergeFKernelIdeal.nD Cert.MergeFKernelIdeal.τ).loc Cert.MergeFKernelIdeal.main_arg2) = m ((c.tc : Thread Cert.MergeFKernelIdeal.nD Cert.MergeFKernelIdeal.τ).loc Cert.MergeFKernelIdeal.main_arg2)
          ∧ r.2.mem ((c.tc : Thread Cert.MergeFKernelIdeal.nD Cert.MergeFKernelIdeal.τ).loc Cert.MergeFKernelIdeal.main_arg3) = m ((c.tc : Thread Cert.MergeFKernelIdeal.nD Cert.MergeFKernelIdeal.τ).loc Cert.MergeFKernelIdeal.main_arg3)
          ∧ r.2.mem ((c.tc : Thread Cert.MergeFKernelIdeal.nD Cert.MergeFKernelIdeal.τ).loc Cert.MergeFKernelIdeal.main_arg4) = m ((c.tc : Thread Cert.MergeFKernelIdeal.nD Cert.MergeFKernelIdeal.τ).loc Cert.MergeFKernelIdeal.main_arg4)
          ∧ r.2.mem ((c.tc : Thread Cert.MergeFKernelIdeal.nD Cert.MergeFKernelIdeal.τ).loc Cert.MergeFKernelIdeal.main_arg5) = m ((c.tc : Thread Cert.MergeFKernelIdeal.nD Cert.MergeFKernelIdeal.τ).loc Cert.MergeFKernelIdeal.main_arg5)
          ∧ r.2.mem ((c.tc : Thread Cert.MergeFKernelIdeal.nD Cert.MergeFKernelIdeal.τ).loc Cert.MergeFKernelIdeal.main_arg6) = m ((c.tc : Thread Cert.MergeFKernelIdeal.nD Cert.MergeFKernelIdeal.τ).loc Cert.MergeFKernelIdeal.main_arg6)
          ∧ r.2.mem ((c.tc : Thread Cert.MergeFKernelIdeal.nD Cert.MergeFKernelIdeal.τ).loc Cert.MergeFKernelIdeal.main_arg7) = m ((c.tc : Thread Cert.MergeFKernelIdeal.nD Cert.MergeFKernelIdeal.τ).loc Cert.MergeFKernelIdeal.main_arg7)
          ∧ r.2.mem ((c.tc : Thread Cert.MergeFKernelIdeal.nD Cert.MergeFKernelIdeal.τ).loc Cert.MergeFKernelIdeal.main_arg8) = m ((c.tc : Thread Cert.MergeFKernelIdeal.nD Cert.MergeFKernelIdeal.τ).loc Cert.MergeFKernelIdeal.main_arg8))
      ∧ θ_run (Cert.MergeFReferenceIdeal.defs (F := Ideal)) (onTc (τ := Cert.MergeFReferenceIdeal.τ) (Cert.MergeFReferenceIdeal.main (F := Ideal))) ⟨m', fun _ => 0, g'⟩ (fun r => ∀ c : Dev Cert.MergeFReferenceIdeal.nD,
          r.2.mem ((c.tc : Thread Cert.MergeFReferenceIdeal.nD Cert.MergeFReferenceIdeal.τ).loc Cert.MergeFReferenceIdeal.main_v16) = v0 c
          ∧ r.2.mem ((c.tc : Thread Cert.MergeFReferenceIdeal.nD Cert.MergeFReferenceIdeal.τ).loc Cert.MergeFReferenceIdeal.main_v17) = v1 c
          ∧ r.2.mem ((c.tc : Thread Cert.MergeFReferenceIdeal.nD Cert.MergeFReferenceIdeal.τ).loc Cert.MergeFReferenceIdeal.main_v19) = v2 c
          ∧ r.2.mem ((c.tc : Thread Cert.MergeFReferenceIdeal.nD Cert.MergeFReferenceIdeal.τ).loc Cert.MergeFReferenceIdeal.main_arg0) = m' ((c.tc : Thread Cert.MergeFReferenceIdeal.nD Cert.MergeFReferenceIdeal.τ).loc Cert.MergeFReferenceIdeal.main_arg0)
          ∧ r.2.mem ((c.tc : Thread Cert.MergeFReferenceIdeal.nD Cert.MergeFReferenceIdeal.τ).loc Cert.MergeFReferenceIdeal.main_arg1) = m' ((c.tc : Thread Cert.MergeFReferenceIdeal.nD Cert.MergeFReferenceIdeal.τ).loc Cert.MergeFReferenceIdeal.main_arg1)
          ∧ r.2.mem ((c.tc : Thread Cert.MergeFReferenceIdeal.nD Cert.MergeFReferenceIdeal.τ).loc Cert.MergeFReferenceIdeal.main_arg2) = m' ((c.tc : Thread Cert.MergeFReferenceIdeal.nD Cert.MergeFReferenceIdeal.τ).loc Cert.MergeFReferenceIdeal.main_arg2)
          ∧ r.2.mem ((c.tc : Thread Cert.MergeFReferenceIdeal.nD Cert.MergeFReferenceIdeal.τ).loc Cert.MergeFReferenceIdeal.main_arg3) = m' ((c.tc : Thread Cert.MergeFReferenceIdeal.nD Cert.MergeFReferenceIdeal.τ).loc Cert.MergeFReferenceIdeal.main_arg3)
          ∧ r.2.mem ((c.tc : Thread Cert.MergeFReferenceIdeal.nD Cert.MergeFReferenceIdeal.τ).loc Cert.MergeFReferenceIdeal.main_arg4) = m' ((c.tc : Thread Cert.MergeFReferenceIdeal.nD Cert.MergeFReferenceIdeal.τ).loc Cert.MergeFReferenceIdeal.main_arg4)
          ∧ r.2.mem ((c.tc : Thread Cert.MergeFReferenceIdeal.nD Cert.MergeFReferenceIdeal.τ).loc Cert.MergeFReferenceIdeal.main_arg5) = m' ((c.tc : Thread Cert.MergeFReferenceIdeal.nD Cert.MergeFReferenceIdeal.τ).loc Cert.MergeFReferenceIdeal.main_arg5)
          ∧ r.2.mem ((c.tc : Thread Cert.MergeFReferenceIdeal.nD Cert.MergeFReferenceIdeal.τ).loc Cert.MergeFReferenceIdeal.main_arg6) = m' ((c.tc : Thread Cert.MergeFReferenceIdeal.nD Cert.MergeFReferenceIdeal.τ).loc Cert.MergeFReferenceIdeal.main_arg6)
          ∧ r.2.mem ((c.tc : Thread Cert.MergeFReferenceIdeal.nD Cert.MergeFReferenceIdeal.τ).loc Cert.MergeFReferenceIdeal.main_arg7) = m' ((c.tc : Thread Cert.MergeFReferenceIdeal.nD Cert.MergeFReferenceIdeal.τ).loc Cert.MergeFReferenceIdeal.main_arg7)
          ∧ r.2.mem ((c.tc : Thread Cert.MergeFReferenceIdeal.nD Cert.MergeFReferenceIdeal.τ).loc Cert.MergeFReferenceIdeal.main_arg8) = m' ((c.tc : Thread Cert.MergeFReferenceIdeal.nD Cert.MergeFReferenceIdeal.τ).loc Cert.MergeFReferenceIdeal.main_arg8))

def preserves_InFKernel_InFKernelIdeal : Prop :=
  True

def algebraic_InFKernelIdeal_InFReferenceIdeal [hInFKernelIdeal : Cert.InFKernelIdeal.Facts] [hInFReferenceIdeal : Cert.InFReferenceIdeal.Facts] : Prop :=
  ∀ (m : (ℓ : Loc Cert.InFKernelIdeal.nD Cert.InFKernelIdeal.τ Cert.InFKernelIdeal.sig) → Buf (Elt Ideal) ℓ) (g : Dev Cert.InFKernelIdeal.nD → PrngReg)
    (m' : (ℓ : Loc Cert.InFReferenceIdeal.nD Cert.InFReferenceIdeal.τ Cert.InFReferenceIdeal.sig) → Buf (Elt Ideal) ℓ) (g' : Dev Cert.InFReferenceIdeal.nD → PrngReg), Pre_InFKernelIdeal m →
    (∀ c : Dev Cert.InFKernelIdeal.nD,
      m' ((c.tc : Thread Cert.InFReferenceIdeal.nD Cert.InFReferenceIdeal.τ).loc Cert.InFReferenceIdeal.main_arg0) = m ((c.tc : Thread Cert.InFKernelIdeal.nD Cert.InFKernelIdeal.τ).loc Cert.InFKernelIdeal.main_arg0)
      ∧ m' ((c.tc : Thread Cert.InFReferenceIdeal.nD Cert.InFReferenceIdeal.τ).loc Cert.InFReferenceIdeal.main_arg1) = m ((c.tc : Thread Cert.InFKernelIdeal.nD Cert.InFKernelIdeal.τ).loc Cert.InFKernelIdeal.main_arg1)
      ∧ m' ((c.tc : Thread Cert.InFReferenceIdeal.nD Cert.InFReferenceIdeal.τ).loc Cert.InFReferenceIdeal.main_arg2) = m ((c.tc : Thread Cert.InFKernelIdeal.nD Cert.InFKernelIdeal.τ).loc Cert.InFKernelIdeal.main_arg2)) →
    ∃ (v0 : (c : Dev Cert.InFKernelIdeal.nD) → Buf (Elt Ideal) ((c.tc : Thread Cert.InFKernelIdeal.nD Cert.InFKernelIdeal.τ).loc Cert.InFKernelIdeal.main_v19_0)) (v1 : (c : Dev Cert.InFKernelIdeal.nD) → Buf (Elt Ideal) ((c.tc : Thread Cert.InFKernelIdeal.nD Cert.InFKernelIdeal.τ).loc Cert.InFKernelIdeal.main_v19_1)) (v2 : (c : Dev Cert.InFKernelIdeal.nD) → Buf (Elt Ideal) ((c.tc : Thread Cert.InFKernelIdeal.nD Cert.InFKernelIdeal.τ).loc Cert.InFKernelIdeal.main_v19_2)) (v3 : (c : Dev Cert.InFKernelIdeal.nD) → Buf (Elt Ideal) ((c.tc : Thread Cert.InFKernelIdeal.nD Cert.InFKernelIdeal.τ).loc Cert.InFKernelIdeal.main_v19_3)),
      θ_run (Cert.InFKernelIdeal.defs (F := Ideal)) (onTc (τ := Cert.InFKernelIdeal.τ) (Cert.InFKernelIdeal.main (F := Ideal))) ⟨m, fun _ => 0, g⟩ (fun r => ∀ c : Dev Cert.InFKernelIdeal.nD,
          r.2.mem ((c.tc : Thread Cert.InFKernelIdeal.nD Cert.InFKernelIdeal.τ).loc Cert.InFKernelIdeal.main_v19_0) = v0 c
          ∧ r.2.mem ((c.tc : Thread Cert.InFKernelIdeal.nD Cert.InFKernelIdeal.τ).loc Cert.InFKernelIdeal.main_v19_1) = v1 c
          ∧ r.2.mem ((c.tc : Thread Cert.InFKernelIdeal.nD Cert.InFKernelIdeal.τ).loc Cert.InFKernelIdeal.main_v19_2) = v2 c
          ∧ r.2.mem ((c.tc : Thread Cert.InFKernelIdeal.nD Cert.InFKernelIdeal.τ).loc Cert.InFKernelIdeal.main_v19_3) = v3 c
          ∧ r.2.mem ((c.tc : Thread Cert.InFKernelIdeal.nD Cert.InFKernelIdeal.τ).loc Cert.InFKernelIdeal.main_arg0) = m ((c.tc : Thread Cert.InFKernelIdeal.nD Cert.InFKernelIdeal.τ).loc Cert.InFKernelIdeal.main_arg0)
          ∧ r.2.mem ((c.tc : Thread Cert.InFKernelIdeal.nD Cert.InFKernelIdeal.τ).loc Cert.InFKernelIdeal.main_arg1) = m ((c.tc : Thread Cert.InFKernelIdeal.nD Cert.InFKernelIdeal.τ).loc Cert.InFKernelIdeal.main_arg1)
          ∧ r.2.mem ((c.tc : Thread Cert.InFKernelIdeal.nD Cert.InFKernelIdeal.τ).loc Cert.InFKernelIdeal.main_arg2) = m ((c.tc : Thread Cert.InFKernelIdeal.nD Cert.InFKernelIdeal.τ).loc Cert.InFKernelIdeal.main_arg2))
      ∧ θ_run (Cert.InFReferenceIdeal.defs (F := Ideal)) (onTc (τ := Cert.InFReferenceIdeal.τ) (Cert.InFReferenceIdeal.main (F := Ideal))) ⟨m', fun _ => 0, g'⟩ (fun r => ∀ c : Dev Cert.InFReferenceIdeal.nD,
          r.2.mem ((c.tc : Thread Cert.InFReferenceIdeal.nD Cert.InFReferenceIdeal.τ).loc Cert.InFReferenceIdeal.main_v16) = v0 c
          ∧ r.2.mem ((c.tc : Thread Cert.InFReferenceIdeal.nD Cert.InFReferenceIdeal.τ).loc Cert.InFReferenceIdeal.main_v15) = v1 c
          ∧ r.2.mem ((c.tc : Thread Cert.InFReferenceIdeal.nD Cert.InFReferenceIdeal.τ).loc Cert.InFReferenceIdeal.main_v18) = v2 c
          ∧ r.2.mem ((c.tc : Thread Cert.InFReferenceIdeal.nD Cert.InFReferenceIdeal.τ).loc Cert.InFReferenceIdeal.main_v20) = v3 c
          ∧ r.2.mem ((c.tc : Thread Cert.InFReferenceIdeal.nD Cert.InFReferenceIdeal.τ).loc Cert.InFReferenceIdeal.main_arg0) = m' ((c.tc : Thread Cert.InFReferenceIdeal.nD Cert.InFReferenceIdeal.τ).loc Cert.InFReferenceIdeal.main_arg0)
          ∧ r.2.mem ((c.tc : Thread Cert.InFReferenceIdeal.nD Cert.InFReferenceIdeal.τ).loc Cert.InFReferenceIdeal.main_arg1) = m' ((c.tc : Thread Cert.InFReferenceIdeal.nD Cert.InFReferenceIdeal.τ).loc Cert.InFReferenceIdeal.main_arg1)
          ∧ r.2.mem ((c.tc : Thread Cert.InFReferenceIdeal.nD Cert.InFReferenceIdeal.τ).loc Cert.InFReferenceIdeal.main_arg2) = m' ((c.tc : Thread Cert.InFReferenceIdeal.nD Cert.InFReferenceIdeal.τ).loc Cert.InFReferenceIdeal.main_arg2))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)) →
    ∃ (v0 : (c : Dev Cert.MlpKernelIdeal.nD) → Buf (Elt Ideal) ((c.tc : Thread Cert.MlpKernelIdeal.nD Cert.MlpKernelIdeal.τ).loc Cert.MlpKernelIdeal.main_v8_0)) (v1 : (c : Dev Cert.MlpKernelIdeal.nD) → Buf (Elt Ideal) ((c.tc : Thread Cert.MlpKernelIdeal.nD Cert.MlpKernelIdeal.τ).loc Cert.MlpKernelIdeal.main_v8_1)) (v2 : (c : Dev Cert.MlpKernelIdeal.nD) → Buf (Elt Ideal) ((c.tc : Thread Cert.MlpKernelIdeal.nD Cert.MlpKernelIdeal.τ).loc Cert.MlpKernelIdeal.main_v8_2)) (v3 : (c : Dev Cert.MlpKernelIdeal.nD) → Buf (Elt Ideal) ((c.tc : Thread Cert.MlpKernelIdeal.nD Cert.MlpKernelIdeal.τ).loc Cert.MlpKernelIdeal.main_v8_3)) (v4 : (c : Dev Cert.MlpKernelIdeal.nD) → Buf (Elt Ideal) ((c.tc : Thread Cert.MlpKernelIdeal.nD Cert.MlpKernelIdeal.τ).loc Cert.MlpKernelIdeal.main_v8_4)) (v5 : (c : Dev Cert.MlpKernelIdeal.nD) → Buf (Elt Ideal) ((c.tc : Thread Cert.MlpKernelIdeal.nD Cert.MlpKernelIdeal.τ).loc Cert.MlpKernelIdeal.main_v8_5)) (v6 : (c : Dev Cert.MlpKernelIdeal.nD) → Buf (Elt Ideal) ((c.tc : Thread Cert.MlpKernelIdeal.nD Cert.MlpKernelIdeal.τ).loc Cert.MlpKernelIdeal.main_v8_6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v8_0) = v0 c
          ∧ r.2.mem ((c.tc : Thread Cert.MlpKernelIdeal.nD Cert.MlpKernelIdeal.τ).loc Cert.MlpKernelIdeal.main_v8_1) = v1 c
          ∧ r.2.mem ((c.tc : Thread Cert.MlpKernelIdeal.nD Cert.MlpKernelIdeal.τ).loc Cert.MlpKernelIdeal.main_v8_2) = v2 c
          ∧ r.2.mem ((c.tc : Thread Cert.MlpKernelIdeal.nD Cert.MlpKernelIdeal.τ).loc Cert.MlpKernelIdeal.main_v8_3) = v3 c
          ∧ r.2.mem ((c.tc : Thread Cert.MlpKernelIdeal.nD Cert.MlpKernelIdeal.τ).loc Cert.MlpKernelIdeal.main_v8_4) = v4 c
          ∧ r.2.mem ((c.tc : Thread Cert.MlpKernelIdeal.nD Cert.MlpKernelIdeal.τ).loc Cert.MlpKernelIdeal.main_v8_5) = v5 c
          ∧ r.2.mem ((c.tc : Thread Cert.MlpKernelIdeal.nD Cert.MlpKernelIdeal.τ).loc Cert.MlpKernelIdeal.main_v8_6) = v6 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v70) = v0 c
          ∧ r.2.mem ((c.tc : Thread Cert.MlpReferenceIdeal.nD Cert.MlpReferenceIdeal.τ).loc Cert.MlpReferenceIdeal.main_v71) = v1 c
          ∧ r.2.mem ((c.tc : Thread Cert.MlpReferenceIdeal.nD Cert.MlpReferenceIdeal.τ).loc Cert.MlpReferenceIdeal.main_v72) = v2 c
          ∧ r.2.mem ((c.tc : Thread Cert.MlpReferenceIdeal.nD Cert.MlpReferenceIdeal.τ).loc Cert.MlpReferenceIdeal.main_v73) = v3 c
          ∧ r.2.mem ((c.tc : Thread Cert.MlpReferenceIdeal.nD Cert.MlpReferenceIdeal.τ).loc Cert.MlpReferenceIdeal.main_v74) = v4 c
          ∧ r.2.mem ((c.tc : Thread Cert.MlpReferenceIdeal.nD Cert.MlpReferenceIdeal.τ).loc Cert.MlpReferenceIdeal.main_v75) = v5 c
          ∧ r.2.mem ((c.tc : Thread Cert.MlpReferenceIdeal.nD Cert.MlpReferenceIdeal.τ).loc Cert.MlpReferenceIdeal.main_v76) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def preserves_MlaKernel_MlaKernelIdeal : Prop :=
  IdealRules.named_const.Statement Cert.MlaKernelIdeal.κ "inv_384" .f32 0x3B2AAAAB#32 ((1 / 384 : ℝ) : EReal)
  ∧ IdealRules.named_const.Statement Cert.MlaKernelIdeal.κ "inv_192" .f32 0x3BAAAAAB#32 ((1 / 192 : ℝ) : EReal)

def preserves_AttnFKernel_AttnFKernelIdeal : Prop :=
  True

def algebraic_AttnFKernelIdeal_AttnFReferenceIdeal_pre_attnf_finite [hAttnFKernelIdeal : Cert.AttnFKernelIdeal.Facts] [hAttnFReferenceIdeal : Cert.AttnFReferenceIdeal.Facts] [hPre_attnf_finite : Cert.Pre_attnf_finite.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg)
    (m' : (ℓ : Loc Cert.AttnFReferenceIdeal.nD Cert.AttnFReferenceIdeal.τ Cert.AttnFReferenceIdeal.sig) → Buf (Elt Ideal) ℓ) (g' : Dev Cert.AttnFReferenceIdeal.nD → PrngReg), Pre_AttnFKernelIdeal_attnf_finite m →
    (∀ c : Dev Cert.AttnFKernelIdeal.nD,
      m' ((c.tc : Thread Cert.AttnFReferenceIdeal.nD Cert.AttnFReferenceIdeal.τ).loc Cert.AttnFReferenceIdeal.main_arg0) = m ((c.tc : Thread Cert.AttnFKernelIdeal.nD Cert.AttnFKernelIdeal.τ).loc Cert.AttnFKernelIdeal.main_arg0)
      ∧ m' ((c.tc : Thread Cert.AttnFReferenceIdeal.nD Cert.AttnFReferenceIdeal.τ).loc Cert.AttnFReferenceIdeal.main_arg1) = m ((c.tc : Thread Cert.AttnFKernelIdeal.nD Cert.AttnFKernelIdeal.τ).loc Cert.AttnFKernelIdeal.main_arg1)
      ∧ m' ((c.tc : Thread Cert.AttnFReferenceIdeal.nD Cert.AttnFReferenceIdeal.τ).loc Cert.AttnFReferenceIdeal.main_arg2) = m ((c.tc : Thread Cert.AttnFKernelIdeal.nD Cert.AttnFKernelIdeal.τ).loc Cert.AttnFKernelIdeal.main_arg2)) →
    ∃ (v0 : (c : Dev Cert.AttnFKernelIdeal.nD) → Buf (Elt Ideal) ((c.tc : Thread Cert.AttnFKernelIdeal.nD Cert.AttnFKernelIdeal.τ).loc Cert.AttnFKernelIdeal.main_v11_0)) (v1 : (c : Dev Cert.AttnFKernelIdeal.nD) → Buf (Elt Ideal) ((c.tc : Thread Cert.AttnFKernelIdeal.nD Cert.AttnFKernelIdeal.τ).loc Cert.AttnFKernelIdeal.main_v11_1)),
      θ_run (Cert.AttnFKernelIdeal.defs (F := Ideal)) (onTc (τ := Cert.AttnFKernelIdeal.τ) (Cert.AttnFKernelIdeal.main (F := Ideal))) ⟨m, fun _ => 0, g⟩ (fun r => ∀ c : Dev Cert.AttnFKernelIdeal.nD,
          r.2.mem ((c.tc : Thread Cert.AttnFKernelIdeal.nD Cert.AttnFKernelIdeal.τ).loc Cert.AttnFKernelIdeal.main_v11_0) = v0 c
          ∧ r.2.mem ((c.tc : Thread Cert.AttnFKernelIdeal.nD Cert.AttnFKernelIdeal.τ).loc Cert.AttnFKernelIdeal.main_v11_1) = v1 c
          ∧ r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
          ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1)
          ∧ r.2.mem ((c.tc : Thread Cert.AttnFKernelIdeal.nD Cert.AttnFKernelIdeal.τ).loc Cert.AttnFKernelIdeal.main_arg2) = m ((c.tc : Thread Cert.AttnFKernelIdeal.nD Cert.AttnFKernelIdeal.τ).loc Cert.AttnFKernelIdeal.main_arg2))
      ∧ θ_run (Cert.AttnFReferenceIdeal.defs (F := Ideal)) (onTc (τ := Cert.AttnFReferenceIdeal.τ) (Cert.AttnFReferenceIdeal.main (F := Ideal))) ⟨m', fun _ => 0, g'⟩ (fun r => ∀ c : Dev Cert.AttnFReferenceIdeal.nD,
          r.2.mem ((c.tc : Thread Cert.AttnFReferenceIdeal.nD Cert.AttnFReferenceIdeal.τ).loc Cert.AttnFReferenceIdeal.main_v32) = v0 c
          ∧ r.2.mem ((c.tc : Thread Cert.AttnFReferenceIdeal.nD Cert.AttnFReferenceIdeal.τ).loc Cert.AttnFReferenceIdeal.main_v33) = v1 c
          ∧ r.2.mem ((c.tc : Thread Cert.AttnFReferenceIdeal.nD Cert.AttnFReferenceIdeal.τ).loc Cert.AttnFReferenceIdeal.main_arg0) = m' ((c.tc : Thread Cert.AttnFReferenceIdeal.nD Cert.AttnFReferenceIdeal.τ).loc Cert.AttnFReferenceIdeal.main_arg0)
          ∧ r.2.mem ((c.tc : Thread Cert.AttnFReferenceIdeal.nD Cert.AttnFReferenceIdeal.τ).loc Cert.AttnFReferenceIdeal.main_arg1) = m' ((c.tc : Thread Cert.AttnFReferenceIdeal.nD Cert.AttnFReferenceIdeal.τ).loc Cert.AttnFReferenceIdeal.main_arg1)
          ∧ r.2.mem ((c.tc : Thread Cert.AttnFReferenceIdeal.nD Cert.AttnFReferenceIdeal.τ).loc Cert.AttnFReferenceIdeal.main_arg2) = m' ((c.tc : Thread Cert.AttnFReferenceIdeal.nD Cert.AttnFReferenceIdeal.τ).loc Cert.AttnFReferenceIdeal.main_arg2))

def preserves_ParamKernel_ParamKernelIdeal : Prop :=
  True

def algebraic_ParamKernelIdeal_ParamReferenceIdeal_pre_param_finite [hParamKernelIdeal : Cert.ParamKernelIdeal.Facts] [hParamReferenceIdeal : Cert.ParamReferenceIdeal.Facts] [hPre_param_finite : Cert.Pre_param_finite.Facts] : Prop :=
  ∀ (m : (ℓ : Loc Cert.ParamKernelIdeal.nD Cert.ParamKernelIdeal.τ Cert.ParamKernelIdeal.sig) → Buf (Elt Ideal) ℓ) (g : Dev Cert.ParamKernelIdeal.nD → PrngReg)
    (m' : (ℓ : Loc Cert.ParamReferenceIdeal.nD Cert.ParamReferenceIdeal.τ Cert.ParamReferenceIdeal.sig) → Buf (Elt Ideal) ℓ) (g' : Dev Cert.ParamReferenceIdeal.nD → PrngReg), Pre_ParamKernelIdeal_param_finite m →
    (∀ c : Dev Cert.ParamKernelIdeal.nD,
      m' ((c.tc : Thread Cert.ParamReferenceIdeal.nD Cert.ParamReferenceIdeal.τ).loc Cert.ParamReferenceIdeal.main_arg0) = m ((c.tc : Thread Cert.ParamKernelIdeal.nD Cert.ParamKernelIdeal.τ).loc Cert.ParamKernelIdeal.main_arg0)
      ∧ m' ((c.tc : Thread Cert.ParamReferenceIdeal.nD Cert.ParamReferenceIdeal.τ).loc Cert.ParamReferenceIdeal.main_arg1) = m ((c.tc : Thread Cert.ParamKernelIdeal.nD Cert.ParamKernelIdeal.τ).loc Cert.ParamKernelIdeal.main_arg1)
      ∧ m' ((c.tc : Thread Cert.ParamReferenceIdeal.nD Cert.ParamReferenceIdeal.τ).loc Cert.ParamReferenceIdeal.main_arg2) = m ((c.tc : Thread Cert.ParamKernelIdeal.nD Cert.ParamKernelIdeal.τ).loc Cert.ParamKernelIdeal.main_arg2)
      ∧ m' ((c.tc : Thread Cert.ParamReferenceIdeal.nD Cert.ParamReferenceIdeal.τ).loc Cert.ParamReferenceIdeal.main_arg3) = m ((c.tc : Thread Cert.ParamKernelIdeal.nD Cert.ParamKernelIdeal.τ).loc Cert.ParamKernelIdeal.main_arg3)
      ∧ m' ((c.tc : Thread Cert.ParamReferenceIdeal.nD Cert.ParamReferenceIdeal.τ).loc Cert.ParamReferenceIdeal.main_arg4) = m ((c.tc : Thread Cert.ParamKernelIdeal.nD Cert.ParamKernelIdeal.τ).loc Cert.ParamKernelIdeal.main_arg4)
      ∧ m' ((c.tc : Thread Cert.ParamReferenceIdeal.nD Cert.ParamReferenceIdeal.τ).loc Cert.ParamReferenceIdeal.main_arg5) = m ((c.tc : Thread Cert.ParamKernelIdeal.nD Cert.ParamKernelIdeal.τ).loc Cert.ParamKernelIdeal.main_arg5)
      ∧ m' ((c.tc : Thread Cert.ParamReferenceIdeal.nD Cert.ParamReferenceIdeal.τ).loc Cert.ParamReferenceIdeal.main_arg6) = m ((c.tc : Thread Cert.ParamKernelIdeal.nD Cert.ParamKernelIdeal.τ).loc Cert.ParamKernelIdeal.main_arg6)
      ∧ m' ((c.tc : Thread Cert.ParamReferenceIdeal.nD Cert.ParamReferenceIdeal.τ).loc Cert.ParamReferenceIdeal.main_arg7) = m ((c.tc : Thread Cert.ParamKernelIdeal.nD Cert.ParamKernelIdeal.τ).loc Cert.ParamKernelIdeal.main_arg7)
      ∧ m' ((c.tc : Thread Cert.ParamReferenceIdeal.nD Cert.ParamReferenceIdeal.τ).loc Cert.ParamReferenceIdeal.main_arg8) = m ((c.tc : Thread Cert.ParamKernelIdeal.nD Cert.ParamKernelIdeal.τ).loc Cert.ParamKernelIdeal.main_arg8)) →
    ∃ (v0 : (c : Dev Cert.ParamKernelIdeal.nD) → Buf (Elt Ideal) ((c.tc : Thread Cert.ParamKernelIdeal.nD Cert.ParamKernelIdeal.τ).loc Cert.ParamKernelIdeal.main_v7_0)) (v1 : (c : Dev Cert.ParamKernelIdeal.nD) → Buf (Elt Ideal) ((c.tc : Thread Cert.ParamKernelIdeal.nD Cert.ParamKernelIdeal.τ).loc Cert.ParamKernelIdeal.main_v7_1)) (v2 : (c : Dev Cert.ParamKernelIdeal.nD) → Buf (Elt Ideal) ((c.tc : Thread Cert.ParamKernelIdeal.nD Cert.ParamKernelIdeal.τ).loc Cert.ParamKernelIdeal.main_v7_2)) (v3 : (c : Dev Cert.ParamKernelIdeal.nD) → Buf (Elt Ideal) ((c.tc : Thread Cert.ParamKernelIdeal.nD Cert.ParamKernelIdeal.τ).loc Cert.ParamKernelIdeal.main_v7_3)) (v4 : (c : Dev Cert.ParamKernelIdeal.nD) → Buf (Elt Ideal) ((c.tc : Thread Cert.ParamKernelIdeal.nD Cert.ParamKernelIdeal.τ).loc Cert.ParamKernelIdeal.main_v7_4)) (v5 : (c : Dev Cert.ParamKernelIdeal.nD) → Buf (Elt Ideal) ((c.tc : Thread Cert.ParamKernelIdeal.nD Cert.ParamKernelIdeal.τ).loc Cert.ParamKernelIdeal.main_v7_5)) (v6 : (c : Dev Cert.ParamKernelIdeal.nD) → Buf (Elt Ideal) ((c.tc : Thread Cert.ParamKernelIdeal.nD Cert.ParamKernelIdeal.τ).loc Cert.ParamKernelIdeal.main_v7_6)),
      θ_run (Cert.ParamKernelIdeal.defs (F := Ideal)) (onTc (τ := Cert.ParamKernelIdeal.τ) (Cert.ParamKernelIdeal.main (F := Ideal))) ⟨m, fun _ => 0, g⟩ (fun r => ∀ c : Dev Cert.ParamKernelIdeal.nD,
          r.2.mem ((c.tc : Thread Cert.ParamKernelIdeal.nD Cert.ParamKernelIdeal.τ).loc Cert.ParamKernelIdeal.main_v7_0) = v0 c
          ∧ r.2.mem ((c.tc : Thread Cert.ParamKernelIdeal.nD Cert.ParamKernelIdeal.τ).loc Cert.ParamKernelIdeal.main_v7_1) = v1 c
          ∧ r.2.mem ((c.tc : Thread Cert.ParamKernelIdeal.nD Cert.ParamKernelIdeal.τ).loc Cert.ParamKernelIdeal.main_v7_2) = v2 c
          ∧ r.2.mem ((c.tc : Thread Cert.ParamKernelIdeal.nD Cert.ParamKernelIdeal.τ).loc Cert.ParamKernelIdeal.main_v7_3) = v3 c
          ∧ r.2.mem ((c.tc : Thread Cert.ParamKernelIdeal.nD Cert.ParamKernelIdeal.τ).loc Cert.ParamKernelIdeal.main_v7_4) = v4 c
          ∧ r.2.mem ((c.tc : Thread Cert.ParamKernelIdeal.nD Cert.ParamKernelIdeal.τ).loc Cert.ParamKernelIdeal.main_v7_5) = v5 c
          ∧ r.2.mem ((c.tc : Thread Cert.ParamKernelIdeal.nD Cert.ParamKernelIdeal.τ).loc Cert.ParamKernelIdeal.main_v7_6) = v6 c
          ∧ r.2.mem ((c.tc : Thread Cert.ParamKernelIdeal.nD Cert.ParamKernelIdeal.τ).loc Cert.ParamKernelIdeal.main_arg0) = m ((c.tc : Thread Cert.ParamKernelIdeal.nD Cert.ParamKernelIdeal.τ).loc Cert.ParamKernelIdeal.main_arg0)
          ∧ r.2.mem ((c.tc : Thread Cert.ParamKernelIdeal.nD Cert.ParamKernelIdeal.τ).loc Cert.ParamKernelIdeal.main_arg1) = m ((c.tc : Thread Cert.ParamKernelIdeal.nD Cert.ParamKernelIdeal.τ).loc Cert.ParamKernelIdeal.main_arg1)
          ∧ r.2.mem ((c.tc : Thread Cert.ParamKernelIdeal.nD Cert.ParamKernelIdeal.τ).loc Cert.ParamKernelIdeal.main_arg2) = m ((c.tc : Thread Cert.ParamKernelIdeal.nD Cert.ParamKernelIdeal.τ).loc Cert.ParamKernelIdeal.main_arg2)
          ∧ r.2.mem ((c.tc : Thread Cert.ParamKernelIdeal.nD Cert.ParamKernelIdeal.τ).loc Cert.ParamKernelIdeal.main_arg3) = m ((c.tc : Thread Cert.ParamKernelIdeal.nD Cert.ParamKernelIdeal.τ).loc Cert.ParamKernelIdeal.main_arg3)
          ∧ r.2.mem ((c.tc : Thread Cert.ParamKernelIdeal.nD Cert.ParamKernelIdeal.τ).loc Cert.ParamKernelIdeal.main_arg4) = m ((c.tc : Thread Cert.ParamKernelIdeal.nD Cert.ParamKernelIdeal.τ).loc Cert.ParamKernelIdeal.main_arg4)
          ∧ r.2.mem ((c.tc : Thread Cert.ParamKernelIdeal.nD Cert.ParamKernelIdeal.τ).loc Cert.ParamKernelIdeal.main_arg5) = m ((c.tc : Thread Cert.ParamKernelIdeal.nD Cert.ParamKernelIdeal.τ).loc Cert.ParamKernelIdeal.main_arg5)
          ∧ r.2.mem ((c.tc : Thread Cert.ParamKernelIdeal.nD Cert.ParamKernelIdeal.τ).loc Cert.ParamKernelIdeal.main_arg6) = m ((c.tc : Thread Cert.ParamKernelIdeal.nD Cert.ParamKernelIdeal.τ).loc Cert.ParamKernelIdeal.main_arg6)
          ∧ r.2.mem ((c.tc : Thread Cert.ParamKernelIdeal.nD Cert.ParamKernelIdeal.τ).loc Cert.ParamKernelIdeal.main_arg7) = m ((c.tc : Thread Cert.ParamKernelIdeal.nD Cert.ParamKernelIdeal.τ).loc Cert.ParamKernelIdeal.main_arg7)
          ∧ r.2.mem ((c.tc : Thread Cert.ParamKernelIdeal.nD Cert.ParamKernelIdeal.τ).loc Cert.ParamKernelIdeal.main_arg8) = m ((c.tc : Thread Cert.ParamKernelIdeal.nD Cert.ParamKernelIdeal.τ).loc Cert.ParamKernelIdeal.main_arg8))
      ∧ θ_run (Cert.ParamReferenceIdeal.defs (F := Ideal)) (onTc (τ := Cert.ParamReferenceIdeal.τ) (Cert.ParamReferenceIdeal.main (F := Ideal))) ⟨m', fun _ => 0, g'⟩ (fun r => ∀ c : Dev Cert.ParamReferenceIdeal.nD,
          r.2.mem ((c.tc : Thread Cert.ParamReferenceIdeal.nD Cert.ParamReferenceIdeal.τ).loc Cert.ParamReferenceIdeal.main_v167) = v0 c
          ∧ r.2.mem ((c.tc : Thread Cert.ParamReferenceIdeal.nD Cert.ParamReferenceIdeal.τ).loc Cert.ParamReferenceIdeal.main_v159) = v1 c
          ∧ r.2.mem ((c.tc : Thread Cert.ParamReferenceIdeal.nD Cert.ParamReferenceIdeal.τ).loc Cert.ParamReferenceIdeal.main_v170) = v2 c
          ∧ r.2.mem ((c.tc : Thread Cert.ParamReferenceIdeal.nD Cert.ParamReferenceIdeal.τ).loc Cert.ParamReferenceIdeal.main_v172) = v3 c
          ∧ r.2.mem ((c.tc : Thread Cert.ParamReferenceIdeal.nD Cert.ParamReferenceIdeal.τ).loc Cert.ParamReferenceIdeal.main_v174) = v4 c
          ∧ r.2.mem ((c.tc : Thread Cert.ParamReferenceIdeal.nD Cert.ParamReferenceIdeal.τ).loc Cert.ParamReferenceIdeal.main_v188) = v5 c
          ∧ r.2.mem ((c.tc : Thread Cert.ParamReferenceIdeal.nD Cert.ParamReferenceIdeal.τ).loc Cert.ParamReferenceIdeal.main_v203) = v6 c
          ∧ r.2.mem ((c.tc : Thread Cert.ParamReferenceIdeal.nD Cert.ParamReferenceIdeal.τ).loc Cert.ParamReferenceIdeal.main_arg0) = m' ((c.tc : Thread Cert.ParamReferenceIdeal.nD Cert.ParamReferenceIdeal.τ).loc Cert.ParamReferenceIdeal.main_arg0)
          ∧ r.2.mem ((c.tc : Thread Cert.ParamReferenceIdeal.nD Cert.ParamReferenceIdeal.τ).loc Cert.ParamReferenceIdeal.main_arg1) = m' ((c.tc : Thread Cert.ParamReferenceIdeal.nD Cert.ParamReferenceIdeal.τ).loc Cert.ParamReferenceIdeal.main_arg1)
          ∧ r.2.mem ((c.tc : Thread Cert.ParamReferenceIdeal.nD Cert.ParamReferenceIdeal.τ).loc Cert.ParamReferenceIdeal.main_arg2) = m' ((c.tc : Thread Cert.ParamReferenceIdeal.nD Cert.ParamReferenceIdeal.τ).loc Cert.ParamReferenceIdeal.main_arg2)
          ∧ r.2.mem ((c.tc : Thread Cert.ParamReferenceIdeal.nD Cert.ParamReferenceIdeal.τ).loc Cert.ParamReferenceIdeal.main_arg3) = m' ((c.tc : Thread Cert.ParamReferenceIdeal.nD Cert.ParamReferenceIdeal.τ).loc Cert.ParamReferenceIdeal.main_arg3)
          ∧ r.2.mem ((c.tc : Thread Cert.ParamReferenceIdeal.nD Cert.ParamReferenceIdeal.τ).loc Cert.ParamReferenceIdeal.main_arg4) = m' ((c.tc : Thread Cert.ParamReferenceIdeal.nD Cert.ParamReferenceIdeal.τ).loc Cert.ParamReferenceIdeal.main_arg4)
          ∧ r.2.mem ((c.tc : Thread Cert.ParamReferenceIdeal.nD Cert.ParamReferenceIdeal.τ).loc Cert.ParamReferenceIdeal.main_arg5) = m' ((c.tc : Thread Cert.ParamReferenceIdeal.nD Cert.ParamReferenceIdeal.τ).loc Cert.ParamReferenceIdeal.main_arg5)
          ∧ r.2.mem ((c.tc : Thread Cert.ParamReferenceIdeal.nD Cert.ParamReferenceIdeal.τ).loc Cert.ParamReferenceIdeal.main_arg6) = m' ((c.tc : Thread Cert.ParamReferenceIdeal.nD Cert.ParamReferenceIdeal.τ).loc Cert.ParamReferenceIdeal.main_arg6)
          ∧ r.2.mem ((c.tc : Thread Cert.ParamReferenceIdeal.nD Cert.ParamReferenceIdeal.τ).loc Cert.ParamReferenceIdeal.main_arg7) = m' ((c.tc : Thread Cert.ParamReferenceIdeal.nD Cert.ParamReferenceIdeal.τ).loc Cert.ParamReferenceIdeal.main_arg7)
          ∧ r.2.mem ((c.tc : Thread Cert.ParamReferenceIdeal.nD Cert.ParamReferenceIdeal.τ).loc Cert.ParamReferenceIdeal.main_arg8) = m' ((c.tc : Thread Cert.ParamReferenceIdeal.nD Cert.ParamReferenceIdeal.τ).loc Cert.ParamReferenceIdeal.main_arg8))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v31_0)) (v1 : (c : Dev Cert.AttnKernelIdeal.nD) → Buf (Elt Ideal) ((c.tc : Thread Cert.AttnKernelIdeal.nD Cert.AttnKernelIdeal.τ).loc Cert.AttnKernelIdeal.main_v31_1)) (v2 : (c : Dev Cert.AttnKernelIdeal.nD) → Buf (Elt Ideal) ((c.tc : Thread Cert.AttnKernelIdeal.nD Cert.AttnKernelIdeal.τ).loc Cert.AttnKernelIdeal.main_v31_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v31_0) = v0 c
          ∧ r.2.mem ((c.tc : Thread Cert.AttnKernelIdeal.nD Cert.AttnKernelIdeal.τ).loc Cert.AttnKernelIdeal.main_v31_1) = v1 c
          ∧ r.2.mem ((c.tc : Thread Cert.AttnKernelIdeal.nD Cert.AttnKernelIdeal.τ).loc Cert.AttnKernelIdeal.main_v31_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v64) = v0 c
          ∧ r.2.mem ((c.tc : Thread Cert.AttnReferenceIdeal.nD Cert.AttnReferenceIdeal.τ).loc Cert.AttnReferenceIdeal.main_v66) = v1 c
          ∧ r.2.mem ((c.tc : Thread Cert.AttnReferenceIdeal.nD Cert.AttnReferenceIdeal.τ).loc Cert.AttnReferenceIdeal.main_v67) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hMergeFKernel : Cert.MergeFKernel.Facts) (hMergeFKernelIdeal : Cert.MergeFKernelIdeal.Facts) (hMergeFReferenceIdeal : Cert.MergeFReferenceIdeal.Facts) (hInFKernel : Cert.InFKernel.Facts) (hInFKernelIdeal : Cert.InFKernelIdeal.Facts) (hInFReferenceIdeal : Cert.InFReferenceIdeal.Facts) (hMlpKernel : Cert.MlpKernel.Facts) (hMlpKernelIdeal : Cert.MlpKernelIdeal.Facts) (hMlpReferenceIdeal : Cert.MlpReferenceIdeal.Facts) (hMlaKernel : Cert.MlaKernel.Facts) (hMlaKernelIdeal : Cert.MlaKernelIdeal.Facts) (hMlaReferenceIdeal : Cert.MlaReferenceIdeal.Facts) (hAttnFKernel : Cert.AttnFKernel.Facts) (hAttnFKernelIdeal : Cert.AttnFKernelIdeal.Facts) (hAttnFReferenceIdeal : Cert.AttnFReferenceIdeal.Facts) (hParamKernel : Cert.ParamKernel.Facts) (hParamKernelIdeal : Cert.ParamKernelIdeal.Facts) (hParamReferenceIdeal : Cert.ParamReferenceIdeal.Facts) (hAttnKernel : Cert.AttnKernel.Facts) (hAttnKernelIdeal : Cert.AttnKernelIdeal.Facts) (hAttnReferenceIdeal : Cert.AttnReferenceIdeal.Facts) (hPre_attnf_finite : Cert.Pre_attnf_finite.Facts) (hPre_param_finite : Cert.Pre_param_finite.Facts) (hPre_attn_finite : Cert.Pre_attn_finite.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MergeFKernel (hMergeFKernel := hMergeFKernel)
    ∧ quiescent_MergeFKernelIdeal (hMergeFKernelIdeal := hMergeFKernelIdeal)
    ∧ quiescent_MergeFReferenceIdeal (hMergeFReferenceIdeal := hMergeFReferenceIdeal)
    ∧ quiescent_InFKernel (hInFKernel := hInFKernel)
    ∧ quiescent_InFKernelIdeal (hInFKernelIdeal := hInFKernelIdeal)
    ∧ quiescent_InFReferenceIdeal (hInFReferenceIdeal := hInFReferenceIdeal)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_MlaKernel (hMlaKernel := hMlaKernel)
    ∧ quiescent_MlaKernelIdeal (hMlaKernelIdeal := hMlaKernelIdeal)
    ∧ quiescent_MlaReferenceIdeal (hMlaReferenceIdeal := hMlaReferenceIdeal)
    ∧ quiescent_AttnFKernel (hAttnFKernel := hAttnFKernel)
    ∧ quiescent_AttnFKernelIdeal (hAttnFKernelIdeal := hAttnFKernelIdeal)
    ∧ quiescent_AttnFKernelIdeal_pre_attnf_finite (hAttnFKernelIdeal := hAttnFKernelIdeal) (hPre_attnf_finite := hPre_attnf_finite)
    ∧ quiescent_AttnFReferenceIdeal (hAttnFReferenceIdeal := hAttnFReferenceIdeal)
    ∧ quiescent_AttnFReferenceIdeal_pre_attnf_finite (hAttnFReferenceIdeal := hAttnFReferenceIdeal) (hPre_attnf_finite := hPre_attnf_finite)
    ∧ quiescent_ParamKernel (hParamKernel := hParamKernel)
    ∧ quiescent_ParamKernelIdeal (hParamKernelIdeal := hParamKernelIdeal)
    ∧ quiescent_ParamKernelIdeal_pre_param_finite (hParamKernelIdeal := hParamKernelIdeal) (hPre_param_finite := hPre_param_finite)
    ∧ quiescent_ParamReferenceIdeal (hParamReferenceIdeal := hParamReferenceIdeal)
    ∧ quiescent_ParamReferenceIdeal_pre_param_finite (hParamReferenceIdeal := hParamReferenceIdeal) (hPre_param_finite := hPre_param_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_MergeFKernel_MergeFKernelIdeal
    ∧ algebraic_MergeFKernelIdeal_MergeFReferenceIdeal (hMergeFKernelIdeal := hMergeFKernelIdeal) (hMergeFReferenceIdeal := hMergeFReferenceIdeal)
    ∧ preserves_InFKernel_InFKernelIdeal
    ∧ algebraic_InFKernelIdeal_InFReferenceIdeal (hInFKernelIdeal := hInFKernelIdeal) (hInFReferenceIdeal := hInFReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_MlaKernel_MlaKernelIdeal
    ∧ preserves_AttnFKernel_AttnFKernelIdeal
    ∧ algebraic_AttnFKernelIdeal_AttnFReferenceIdeal_pre_attnf_finite (hAttnFKernelIdeal := hAttnFKernelIdeal) (hAttnFReferenceIdeal := hAttnFReferenceIdeal) (hPre_attnf_finite := hPre_attnf_finite)
    ∧ preserves_ParamKernel_ParamKernelIdeal
    ∧ algebraic_ParamKernelIdeal_ParamReferenceIdeal_pre_param_finite (hParamKernelIdeal := hParamKernelIdeal) (hParamReferenceIdeal := hParamReferenceIdeal) (hPre_param_finite := hPre_param_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
-- ==== Pre_attn_finite.lean ====
abbrev S4096x8x192 : Shape := ⟨3, ![4096, 8, 192]⟩
abbrev S4096x8x128 : Shape := ⟨3, ![4096, 8, 128]⟩
abbrev S4096x1024 : Shape := ⟨2, ![4096, 1024]⟩
abbrev S_ : Shape := ⟨0, ![]⟩

class Facts : Prop where
  bcast_S_S4096x8x192 : S_.BroadcastsInDim S4096x8x192 (![] : Fin 0 → Fin S4096x8x192.rank)
  bcast_S_S4096x8x128 : S_.BroadcastsInDim S4096x8x128 (![] : Fin 0 → Fin S4096x8x128.rank)
  bcast_S_S4096x1024 : S_.BroadcastsInDim S4096x1024 (![] : Fin 0 → Fin S4096x1024.rank)

variable [Facts]

def fn {F : FTy → Type} [FloatOps F] (main_arg0 : FVec F S4096x8x192 .f32) (main_arg1 : FVec F S4096x8x192 .f32) (main_arg2 : FVec F S4096x8x128 .f32) (main_arg3 : FVec F S4096x1024 .f32) : IVec S4096x8x192 1 × IVec S4096x8x192 1 × IVec S4096x8x128 1 × IVec S4096x1024 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x192 .f32 := Host.absf main_arg1
  let main_cst_0 : FVec F S_ .f32 := constant S_ .f32 0x7F800000#32
  let main_v4 : FVec F S4096x8x192 .f32 := broadcastInDim S4096x8x192 ![] bcast_S_S4096x8x192 main_cst_0
  let main_v5 : IVec S4096x8x192 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_attnf_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)

variable [Facts]

def fn {F : FTy → Type} [FloatOps F] (main_arg0 : FVec F S4096x8x192 .f32) (main_arg1 : FVec F S4096x8x192 .f32) (main_arg2 : FVec F S4096x8x128 .f32) : IVec S4096x8x192 1 × IVec S4096x8x192 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x192 .f32 := Host.absf main_arg1
  let main_cst_0 : FVec F S_ .f32 := constant S_ .f32 0x7F800000#32
  let main_v4 : FVec F S4096x8x192 .f32 := broadcastInDim S4096x8x192 ![] bcast_S_S4096x8x192 main_cst_0
  let main_v5 : IVec S4096x8x192 1 := cmpf .olt main_v3 main_v4
  (main_v2, main_v5)
-- ==== Pre_param_finite.lean ====
abbrev S32x64 : Shape := ⟨2, ![32, 64]⟩
abbrev S32 : Shape := ⟨1, ![32]⟩
abbrev S32x64x16 : Shape := ⟨3, ![32, 64, 16]⟩
abbrev S512x1024 : Shape := ⟨2, ![512, 1024]⟩
abbrev S_ : Shape := ⟨0, ![]⟩

class Facts : Prop where
  bcast_S_S32x64 : S_.BroadcastsInDim S32x64 (![] : Fin 0 → Fin S32x64.rank)
  bcast_S_S512x1024 : S_.BroadcastsInDim S512x1024 (![] : Fin 0 → Fin S512x1024.rank)

variable [Facts]

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S32x64 .f32) (main_arg6 : FVec F S32x64 .f32) (main_arg7 : FVec F S512x1024 .f32) (main_arg8 : FVec F S512x1024 .f32) : IVec S32x64 1 × IVec S32x64 1 × IVec S512x1024 1 × IVec S512x1024 1 :=
  let main_v0 : FVec F S32x64 .f32 := Host.absf main_arg5
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg6
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S512x1024 .f32 := Host.absf main_arg7
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S512x1024 .f32 := Host.absf main_arg8
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  (main_v2, main_v5, main_v8, main_v11)
-- ==== Kernel.lean ====
abbrev S4096x1024 : Shape := ⟨2, ![4096, 1024]⟩
abbrev S1024x1024 : Shape := ⟨2, ![1024, 1024]⟩
abbrev S1024x4096 : Shape := ⟨2, ![1024, 4096]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S512x1024 : Shape := ⟨2, ![512, 1024]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 28
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S1024x1024, .bf16⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4x1024x1024, .f32⟩
  | .hbm, ⟨17, _⟩ => ⟨S1024x4x1024, .f32⟩
  | .hbm, ⟨18, _⟩ => ⟨S4x1024x1024, .f32⟩
  | .hbm, ⟨19, _⟩ => ⟨S4x256x1024, .f32⟩
  | .hbm, ⟨20, _⟩ => ⟨S4x256x1024, .f32⟩
  | .hbm, ⟨21, _⟩ => ⟨S4x2560x1024, .f32⟩
  | .hbm, ⟨22, _⟩ => ⟨S4x2560x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x256x1024, .bf16⟩
  | .local _ .vmem, ⟨11, _⟩ => ⟨S4x256x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

def cc0_transform_6 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  let c0_i32_1 : BitVec 32 := 0#32
  ![c0_i32.toNat, c9_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== InKernel.lean ====
abbrev S4096x1024 : Shape := ⟨2, ![4096, 1024]⟩
abbrev S1024 : Shape := ⟨1, ![1024]⟩
abbrev S1024x3264 : Shape := ⟨2, ![1024, 3264]⟩
abbrev S4096x3264 : Shape := ⟨2, ![4096, 3264]⟩
abbrev S4096x704 : Shape := ⟨2, ![4096, 704]⟩
abbrev S_ : Shape := ⟨0, ![]⟩
abbrev S4096x768 : Shape := ⟨2, ![4096, 768]⟩
abbrev S1x1024 : Shape := ⟨2, ![1, 1024]⟩
abbrev S1024x4x816 : Shape := ⟨3, ![1024, 4, 816]⟩
abbrev S4x1024x816 : Shape := ⟨3, ![4, 1024, 816]⟩
abbrev S1x1024x816 : Shape := ⟨3, ![1, 1024, 816]⟩
abbrev S1024x816 : Shape := ⟨2, ![1024, 816]⟩
abbrev S1024x400 : Shape := ⟨2, ![1024, 400]⟩
abbrev S1024x64 : Shape := ⟨2, ![1024, 64]⟩
abbrev S1024x416 : Shape := ⟨2, ![1024, 416]⟩
abbrev S1024x3328 : Shape := ⟨2, ![1024, 3328]⟩
abbrev S4096x512 : Shape := ⟨2, ![4096, 512]⟩
abbrev S4096x3328 : Shape := ⟨2, ![4096, 3328]⟩
abbrev S512x1024 : Shape := ⟨2, ![512, 1024]⟩
abbrev S512x512 : Shape := ⟨2, ![512, 512]⟩
abbrev S512x768 : Shape := ⟨2, ![512, 768]⟩
abbrev S512x3328 : Shape := ⟨2, ![512, 3328]⟩
abbrev S512 : Shape := ⟨1, ![512]⟩
abbrev S512x1 : Shape := ⟨2, ![512, 1]⟩

abbrev nBuf : Space → Nat
  | .hbm => 39
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3264, .f32⟩
  | .hbm, ⟨3, _⟩ => ⟨S4096x3264, .f32⟩
  | .hbm, ⟨4, _⟩ => ⟨S4096x1024, .f32⟩
  | .hbm, ⟨5, _⟩ => ⟨S4096x704, .f32⟩
  | .hbm, ⟨6, _⟩ => ⟨S_, .i32⟩
  | .hbm, ⟨7, _⟩ => ⟨S_, .f32⟩
  | .hbm, ⟨8, _⟩ => ⟨S4096x768, .f32⟩
  | .hbm, ⟨9, _⟩ => ⟨S1x1024, .f32⟩
  | .hbm, ⟨10, _⟩ => ⟨S1024x4x816, .f32⟩
  | .hbm, ⟨11, _⟩ => ⟨S4x1024x816, .f32⟩
  | .hbm, ⟨12, _⟩ => ⟨S4x1024x816, .bf16⟩
  | .hbm, ⟨13, _⟩ => ⟨S1x1024x816, .bf16⟩
  | .hbm, ⟨14, _⟩ => ⟨S1024x816, .bf16⟩
  | .hbm, ⟨15, _⟩ => ⟨S1x1024x816, .bf16⟩
  | .hbm, ⟨16, _⟩ => ⟨S1024x816, .bf16⟩
  | .hbm, ⟨17, _⟩ => ⟨S1024x400, .bf16⟩
  | .hbm, ⟨18, _⟩ => ⟨S_, .bf16⟩
  | .hbm, ⟨19, _⟩ => ⟨S1024x64, .bf16⟩
  | .hbm, ⟨20, _⟩ => ⟨S1x1024x816, .bf16⟩
  | .hbm, ⟨21, _⟩ => ⟨S1024x816, .bf16⟩
  | .hbm, ⟨22, _⟩ => ⟨S1024x416, .bf16⟩
  | .hbm, ⟨23, _⟩ => ⟨S1x1024x816, .bf16⟩
  | .hbm, ⟨24, _⟩ => ⟨S1024x816, .bf16⟩
  | .hbm, ⟨25, _⟩ => ⟨S1x1024x816, .bf16⟩
  | .hbm, ⟨26, _⟩ => ⟨S1024x816, .bf16⟩
  | .hbm, ⟨27, _⟩ => ⟨S1024x3328, .bf16⟩
  | .hbm, ⟨28, _⟩ => ⟨S4096x512, .f32⟩
  | .hbm, ⟨29, _⟩ => ⟨S4096x512, .bf16⟩
  | .hbm, ⟨30, _⟩ => ⟨S4096x768, .bf16⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x1024, .bf16⟩
  | .hbm, ⟨37, _⟩ => ⟨S4096x3328, .bf16⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x3328, .bf16⟩
  | .local _ .vmem, ⟨19, _⟩ => ⟨S512x3328, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_35 : BitVec 32 := 0#32
  let v64 : BitVec 1 := Scalar.cmpi .ne v63 c0_i32_35
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_36 : BitVec 32 := 0#32
  let v67 : BitVec 1 := Scalar.cmpi .ne v66 c0_i32_36
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3328 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InReferenceIdeal.lean ====
abbrev S4096x1024 : Shape := ⟨2, ![4096, 1024]⟩
abbrev S1024 : Shape := ⟨1, ![1024]⟩
abbrev S1024x3264 : Shape := ⟨2, ![1024, 3264]⟩
abbrev S4096x3264 : Shape := ⟨2, ![4096, 3264]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x64 : Shape := ⟨2, ![4096, 64]⟩
abbrev S4096x1216 : Shape := ⟨2, ![4096, 1216]⟩
abbrev S4096x2048 : Shape := ⟨2, ![4096, 2048]⟩
abbrev S4096x3328 : Shape := ⟨2, ![4096, 3328]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3264, .f32⟩
  | .hbm, ⟨3, _⟩ => ⟨S4096x3264, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3264, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x64, .f32⟩
  | .hbm, ⟨55, _⟩ => ⟨S4096x1216, .f32⟩
  | .hbm, ⟨56, _⟩ => ⟨S4096x2048, .f32⟩
  | .hbm, ⟨57, _⟩ => ⟨S4096x3328, .f32⟩
  | .hbm, ⟨58, _⟩ => ⟨S4096x1024, .bf16⟩
  | .hbm, ⟨59, _⟩ => ⟨S4096x3328, .bf16⟩
  | .hbm, ⟨60, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== MergeFKernel.lean ====
abbrev S4096x1024 : Shape := ⟨2, ![4096, 1024]⟩
abbrev S1024x1024 : Shape := ⟨2, ![1024, 1024]⟩
abbrev S1024x4096 : Shape := ⟨2, ![1024, 4096]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 22
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4x1024x1024, .f32⟩
  | .hbm, ⟨13, _⟩ => ⟨S1024x4x1024, .f32⟩
  | .hbm, ⟨14, _⟩ => ⟨S4x1024x1024, .f32⟩
  | .hbm, ⟨15, _⟩ => ⟨S4x256x1024, .f32⟩
  | .hbm, ⟨16, _⟩ => ⟨S4x256x1024, .f32⟩
  | .hbm, ⟨17, _⟩ => ⟨S4x2560x1024, .f32⟩
  | .hbm, ⟨18, _⟩ => ⟨S4x2560x1024, .bf16⟩
  | .hbm, ⟨19, _⟩ => ⟨S4096x1024, .bf16⟩
  | .hbm, ⟨20, _⟩ => ⟨S4096x1024, .bf16⟩
  | .hbm, ⟨21, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S4x256x1024, .bf16⟩
  | .local _ .vmem, ⟨11, _⟩ => ⟨S4x256x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

def cc0_transform_6 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  let c0_i32_1 : BitVec 32 := 0#32
  ![c0_i32.toNat, c9_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFReferenceIdeal.lean ====
abbrev S4096x1024 : Shape := ⟨2, ![4096, 1024]⟩
abbrev S1024x1024 : Shape := ⟨2, ![1024, 1024]⟩
abbrev S1024x4096 : Shape := ⟨2, ![1024, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== InFKernel.lean ====
abbrev S4096x1024 : Shape := ⟨2, ![4096, 1024]⟩
abbrev S1024 : Shape := ⟨1, ![1024]⟩
abbrev S1024x3264 : Shape := ⟨2, ![1024, 3264]⟩
abbrev S1x1024 : Shape := ⟨2, ![1, 1024]⟩
abbrev S1024x4x816 : Shape := ⟨3, ![1024, 4, 816]⟩
abbrev S4x1024x816 : Shape := ⟨3, ![4, 1024, 816]⟩
abbrev S1x1024x816 : Shape := ⟨3, ![1, 1024, 816]⟩
abbrev S1024x816 : Shape := ⟨2, ![1024, 816]⟩
abbrev S1024x400 : Shape := ⟨2, ![1024, 400]⟩
abbrev S_ : Shape := ⟨0, ![]⟩
abbrev S1024x64 : Shape := ⟨2, ![1024, 64]⟩
abbrev S1024x416 : Shape := ⟨2, ![1024, 416]⟩
abbrev S1024x3328 : Shape := ⟨2, ![1024, 3328]⟩
abbrev S8x128 : Shape := ⟨2, ![8, 128]⟩
abbrev S4096x512 : Shape := ⟨2, ![4096, 512]⟩
abbrev S4096x768 : Shape := ⟨2, ![4096, 768]⟩
abbrev S512x1024 : Shape := ⟨2, ![512, 1024]⟩
abbrev S512x512 : Shape := ⟨2, ![512, 512]⟩
abbrev S512x768 : Shape := ⟨2, ![512, 768]⟩
abbrev S512 : Shape := ⟨1, ![512]⟩
abbrev S512x1 : Shape := ⟨2, ![512, 1]⟩
abbrev S1024x512 : Shape := ⟨2, ![1024, 512]⟩
abbrev S1024x768 : Shape := ⟨2, ![1024, 768]⟩
abbrev S1024x1024 : Shape := ⟨2, ![1024, 1024]⟩

abbrev nBuf : Space → Nat
  | .hbm => 28
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3264, .f32⟩
  | .hbm, ⟨3, _⟩ => ⟨S1x1024, .f32⟩
  | .hbm, ⟨4, _⟩ => ⟨S1024x4x816, .f32⟩
  | .hbm, ⟨5, _⟩ => ⟨S4x1024x816, .f32⟩
  | .hbm, ⟨6, _⟩ => ⟨S4x1024x816, .bf16⟩
  | .hbm, ⟨7, _⟩ => ⟨S1x1024x816, .bf16⟩
  | .hbm, ⟨8, _⟩ => ⟨S1024x816, .bf16⟩
  | .hbm, ⟨9, _⟩ => ⟨S1x1024x816, .bf16⟩
  | .hbm, ⟨10, _⟩ => ⟨S1024x816, .bf16⟩
  | .hbm, ⟨11, _⟩ => ⟨S1024x400, .bf16⟩
  | .hbm, ⟨12, _⟩ => ⟨S_, .bf16⟩
  | .hbm, ⟨13, _⟩ => ⟨S1024x64, .bf16⟩
  | .hbm, ⟨14, _⟩ => ⟨S1x1024x816, .bf16⟩
  | .hbm, ⟨15, _⟩ => ⟨S1024x816, .bf16⟩
  | .hbm, ⟨16, _⟩ => ⟨S1024x416, .bf16⟩
  | .hbm, ⟨17, _⟩ => ⟨S1x1024x816, .bf16⟩
  | .hbm, ⟨18, _⟩ => ⟨S1024x816, .bf16⟩
  | .hbm, ⟨19, _⟩ => ⟨S1x1024x816, .bf16⟩
  | .hbm, ⟨20, _⟩ => ⟨S1024x816, .bf16⟩
  | .hbm, ⟨21, _⟩ => ⟨S1024x3328, .bf16⟩
  | .hbm, ⟨22, _⟩ => ⟨S_, .f32⟩
  | .hbm, ⟨23, _⟩ => ⟨S8x128, .f32⟩
  | .hbm, ⟨24, _⟩ => ⟨S4096x512, .f32⟩
  | .hbm, ⟨25, _⟩ => ⟨S4096x768, .f32⟩
  | .hbm, ⟨26, _⟩ => ⟨S4096x1024, .bf16⟩
  | .hbm, ⟨27, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x512, .f32⟩
  | .local _ .vmem, ⟨5, _⟩ => ⟨S512x512, .f32⟩
  | .local _ .vmem, ⟨6, _⟩ => ⟨S512x768, .f32⟩
  | .local _ .vmem, ⟨7, _⟩ => ⟨S512x768, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InFReferenceIdeal.lean ====
abbrev S4096x1024 : Shape := ⟨2, ![4096, 1024]⟩
abbrev S1024 : Shape := ⟨1, ![1024]⟩
abbrev S1024x3264 : Shape := ⟨2, ![1024, 3264]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3264 : Shape := ⟨2, ![4096, 3264]⟩
abbrev S4096x704 : Shape := ⟨2, ![4096, 704]⟩
abbrev S4096x768 : Shape := ⟨2, ![4096, 768]⟩
abbrev S4096x512 : Shape := ⟨2, ![4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3264, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3264, .f32⟩
  | .hbm, ⟨20, _⟩ => ⟨S4096x704, .f32⟩
  | .hbm, ⟨21, _⟩ => ⟨S_, .i32⟩
  | .hbm, ⟨22, _⟩ => ⟨S_, .f32⟩
  | .hbm, ⟨23, _⟩ => ⟨S4096x768, .f32⟩
  | .hbm, ⟨24, _⟩ => ⟨S4096x512, .f32⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MlpKernel.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 22
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S4x1024x1024, .f32⟩
  | .hbm, ⟨9, _⟩ => ⟨S1024x4x1024, .f32⟩
  | .hbm, ⟨10, _⟩ => ⟨S4x1024x1024, .f32⟩
  | .hbm, ⟨11, _⟩ => ⟨S4x256x1024, .f32⟩
  | .hbm, ⟨12, _⟩ => ⟨S4x256x1024, .f32⟩
  | .hbm, ⟨13, _⟩ => ⟨S4x2560x1024, .f32⟩
  | .hbm, ⟨14, _⟩ => ⟨S4x2560x1024, .bf16⟩
  | .hbm, ⟨15, _⟩ => ⟨S4096x1024, .f32⟩
  | .hbm, ⟨16, _⟩ => ⟨S4096x1024, .bf16⟩
  | .hbm, ⟨17, _⟩ => ⟨S4096x4096, .bf16⟩
  | .hbm, ⟨18, _⟩ => ⟨S4096x4096, .bf16⟩
  | .hbm, ⟨19, _⟩ => ⟨S4096x1024, .bf16⟩
  | .hbm, ⟨20, _⟩ => ⟨S8x128, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1024, .bf16⟩
  | .local _ .vmem, ⟨6, _⟩ => ⟨S4x1024x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S8x128, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v75 : BitVec 32 := Scalar.extui v0
  let c0_i32_49 : BitVec 32 := 0#32
  let v76 : BitVec 1 := Scalar.cmpi .ne v75 c0_i32_49
  v76

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v77 : BitVec 1 := Scalar.xori v0 v_true
  let v78 : BitVec 32 := Scalar.extui v77
  let c0_i32_50 : BitVec 32 := 0#32
  let v79 : BitVec 1 := Scalar.cmpi .ne v78 c0_i32_50
  v79

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v160 : BitVec 32 := Scalar.extui v0
  let c0_i32_107 : BitVec 32 := 0#32
  let v161 : BitVec 1 := Scalar.cmpi .ne v160 c0_i32_107
  v161

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_108 : BitVec 1 := 1#1
  let v162 : BitVec 1 := Scalar.xori v0 true_108
  let v163 : BitVec 32 := Scalar.extui v162
  let c0_i32_109 : BitVec 32 := 0#32
  let v164 : BitVec 1 := Scalar.cmpi .ne v163 c0_i32_109
  v164

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpReferenceIdeal.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S4096x4096, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .i1⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | .hbm, ⟨104, _⟩ => ⟨S4096x4096, .bf16⟩
  | .hbm, ⟨105, _⟩ => ⟨S4096x4096, .bf16⟩
  | .hbm, ⟨106, _⟩ => ⟨S4096x1024, .bf16⟩
  | .hbm, ⟨107, _⟩ => ⟨S8x128, .f32⟩
  | .hbm, ⟨108, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_cst_13 : Ref sig .tc := ⟨.hbm, 62, rfl⟩
abbrev main_cst_14 : Ref sig .tc := ⟨.hbm, 63, rfl⟩
abbrev main_v39 : Ref sig .tc := ⟨.hbm, 64, rfl⟩
abbrev main_v40 : Ref sig .tc := ⟨.hbm, 65, rfl⟩
abbrev main_cst_15 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_17 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_v55 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_20 : Ref sig .tc := ⟨.hbm, 93, rfl⟩
abbrev main_v63 : Ref sig .tc := ⟨.hbm, 94, rfl⟩
abbrev main_v64 : Ref sig .tc := ⟨.hbm, 95, rfl⟩
abbrev main_cst_21 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== MlaKernel.lean ====
abbrev S4096x704 : Shape := ⟨2, ![4096, 704]⟩
abbrev S4096 : Shape := ⟨1, ![4096]⟩
abbrev S384 : Shape := ⟨1, ![384]⟩
abbrev S256 : Shape := ⟨1, ![256]⟩
abbrev S192 : Shape := ⟨1, ![192]⟩
abbrev S384x1536 : Shape := ⟨2, ![384, 1536]⟩
abbrev S256x2048 : Shape := ⟨2, ![256, 2048]⟩
abbrev S512x512 : Shape := ⟨2, ![512, 512]⟩
abbrev S4096x8x192 : Shape := ⟨3, ![4096, 8, 192]⟩
abbrev S4096x8x128 : Shape := ⟨3, ![4096, 8, 128]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S1x192 : Shape := ⟨2, ![1, 192]⟩
abbrev S1x256 : Shape := ⟨2, ![1, 256]⟩
abbrev S256x4x512 : Shape := ⟨3, ![256, 4, 512]⟩
abbrev S4x256x512 : Shape := ⟨3, ![4, 256, 512]⟩
abbrev S4x128x512 : Shape := ⟨3, ![4, 128, 512]⟩
abbrev S4x384x512 : Shape := ⟨3, ![4, 384, 512]⟩
abbrev S4096x768 : Shape := ⟨2, ![4096, 768]⟩
abbrev S4096x1 : Shape := ⟨2, ![4096, 1]⟩
abbrev S1x384 : Shape := ⟨2, ![1, 384]⟩
abbrev S384x8x192 : Shape := ⟨3, ![384, 8, 192]⟩
abbrev S384x8x256 : Shape := ⟨3, ![384, 8, 256]⟩
abbrev S384x2048 : Shape := ⟨2, ![384, 2048]⟩
abbrev S8x4096x192 : Shape := ⟨3, ![8, 4096, 192]⟩
abbrev S8x4096x256 : Shape := ⟨3, ![8, 4096, 256]⟩
abbrev S8x4096x128 : Shape := ⟨3, ![8, 4096, 128]⟩
abbrev S8x128 : Shape := ⟨2, ![8, 128]⟩
abbrev S4096x384 : Shape := ⟨2, ![4096, 384]⟩
abbrev S4096x2048 : Shape := ⟨2, ![4096, 2048]⟩
abbrev S4096x256 : Shape := ⟨2, ![4096, 256]⟩
abbrev S512x768 : Shape := ⟨2, ![512, 768]⟩
abbrev S512x1 : Shape := ⟨2, ![512, 1]⟩
abbrev S8x512x256 : Shape := ⟨3, ![8, 512, 256]⟩
abbrev S8x512x128 : Shape := ⟨3, ![8, 512, 128]⟩
abbrev S512x384 : Shape := ⟨2, ![512, 384]⟩
abbrev S512x2048 : Shape := ⟨2, ![512, 2048]⟩
abbrev S512x256 : Shape := ⟨2, ![512, 256]⟩
abbrev S512x128 : Shape := ⟨2, ![512, 128]⟩
abbrev S512 : Shape := ⟨1, ![512]⟩
abbrev S1x256x512 : Shape := ⟨3, ![1, 256, 512]⟩
abbrev S256x512 : Shape := ⟨2, ![256, 512]⟩
abbrev S1x512x256 : Shape := ⟨3, ![1, 512, 256]⟩
abbrev S1x512x128 : Shape := ⟨3, ![1, 512, 128]⟩

abbrev nBuf : Space → Nat
  | .hbm => 81
  | .vmem => 32
  | .smem => 0
  | _ => 0

abbrev bufTy : (tb : Table) → Fin (tcTables nBuf tb) → BufTy
  | .hbm, ⟨0, _⟩ => ⟨S4096x704, .f32⟩
  | .hbm, ⟨1, _⟩ => ⟨S4096, .i32⟩
  | .hbm, ⟨2, _⟩ => ⟨S384, .f32⟩
  | .hbm, ⟨3, _⟩ => ⟨S256, .f32⟩
  | .hbm, ⟨4, _⟩ => ⟨S192, .f32⟩
  | .hbm, ⟨5, _⟩ => ⟨S192, .f32⟩
  | .hbm, ⟨6, _⟩ => ⟨S384x1536, .f32⟩
  | .hbm, ⟨7, _⟩ => ⟨S256x2048, .f32⟩
  | .hbm, ⟨8, _⟩ => ⟨S512x512, .f32⟩
  | .hbm, ⟨9, _⟩ => ⟨S4096x8x192, .f32⟩
  | .hbm, ⟨10, _⟩ => ⟨S4096x8x192, .f32⟩
  | .hbm, ⟨11, _⟩ => ⟨S4096x8x128, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S_, .f32⟩
  | .hbm, ⟨30, _⟩ => ⟨S64, .f32⟩
  | .hbm, ⟨31, _⟩ => ⟨S128, .f32⟩
  | .hbm, ⟨32, _⟩ => ⟨S1x128, .f32⟩
  | .hbm, ⟨33, _⟩ => ⟨S1x192, .f32⟩
  | .hbm, ⟨34, _⟩ => ⟨S_, .i32⟩
  | .hbm, ⟨35, _⟩ => ⟨S_, .f32⟩
  | .hbm, ⟨36, _⟩ => ⟨S1x256, .f32⟩
  | .hbm, ⟨37, _⟩ => ⟨S1x192, .f32⟩
  | .hbm, ⟨38, _⟩ => ⟨S_, .i32⟩
  | .hbm, ⟨39, _⟩ => ⟨S_, .f32⟩
  | .hbm, ⟨40, _⟩ => ⟨S1x256, .f32⟩
  | .hbm, ⟨41, _⟩ => ⟨S256x4x512, .f32⟩
  | .hbm, ⟨42, _⟩ => ⟨S4x256x512, .f32⟩
  | .hbm, ⟨43, _⟩ => ⟨S4x128x512, .f32⟩
  | .hbm, ⟨44, _⟩ => ⟨S4x384x512, .f32⟩
  | .hbm, ⟨45, _⟩ => ⟨S4x384x512, .bf16⟩
  | .hbm, ⟨46, _⟩ => ⟨S_, .i32⟩
  | .hbm, ⟨47, _⟩ => ⟨S_, .f32⟩
  | .hbm, ⟨48, _⟩ => ⟨S4096x768, .f32⟩
  | .hbm, ⟨49, _⟩ => ⟨S4096x1, .i32⟩
  | .hbm, ⟨50, _⟩ => ⟨S1x384, .f32⟩
  | .hbm, ⟨51, _⟩ => ⟨S1x256, .f32⟩
  | .hbm, ⟨52, _⟩ => ⟨S384x1536, .bf16⟩
  | .hbm, ⟨53, _⟩ => ⟨S384x8x192, .bf16⟩
  | .hbm, ⟨54, _⟩ => ⟨S_, .i32⟩
  | .hbm, ⟨55, _⟩ => ⟨S_, .bf16⟩
  | .hbm, ⟨56, _⟩ => ⟨S384x8x256, .bf16⟩
  | .hbm, ⟨57, _⟩ => ⟨S384x2048, .bf16⟩
  | .hbm, ⟨58, _⟩ => ⟨S8x4096x192, .f32⟩
  | .hbm, ⟨59, _⟩ => ⟨S_, .i32⟩
  | .hbm, ⟨60, _⟩ => ⟨S_, .f32⟩
  | .hbm, ⟨61, _⟩ => ⟨S8x4096x256, .f32⟩
  | .hbm, ⟨62, _⟩ => ⟨S8x4096x192, .f32⟩
  | .hbm, ⟨63, _⟩ => ⟨S_, .i32⟩
  | .hbm, ⟨64, _⟩ => ⟨S_, .f32⟩
  | .hbm, ⟨65, _⟩ => ⟨S8x4096x256, .f32⟩
  | .hbm, ⟨66, _⟩ => ⟨S8x4096x128, .f32⟩
  | .hbm, ⟨67, _⟩ => ⟨S_, .i32⟩
  | .hbm, ⟨68, _⟩ => ⟨S_, .f32⟩
  | .hbm, ⟨69, _⟩ => ⟨S8x4096x128, .f32⟩
  | .hbm, ⟨70, _⟩ => ⟨S_, .f32⟩
  | .hbm, ⟨71, _⟩ => ⟨S8x128, .f32⟩
  | .hbm, ⟨72, _⟩ => ⟨S4096x768, .bf16⟩
  | .hbm, ⟨73, _⟩ => ⟨S4096x384, .bf16⟩
  | .hbm, ⟨74, _⟩ => ⟨S4096x2048, .bf16⟩
  | .hbm, ⟨75, _⟩ => ⟨S4096x256, .bf16⟩
  | .hbm, ⟨76, _⟩ => ⟨S4096x2048, .bf16⟩
  | .hbm, ⟨77, _⟩ => ⟨S1x384, .f32⟩
  | .hbm, ⟨78, _⟩ => ⟨S1x256, .f32⟩
  | .hbm, ⟨79, _⟩ => ⟨S1x256, .f32⟩
  | .hbm, ⟨80, _⟩ => ⟨S1x256, .f32⟩
  | .local _ .vmem, ⟨0, _⟩ => ⟨S512x768, .f32⟩
  | .local _ .vmem, ⟨1, _⟩ => ⟨S512x768, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x128, .f32⟩
  | .local _ .vmem, ⟨6, _⟩ => ⟨S1x384, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S384x2048, .bf16⟩
  | .local _ .vmem, ⟨11, _⟩ => ⟨S4x256x512, .bf16⟩
  | .local _ .vmem, ⟨12, _⟩ => ⟨S8x512x256, .f32⟩
  | .local _ .vmem, ⟨13, _⟩ => ⟨S8x512x256, .f32⟩
  | .local _ .vmem, ⟨14, _⟩ => ⟨S8x512x256, .f32⟩
  | .local _ .vmem, ⟨15, _⟩ => ⟨S8x512x256, .f32⟩
  | .local _ .vmem, ⟨16, _⟩ => ⟨S8x512x128, .f32⟩
  | .local _ .vmem, ⟨17, _⟩ => ⟨S8x512x128, .f32⟩
  | .local _ .vmem, ⟨18, _⟩ => ⟨S512x768, .bf16⟩
  | .local _ .vmem, ⟨19, _⟩ => ⟨S512x768, .bf16⟩
  | .local _ .vmem, ⟨20, _⟩ => ⟨S512x384, .bf16⟩
  | .local _ .vmem, ⟨21, _⟩ => ⟨S512x384, .bf16⟩
  | .local _ .vmem, ⟨22, _⟩ => ⟨S512x2048, .bf16⟩
  | .local _ .vmem, ⟨23, _⟩ => ⟨S512x2048, .bf16⟩
  | .local _ .vmem, ⟨24, _⟩ => ⟨S512x256, .bf16⟩
  | .local _ .vmem, ⟨25, _⟩ => ⟨S512x256, .bf16⟩
  | .local _ .vmem, ⟨26, _⟩ => ⟨S512x2048, .bf16⟩
  | .local _ .vmem, ⟨27, _⟩ => ⟨S512x2048, .bf16⟩
  | .local _ .vmem, ⟨28, _⟩ => ⟨S1x384, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_call1_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_call3_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_call4_v0 : Ref sig .tc := ⟨.hbm, 60, rfl⟩
abbrev main_v33 : Ref sig .tc := ⟨.hbm, 61, rfl⟩
abbrev main_v34 : Ref sig .tc := ⟨.hbm, 62, rfl⟩
abbrev main_c_9 : Ref sig .tc := ⟨.hbm, 63, rfl⟩
abbrev main_call5_v0 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_call6_v0 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39_0 : Ref sig .tc := ⟨.hbm, 72, rfl⟩
abbrev main_v39_1 : Ref sig .tc := ⟨.hbm, 73, rfl⟩
abbrev main_v39_2 : Ref sig .tc := ⟨.hbm, 74, rfl⟩
abbrev main_v39_3 : Ref sig .tc := ⟨.hbm, 75, rfl⟩
abbrev main_v39_4 : Ref sig .tc := ⟨.hbm, 76, rfl⟩
abbrev main_v39_5 : Ref sig .tc := ⟨.hbm, 77, rfl⟩
abbrev main_v39_6 : Ref sig .tc := ⟨.hbm, 78, rfl⟩
abbrev main_v39_7 : Ref sig .tc := ⟨.hbm, 79, rfl⟩
abbrev main_v39_8 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem21_0 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v962 : BitVec 32 := Scalar.extui v0
  let c0_i32_377 : BitVec 32 := 0#32
  let v963 : BitVec 1 := Scalar.cmpi .ne v962 c0_i32_377
  v963

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v964 : BitVec 1 := Scalar.xori v0 v_true
  let v965 : BitVec 32 := Scalar.extui v964
  let c0_i32_378 : BitVec 32 := 0#32
  let v966 : BitVec 1 := Scalar.cmpi .ne v965 c0_i32_378
  v966

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v969 : BitVec 32 := Scalar.extui v0
  let c0_i32_380 : BitVec 32 := 0#32
  let v970 : BitVec 1 := Scalar.cmpi .ne v969 c0_i32_380
  v970

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_381 : BitVec 1 := 1#1
  let v971 : BitVec 1 := Scalar.xori v0 true_381
  let v972 : BitVec 32 := Scalar.extui v971
  let c0_i32_382 : BitVec 32 := 0#32
  let v973 : BitVec 1 := Scalar.cmpi .ne v972 c0_i32_382
  v973

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v974 : BitVec 32 := Scalar.extui v0
  let c0_i32_383 : BitVec 32 := 0#32
  let v975 : BitVec 1 := Scalar.cmpi .ne v974 c0_i32_383
  v975

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_384 : BitVec 1 := 1#1
  let v976 : BitVec 1 := Scalar.xori v0 true_384
  let v977 : BitVec 32 := Scalar.extui v976
  let c0_i32_385 : BitVec 32 := 0#32
  let v978 : BitVec 1 := Scalar.cmpi .ne v977 c0_i32_385
  v978

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v979 : BitVec 32 := Scalar.extui v0
  let c0_i32_386 : BitVec 32 := 0#32
  let v980 : BitVec 1 := Scalar.cmpi .ne v979 c0_i32_386
  v980

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_387 : BitVec 1 := 1#1
  let v981 : BitVec 1 := Scalar.xori v0 true_387
  let v982 : BitVec 32 := Scalar.extui v981
  let c0_i32_388 : BitVec 32 := 0#32
  let v983 : BitVec 1 := Scalar.cmpi .ne v982 c0_i32_388
  v983

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MlaKernelIdeal.lean ====
variable {F : FTy → Type} [FloatOps F] [Named F]
def κ : String → Option EReal := fun
  | "inv_192" => some ((1 / 192 : ℝ) : EReal)
  | "inv_384" => some ((1 / 384 : ℝ) : EReal)
  | _ => none
-- ==== MlaReferenceIdeal.lean ====
abbrev S4096x704 : Shape := ⟨2, ![4096, 704]⟩
abbrev S4096 : Shape := ⟨1, ![4096]⟩
abbrev S384 : Shape := ⟨1, ![384]⟩
abbrev S256 : Shape := ⟨1, ![256]⟩
abbrev S192 : Shape := ⟨1, ![192]⟩
abbrev S384x1536 : Shape := ⟨2, ![384, 1536]⟩
abbrev S256x2048 : Shape := ⟨2, ![256, 2048]⟩
abbrev S512x512 : Shape := ⟨2, ![512, 512]⟩
abbrev S4096x8x192 : Shape := ⟨3, ![4096, 8, 192]⟩
abbrev S4096x8x128 : Shape := ⟨3, ![4096, 8, 128]⟩
abbrev S_ : Shape := ⟨0, ![]⟩
abbrev S4096x1536 : Shape := ⟨2, ![4096, 1536]⟩
abbrev S4096x2048 : Shape := ⟨2, ![4096, 2048]⟩
abbrev S4096x384 : Shape := ⟨2, ![4096, 384]⟩
abbrev S4096x1 : Shape := ⟨2, ![4096, 1]⟩
abbrev S1x384 : Shape := ⟨2, ![1, 384]⟩
abbrev S4096x256 : Shape := ⟨2, ![4096, 256]⟩
abbrev S4096x64 : Shape := ⟨2, ![4096, 64]⟩
abbrev S1x256 : Shape := ⟨2, ![1, 256]⟩
abbrev S4096x8x256 : Shape := ⟨3, ![4096, 8, 256]⟩
abbrev S4096x1x64 : Shape := ⟨3, ![4096, 1, 64]⟩
abbrev S4096x8x64 : Shape := ⟨3, ![4096, 8, 64]⟩
abbrev S4096x8 : Shape := ⟨2, ![4096, 8]⟩
abbrev S4096x8x1 : Shape := ⟨3, ![4096, 8, 1]⟩
abbrev S1x1x192 : Shape := ⟨3, ![1, 1, 192]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x768 : Shape := ⟨2, ![4096, 768]⟩
abbrev S1x192 : Shape := ⟨2, ![1, 192]⟩

abbrev nBuf : Space → Nat
  | .hbm => 361
  | .vmem => 0
  | .smem => 0
  | _ => 0

abbrev hbmTy0_0 (i : Nat) : BufTy := match i % 128 with
  | 0 => ⟨S4096x704, .f32⟩
  | 1 => ⟨S4096, .i32⟩
  | 2 => ⟨S384, .f32⟩
  | 3 => ⟨S256, .f32⟩
  | 4 => ⟨S192, .f32⟩
  | 5 => ⟨S192, .f32⟩
  | 6 => ⟨S384x1536, .f32⟩
  | 7 => ⟨S256x2048, .f32⟩
  | 8 => ⟨S512x512, .f32⟩
  | 9 => ⟨S4096x8x192, .f32⟩
  | 10 => ⟨S4096x8x192, .f32⟩
  | 11 => ⟨S4096x8x128, .f32⟩
  | 12 => ⟨S_, .f32⟩
  | 13 => ⟨S4096x1536, .f32⟩
  | 14 => ⟨S_, .f32⟩
  | 15 => ⟨S4096x2048, .f32⟩
  | 16 => ⟨S4096x384, .f32⟩
  | 17 => ⟨S4096x384, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x384, .f32⟩
  | 33 => ⟨S4096x384, .f32⟩
  | 34 => ⟨S1x384, .f32⟩
  | 35 => ⟨S4096x384, .f32⟩
  | 36 => ⟨S4096x384, .f32⟩
  | 37 => ⟨S4096x1536, .f32⟩
  | 38 => ⟨S4096x1536, .f32⟩
  | 39 => ⟨S4096x8x192, .f32⟩
  | 40 => ⟨S4096x256, .f32⟩
  | 41 => ⟨S4096x64, .f32⟩
  | 42 => ⟨S4096x256, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x256, .f32⟩
  | 58 => ⟨S4096x256, .f32⟩
  | 59 => ⟨S1x256, .f32⟩
  | 60 => ⟨S4096x256, .f32⟩
  | 61 => ⟨S4096x256, .f32⟩
  | 62 => ⟨S4096x2048, .f32⟩
  | 63 => ⟨S4096x2048, .f32⟩
  | 64 => ⟨S4096x8x256, .f32⟩
  | 65 => ⟨S4096x8x128, .f32⟩
  | 66 => ⟨S4096x8x128, .f32⟩
  | 67 => ⟨S4096x1x64, .f32⟩
  | 68 => ⟨S4096x8x64, .f32⟩
  | 69 => ⟨S4096x8x192, .f32⟩
  | 70 => ⟨S4096x8x192, .f32⟩
  | 71 => ⟨S_, .f32⟩
  | 72 => ⟨S4096x8, .f32⟩
  | 73 => ⟨S4096x8x1, .f32⟩
  | 74 => ⟨S_, .f32⟩
  | 75 => ⟨S4096x8x1, .f32⟩
  | 76 => ⟨S4096x8x1, .f32⟩
  | 77 => ⟨S_, .f32⟩
  | 78 => ⟨S4096x8x1, .f32⟩
  | 79 => ⟨S4096x8x1, .f32⟩
  | 80 => ⟨S4096x8x1, .f32⟩
  | 81 => ⟨S4096x8x1, .f32⟩
  | 82 => ⟨S_, .f32⟩
  | 83 => ⟨S4096x8x1, .f32⟩
  | 84 => ⟨S4096x8x1, .f32⟩
  | 85 => ⟨S4096x8x192, .f32⟩
  | 86 => ⟨S4096x8x192, .f32⟩
  | 87 => ⟨S1x1x192, .f32⟩
  | 88 => ⟨S4096x8x192, .f32⟩
  | 89 => ⟨S4096x8x192, .f32⟩
  | 90 => ⟨S4096x8x192, .f32⟩
  | 91 => ⟨S_, .f32⟩
  | 92 => ⟨S4096x8, .f32⟩
  | 93 => ⟨S4096x8x1, .f32⟩
  | 94 => ⟨S_, .f32⟩
  | 95 => ⟨S4096x8x1, .f32⟩
  | 96 => ⟨S4096x8x1, .f32⟩
  | 97 => ⟨S_, .f32⟩
  | 98 => ⟨S4096x8x1, .f32⟩
  | 99 => ⟨S4096x8x1, .f32⟩
  | 100 => ⟨S4096x8x1, .f32⟩
  | 101 => ⟨S4096x8x1, .f32⟩
  | 102 => ⟨S_, .f32⟩
  | 103 => ⟨S4096x8x1, .f32⟩
  | 104 => ⟨S4096x8x1, .f32⟩
  | 105 => ⟨S4096x8x192, .f32⟩
  | 106 => ⟨S4096x8x192, .f32⟩
  | 107 => ⟨S1x1x192, .f32⟩
  | 108 => ⟨S4096x8x192, .f32⟩
  | 109 => ⟨S4096x8x192, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S4096, .f32⟩
  | 119 => ⟨S4096x1, .f32⟩
  | 120 => ⟨S1x32, .f32⟩
  | 121 => ⟨S4096x32, .f32⟩
  | 122 => ⟨S4096x32, .f32⟩
  | 123 => ⟨S4096x32, .f32⟩
  | 124 => ⟨S4096x32, .f32⟩
  | 125 => ⟨S4096x1x32, .f32⟩
  | 126 => ⟨S4096x32, .f32⟩
  | 127 => ⟨S4096x1x32, .f32⟩
  | _ => ⟨S4096x704, .f32⟩

abbrev hbmTy0_1 (i : Nat) : BufTy := match i % 128 with
  | 0 => ⟨S4096x8x128, .f32⟩
  | 1 => ⟨S4096x8x64, .f32⟩
  | 2 => ⟨S4096x8x32, .f32⟩
  | 3 => ⟨S4096x8x32, .f32⟩
  | 4 => ⟨S4096x8x32, .f32⟩
  | 5 => ⟨S4096x8x32, .f32⟩
  | 6 => ⟨S4096x8x32, .f32⟩
  | 7 => ⟨S4096x8x32, .f32⟩
  | 8 => ⟨S4096x8x32, .f32⟩
  | 9 => ⟨S4096x8x32, .f32⟩
  | 10 => ⟨S4096x8x32, .f32⟩
  | 11 => ⟨S4096x8x32, .f32⟩
  | 12 => ⟨S4096x8x32, .f32⟩
  | 13 => ⟨S4096x8x32, .f32⟩
  | 14 => ⟨S4096x8x64, .f32⟩
  | 15 => ⟨S4096x8x192, .f32⟩
  | 16 => ⟨S4096x8x128, .f32⟩
  | 17 => ⟨S4096x8x64, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x64, .f32⟩
  | 31 => ⟨S4096x8x192, .f32⟩
  | 32 => ⟨S_, .f32⟩
  | 33 => ⟨S4096x8x192, .f32⟩
  | 34 => ⟨S4096x8x192, .f32⟩
  | 35 => ⟨S_, .f32⟩
  | 36 => ⟨S4096x8x192, .f32⟩
  | 37 => ⟨S4096x8x192, .f32⟩
  | 38 => ⟨S4096x8x128, .f32⟩
  | 39 => ⟨S4096x8x64, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x32, .f32⟩
  | 52 => ⟨S4096x8x32, .f32⟩
  | 53 => ⟨S4096x8x64, .f32⟩
  | 54 => ⟨S_, .f32⟩
  | 55 => ⟨S4096x8x192, .f32⟩
  | 56 => ⟨S_, .f32⟩
  | 57 => ⟨S4096x8x192, .f32⟩
  | 58 => ⟨S4096x8x192, .f32⟩
  | 59 => ⟨S4096x8x128, .f32⟩
  | 60 => ⟨S4096x8x64, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x32, .f32⟩
  | 71 => ⟨S4096x8x32, .f32⟩
  | 72 => ⟨S4096x8x32, .f32⟩
  | 73 => ⟨S4096x8x32, .f32⟩
  | 74 => ⟨S4096x8x64, .f32⟩
  | 75 => ⟨S_, .f32⟩
  | 76 => ⟨S4096x8x192, .f32⟩
  | 77 => ⟨S_, .f32⟩
  | 78 => ⟨S4096x8x192, .f32⟩
  | 79 => ⟨S4096x8x192, .f32⟩
  | 80 => ⟨S4096x8x192, .f32⟩
  | 81 => ⟨S_, .f32⟩
  | 82 => ⟨S192, .f32⟩
  | 83 => ⟨S1x1x192, .f32⟩
  | 84 => ⟨S4096x8x192, .f32⟩
  | 85 => ⟨S4096x8x192, .f32⟩
  | 86 => ⟨S_, .f32⟩
  | 87 => ⟨S192, .f32⟩
  | 88 => ⟨S4096x8x192, .f32⟩
  | 89 => ⟨S_, .f32⟩
  | 90 => ⟨S4096x8, .f32⟩
  | 91 => ⟨S4096x8x1, .f32⟩
  | 92 => ⟨S4096x8x192, .f32⟩
  | 93 => ⟨S4096x8x192, .f32⟩
  | 94 => ⟨S4096x8x1, .f32⟩
  | 95 => ⟨S_, .f32⟩
  | 96 => ⟨S4096x8x1, .f32⟩
  | 97 => ⟨S4096x8x1, .f32⟩
  | 98 => ⟨S_, .f32⟩
  | 99 => ⟨S4096x8, .f32⟩
  | 100 => ⟨S4096x8x192, .f32⟩
  | 101 => ⟨S4096x8x192, .f32⟩
  | 102 => ⟨S4096x8x192, .f32⟩
  | 103 => ⟨S4096x8x192, .f32⟩
  | 104 => ⟨S4096x8x192, .f32⟩
  | 105 => ⟨S4096x8x192, .f32⟩
  | 106 => ⟨S_, .f32⟩
  | 107 => ⟨S192, .f32⟩
  | 108 => ⟨S1x1x192, .f32⟩
  | 109 => ⟨S4096x8x192, .f32⟩
  | 110 => ⟨S4096x8x192, .f32⟩
  | 111 => ⟨S_, .f32⟩
  | 112 => ⟨S192, .f32⟩
  | 113 => ⟨S4096x8x192, .f32⟩
  | 114 => ⟨S_, .f32⟩
  | 115 => ⟨S4096x8, .f32⟩
  | 116 => ⟨S4096x8x1, .f32⟩
  | 117 => ⟨S4096x8x192, .f32⟩
  | 118 => ⟨S4096x8x192, .f32⟩
  | 119 => ⟨S4096x8x1, .f32⟩
  | 120 => ⟨S_, .f32⟩
  | 121 => ⟨S4096x8x1, .f32⟩
  | 122 => ⟨S4096x8x1, .f32⟩
  | 123 => ⟨S_, .f32⟩
  | 124 => ⟨S4096x8, .f32⟩
  | 125 => ⟨S4096x8x192, .f32⟩
  | 126 => ⟨S4096x8x192, .f32⟩
  | 127 => ⟨S4096x8x192, .f32⟩
  | _ => ⟨S4096x704, .f32⟩

abbrev hbmTy0_2 (i : Nat) : BufTy := match i % 128 with
  | 0 => ⟨S4096x8x192, .f32⟩
  | 1 => ⟨S4096x8x192, .f32⟩
  | 2 => ⟨S4096x8x128, .f32⟩
  | 3 => ⟨S4096x8x64, .f32⟩
  | 4 => ⟨S_, .f32⟩
  | 5 => ⟨S4096x64, .f32⟩
  | 6 => ⟨S4096x1x64, .f32⟩
  | 7 => ⟨S_, .f32⟩
  | 8 => ⟨S4096x64, .f32⟩
  | 9 => ⟨S_, .f32⟩
  | 10 => ⟨S4096x8x256, .f32⟩
  | 11 => ⟨S_, .f32⟩
  | 12 => ⟨S4096x8x256, .f32⟩
  | 13 => ⟨S4096x8x256, .f32⟩
  | 14 => ⟨S4096x2048, .f32⟩
  | 15 => ⟨S4096x256, .f32⟩
  | 16 => ⟨S4096x256, .f32⟩
  | 17 => ⟨S_, .f32⟩
  | 18 => ⟨S256, .f32⟩
  | 19 => ⟨S1x256, .f32⟩
  | 20 => ⟨S4096x256, .f32⟩
  | 21 => ⟨S4096x256, .f32⟩
  | 22 => ⟨S_, .f32⟩
  | 23 => ⟨S256, .f32⟩
  | 24 => ⟨S4096x256, .f32⟩
  | 25 => ⟨S_, .f32⟩
  | 26 => ⟨S4096, .f32⟩
  | 27 => ⟨S4096x1, .f32⟩
  | 28 => ⟨S4096x256, .f32⟩
  | 29 => ⟨S4096x256, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x256, .f32⟩
  | 37 => ⟨S4096x256, .f32⟩
  | 38 => ⟨S4096x256, .f32⟩
  | 39 => ⟨S4096x256, .f32⟩
  | 40 => ⟨S4096x256, .f32⟩
  | 41 => ⟨S_, .f32⟩
  | 42 => ⟨S4096x704, .f32⟩
  | 43 => ⟨S_, .f32⟩
  | 44 => ⟨S4096x704, .f32⟩
  | 45 => ⟨S4096x704, .f32⟩
  | 46 => ⟨S4096x1536, .f32⟩
  | 47 => ⟨S4096x384, .f32⟩
  | 48 => ⟨S4096x384, .f32⟩
  | 49 => ⟨S_, .f32⟩
  | 50 => ⟨S384, .f32⟩
  | 51 => ⟨S1x384, .f32⟩
  | 52 => ⟨S4096x384, .f32⟩
  | 53 => ⟨S4096x384, .f32⟩
  | 54 => ⟨S_, .f32⟩
  | 55 => ⟨S384, .f32⟩
  | 56 => ⟨S4096x384, .f32⟩
  | 57 => ⟨S_, .f32⟩
  | 58 => ⟨S4096, .f32⟩
  | 59 => ⟨S4096x1, .f32⟩
  | 60 => ⟨S4096x384, .f32⟩
  | 61 => ⟨S4096x384, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096, .f32⟩
  | 68 => ⟨S4096x384, .f32⟩
  | 69 => ⟨S4096x384, .f32⟩
  | 70 => ⟨S4096x384, .f32⟩
  | 71 => ⟨S4096x384, .f32⟩
  | 72 => ⟨S4096x384, .f32⟩
  | 73 => ⟨S_, .f32⟩
  | 74 => ⟨S4096x704, .f32⟩
  | 75 => ⟨S4096x704, .f32⟩
  | 76 => ⟨S4096x8x192, .f32⟩
  | 77 => ⟨S_, .i32⟩
  | 78 => ⟨S_, .f32⟩
  | 79 => ⟨S4096x8x256, .f32⟩
  | 80 => ⟨S4096x2048, .f32⟩
  | 81 => ⟨S_, .i32⟩
  | 82 => ⟨S_, .f32⟩
  | 83 => ⟨S4096x768, .f32⟩
  | 84 => ⟨S4096x768, .bf16⟩
  | 85 => ⟨S4096x384, .bf16⟩
  | 86 => ⟨S4096x2048, .bf16⟩
  | 87 => ⟨S4096x256, .bf16⟩
  | 88 => ⟨S4096x2048, .bf16⟩
  | 89 => ⟨S1x384, .f32⟩
  | 90 => ⟨S_, .i32⟩
  | 91 => ⟨S_, .f32⟩
  | 92 => ⟨S1x384, .f32⟩
  | 93 => ⟨S1x256, .f32⟩
  | 94 => ⟨S_, .i32⟩
  | 95 => ⟨S_, .f32⟩
  | 96 => ⟨S1x256, .f32⟩
  | 97 => ⟨S1x192, .f32⟩
  | 98 => ⟨S_, .i32⟩
  | 99 => ⟨S_, .f32⟩
  | 100 => ⟨S1x256, .f32⟩
  | 101 => ⟨S1x192, .f32⟩
  | 102 => ⟨S_, .i32⟩
  | 103 => ⟨S_, .f32⟩
  | 104 => ⟨S1x256, .f32⟩
  | _ => ⟨S4096x704, .f32⟩

abbrev hbmTy (i : Nat) : BufTy := match i / 128 with
  | 0 => hbmTy0_0 i
  | 1 => hbmTy0_1 i
  | 2 => hbmTy0_2 i
  | _ => ⟨S4096x704, .f32⟩

abbrev bufTy : (tb : Table) → Fin (tcTables nBuf tb) → BufTy
  | .hbm, ⟨i, _⟩ => hbmTy i
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_19 : Ref sig .tc := ⟨.hbm, 160, rfl⟩
abbrev main_v128 : Ref sig .tc := ⟨.hbm, 161, rfl⟩
abbrev main_v129 : Ref sig .tc := ⟨.hbm, 162, rfl⟩
abbrev main_cst_20 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_21 : Ref sig .tc := ⟨.hbm, 182, rfl⟩
abbrev main_v148 : Ref sig .tc := ⟨.hbm, 183, rfl⟩
abbrev main_cst_22 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_cst_23 : Ref sig .tc := ⟨.hbm, 203, rfl⟩
abbrev main_v167 : Ref sig .tc := ⟨.hbm, 204, rfl⟩
abbrev main_cst_24 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_25 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_26 : Ref sig .tc := ⟨.hbm, 214, rfl⟩
abbrev main_v175 : Ref sig .tc := ⟨.hbm, 215, rfl⟩
abbrev main_v176 : Ref sig .tc := ⟨.hbm, 216, rfl⟩
abbrev main_cst_27 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_28 : Ref sig .tc := ⟨.hbm, 223, rfl⟩
abbrev main_v182 : Ref sig .tc := ⟨.hbm, 224, rfl⟩
abbrev main_v183 : Ref sig .tc := ⟨.hbm, 225, rfl⟩
abbrev main_cst_29 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_30 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_31 : Ref sig .tc := ⟨.hbm, 239, rfl⟩
abbrev main_v195 : Ref sig .tc := ⟨.hbm, 240, rfl⟩
abbrev main_v196 : Ref sig .tc := ⟨.hbm, 241, rfl⟩
abbrev main_cst_32 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_33 : Ref sig .tc := ⟨.hbm, 248, rfl⟩
abbrev main_v202 : Ref sig .tc := ⟨.hbm, 249, rfl⟩
abbrev main_v203 : Ref sig .tc := ⟨.hbm, 250, rfl⟩
abbrev main_cst_34 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_35 : Ref sig .tc := ⟨.hbm, 260, rfl⟩
abbrev main_v212 : Ref sig .tc := ⟨.hbm, 261, rfl⟩
abbrev main_v213 : Ref sig .tc := ⟨.hbm, 262, rfl⟩
abbrev main_cst_36 : Ref sig .tc := ⟨.hbm, 263, rfl⟩
abbrev main_v214 : Ref sig .tc := ⟨.hbm, 264, rfl⟩
abbrev main_cst_37 : Ref sig .tc := ⟨.hbm, 265, rfl⟩
abbrev main_v215 : Ref sig .tc := ⟨.hbm, 266, rfl⟩
abbrev main_cst_38 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_39 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_cst_40 : Ref sig .tc := ⟨.hbm, 278, rfl⟩
abbrev main_v225 : Ref sig .tc := ⟨.hbm, 279, rfl⟩
abbrev main_v226 : Ref sig .tc := ⟨.hbm, 280, rfl⟩
abbrev main_cst_41 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_cst_42 : Ref sig .tc := ⟨.hbm, 287, rfl⟩
abbrev main_v232 : Ref sig .tc := ⟨.hbm, 288, rfl⟩
abbrev main_v233 : Ref sig .tc := ⟨.hbm, 289, rfl⟩
abbrev main_cst_43 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_cst_44 : Ref sig .tc := ⟨.hbm, 297, rfl⟩
abbrev main_v240 : Ref sig .tc := ⟨.hbm, 298, rfl⟩
abbrev main_cst_45 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_cst_46 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_47 : Ref sig .tc := ⟨.hbm, 310, rfl⟩
abbrev main_v250 : Ref sig .tc := ⟨.hbm, 311, rfl⟩
abbrev main_v251 : Ref sig .tc := ⟨.hbm, 312, rfl⟩
abbrev main_cst_48 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_cst_49 : Ref sig .tc := ⟨.hbm, 319, rfl⟩
abbrev main_v257 : Ref sig .tc := ⟨.hbm, 320, rfl⟩
abbrev main_v258 : Ref sig .tc := ⟨.hbm, 321, rfl⟩
abbrev main_cst_50 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_cst_51 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_c : Ref sig .tc := ⟨.hbm, 333, rfl⟩
abbrev main_call0_v0 : Ref sig .tc := ⟨.hbm, 334, rfl⟩
abbrev main_v268 : Ref sig .tc := ⟨.hbm, 335, rfl⟩
abbrev main_v269 : Ref sig .tc := ⟨.hbm, 336, rfl⟩
abbrev main_c_52 : Ref sig .tc := ⟨.hbm, 337, rfl⟩
abbrev main_call1_v0 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_c_53 : Ref sig .tc := ⟨.hbm, 346, rfl⟩
abbrev main_call2_v0 : Ref sig .tc := ⟨.hbm, 347, rfl⟩
abbrev main_v277 : Ref sig .tc := ⟨.hbm, 348, rfl⟩
abbrev main_v278 : Ref sig .tc := ⟨.hbm, 349, rfl⟩
abbrev main_c_54 : Ref sig .tc := ⟨.hbm, 350, rfl⟩
abbrev main_call3_v0 : Ref sig .tc := ⟨.hbm, 351, rfl⟩
abbrev main_v279 : Ref sig .tc := ⟨.hbm, 352, rfl⟩
abbrev main_v280 : Ref sig .tc := ⟨.hbm, 353, rfl⟩
abbrev main_c_55 : Ref sig .tc := ⟨.hbm, 354, rfl⟩
abbrev main_call4_v0 : Ref sig .tc := ⟨.hbm, 355, rfl⟩
abbrev main_v281 : Ref sig .tc := ⟨.hbm, 356, rfl⟩
abbrev main_v282 : Ref sig .tc := ⟨.hbm, 357, rfl⟩
abbrev main_c_56 : Ref sig .tc := ⟨.hbm, 358, rfl⟩
abbrev main_call5_v0 : Ref sig .tc := ⟨.hbm, 359, rfl⟩
abbrev main_v283 : Ref sig .tc := ⟨.hbm, 360, rfl⟩

abbrev nD : Nat := 1
abbrev τ : Topo := Topo.v7x

variable {F : FTy → Type} [FloatOps F]
-- ==== AttnFKernel.lean ====
abbrev S4096x8x192 : Shape := ⟨3, ![4096, 8, 192]⟩
abbrev S4096x8x128 : Shape := ⟨3, ![4096, 8, 128]⟩
abbrev S_ : Shape := ⟨0, ![]⟩
abbrev S8x4096x192 : Shape := ⟨3, ![8, 4096, 192]⟩
abbrev S8x4096x256 : Shape := ⟨3, ![8, 4096, 256]⟩
abbrev S8x4096x128 : Shape := ⟨3, ![8, 4096, 128]⟩
abbrev S4096x1024 : Shape := ⟨2, ![4096, 1024]⟩
abbrev S8x4x1x1024 : Shape := ⟨4, ![8, 4, 1, 1024]⟩
abbrev S2x1024x256 : Shape := ⟨3, ![2, 1024, 256]⟩
abbrev S2x4096x256 : Shape := ⟨3, ![2, 4096, 256]⟩
abbrev S2x4096x128 : Shape := ⟨3, ![2, 4096, 128]⟩
abbrev S1024x256 : Shape := ⟨2, ![1024, 256]⟩
abbrev S2x1x1x1024 : Shape := ⟨4, ![2, 1, 1, 1024]⟩
abbrev S1x1024x256 : Shape := ⟨3, ![1, 1024, 256]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩
abbrev S1x1024x128 : Shape := ⟨3, ![1, 1024, 128]⟩
abbrev S1x1024 : Shape := ⟨2, ![1, 1024]⟩
abbrev S1x1x1x1024 : Shape := ⟨4, ![1, 1, 1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S_, .f32⟩
  | .hbm, ⟨4, _⟩ => ⟨S4096x8x192, .f32⟩
  | .hbm, ⟨5, _⟩ => ⟨S4096x8x192, .f32⟩
  | .hbm, ⟨6, _⟩ => ⟨S8x4096x192, .f32⟩
  | .hbm, ⟨7, _⟩ => ⟨S_, .i32⟩
  | .hbm, ⟨8, _⟩ => ⟨S_, .f32⟩
  | .hbm, ⟨9, _⟩ => ⟨S8x4096x256, .f32⟩
  | .hbm, ⟨10, _⟩ => ⟨S8x4096x256, .bf16⟩
  | .hbm, ⟨11, _⟩ => ⟨S8x4096x192, .f32⟩
  | .hbm, ⟨12, _⟩ => ⟨S_, .i32⟩
  | .hbm, ⟨13, _⟩ => ⟨S_, .f32⟩
  | .hbm, ⟨14, _⟩ => ⟨S8x4096x256, .f32⟩
  | .hbm, ⟨15, _⟩ => ⟨S8x4096x256, .bf16⟩
  | .hbm, ⟨16, _⟩ => ⟨S8x4096x128, .f32⟩
  | .hbm, ⟨17, _⟩ => ⟨S_, .i32⟩
  | .hbm, ⟨18, _⟩ => ⟨S_, .f32⟩
  | .hbm, ⟨19, _⟩ => ⟨S8x4096x128, .f32⟩
  | .hbm, ⟨20, _⟩ => ⟨S8x4096x128, .bf16⟩
  | .hbm, ⟨21, _⟩ => ⟨S4096x1024, .f32⟩
  | .hbm, ⟨22, _⟩ => ⟨S8x4x1x1024, .f32⟩
  | .local _ .vmem, ⟨0, _⟩ => ⟨S2x1024x256, .bf16⟩
  | .local _ .vmem, ⟨1, _⟩ => ⟨S2x1024x256, .bf16⟩
  | .local _ .vmem, ⟨2, _⟩ => ⟨S2x4096x256, .bf16⟩
  | .local _ .vmem, ⟨3, _⟩ => ⟨S2x4096x256, .bf16⟩
  | .local _ .vmem, ⟨4, _⟩ => ⟨S2x4096x128, .bf16⟩
  | .local _ .vmem, ⟨5, _⟩ => ⟨S2x4096x128, .bf16⟩
  | .local _ .vmem, ⟨6, _⟩ => ⟨S1024x256, .f32⟩
  | .local _ .vmem, ⟨7, _⟩ => ⟨S1024x256, .f32⟩
  | .local _ .vmem, ⟨8, _⟩ => ⟨S2x1x1x1024, .f32⟩
  | .local _ .vmem, ⟨9, _⟩ => ⟨S2x1x1x1024, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_mult1 (i : grid0.Coords) (k0_t1 : Fin (k0_t1_loop i).trips) : BitVec 32 :=
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  v111
def k0_off1 (i : grid0.Coords) (k0_t1 : Fin (k0_t1_loop i).trips) : Fin 3 → Nat :=
  let c0_45 : Index := 0#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v113 : Index := Scalar.indexCast v112
  let c0_46 : Index := 0#32
  ![0, v113.toNat, 0]
def k0_off2 (i : grid0.Coords) (k0_t1 : Fin (k0_t1_loop i).trips) : Fin 3 → Nat :=
  let c0_50 : Index := 0#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v131 : Index := Scalar.indexCast v112
  let c0_51 : Index := 0#32
  ![0, v131.toNat, 0]
def k0_off3 (i : grid0.Coords) (k0_t1 : Fin (k0_t1_loop i).trips) : Fin 3 → Nat :=
  let c1_53 : Index := 1#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v137 : Index := Scalar.indexCast v112
  let c0_54 : Index := 0#32
  ![1, v137.toNat, 0]
def k0_off4 (i : grid0.Coords) (k0_t1 : Fin (k0_t1_loop i).trips) : Fin 3 → Nat :=
  let c1_58 : Index := 1#32
  let c0_i32 : BitVec 32 := 0#32
  let c1_i32_9 : BitVec 32 := 1#32
  let arg7 : BitVec 32 := Scf.iv c0_i32 c1_i32_9 k0_t1
  let c1024_i32_44 : BitVec 32 := 1024#32
  let v111 : BitVec 32 := Scalar.muli arg7 c1024_i32_44
  let v112 : BitVec 32 := v111
  let v155 : Index := Scalar.indexCast v112
  let c0_59 : Index := 0#32
  ![1, v155.toNat, 0]
@[reducible] def k0_t2_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_mult2 (i : grid0.Coords) (k0_t2 : Fin (k0_t2_loop i).trips) : BitVec 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  v111
def k0_off5 (i : grid0.Coords) (k0_t2 : Fin (k0_t2_loop i).trips) : Fin 3 → Nat :=
  let c0_45 : Index := 0#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v113 : Index := Scalar.indexCast v112
  let c0_46 : Index := 0#32
  ![0, v113.toNat, 0]
def k0_off6 (i : grid0.Coords) (k0_t2 : Fin (k0_t2_loop i).trips) : Fin 3 → Nat :=
  let c0_50 : Index := 0#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v131 : Index := Scalar.indexCast v112
  let c0_51 : Index := 0#32
  ![0, v131.toNat, 0]
def k0_off7 (i : grid0.Coords) (k0_t2 : Fin (k0_t2_loop i).trips) : Fin 3 → Nat :=
  let c1_53 : Index := 1#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v137 : Index := Scalar.indexCast v112
  let c0_54 : Index := 0#32
  ![1, v137.toNat, 0]
def k0_off8 (i : grid0.Coords) (k0_t2 : Fin (k0_t2_loop i).trips) : Fin 3 → Nat :=
  let c1_58 : Index := 1#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c1024_i32_44 : BitVec 32 := 1024#32
  let v111 : BitVec 32 := Scalar.muli arg7 c1024_i32_44
  let v112 : BitVec 32 := v111
  let v155 : Index := Scalar.indexCast v112
  let c0_59 : Index := 0#32
  ![1, v155.toNat, 0]
def k0_mult3 (i : grid0.Coords) : BitVec 32 :=
  let arg1 : BitVec 32 := BitVec.ofNat 32 (i 1).val
  let c1024_i32 : BitVec 32 := 1024#32
  let v17 : BitVec 32 := Scalar.muli arg1 c1024_i32
  v17
def k0_off9 (i : grid0.Coords) : Fin 3 → Nat :=
  let c0_11 : Index := 0#32
  let arg1 : BitVec 32 := BitVec.ofNat 32 (i 1).val
  let c1024_i32 : BitVec 32 := 1024#32
  let v17 : BitVec 32 := Scalar.muli arg1 c1024_i32
  let v18 : BitVec 32 := v17
  let v19 : Index := Scalar.indexCast v18
  let c0_12 : Index := 0#32
  ![0, v19.toNat, 0]
def k0_off10 (i : grid0.Coords) : Fin 3 → Nat :=
  let c0_17 : Index := 0#32
  let arg1 : BitVec 32 := BitVec.ofNat 32 (i 1).val
  let c1024_i32 : BitVec 32 := 1024#32
  let v17 : BitVec 32 := Scalar.muli arg1 c1024_i32
  let v18 : BitVec 32 := v17
  let v42 : Index := Scalar.indexCast v18
  let c0_18 : Index := 0#32
  ![0, v42.toNat, 0]
def k0_off11 (i : grid0.Coords) : Fin 3 → Nat :=
  let c1_20 : Index := 1#32
  let arg1 : BitVec 32 := BitVec.ofNat 32 (i 1).val
  let c1024_i32 : BitVec 32 := 1024#32
  let v17 : BitVec 32 := Scalar.muli arg1 c1024_i32
  let v18 : BitVec 32 := v17
  let v48 : Index := Scalar.indexCast v18
  let c0_21 : Index := 0#32
  ![1, v48.toNat, 0]
def k0_off12 (i : grid0.Coords) : Fin 3 → Nat :=
  let c1_26 : Index := 1#32
  let arg1 : BitVec 32 := BitVec.ofNat 32 (i 1).val
  let c1024_i32 : BitVec 32 := 1024#32
  let v17 : BitVec 32 := Scalar.muli arg1 c1024_i32
  let v18 : BitVec 32 := v17
  let v71 : Index := Scalar.indexCast v18
  let c0_27 : Index := 0#32
  ![1, v71.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFReferenceIdeal.lean ====
abbrev S4096x8x192 : Shape := ⟨3, ![4096, 8, 192]⟩
abbrev S4096x8x128 : Shape := ⟨3, ![4096, 8, 128]⟩
abbrev S4096 : Shape := ⟨1, ![4096]⟩
abbrev S4096x1 : Shape := ⟨2, ![4096, 1]⟩
abbrev S1x4096 : Shape := ⟨2, ![1, 4096]⟩
abbrev S8x4096x4096 : Shape := ⟨3, ![8, 4096, 4096]⟩
abbrev S_ : Shape := ⟨0, ![]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x4x1x1024 : Shape := ⟨4, ![8, 4, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x128x4096, .f32⟩
  | .hbm, ⟨34, _⟩ => ⟨S4096x8x128, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S8x4096, .f32⟩
  | .hbm, ⟨45, _⟩ => ⟨S4096x1024, .f32⟩
  | .hbm, ⟨46, _⟩ => ⟨S8x4x1x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== ParamKernel.lean ====
abbrev S32x64 : Shape := ⟨2, ![32, 64]⟩
abbrev S32 : Shape := ⟨1, ![32]⟩
abbrev S32x64x16 : Shape := ⟨3, ![32, 64, 16]⟩
abbrev S512x1024 : Shape := ⟨2, ![512, 1024]⟩
abbrev S32x1 : Shape := ⟨2, ![32, 1]⟩
abbrev S32x16x64 : Shape := ⟨3, ![32, 16, 64]⟩
abbrev S512x64 : Shape := ⟨2, ![512, 64]⟩
abbrev S1x2048 : Shape := ⟨2, ![1, 2048]⟩
abbrev S64x2048 : Shape := ⟨2, ![64, 2048]⟩
abbrev S32x2048 : Shape := ⟨2, ![32, 2048]⟩
abbrev S512x512 : Shape := ⟨2, ![512, 512]⟩
abbrev S32x1x64 : Shape := ⟨3, ![32, 1, 64]⟩
abbrev S64x512 : Shape := ⟨2, ![64, 512]⟩

abbrev nBuf : Space → Nat
  | .hbm => 23
  | .vmem => 16
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S512x1024, .f32⟩
  | .hbm, ⟨8, _⟩ => ⟨S512x1024, .f32⟩
  | .hbm, ⟨9, _⟩ => ⟨S32x1, .f32⟩
  | .hbm, ⟨10, _⟩ => ⟨S32x16x64, .f32⟩
  | .hbm, ⟨11, _⟩ => ⟨S512x64, .f32⟩
  | .hbm, ⟨12, _⟩ => ⟨S32x16x64, .f32⟩
  | .hbm, ⟨13, _⟩ => ⟨S512x64, .f32⟩
  | .hbm, ⟨14, _⟩ => ⟨S1x2048, .f32⟩
  | .hbm, ⟨15, _⟩ => ⟨S1x2048, .f32⟩
  | .hbm, ⟨16, _⟩ => ⟨S32x64, .f32⟩
  | .hbm, ⟨17, _⟩ => ⟨S32x64, .f32⟩
  | .hbm, ⟨18, _⟩ => ⟨S32x1, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S1x2048, .f32⟩
  | .local _ .vmem, ⟨6, _⟩ => ⟨S1x2048, .f32⟩
  | .local _ .vmem, ⟨7, _⟩ => ⟨S512x1024, .f32⟩
  | .local _ .vmem, ⟨8, _⟩ => ⟨S512x1024, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ParamReferenceIdeal.lean ====
abbrev S32x64 : Shape := ⟨2, ![32, 64]⟩
abbrev S32 : Shape := ⟨1, ![32]⟩
abbrev S32x64x16 : Shape := ⟨3, ![32, 64, 16]⟩
abbrev S512x1024 : Shape := ⟨2, ![512, 1024]⟩
abbrev S32x1 : Shape := ⟨2, ![32, 1]⟩
abbrev S_ : Shape := ⟨0, ![]⟩
abbrev S32x64x1 : Shape := ⟨3, ![32, 64, 1]⟩
abbrev S512x512 : Shape := ⟨2, ![512, 512]⟩
abbrev S4x8x16x8x64 : Shape := ⟨5, ![4, 8, 16, 8, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x1x8x1 : Shape := ⟨5, ![1, 8, 1, 8, 1]⟩
abbrev S4x8x16x64 : Shape := ⟨4, ![4, 8, 16, 64]⟩
abbrev S32x16x64 : Shape := ⟨3, ![32, 16, 64]⟩
abbrev S512x64 : Shape := ⟨2, ![512, 64]⟩

abbrev nBuf : Space → Nat
  | .hbm => 249
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S512x1024, .f32⟩
  | 8 => ⟨S512x1024, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64x1, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x16, .f32⟩
  | 63 => ⟨S512x512, .f32⟩
  | 64 => ⟨S4x8x16x8x64, .f32⟩
  | 65 => ⟨S8, .i32⟩
  | 66 => ⟨S8x1, .i32⟩
  | 67 => ⟨S8, .i32⟩
  | 68 => ⟨S1x8, .i32⟩
  | 69 => ⟨S8x8, .i32⟩
  | 70 => ⟨S8x8, .i32⟩
  | 71 => ⟨S8x8, .i1⟩
  | 72 => ⟨S1x8x1x8x1, .i1⟩
  | 73 => ⟨S_, .f32⟩
  | 74 => ⟨S_, .f32⟩
  | 75 => ⟨S4x8x16x8x64, .i1⟩
  | 76 => ⟨S4x8x16x8x64, .f32⟩
  | 77 => ⟨S4x8x16x8x64, .f32⟩
  | 78 => ⟨S_, .f32⟩
  | 79 => ⟨S4x8x16x64, .f32⟩
  | 80 => ⟨S32x16x64, .f32⟩
  | 81 => ⟨S32x64x16, .f32⟩
  | 82 => ⟨S512x512, .f32⟩
  | 83 => ⟨S4x8x16x8x64, .f32⟩
  | 84 => ⟨S8, .i32⟩
  | 85 => ⟨S8x1, .i32⟩
  | 86 => ⟨S8, .i32⟩
  | 87 => ⟨S1x8, .i32⟩
  | 88 => ⟨S8x8, .i32⟩
  | 89 => ⟨S8x8, .i32⟩
  | 90 => ⟨S8x8, .i1⟩
  | 91 => ⟨S1x8x1x8x1, .i1⟩
  | 92 => ⟨S_, .f32⟩
  | 93 => ⟨S_, .f32⟩
  | 94 => ⟨S4x8x16x8x64, .i1⟩
  | 95 => ⟨S4x8x16x8x64, .f32⟩
  | 96 => ⟨S4x8x16x8x64, .f32⟩
  | 97 => ⟨S_, .f32⟩
  | 98 => ⟨S4x8x16x64, .f32⟩
  | 99 => ⟨S32x16x64, .f32⟩
  | 100 => ⟨S32x64x16, .f32⟩
  | 101 => ⟨S32x64x16, .f32⟩
  | 102 => ⟨S32x64x16, .f32⟩
  | 103 => ⟨S32x64x16, .f32⟩
  | 104 => ⟨S_, .f32⟩
  | 105 => ⟨S32x64, .f32⟩
  | 106 => ⟨S32x64x1, .f32⟩
  | 107 => ⟨S_, .f32⟩
  | 108 => ⟨S32x64, .f32⟩
  | 109 => ⟨S32x64x16, .f32⟩
  | 110 => ⟨S32x64x16, .f32⟩
  | 111 => ⟨S32x64x16, .f32⟩
  | 112 => ⟨S_, .f32⟩
  | 113 => ⟨S32x64, .f32⟩
  | 114 => ⟨S32x64x1, .f32⟩
  | 115 => ⟨S_, .f32⟩
  | 116 => ⟨S32x64, .f32⟩
  | 117 => ⟨S32x64x16, .f32⟩
  | 118 => ⟨S32x64x16, .f32⟩
  | 119 => ⟨S32x64x16, .f32⟩
  | 120 => ⟨S32x64x16, .f32⟩
  | 121 => ⟨S32x64x16, .f32⟩
  | 122 => ⟨S_, .f32⟩
  | 123 => ⟨S32x64, .f32⟩
  | 124 => ⟨S32x64x1, .f32⟩
  | 125 => ⟨S_, .f32⟩
  | 126 => ⟨S32x64, .f32⟩
  | 127 => ⟨S32x64, .f32⟩
  | _ => ⟨S32x64, .f32⟩

abbrev hbmTy0_1 (i : Nat) : BufTy := match i % 128 with
  | 0 => ⟨S32x64x16, .f32⟩
  | 1 => ⟨S32x64x16, .f32⟩
  | 2 => ⟨S32x64x16, .f32⟩
  | 3 => ⟨S32x64x16, .f32⟩
  | 4 => ⟨S_, .f32⟩
  | 5 => ⟨S32x64, .f32⟩
  | 6 => ⟨S32x64x1, .f32⟩
  | 7 => ⟨S_, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32, .f32⟩
  | 48 => ⟨S32x1, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S_, .f32⟩
  | 59 => ⟨S32, .f32⟩
  | 60 => ⟨S32x1, .f32⟩
  | 61 => ⟨S32x1, .f32⟩
  | 62 => ⟨S32x64, .f32⟩
  | 63 => ⟨S32x64, .f32⟩
  | 64 => ⟨S32x64, .f32⟩
  | 65 => ⟨S32x64, .f32⟩
  | 66 => ⟨S32x64, .f32⟩
  | 67 => ⟨S_, .f32⟩
  | 68 => ⟨S32, .f32⟩
  | 69 => ⟨S32x1, .f32⟩
  | 70 => ⟨S32x1, .f32⟩
  | 71 => ⟨S32x64, .f32⟩
  | 72 => ⟨S32x64, .f32⟩
  | 73 => ⟨S32x64, .f32⟩
  | 74 => ⟨S_, .f32⟩
  | 75 => ⟨S32, .f32⟩
  | 76 => ⟨S32, .f32⟩
  | 77 => ⟨S32x1, .f32⟩
  | 78 => ⟨S32x16x64, .f32⟩
  | 79 => ⟨S512x64, .f32⟩
  | 80 => ⟨S32x16x64, .f32⟩
  | 81 => ⟨S512x64, .f32⟩
  | 82 => ⟨S512x512, .f32⟩
  | 83 => ⟨S4x8x16x8x64, .f32⟩
  | 84 => ⟨S8, .i32⟩
  | 85 => ⟨S8x1, .i32⟩
  | 86 => ⟨S8, .i32⟩
  | 87 => ⟨S1x8, .i32⟩
  | 88 => ⟨S8x8, .i32⟩
  | 89 => ⟨S8x8, .i32⟩
  | 90 => ⟨S8x8, .i1⟩
  | 91 => ⟨S1x8x1x8x1, .i1⟩
  | 92 => ⟨S_, .f32⟩
  | 93 => ⟨S_, .f32⟩
  | 94 => ⟨S4x8x16x8x64, .i1⟩
  | 95 => ⟨S4x8x16x8x64, .f32⟩
  | 96 => ⟨S4x8x16x8x64, .f32⟩
  | 97 => ⟨S_, .f32⟩
  | 98 => ⟨S4x8x16x64, .f32⟩
  | 99 => ⟨S32x16x64, .f32⟩
  | 100 => ⟨S512x64, .f32⟩
  | 101 => ⟨S512x512, .f32⟩
  | 102 => ⟨S4x8x16x8x64, .f32⟩
  | 103 => ⟨S8, .i32⟩
  | 104 => ⟨S8x1, .i32⟩
  | 105 => ⟨S8, .i32⟩
  | 106 => ⟨S1x8, .i32⟩
  | 107 => ⟨S8x8, .i32⟩
  | 108 => ⟨S8x8, .i32⟩
  | 109 => ⟨S8x8, .i1⟩
  | 110 => ⟨S1x8x1x8x1, .i1⟩
  | 111 => ⟨S_, .f32⟩
  | 112 => ⟨S_, .f32⟩
  | 113 => ⟨S4x8x16x8x64, .i1⟩
  | 114 => ⟨S4x8x16x8x64, .f32⟩
  | 115 => ⟨S4x8x16x8x64, .f32⟩
  | 116 => ⟨S_, .f32⟩
  | 117 => ⟨S4x8x16x64, .f32⟩
  | 118 => ⟨S32x16x64, .f32⟩
  | 119 => ⟨S512x64, .f32⟩
  | 120 => ⟨S512x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_3 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v60 : Ref sig .tc := ⟨.hbm, 77, rfl⟩
abbrev main_cst_4 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_5 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v74 : Ref sig .tc := ⟨.hbm, 96, rfl⟩
abbrev main_cst_6 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_7 : Ref sig .tc := ⟨.hbm, 104, rfl⟩
abbrev main_v81 : Ref sig .tc := ⟨.hbm, 105, rfl⟩
abbrev main_v82 : Ref sig .tc := ⟨.hbm, 106, rfl⟩
abbrev main_cst_8 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_cst_10 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_11 : Ref sig .tc := ⟨.hbm, 122, rfl⟩
abbrev main_v95 : Ref sig .tc := ⟨.hbm, 123, rfl⟩
abbrev main_v96 : Ref sig .tc := ⟨.hbm, 124, rfl⟩
abbrev main_cst_12 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_13 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_15 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_16 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_17 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_18 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_cst_19 : Ref sig .tc := ⟨.hbm, 220, rfl⟩
abbrev main_call2_v0 : Ref sig .tc := ⟨.hbm, 221, rfl⟩
abbrev main_call2_v1 : Ref sig .tc := ⟨.hbm, 222, rfl⟩
abbrev main_call2_v2 : Ref sig .tc := ⟨.hbm, 223, rfl⟩
abbrev main_v185 : Ref sig .tc := ⟨.hbm, 224, rfl⟩
abbrev main_cst_20 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_cst_21 : Ref sig .tc := ⟨.hbm, 239, rfl⟩
abbrev main_call3_v0 : Ref sig .tc := ⟨.hbm, 240, rfl⟩
abbrev main_call3_v1 : Ref sig .tc := ⟨.hbm, 241, rfl⟩
abbrev main_call3_v2 : Ref sig .tc := ⟨.hbm, 242, rfl⟩
abbrev main_v199 : Ref sig .tc := ⟨.hbm, 243, rfl⟩
abbrev main_cst_22 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩

abbrev nD : Nat := 1
abbrev τ : Topo := Topo.v7x

variable {F : FTy → Type} [FloatOps F]
-- ==== AttnKernel.lean ====
abbrev S4096x8x192 : Shape := ⟨3, ![4096, 8, 192]⟩
abbrev S4096x8x128 : Shape := ⟨3, ![4096, 8, 128]⟩
abbrev S4096x1024 : Shape := ⟨2, ![4096, 1024]⟩
abbrev S_ : Shape := ⟨0, ![]⟩
abbrev S4096x4096 : Shape := ⟨2, ![4096, 4096]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x256 : Shape := ⟨3, ![8, 4096, 256]⟩
abbrev S8x4096x128 : Shape := ⟨3, ![8, 4096, 128]⟩
abbrev S8x4x1x1024 : Shape := ⟨4, ![8, 4, 1, 1024]⟩
abbrev S8x128 : Shape := ⟨2, ![8, 128]⟩
abbrev S1x4096x256 : Shape := ⟨3, ![1, 4096, 256]⟩
abbrev S1x1024x256 : Shape := ⟨3, ![1, 1024, 256]⟩
abbrev S1x1024x128 : Shape := ⟨3, ![1, 1024, 128]⟩
abbrev S4096x128 : Shape := ⟨2, ![4096, 128]⟩
abbrev S1x4x1x1024 : Shape := ⟨4, ![1, 4, 1, 1024]⟩
abbrev S1024x256 : Shape := ⟨2, ![1024, 256]⟩
abbrev S1024x128 : Shape := ⟨2, ![1024, 128]⟩
abbrev S8x1024 : Shape := ⟨2, ![8, 1024]⟩
abbrev S1x1024 : Shape := ⟨2, ![1, 1024]⟩
abbrev S1024x1024 : Shape := ⟨2, ![1024, 1024]⟩
abbrev S1x1x1x1024 : Shape := ⟨4, ![1, 1, 1, 1024]⟩

abbrev nBuf : Space → Nat
  | .hbm => 61
  | .vmem => 18
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x1024, .f32⟩
  | .hbm, ⟨4, _⟩ => ⟨S_, .f32⟩
  | .hbm, ⟨5, _⟩ => ⟨S4096x8x192, .f32⟩
  | .hbm, ⟨6, _⟩ => ⟨S4096x8x192, .f32⟩
  | .hbm, ⟨7, _⟩ => ⟨S_, .i1⟩
  | .hbm, ⟨8, _⟩ => ⟨S4096x4096, .i1⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .i1⟩
  | .hbm, ⟨16, _⟩ => ⟨S4096x4096, .i1⟩
  | .hbm, ⟨17, _⟩ => ⟨S4096x4096, .i1⟩
  | .hbm, ⟨18, _⟩ => ⟨S8x4096x4096, .f32⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x128x4096, .f32⟩
  | .hbm, ⟨36, _⟩ => ⟨S4096x8x128, .f32⟩
  | .hbm, ⟨37, _⟩ => ⟨S4096x1024, .f32⟩
  | .hbm, ⟨38, _⟩ => ⟨S8x4096x1, .f32⟩
  | .hbm, ⟨39, _⟩ => ⟨S8x4096x1, .f32⟩
  | .hbm, ⟨40, _⟩ => ⟨S8x4096x192, .f32⟩
  | .hbm, ⟨41, _⟩ => ⟨S_, .i32⟩
  | .hbm, ⟨42, _⟩ => ⟨S_, .f32⟩
  | .hbm, ⟨43, _⟩ => ⟨S8x4096x256, .f32⟩
  | .hbm, ⟨44, _⟩ => ⟨S8x4096x256, .bf16⟩
  | .hbm, ⟨45, _⟩ => ⟨S8x4096x192, .f32⟩
  | .hbm, ⟨46, _⟩ => ⟨S_, .i32⟩
  | .hbm, ⟨47, _⟩ => ⟨S_, .f32⟩
  | .hbm, ⟨48, _⟩ => ⟨S8x4096x256, .f32⟩
  | .hbm, ⟨49, _⟩ => ⟨S8x4096x256, .bf16⟩
  | .hbm, ⟨50, _⟩ => ⟨S8x4096x128, .f32⟩
  | .hbm, ⟨51, _⟩ => ⟨S_, .i32⟩
  | .hbm, ⟨52, _⟩ => ⟨S_, .f32⟩
  | .hbm, ⟨53, _⟩ => ⟨S8x4096x128, .f32⟩
  | .hbm, ⟨54, _⟩ => ⟨S8x4096x128, .bf16⟩
  | .hbm, ⟨55, _⟩ => ⟨S8x4x1x1024, .f32⟩
  | .hbm, ⟨56, _⟩ => ⟨S_, .f32⟩
  | .hbm, ⟨57, _⟩ => ⟨S8x128, .f32⟩
  | .hbm, ⟨58, _⟩ => ⟨S8x4096x256, .f32⟩
  | .hbm, ⟨59, _⟩ => ⟨S8x4096x256, .f32⟩
  | .hbm, ⟨60, _⟩ => ⟨S8x4096x128, .f32⟩
  | .local _ .vmem, ⟨0, _⟩ => ⟨S1x4096x256, .bf16⟩
  | .local _ .vmem, ⟨1, _⟩ => ⟨S1x4096x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x4x1x1024, .f32⟩
  | .local _ .vmem, ⟨11, _⟩ => ⟨S1x4x1x1024, .f32⟩
  | .local _ .vmem, ⟨12, _⟩ => ⟨S1x4096x256, .f32⟩
  | .local _ .vmem, ⟨13, _⟩ => ⟨S1x4096x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x128, .f32⟩
  | .local _ .vmem, ⟨17, _⟩ => ⟨S1x1024x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_call3_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_call4_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31_0 : Ref sig .tc := ⟨.hbm, 58, rfl⟩
abbrev main_v31_1 : Ref sig .tc := ⟨.hbm, 59, rfl⟩
abbrev main_v31_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 3 → Nat :=
  let c0_8 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_9 : Index := 0#32
  ![0, v13.toNat, 0]
def k0_off2 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v16 : Index := Scalar.indexCast v12
  let c0_10 : Index := 0#32
  ![v16.toNat, 0]
def k0_off3 (i : grid0.Coords) : Fin 4 → Nat :=
  let c0_18 : Index := 0#32
  let arg1 : BitVec 32 := BitVec.ofNat 32 (i 1).val
  let v44 : Index := Scalar.indexCast arg1
  let c0_19 : Index := 0#32
  let c0_20 : Index := 0#32
  ![0, v44.toNat, 0, 0]
@[reducible] def k0_t1_loop (i : grid0.Coords) : Scf.Loop 32 :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_30 : BitVec 32 := 1#32
  ⟨v10, v73, c1_i32_30⟩
def k0_mult2 (i : grid0.Coords) (k0_t1 : Fin (k0_t1_loop i).trips) : BitVec 32 :=
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k0_t1
  let c1024_i32_38 : BitVec 32 := 1024#32
  let v82 : BitVec 32 := Scalar.muli arg12 c1024_i32_38
  v82
def k0_off4 (i : grid0.Coords) (k0_t1 : Fin (k0_t1_loop i).trips) : Fin 3 → Nat :=
  let c0_39 : Index := 0#32
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k0_t1
  let c1024_i32_38 : BitVec 32 := 1024#32
  let v82 : BitVec 32 := Scalar.muli arg12 c1024_i32_38
  let v83 : BitVec 32 := v82
  let v84 : Index := Scalar.indexCast v83
  let c0_40 : Index := 0#32
  ![0, v84.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k0_t1
  let c1024_i32_38 : BitVec 32 := 1024#32
  let v82 : BitVec 32 := Scalar.muli arg12 c1024_i32_38
  let v83 : BitVec 32 := v82
  let v87 : Index := Scalar.indexCast v83
  let c0_41 : Index := 0#32
  ![v87.toNat, 0]
def k0_off6 (i : grid0.Coords) (k0_t1 : Fin (k0_t1_loop i).trips) : Fin 4 → Nat :=
  let c0_48 : Index := 0#32
  let arg1 : BitVec 32 := BitVec.ofNat 32 (i 1).val
  let c1_i32 : BitVec 32 := 1#32
  let v10 : BitVec 32 := Scalar.addi arg1 c1_i32
  let c1_i32_30 : BitVec 32 := 1#32
  let arg12 : BitVec 32 := Scf.iv v10 c1_i32_30 k0_t1
  let v110 : Index := Scalar.indexCast arg12
  let c0_49 : Index := 0#32
  let c0_50 : Index := 0#32
  ![0, v110.toNat, 0, 0]
@[reducible] def k0_t2_loop (i : grid0.Coords) : Scf.Loop 32 :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let v70 : BitVec 32 := Scalar.addi v10 v69
  let c1_i32_31 : BitVec 32 := 1#32
  ⟨v73, v70, c1_i32_31⟩
def k0_mult3 (i : grid0.Coords) (k0_t2 : Fin (k0_t2_loop i).trips) : BitVec 32 :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k0_t2
  let c1024_i32_38 : BitVec 32 := 1024#32
  let v82 : BitVec 32 := Scalar.muli arg12 c1024_i32_38
  v82
def k0_off7 (i : grid0.Coords) (k0_t2 : Fin (k0_t2_loop i).trips) : Fin 3 → Nat :=
  let c0_39 : Index := 0#32
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k0_t2
  let c1024_i32_38 : BitVec 32 := 1024#32
  let v82 : BitVec 32 := Scalar.muli arg12 c1024_i32_38
  let v83 : BitVec 32 := v82
  let v84 : Index := Scalar.indexCast v83
  let c0_40 : Index := 0#32
  ![0, v84.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k0_t2
  let c1024_i32_38 : BitVec 32 := 1024#32
  let v82 : BitVec 32 := Scalar.muli arg12 c1024_i32_38
  let v83 : BitVec 32 := v82
  let v87 : Index := Scalar.indexCast v83
  let c0_41 : Index := 0#32
  ![v87.toNat, 0]
def k0_off9 (i : grid0.Coords) (k0_t2 : Fin (k0_t2_loop i).trips) : Fin 4 → Nat :=
  let c0_48 : Index := 0#32
  let arg1 : BitVec 32 := BitVec.ofNat 32 (i 1).val
  let c1_i32 : BitVec 32 := 1#32
  let v10 : BitVec 32 := Scalar.addi arg1 c1_i32
  let c4_i32 : BitVec 32 := 4#32
  let v69 : BitVec 32 := Scalar.subi c4_i32 v10
  let c1_i32_29 : BitVec 32 := 1#32
  let v71 : BitVec 32 := Scalar.divsi v69 c1_i32_29
  let v72 : BitVec 32 := Scalar.muli v71 c1_i32_29
  let v73 : BitVec 32 := Scalar.addi v10 v72
  let c1_i32_31 : BitVec 32 := 1#32
  let arg12 : BitVec 32 := Scf.iv v73 c1_i32_31 k0_t2
  let v110 : Index := Scalar.indexCast arg12
  let c0_49 : Index := 0#32
  let c0_50 : Index := 0#32
  ![0, v110.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnReferenceIdeal.lean ====
abbrev S4096x8x192 : Shape := ⟨3, ![4096, 8, 192]⟩
abbrev S4096x8x128 : Shape := ⟨3, ![4096, 8, 128]⟩
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S8x4096x4096 : Shape := ⟨3, ![8, 4096, 4096]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x256 : Shape := ⟨3, ![8, 4096, 256]⟩
abbrev S8x4096x128 : Shape := ⟨3, ![8, 4096, 128]⟩

abbrev nBuf : Space → Nat
  | .hbm => 97
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x1024, .f32⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S1x4096, .i32⟩
  | .hbm, ⟨8, _⟩ => ⟨S_, .f32⟩
  | .hbm, ⟨9, _⟩ => ⟨S4096x8x192, .f32⟩
  | .hbm, ⟨10, _⟩ => ⟨S4096x8x192, .f32⟩
  | .hbm, ⟨11, _⟩ => ⟨S8x4096x4096, .f32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x128x4096, .f32⟩
  | .hbm, ⟨61, _⟩ => ⟨S4096x8x128, .f32⟩
  | .hbm, ⟨62, _⟩ => ⟨S4096x8x128, .f32⟩
  | .hbm, ⟨63, _⟩ => ⟨S8x128x4096, .f32⟩
  | .hbm, ⟨64, _⟩ => ⟨S8x4096x4096, .f32⟩
  | .hbm, ⟨65, _⟩ => ⟨S8x128x4096, .f32⟩
  | .hbm, ⟨66, _⟩ => ⟨S4096x8x128, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096x4096, .f32⟩
  | .hbm, ⟨83, _⟩ => ⟨S8x4096x4096, .f32⟩
  | .hbm, ⟨84, _⟩ => ⟨S8x4096x192, .f32⟩
  | .hbm, ⟨85, _⟩ => ⟨S4096x8x192, .f32⟩
  | .hbm, ⟨86, _⟩ => ⟨S8x4096x192, .f32⟩
  | .hbm, ⟨87, _⟩ => ⟨S4096x8x192, .f32⟩
  | .hbm, ⟨88, _⟩ => ⟨S8x4096x192, .f32⟩
  | .hbm, ⟨89, _⟩ => ⟨S_, .i32⟩
  | .hbm, ⟨90, _⟩ => ⟨S_, .f32⟩
  | .hbm, ⟨91, _⟩ => ⟨S8x4096x256, .f32⟩
  | .hbm, ⟨92, _⟩ => ⟨S8x4096x192, .f32⟩
  | .hbm, ⟨93, _⟩ => ⟨S_, .i32⟩
  | .hbm, ⟨94, _⟩ => ⟨S_, .f32⟩
  | .hbm, ⟨95, _⟩ => ⟨S8x4096x256, .f32⟩
  | .hbm, ⟨96, _⟩ => ⟨S8x4096x128, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_call2_v0 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_call3_v0 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Proof.Weights.lean ====
/-
  THE GROUPED WEIGHT ARRAY of the merge and of the MLP, read at an index. The kernels read `w_down`, `w_up`, `w_o_mla` and
  `w_out` from one array of four shards, each shard holding its quarter of the four members one above another: rows
  0–1023 are 1024 rows of `w_down`, rows 1024–2047 are 1024 columns' worth of `w_up` (all its rows), rows 2048–2303 are 256
  rows of `w_o_mla`, rows 2304–2559 are 256 rows of `w_out`.
-/
module

public import Idealize.ShloMosaic.Lib.Pointwise
public import Idealize.ShloMosaic.Lib.Pipeline.ValueKit

@[expose] public section

set_option maxRecDepth 16384

noncomputable section

open Idealize.ShloMosaic Idealize.ShloMosaic.TcCoe

namespace Cert.Weights

/-- Shapes: a shard of the group, its two kinds of members, and the whole weights. -/
abbrev SGroup : Shape := ⟨3, ![4, 2560, 1024]⟩
abbrev SBig : Shape := ⟨3, ![4, 1024, 1024]⟩
abbrev SSmall : Shape := ⟨3, ![4, 256, 1024]⟩

section
variable (hc : Shape.Concatenates [SBig, SBig, SSmall, SSmall] SGroup 1)
variable (x y : FVec Ideal SBig .f32) (z w : FVec Ideal SSmall .f32)

/-- The four members, one above another. -/
def group : FVec Ideal SGroup .f32 := concatenate SGroup 1 [⟨SBig, x⟩, ⟨SBig, y⟩, ⟨SSmall, z⟩, ⟨SSmall, w⟩] hc

theorem group_apply (a : Fin 4) (n : Fin 2560) (k : Fin 1024) : group hc x y z w (ix3 a n k)
    = if h : (n : ℕ) < 1024 then x (ix3 a ⟨n, h⟩ k)
      else if h : (n : ℕ) - 1024 < 1024 then y (ix3 a ⟨n - 1024, h⟩ k)
      else if h : (n : ℕ) - 1024 - 1024 < 256 then z (ix3 a ⟨n - 1024 - 1024, h⟩ k)
      else w (ix3 a ⟨n - 1024 - 1024 - 256, by omega⟩ k) := by
  pointwise [group]

theorem group_down (a : Fin 4) (n : Fin 2560) (k : Fin 1024) (h : (n : ℕ) < 1024) :
    group hc x y z w (ix3 a n k) = x (ix3 a ⟨n, h⟩ k) := by
  rw [group_apply, dif_pos h]
theorem group_up (a : Fin 4) (n : Fin 2560) (k : Fin 1024) (h : 1024 ≤ (n : ℕ)) (h' : (n : ℕ) < 2048) :
    group hc x y z w (ix3 a n k) = y (ix3 a ⟨n - 1024, by omega⟩ k) := by
  rw [group_apply, dif_neg (by omega), dif_pos (by omega)]
theorem group_o_mla (a : Fin 4) (n : Fin 2560) (k : Fin 1024) (h : 2048 ≤ (n : ℕ)) (h' : (n : ℕ) < 2304) :
    group hc x y z w (ix3 a n k) = z (ix3 a ⟨n - 2048, by omega⟩ k) := by
  rw [group_apply, dif_neg (by omega), dif_neg (by omega), dif_pos (by omega)]
  congr 2
theorem group_out (a : Fin 4) (n : Fin 2560) (k : Fin 1024) (h : 2304 ≤ (n : ℕ)) :
    group hc x y z w (ix3 a n k) = w (ix3 a ⟨n - 2304, by omega⟩ k) := by
  rw [group_apply, dif_neg (by omega), dif_neg (by omega), dif_neg (by omega)]
  congr 2
end

/-- A value computed shard by shard, the four results side by side, is the value of the joined shards. -/
theorem shards {α : Type} (f : Fin 4 → Fin 256 → α) (g : Fin 1024 → α)
    (h : ∀ (a : Fin 4) (r : Fin 256), f a r = g ⟨a * 256 + r, by omega⟩) (y : Fin 1024) :
    (if h : (y : ℕ) < 256 then f 0 ⟨y, h⟩ else if h : (y : ℕ) - 256 < 256 then f 1 ⟨y - 256, h⟩
      else if h : (y : ℕ) - 256 - 256 < 256 then f 2 ⟨y - 256 - 256, h⟩ else f 3 ⟨y - 256 - 256 - 256, by omega⟩) = g y := by
  simp only [h]
  split_ifs <;> refine congrArg g (Fin.ext ?_) <;> simp <;> omega

/-- A square weight cut in four shards of 256 rows. -/
theorem rows256 (h : (⟨2, ![1024, 1024]⟩ : Shape).ShapeCasts SSmall) (x : FVec Ideal ⟨2, ![1024, 1024]⟩ .f32)
    (a : Fin 4) (n : Fin 256) (k : Fin 1024) : shapeCast SSmall x h (ix3 a n k) = x (ix2 ⟨a * 256 + n, by omega⟩ k) := by
  pointwise
/-- `w_down` cut in four shards of 1024 rows. -/
theorem rows1024 (h : (⟨2, ![4096, 1024]⟩ : Shape).ShapeCasts SBig) (x : FVec Ideal ⟨2, ![4096, 1024]⟩ .f32)
    (a : Fin 4) (n : Fin 1024) (k : Fin 1024) : shapeCast SBig x h (ix3 a n k) = x (ix2 ⟨a * 1024 + n, by omega⟩ k) := by
  pointwise
/-- `w_up` cut in four shards of 1024 columns. -/
theorem cols1024 (h : (⟨2, ![1024, 4096]⟩ : Shape).ShapeCasts ⟨3, ![1024, 4, 1024]⟩)
    (h' : (⟨3, ![1024, 4, 1024]⟩ : Shape).Transposes [1, 0, 2] SBig) (x : FVec Ideal ⟨2, ![1024, 4096]⟩ .f32)
    (a : Fin 4) (n : Fin 1024) (k : Fin 1024) :
    transpose SBig [1, 0, 2] (shapeCast ⟨3, ![1024, 4, 1024]⟩ x h) h' (ix3 a n k) = x (ix2 n ⟨a * 1024 + k, by omega⟩) := by
  pointwise

end Cert.Weights
-- ==== Proof.Merge.lean ====
module

public import proofs.«01_k».proof.Defs
public import proofs.«01_k».proof.Proof.Gen.KernelIdeal.Frame
public import proofs.«01_k».proof.Proof.Gen.ReferenceIdeal
public import Idealize.ShloMosaic.Lib.Pipeline.ValueKit
public import Idealize.ShloMosaic.Lib.Pointwise
public import Idealize.ShloMosaic.Lib.Claim
public import proofs.«01_k».proof.Proof.Weights

@[expose] public section

set_option maxRecDepth 16384

noncomputable section

open Idealize.ShloMosaic Idealize.ShloMosaic.TcCoe Idealize.SL.Sem
open Idealize.ShloMosaic.Pipeline (Dat)

namespace Cert.KernelIdeal.Merge

open Cert.KernelIdeal Cert.KernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 8, 0] ∧ win0_6.index t = ![0, 9, 0]
    ∧ win0_7.index t = ![t.val, 0] ∧ win0_8.index t = ![t.val, 0] ∧ win0_9.index t = ![t.val, 0]
    ∧ win0_10.index t = ![t.val, 0] ∧ win0_11.index t = ![t.val, 0] := (by decide +kernel : ∀ t : Fin grid0.N, _)

/-- The grouped weights as the kernel finds them. -/
theorem V_group (c : Dev nD) : (V m c main_v13 : FVec Ideal S4x2560x1024 .bf16) = truncf .bf16 (Weights.group
    concatenates_S4x1024x1024_S4x1024x1024_S4x256x1024_S4x256x1024_S4x2560x1024_d1
    (shapeCast S4x1024x1024 (m ((c : Thread nD τ).loc main_arg8)) shapeCasts_S4096x1024_S4x1024x1024)
    (transpose S4x1024x1024 [1, 0, 2] (shapeCast S1024x4x1024 (m ((c : Thread nD τ).loc main_arg7)) shapeCasts_S1024x4096_S1024x4x1024) transposes_S1024x4x1024_S4x1024x1024_1_0_2)
    (shapeCast S4x256x1024 (m ((c : Thread nD τ).loc main_arg5)) shapeCasts_S1024x1024_S4x256x1024)
    (shapeCast S4x256x1024 (m ((c : Thread nD τ).loc main_arg6)) shapeCasts_S1024x1024_S4x256x1024)) bitsLt_bf16_f32 := by
  unfold V
  after_results
  rfl

/-- Row `r` of the block of 512 rows that grid point `t` takes. -/
abbrev row (t : Fin cfg0.N) (r : Fin 512) : Fin 4096 := ⟨t.val * 512 + r.val, by have h := lt_of_lt_of_eq t.isLt N_0; omega⟩

/-! ## The reference's terms -/

section
open Cert.ReferenceIdeal Cert.ReferenceIdeal.Gen

/-- `1 / (1 + exp (-g))`. -/
def gate (g : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf g)))
/-- `x wᵀ`. -/
def timesT (x : FVec Ideal S4096x1024 .f32) (w : FVec Ideal S1024x1024 .f32) : FVec Ideal S4096x1024 .f32 :=
  Host.dotGeneral dot_S4096x1024_S1024x1024_S4096x1024_1_1_0_0_n_n none x w
/-- `x w`. -/
def times (x : FVec Ideal S4096x1024 .f32) (w : FVec Ideal S1024x1024 .f32) : FVec Ideal S4096x1024 .f32 :=
  Host.dotGeneral dot_S4096x1024_S1024x1024_S4096x1024_1_0_0_1_n_n none x w
/-- The gate's own derivative. -/
def slope (g : FVec Ideal S4096x1024 .f32) : FVec Ideal S4096x1024 .f32 :=
  mulf (gate g) (subf (broadcastInDim S4096x1024 ![] bcast_S_S4096x1024 (constant S_ .f32 0x3F800000#32)) (gate g))
/-- The gradient of a branch: the gate times the gradient of the gated sum. -/
def dBranch (dh g : FVec Ideal S4096x1024 .f32) (wout : FVec Ideal S1024x1024 .f32) : FVec Ideal S4096x1024 .f32 :=
  mulf (gate g) (timesT dh wout)
/-- The gradient of a gate's argument. -/
def dGate (dh g y : FVec Ideal S4096x1024 .f32) (wout : FVec Ideal S1024x1024 .f32) : FVec Ideal S4096x1024 .f32 :=
  mulf (mulf (timesT dh wout) y) (slope g)
end

/-! ## The blocks a grid point reads -/

section
variable (c : Dev nD) (t : Fin cfg0.N)

abbrev DH : FVec Ideal S4096x1024 .f32 := m ((c : Thread nD τ).loc main_arg0)
abbrev ATTN : FVec Ideal S4096x1024 .f32 := m ((c : Thread nD τ).loc main_arg1)
abbrev YS : FVec Ideal S4096x1024 .f32 := m ((c : Thread nD τ).loc main_arg2)
abbrev GS : FVec Ideal S4096x1024 .f32 := m ((c : Thread nD τ).loc main_arg3)
abbrev GM : FVec Ideal S4096x1024 .f32 := m ((c : Thread nD τ).loc main_arg4)
abbrev WO : FVec Ideal S1024x1024 .f32 := m ((c : Thread nD τ).loc main_arg5)
abbrev WOUT : FVec Ideal S1024x1024 .f32 := m ((c : Thread nD τ).loc main_arg6)

theorem iblk0 (r : Fin 512) (k : Fin 1024) : (iblk m c 0 t : FVec Ideal S512x1024 .f32) (ix2 r k) = DH m c (ix2 (row t r) k) := by
  blk_ext [iblk, V, idx t]
theorem iblk1 (r : Fin 512) (k : Fin 1024) : (iblk m c 1 t : FVec Ideal S512x1024 .bf16) (ix2 r k) = YS m c (ix2 (row t r) k) := by
  have h : iblk m c 1 t (ix2 r k) = V m c main_v4 (ix2 (row t r) k) := by blk_ext [iblk, idx t]
  rw [h]; entry_read; rfl
theorem iblk2 (r : Fin 512) (k : Fin 1024) : (iblk m c 2 t : FVec Ideal S512x1024 .bf16) (ix2 r k)
    = times (ATTN m c) (WO m c) (ix2 (row t r) k) := by
  have h : iblk m c 2 t (ix2 r k) = V m c main_v3 (ix2 (row t r) k) := by blk_ext [iblk, idx t]
  rw [h]; entry_read; rfl
theorem iblk3 (r : Fin 512) (k : Fin 1024) : (iblk m c 3 t : FVec Ideal S512x1024 .bf16) (ix2 r k) = GS m c (ix2 (row t r) k) := by
  have h : iblk m c 3 t (ix2 r k) = V m c main_v5 (ix2 (row t r) k) := by blk_ext [iblk, idx t]
  rw [h]; entry_read; rfl
theorem iblk4 (r : Fin 512) (k : Fin 1024) : (iblk m c 4 t : FVec Ideal S512x1024 .bf16) (ix2 r k) = GM m c (ix2 (row t r) k) := by
  have h : iblk m c 4 t (ix2 r k) = V m c main_v6 (ix2 (row t r) k) := by blk_ext [iblk, idx t]
  rw [h]; entry_read; rfl

theorem iblk5 (a : Fin 4) (r : Fin 256) (k : Fin 1024) :
    (iblk m c 5 t : FVec Ideal S4x256x1024 .bf16) (ix3 a r k) = WO m c (ix2 ⟨a * 256 + r, by omega⟩ k) := by
  have h : iblk m c 5 t (ix3 a r k) = V m c main_v13 (ix3 a ⟨2048 + r.val, by omega⟩ k) := by
    blk_ext [iblk, idx t]
  refine h.trans ((congrFun (V_group m c) _).trans ((Weights.group_o_mla
    concatenates_S4x1024x1024_S4x1024x1024_S4x256x1024_S4x256x1024_S4x2560x1024_d1 _ _ _ _ a ⟨2048 + r.val, by omega⟩ k
    (Nat.le_add_right _ _) (by dsimp only; omega)).trans ?_))
  refine (Weights.rows256 _ _ a _ k).trans ?_
  blk_ext

theorem iblk6 (a : Fin 4) (r : Fin 256) (k : Fin 1024) :
    (iblk m c 6 t : FVec Ideal S4x256x1024 .bf16) (ix3 a r k) = WOUT m c (ix2 ⟨a * 256 + r, by omega⟩ k) := by
  have h : iblk m c 6 t (ix3 a r k) = V m c main_v13 (ix3 a ⟨2304 + r.val, by omega⟩ k) := by
    blk_ext [iblk, idx t]
  refine h.trans ((congrFun (V_group m c) _).trans ((Weights.group_out
    concatenates_S4x1024x1024_S4x1024x1024_S4x256x1024_S4x256x1024_S4x2560x1024_d1 _ _ _ _ a ⟨2304 + r.val, by omega⟩ k
    (Nat.le_add_right _ _)).trans ?_))
  refine (Weights.rows256 _ _ a _ k).trans ?_
  blk_ext

/-- The gradient of the gated sum, which the body computes shard by shard. -/
theorem dmixed (y0 : Fin 512) (y1 : Fin 1024) :
    k0_pay13 (iblk m c 0 t) (iblk m c 1 t) (iblk m c 2 t) (iblk m c 3 t) (iblk m c 4 t) (iblk m c 5 t) (iblk m c 6 t) (ix2 y0 y1)
    = timesT (DH m c) (WOUT m c) (ix2 (row t y0) y1) := by
  pointwise [k0_pay13, k0_pay2, timesT]
  refine Weights.shards (fun a r => ∑ k, (show FVec Ideal S512x1024 .f32 from iblk m c 0 t) (ix2 y0 k)
    * (show FVec Ideal S4x256x1024 .bf16 from iblk m c 6 t) (ix3 a r k))
    (fun j => ∑ k, DH m c (ix2 (row t y0) k) * WOUT m c (ix2 j k)) (fun a r => ?_) y1
  exact Fin.sum_fin_congr fun k => congrArg₂ _ (iblk0 m c t y0 k) (iblk6 m c t a r k)

theorem gateS (y0 : Fin 512) (y1 : Fin 1024) :
    k0_pay14 (iblk m c 0 t) (iblk m c 1 t) (iblk m c 2 t) (iblk m c 3 t) (iblk m c 4 t) (iblk m c 5 t) (iblk m c 6 t) (ix2 y0 y1)
    = gate (GS m c) (ix2 (row t y0) y1) := by
  pointwise [k0_pay14, k0_pay3, gate]
  rw [iblk3, sub_eq_add_neg, zero_add]

theorem gateM (y0 : Fin 512) (y1 : Fin 1024) :
    k0_pay6 (k0_pay15 (iblk m c 0 t) (iblk m c 1 t) (iblk m c 2 t) (iblk m c 3 t) (iblk m c 4 t) (iblk m c 5 t) (iblk m c 6 t))
      (k0_pay16 (iblk m c 0 t) (iblk m c 1 t) (iblk m c 2 t) (iblk m c 3 t) (iblk m c 4 t) (iblk m c 5 t) (iblk m c 6 t)) (ix2 y0 y1)
    = gate (GM m c) (ix2 (row t y0) y1) := by
  pointwise [k0_pay6, k0_pay15, k0_pay4, k0_pay16, k0_pay5, gate]
  rw [iblk4, sub_eq_add_neg, zero_add]

/-- The gradient of the second branch. -/
theorem dyM (y0 : Fin 512) (y1 : Fin 1024) :
    k0_pay9 (k0_pay13 (iblk m c 0 t) (iblk m c 1 t) (iblk m c 2 t) (iblk m c 3 t) (iblk m c 4 t) (iblk m c 5 t) (iblk m c 6 t))
      (k0_pay15 (iblk m c 0 t) (iblk m c 1 t) (iblk m c 2 t) (iblk m c 3 t) (iblk m c 4 t) (iblk m c 5 t) (iblk m c 6 t))
      (k0_pay16 (iblk m c 0 t) (iblk m c 1 t) (iblk m c 2 t) (iblk m c 3 t) (iblk m c 4 t) (iblk m c 5 t) (iblk m c 6 t)) (ix2 y0 y1)
    = dBranch (DH m c) (GM m c) (WOUT m c) (ix2 (row t y0) y1) := by
  pointwise [k0_pay9, dBranch, dmixed, gateM]
  exact mul_comm (_ : EReal) _

end

variable (c : Dev nD)

theorem final7 : (dats m 0 c).arrAt 7 (cfgs 0).N = truncf .bf16 (dBranch (DH m c) (GS m c) (WOUT m c)) bitsLt_bf16_f32 := by
  refine (dats m 0 c).arrAt_eq_of_covers 7 _ (by decide +kernel) fun t _ y => ?_
  blk_simp
  rw [after0_7]; frame_out
  idx_vars y
  have e : ((View.whole main_v14_0).slice (win0_7.rect t)).emb (ix2 y0 y1) = ix2 (row t y0) y1 := by blk_ext [idx t]
  rw [e]
  pointwise [k0_pay7, dBranch, dmixed, gateS]
  exact mul_comm (_ : EReal) _

theorem final8 : (dats m 0 c).arrAt 8 (cfgs 0).N = truncf .bf16 (dBranch (DH m c) (GM m c) (WOUT m c)) bitsLt_bf16_f32 := by
  refine (dats m 0 c).arrAt_eq_of_covers 8 _ (by decide +kernel) fun t _ y => ?_
  blk_simp
  rw [after0_8]; frame_out
  idx_vars y
  have e : ((View.whole main_v14_1).slice (win0_8.rect t)).emb (ix2 y0 y1) = ix2 (row t y0) y1 := by blk_ext [idx t]
  rw [e]
  rw [dyM]; rfl

theorem final9 : (dats m 0 c).arrAt 9 (cfgs 0).N = truncf .bf16 (dGate (DH m c) (GS m c) (YS m c) (WOUT m c)) bitsLt_bf16_f32 := by
  refine (dats m 0 c).arrAt_eq_of_covers 9 _ (by decide +kernel) fun t _ y => ?_
  blk_simp
  rw [after0_9]; frame_out
  idx_vars y
  have e : ((View.whole main_v14_2).slice (win0_9.rect t)).emb (ix2 y0 y1) = ix2 (row t y0) y1 := by blk_ext [idx t]
  rw [e]
  pointwise [k0_pay8, dGate, slope, dmixed, gateS, iblk1]
  exact mul_assoc (_ : EReal) _ _

theorem final10 : (dats m 0 c).arrAt 10 (cfgs 0).N = truncf .bf16 (dGate (DH m c) (GM m c) (addf (times (ATTN m c) (WO m c)) (broadcastInDim Cert.ReferenceIdeal.S4096x1024 ![] Cert.ReferenceIdeal.Gen.bcast_S_S4096x1024 (constant Cert.ReferenceIdeal.S_ .f32 0x00000000#32))) (WOUT m c)) bitsLt_bf16_f32 := by
  refine (dats m 0 c).arrAt_eq_of_covers 10 _ (by decide +kernel) fun t _ y => ?_
  blk_simp
  rw [after0_10]; frame_out
  idx_vars y
  have e : ((View.whole main_v14_3).slice (win0_10.rect t)).emb (ix2 y0 y1) = ix2 (row t y0) y1 := by blk_ext [idx t]
  rw [e]
  pointwise [k0_pay10, dGate, slope, dmixed, gateM, iblk2]
  exact mul_assoc (_ : EReal) _ _

theorem final11 : (dats m 0 c).arrAt 11 (cfgs 0).N = timesT (dBranch (DH m c) (GM m c) (WOUT m c)) (WO m c) := by
  refine (dats m 0 c).arrAt_eq_of_covers 11 _ (by decide +kernel) fun t _ y => ?_
  blk_simp
  rw [after0_11]; frame_out
  idx_vars y
  have e : ((View.whole main_v14_4).slice (win0_11.rect t)).emb (ix2 y0 y1) = ix2 (row t y0) y1 := by blk_ext [idx t]
  rw [e]
  pointwise [k0_pay1, k0_pay11, k0_pay12, timesT, dyM]
  refine Weights.shards (fun a r => ∑ k, dBranch (DH m c) (GM m c) (WOUT m c) (ix2 (row t y0) k)
    * (show FVec Ideal S4x256x1024 .bf16 from iblk m c 5 t) (ix3 a r k))
    (fun j => ∑ k, dBranch (DH m c) (GM m c) (WOUT m c) (ix2 (row t y0) k) * WO m c (ix2 j k)) (fun a r => ?_) y1
  exact Fin.sum_fin_congr fun k => congrArg (_ * ·) (iblk5 m c t a r k)

end Cert.KernelIdeal.Merge
-- ==== Proof.MergeClaim.lean ====
module

public import proofs.«01_k».proof.Proof.Merge
public import proofs.«01_k».proof.Proof.Gen.ReferenceIdeal.Run

@[expose] public section

set_option maxRecDepth 16384

noncomputable section

open Idealize.ShloMosaic Idealize.ShloMosaic.TcCoe Idealize.SL.Sem

namespace Cert.KernelIdeal.Merge

/-- The merge's backward kernel computes the gradient `jax.vjp` gives. -/
theorem algebraic : Cert.algebraic_KernelIdeal_ReferenceIdeal := by
  intro m g m' g' _ hm
  refine ⟨_, _, _, _, _, (θ_run _ _ _).mono (fun r h c => ⟨(h.1 c).1 7, (h.1 c).1 8, (h.1 c).1 9, (h.1 c).1 10, (h.1 c).1 11, h.2 c⟩)
    (θ_run_and (Cert.KernelIdeal.Gen.run_main m g) (Cert.KernelIdeal.Gen.unchanged m g)), ?_⟩
  refine (θ_run _ _ _).mono (fun r h c => ?_) (Cert.ReferenceIdeal.Value.run m' g')
  obtain ⟨h0, h1, h2, h3, h4, h5, h6, -⟩ := hm c
  obtain ⟨r0, r1, r2, r3, r4, rest⟩ := h c
  rw [h3, h0, h6] at r0
  rw [h4, h0, h6] at r1
  rw [h3, h0, h6, h2] at r2
  rw [h4, h0, h6, h1, h5] at r3
  rw [h4, h0, h6, h5] at r4
  exact ⟨r0.trans (final7 m c).symm, r1.trans (final8 m c).symm, r2.trans (final9 m c).symm, r3.trans (final10 m c).symm,
    r4.trans (final11 m c).symm, rest⟩

theorem frame_reference : Cert.quiescent_ReferenceIdeal := by
  intro m ρ _
  exact (θ_run _ _ _).mono (fun r h => ⟨fun c => (h c).2.2.2.2.2, sem_eq_zero_of_no_sems (by decide) r.2⟩)
    (Cert.ReferenceIdeal.Value.run m ρ)

end Cert.KernelIdeal.Merge

end

end
-- ==== Proof.Norm.lean ====
module

public import Idealize.ShloMosaic.Lib.Pointwise
public import Mathlib.Data.EReal.Inv

@[expose] public section

/-!
# The gradient of a root-mean-square norm, on extended reals

A norm divides a row by `√v`, `v` its mean square plus a positive number. The reciprocal root `r` is a nonnegative number
and never `⊤`, so it may be multiplied into a sum whatever the summands are. Both forms of the gradient are therefore equal on
all extended reals.
-/

open Idealize.ShloMosaic

namespace Norm

/-- A nonnegative finite factor goes into a sum. -/
theorem sum_mul_of_nonneg {n : ℕ} (f : Fin n → EReal) (r : EReal) (h : 0 ≤ r) (ht : r ≠ ⊤) :
    (∑ k, f k) * r = ∑ k, f k * r := by
  classical
  have key : ∀ s : Finset (Fin n), (∑ k ∈ s, f k) * r = ∑ k ∈ s, f k * r := fun s => by
    induction s using Finset.induction_on with
    | empty => simp
    | insert a s ha ih =>
      rw [Finset.sum_insert ha, Finset.sum_insert ha, EReal.right_distrib_of_nonneg_of_ne_top h ht, ih]
  exact key _

theorem rsqrt_top : Ideal.rsqrt ⊤ = 0 := rfl

theorem rsqrt_pos {x : ℝ} (h : 0 < x) : Ideal.rsqrt (x : EReal) = ((√x)⁻¹ : ℝ) := by
  show (if x < 0 then ⊥ else if x = 0 then ⊤ else (((√x)⁻¹ : ℝ) : EReal)) = _
  rw [if_neg (not_lt.mpr h.le), if_neg h.ne']

theorem rsqrt_nonneg {v : EReal} (hv : 0 < v) : 0 ≤ Ideal.rsqrt v ∧ Ideal.rsqrt v ≠ ⊤ := by
  induction v with
  | bot => simp at hv
  | top => simp [rsqrt_top]
  | coe x =>
    rw [rsqrt_pos (EReal.coe_pos.mp hv)]
    exact ⟨EReal.coe_nonneg.mpr (by positivity), EReal.coe_ne_top _⟩

/-- The derivative of the reciprocal root, up to the factor −1/2. -/
theorem div_rsqrt {v : EReal} (hv : 0 < v) : Ideal.div (Ideal.rsqrt v) v = Ideal.rsqrt v * (Ideal.rsqrt v * Ideal.rsqrt v) := by
  rw [Ideal.div, if_neg hv.ne']
  induction v with
  | bot => simp at hv
  | top => simp [rsqrt_top]
  | coe x =>
    have hx : 0 < x := EReal.coe_pos.mp hv
    rw [rsqrt_pos hx, ← EReal.coe_inv, ← EReal.coe_mul, ← EReal.coe_mul, ← EReal.coe_mul]
    congr 2
    rw [← mul_inv, Real.mul_self_sqrt hx.le]

theorem half_add_half (w h : EReal) (hh : h = ((-(1 / 2) : ℝ) : EReal)) : w * h + w * h = -w := by
  subst hh
  induction w with
  | bot => rw [EReal.bot_mul_coe_of_neg (by norm_num)]; rfl
  | top => rw [EReal.top_mul_coe_of_neg (by norm_num)]; rfl
  | coe x => rw [← EReal.coe_mul, ← EReal.coe_add, ← EReal.coe_neg]; congr 1; ring

theorem pos_of_mean {s k e : EReal} (hs : 0 ≤ s) (hk : 0 ≤ k) (he : 0 < e) : 0 < s * k + e :=
  lt_of_lt_of_le he (le_add_of_nonneg_left (mul_nonneg hs hk))

theorem sum_sq_nonneg {n : ℕ} (x : Fin n → EReal) : 0 ≤ ∑ k, x k * x k :=
  Finset.sum_nonneg fun k _ => by
    rcases le_total 0 (x k) with h | h
    · exact mul_nonneg h h
    · have := mul_nonneg (EReal.neg_nonneg.mpr h) (EReal.neg_nonneg.mpr h)
      rwa [neg_mul_neg] at this

/-- The correction of one row's gradient: what the kernel subtracts is what the derivative of the mean square adds twice. -/
theorem rms_row {n : ℕ} (x d : Fin n → EReal) (v k h : EReal) (hv : 0 < v) (hh : h = ((-(1 / 2) : ℝ) : EReal)) (j : Fin n) :
    Ideal.rsqrt v * (d j - x j * Ideal.rsqrt v * ((∑ i, d i * (x i * Ideal.rsqrt v)) * k))
      = d j * Ideal.rsqrt v + (x j * ((∑ i, x i * d i) * (h * Ideal.div (Ideal.rsqrt v) v) * k)
          + ((∑ i, x i * d i) * (h * Ideal.div (Ideal.rsqrt v) v) * k) * x j) := by
  obtain ⟨h0, ht⟩ := rsqrt_nonneg hv
  rw [div_rsqrt hv]
  set r := Ideal.rsqrt v
  have e : ∑ i, d i * (x i * r) = (∑ i, x i * d i) * r := by
    rw [sum_mul_of_nonneg _ _ h0 ht]
    exact Finset.sum_congr rfl fun i _ => by rw [← mul_assoc, mul_comm (d i)]
  rw [e, sub_eq_add_neg, EReal.left_distrib_of_nonneg_of_ne_top h0 ht, mul_comm r (d j), mul_neg]
  congr 1
  set S := ∑ i, x i * d i
  have e1 : r * (x j * r * (S * r * k)) = x j * S * k * (r * (r * r)) := by ac_rfl
  have e2 : x j * (S * (h * (r * (r * r))) * k) = x j * S * k * (r * (r * r)) * h := by ac_rfl
  have e3 : S * (h * (r * (r * r))) * k * x j = x j * S * k * (r * (r * r)) * h := by ac_rfl
  rw [e1, e2, e3, half_add_half _ _ hh]

/-! ## The constants -/

theorem ofBits_1024 : Ideal.ofBits .f32 0x44800000#32 = ((1024 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num
theorem ofBits_inv_2048 : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
/-- The norm's constant, the number nearest 10⁻⁶, is positive. -/
theorem ofBits_eps_pos : 0 < Ideal.ofBits .f32 0x358637BD#32 := by
  rw [show Ideal.ofBits .f32 0x358637BD#32 = ((8796093 / 8796093022208 : ℝ) : EReal) by
    simp [Ideal.ofBits, Ideal.ieee, -EReal.coe_mul]; norm_num]
  exact EReal.coe_pos.mpr (by norm_num)

theorem div_1024 (x : EReal) : Ideal.div x (Ideal.ofBits .f32 0x44800000#32) = x * Ideal.ofBits .f32 0x3A800000#32 := by
  rw [ofBits_1024, ofBits_inv_1024, Ideal.div_coe (by norm_num)]

theorem inv_1024_nonneg : 0 ≤ Ideal.ofBits .f32 0x3A800000#32 := by
  rw [ofBits_inv_1024]; exact EReal.coe_nonneg.mpr (by norm_num)

end Norm
-- ==== Proof.In.lean ====
module

public import proofs.«01_k».proof.Defs
public import proofs.«01_k».proof.Proof.Norm
public import proofs.«01_k».proof.Proof.Gen.InKernelIdeal.Frame
public import proofs.«01_k».proof.Proof.Gen.InReferenceIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
namespace Cert.InReferenceIdeal.In

open Cert.InReferenceIdeal Cert.InReferenceIdeal.Gen

/-! ## The reference's terms -/

variable (x : FVec Ideal S4096x1024 .f32) (g : FVec Ideal S1024 .f32) (w : FVec Ideal S1024x3264 .f32) (d : FVec Ideal S4096x3264 .f32)
  (dh : FVec Ideal S4096x1024 .f32)

/-- The gradient of the normed rows. -/
def dNormed : FVec Ideal S4096x1024 .f32 := Host.dotGeneral dot_S4096x3264_S1024x3264_S4096x1024_1_1_0_0_n_n none d w
/-- The rows' mean squares, plus the norm's constant. -/
def meanSq : FVec Ideal S4096x1 .f32 :=
  addf (Host.divf (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- The norm's weights, on every row. -/
def scale : FVec Ideal S4096x1024 .f32 :=
  broadcastInDim S4096x1024 ![0, 1] bcast_S1x1024_S4096x1024_0_1 (broadcastInDim S1x1024 ![1] bcast_S1024_S1x1024_1 g)
/-- The rows over their root mean squares. -/
def unit : FVec Ideal S4096x1024 .f32 :=
  mulf x (broadcastInDim S4096x1024 ![0, 1] bcast_S4096x1_S4096x1024_0_1 (Host.rsqrt (meanSq x)))
def normed : FVec Ideal S4096x1024 .bf16 := truncf .bf16 (mulf (unit x) (scale g)) bitsLt_bf16_f32
/-- The gradient of the projection's columns, with 64 zero columns before column 1216. -/
def dProj : FVec Ideal S4096x3328 .bf16 :=
  truncf .bf16 (concatenate S4096x3328 1 [⟨S4096x1216, extractStridedSlice S4096x1216 ![0, 0] d slices_S4096x3264_S4096x1216_0_0⟩,
    ⟨S4096x64, broadcastInDim S4096x64 ![] bcast_S_S4096x64 (constant S_ .f32 0x00000000#32)⟩,
    ⟨S4096x2048, extractStridedSlice S4096x2048 ![0, 1216] d slices_S4096x3264_S4096x2048_0_1216⟩]
    concatenates_S4096x1216_S4096x64_S4096x2048_S4096x3328_d1) bitsLt_bf16_f32
/-! The gradients of the norm, `dn` being the gradient of its result. -/
variable (dn : FVec Ideal S4096x1024 .f32)

/-- The gradient of the norm's weights. -/
def dScale : FVec Ideal S1x1024 .f32 :=
  shapeCast _ (Host.reduceAdd (shapeCast _ (Host.reduceAdd (mulf (unit x) dn) (constant S_ .f32 0x00000000#32)
    reducesTo_S4096x1024_S1024_d0 h_S_) shapeCasts_S1024_S1x1024) (constant S_ .f32 0x00000000#32) reducesTo_S1x1024_S1024_d0 h_S_)
    shapeCasts_S1024_S1x1024
/-- What a row's mean square adds to the row's gradient, before the factor `x`. -/
def viaMean : FVec Ideal S4096x1024 .f32 :=
  broadcastInDim S4096x1024 ![0] bcast_S4096_S4096x1024_0 (Host.reduceAdd (Host.divf
    (mulf (shapeCast _ (Host.reduceAdd (mulf x (mulf dn (scale g))) (constant S_ .f32 0x00000000#32)
        reducesTo_S4096x1024_S4096_d1 h_S_) shapeCasts_S4096_S4096x1)
      (mulf (broadcastInDim S4096x1 ![] bcast_S_S4096x1 (constant S_ .f32 0xBF000000#32)) (Host.divf (Host.rsqrt (meanSq x)) (meanSq x))))
    (broadcastInDim S4096x1 ![] bcast_S_S4096x1 (constant S_ .f32 0x44800000#32))) (constant S_ .f32 0x00000000#32)
    reducesTo_S4096x1_S4096_d1 h_S_)
/-- The gradient of the rows. -/
def dRows : FVec Ideal S4096x1024 .f32 :=
  addf (addf (addf dh (mulf (mulf dn (scale g)) (broadcastInDim S4096x1024 ![0, 1] bcast_S4096x1_S4096x1024_0_1
    (Host.rsqrt (meanSq x))))) (mulf x (viaMean x g dn))) (mulf (viaMean x g dn) x)

theorem dProj_apply (j : Fin 4096) (k : Fin 3328) : dProj d (ix2 j k)
    = if h : k.val < 1216 then d (ix2 j ⟨k.val, by omega⟩) else if h' : k.val < 1280 then 0 else d (ix2 j ⟨k.val - 64, by omega⟩) := by
  pointwise [dProj]
  repeat' split
  all_goals first | omega | rfl | (refine congrArg (fun l => d (ix2 j l)) (Fin.ext ?_); dsimp only; omega)

theorem dRows_apply (j : Fin 4096) (k : Fin 1024) : dRows x g dh dn (ix2 j k)
    = dh (ix2 j k) + Ideal.rsqrt (meanSq x (ix2 j 0)) * (dn (ix2 j k) * g (ix1 k) - x (ix2 j k) * Ideal.rsqrt (meanSq x (ix2 j 0))
        * ((∑ i, dn (ix2 j i) * g (ix1 i) * (x (ix2 j i) * Ideal.rsqrt (meanSq x (ix2 j 0)))) * Ideal.ofBits .f32 0x3A800000#32)) := by
  have hv : 0 < meanSq x (ix2 j 0) := by
    pointwise [meanSq]
    rw [Norm.div_1024]
    exact Norm.pos_of_mean (Norm.sum_sq_nonneg fun i => x (ix2 j i)) Norm.inv_1024_nonneg Norm.ofBits_eps_pos
  rw [Norm.rms_row (fun i => x (ix2 j i)) (fun i => dn (ix2 j i) * g (ix1 i)) _ _ _ hv Norm.ofBits_neg_half k]
  pointwise [dRows, viaMean, scale]
  simp only [Fin.sum_univ_one, Norm.div_1024, add_assoc]

theorem dScale_apply (x : FVec Ideal S4096x1024 .f32) (dn : FVec Ideal S4096x1024 .f32) (j : Fin 1024) :
    dScale x dn (ix2 0 j) = ∑ i, unit x (ix2 i j) * dn (ix2 i j) := by
  pointwise [dScale]
  exact Fin.sum_univ_one _

end Cert.InReferenceIdeal.In

namespace Cert.InKernelIdeal.In

open Cert.InKernelIdeal Cert.InKernelIdeal.Gen

variable (m : (ℓ : Loc nD τ sig) → Buf (Elt Ideal) ℓ)

/-- One of the four shards of the input projection's columns. -/
def shardArr (w : FVec Ideal S1024x3264 .f32) : FVec Ideal S4x1024x816 .bf16 :=
  truncf .bf16 (transpose S4x1024x816 [1, 0, 2] (shapeCast S1024x4x816 w shapeCasts_S1024x3264_S1024x4x816) transposes_S1024x4x816_S4x1024x816_1_0_2) bitsLt_bf16_f32

def shard0 (v : FVec Ideal S4x1024x816 .bf16) : FVec Ideal S1024x816 .bf16 :=
  shapeCast S1024x816 (extractStridedSlice S1x1024x816 ![0, 0, 0] v slices_S4x1024x816_S1x1024x816_0_0_0) shapeCasts_S1x1024x816_S1024x816
def shard1 (v : FVec Ideal S4x1024x816 .bf16) : FVec Ideal S1024x816 .bf16 :=
  shapeCast S1024x816 (extractStridedSlice S1x1024x816 ![1, 0, 0] v slices_S4x1024x816_S1x1024x816_1_0_0) shapeCasts_S1x1024x816_S1024x816
def shard2 (v : FVec Ideal S4x1024x816 .bf16) : FVec Ideal S1024x816 .bf16 :=
  shapeCast S1024x816 (extractStridedSlice S1x1024x816 ![2, 0, 0] v slices_S4x1024x816_S1x1024x816_2_0_0) shapeCasts_S1x1024x816_S1024x816
def shard3 (v : FVec Ideal S4x1024x816 .bf16) : FVec Ideal S1024x816 .bf16 :=
  shapeCast S1024x816 (extractStridedSlice S1x1024x816 ![3, 0, 0] v slices_S4x1024x816_S1x1024x816_3_0_0) shapeCasts_S1x1024x816_S1024x816

/-- The columns as the kernel takes them: 64 zero columns before column 1216. -/
def padded (a b c d : FVec Ideal S1024x816 .bf16) : FVec Ideal S1024x3328 .bf16 :=
  concatenate S1024x3328 1 [⟨S1024x816, a⟩, ⟨S1024x400, extractStridedSlice S1024x400 ![0, 0] b slices_S1024x816_S1024x400_0_0⟩,
    ⟨S1024x64, broadcastInDim S1024x64 ![] bcast_S_S1024x64 (constant S_ .bf16 0x0000#16)⟩,
    ⟨S1024x416, extractStridedSlice S1024x416 ![0, 400] b slices_S1024x816_S1024x416_0_400⟩, ⟨S1024x816, c⟩, ⟨S1024x816, d⟩]
    concatenates_S1024x816_S1024x400_S1024x64_S1024x416_S1024x816_S1024x816_S1024x3328_d1

/-- The latent columns, 64 zero columns after them. -/
def latent (d : FVec Ideal S4096x3264 .f32) : FVec Ideal S4096x768 .bf16 :=
  truncf .bf16 (pad S4096x768 ![0, 0] ![0, 64] ![0, 0] (extractStridedSlice S4096x704 ![0, 512] d slices_S4096x3264_S4096x704_0_512)
    (sitofp .f32 (constantI S_ 32 0#32)) pads_S4096x704_S4096x768_000_0640 h_S_) bitsLt_bf16_f32

theorem V_lat (c : Dev nD) : V m c main_v22 = latent (m ((c : Thread nD τ).loc main_arg3)) := by
  unfold V; simp only [List.flatten_cons, List.flatten_nil, List.cons_append, List.nil_append]; after_results; rfl
theorem V_w (c : Dev nD) : V m c main_v19 = padded (shard0 (shardArr (m ((c : Thread nD τ).loc main_arg2)))) (shard1 (shardArr (m ((c : Thread nD τ).loc main_arg2))))
     (shard2 (shardArr (m ((c : Thread nD τ).loc main_arg2)))) (shard3 (shardArr (m ((c : Thread nD τ).loc main_arg2)))) := by
  unfold V; simp only [List.flatten_cons, List.flatten_nil, List.cons_append, List.nil_append]; after_results; rfl

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![0, 0] := (by decide +kernel : ∀ t : Fin grid0.N, _)

/-- Row `r` of the block of 512 rows that grid point `t` takes. -/
abbrev row (t : Fin cfg0.N) (r : Fin 512) : Fin 4096 := ⟨t.val * 512 + r.val, by have h := lt_of_lt_of_eq t.isLt N_0; omega⟩

/-- A point is the first one, which stores the norm weights' gradient, or a later one, which adds to it. -/
theorem first_or_later (t : Fin cfg0.N) : (t.val % 8 = 0 ∧ ¬1 ≤ t.val) ∨ (¬t.val % 8 = 0 ∧ 1 ≤ t.val) := by
  have h := lt_of_lt_of_eq t.isLt N_0
  omega

/-- The input projection's column `k` of the padded columns, where it is one. -/
theorem padded_apply (w : FVec Ideal S1024x3264 .f32) (j : Fin 1024) (k : Fin 3328) :
    padded (shard0 (shardArr w)) (shard1 (shardArr w)) (shard2 (shardArr w)) (shard3 (shardArr w)) (ix2 j k)
      = if h : k.val < 1216 then w (ix2 j ⟨k.val, by omega⟩) else if h' : k.val < 1280 then 0 else w (ix2 j ⟨k.val - 64, by omega⟩) := by
  pointwise [padded, shard0, shard1, shard2, shard3, shardArr]
  repeat' split
  all_goals first | omega | rfl | (refine congrArg (fun l => w (ix2 j l)) (Fin.ext ?_); dsimp only; omega)

theorem latent_apply (d : FVec Ideal S4096x3264 .f32) (j : Fin 4096) (k : Fin 768) :
    latent d (ix2 j k) = if h : k.val < 704 then d (ix2 j ⟨512 + k.val, by omega⟩) else 0 := by
  pointwise [latent]
  split_ifs
  · rfl
  · simp [FloatOps.sitofp]

/-- A sum over the padded columns is the sum over the columns. -/
theorem sum_gap (F : Fin 3328 → EReal) (f : Fin 3264 → EReal) (h0 : ∀ k : Fin 1216, F ⟨k.val, by omega⟩ = f ⟨k.val, by omega⟩)
    (h1 : ∀ k : Fin 64, F ⟨1216 + k.val, by omega⟩ = 0) (h2 : ∀ k : Fin 2048, F ⟨1280 + k.val, by omega⟩ = f ⟨1216 + k.val, by omega⟩) :
    ∑ k, F k = ∑ k, f k := by
  rw [show ∑ k, F k = _ from Fin.sum_univ_add (a := 1280) (b := 2048) F,
    show ∑ k : Fin 1280, F (Fin.castAdd 2048 k) = _ from Fin.sum_univ_add (a := 1216) (b := 64) fun k => F (Fin.castAdd 2048 k),
    show ∑ k, f k = _ from Fin.sum_univ_add (a := 1216) (b := 2048) f]
  refine congrArg₂ (· + ·) ?_ (Finset.sum_congr rfl fun k _ => h2 k)
  rw [show ∑ k : Fin 64, F (Fin.castAdd 2048 (Fin.natAdd 1216 k)) = 0 from Finset.sum_eq_zero fun k _ => h1 k, add_zero]
  exact Finset.sum_congr rfl fun k _ => h0 k

/-! ## The blocks a grid point reads -/

section
variable (c : Dev nD) (t : Fin cfg0.N)

abbrev X : FVec Ideal S4096x1024 .f32 := m ((c : Thread nD τ).loc main_arg0)
abbrev G : FVec Ideal S1024 .f32 := m ((c : Thread nD τ).loc main_arg1)
abbrev W : FVec Ideal S1024x3264 .f32 := m ((c : Thread nD τ).loc main_arg2)
abbrev D : FVec Ideal S4096x3264 .f32 := m ((c : Thread nD τ).loc main_arg3)
abbrev DH : FVec Ideal S4096x1024 .f32 := m ((c : Thread nD τ).loc main_arg4)

theorem V_scale : V m c main_v2 = shapeCast S1x1024 (G m c) shapeCasts_S1024_S1x1024 := by
  unfold V; simp only [List.flatten_cons, List.flatten_nil, List.cons_append, List.nil_append]; after_results; rfl
theorem V_du : V m c main_v21 = truncf .bf16 (extractStridedSlice S4096x512 ![0, 0] (D m c) slices_S4096x3264_S4096x512_0_0) bitsLt_bf16_f32 := by
  unfold V; simp only [List.flatten_cons, List.flatten_nil, List.cons_append, List.nil_append]; after_results
theorem V_gs : V m c main_v24 = truncf .bf16 (extractStridedSlice S4096x1024 ![0, 1216] (D m c) slices_S4096x3264_S4096x1024_0_1216) bitsLt_bf16_f32 := by
  unfold V; simp only [List.flatten_cons, List.flatten_nil, List.cons_append, List.nil_append]; after_results
theorem V_gm : V m c main_v26 = truncf .bf16 (extractStridedSlice S4096x1024 ![0, 2240] (D m c) slices_S4096x3264_S4096x1024_0_2240) bitsLt_bf16_f32 := by
  unfold V; simp only [List.flatten_cons, List.flatten_nil, List.cons_append, List.nil_append]; after_results

theorem iblk0 (r : Fin 512) (j : Fin 1024) : (show FVec Ideal S512x1024 .f32 from iblk m c 0 t) (ix2 r j) = X m c (ix2 (row t r) j) := by
  blk_ext [iblk, V, idx t]
theorem iblk1 (j : Fin 1024) : (show FVec Ideal S1x1024 .f32 from iblk m c 1 t) (ix2 0 j) = G m c (ix1 j) := by
  have h : iblk m c 1 t (ix2 0 j) = V m c main_v2 (ix2 0 j) := by blk_ext [iblk, idx t]
  refine (h.trans (congrFun (V_scale m c) _)).trans ?_
  pointwise []
theorem iblk2 (j : Fin 1024) (k : Fin 3328) : (show FVec Ideal S1024x3328 .bf16 from iblk m c 2 t) (ix2 j k)
    = if h : k.val < 1216 then W m c (ix2 j ⟨k.val, by omega⟩) else if h' : k.val < 1280 then 0 else W m c (ix2 j ⟨k.val - 64, by omega⟩) := by
  have h : iblk m c 2 t (ix2 j k) = V m c main_v19 (ix2 j k) := by blk_ext [iblk, idx t]
  exact (h.trans (congrFun (V_w m c) _)).trans (padded_apply _ j k)
theorem iblk3 (r : Fin 512) (k : Fin 512) : (show FVec Ideal S512x512 .bf16 from iblk m c 3 t) (ix2 r k) = D m c (ix2 (row t r) ⟨k.val, by omega⟩) := by
  have h : iblk m c 3 t (ix2 r k) = V m c main_v21 (ix2 (row t r) k) := by blk_ext [iblk, idx t]
  refine (h.trans (congrFun (V_du m c) _)).trans ?_
  pointwise []
theorem iblk4 (r : Fin 512) (k : Fin 768) : (show FVec Ideal S512x768 .bf16 from iblk m c 4 t) (ix2 r k)
    = if h : k.val < 704 then D m c (ix2 (row t r) ⟨512 + k.val, by omega⟩) else 0 := by
  have h : iblk m c 4 t (ix2 r k) = V m c main_v22 (ix2 (row t r) k) := by blk_ext [iblk, idx t]
  exact (h.trans (congrFun (V_lat m c) _)).trans (latent_apply _ _ k)
theorem iblk5 (r : Fin 512) (k : Fin 1024) : (show FVec Ideal S512x1024 .bf16 from iblk m c 5 t) (ix2 r k) = D m c (ix2 (row t r) ⟨1216 + k.val, by omega⟩) := by
  have h : iblk m c 5 t (ix2 r k) = V m c main_v24 (ix2 (row t r) k) := by blk_ext [iblk, idx t]
  refine (h.trans (congrFun (V_gs m c) _)).trans ?_
  pointwise []
theorem iblk6 (r : Fin 512) (k : Fin 1024) : (show FVec Ideal S512x1024 .bf16 from iblk m c 6 t) (ix2 r k) = D m c (ix2 (row t r) ⟨2240 + k.val, by omega⟩) := by
  have h : iblk m c 6 t (ix2 r k) = V m c main_v26 (ix2 (row t r) k) := by blk_ext [iblk, idx t]
  refine (h.trans (congrFun (V_gm m c) _)).trans ?_
  pointwise []
theorem iblk7 (r : Fin 512) (j : Fin 1024) : (show FVec Ideal S512x1024 .f32 from iblk m c 7 t) (ix2 r j) = DH m c (ix2 (row t r) j) := by
  blk_ext [iblk, V, idx t]
end

/-! ## What a grid point computes -/

theorem rows_at (x0 : FVec Ideal S512x1024 .f32) (x1 : FVec Ideal S1x1024 .f32) (L : FVec Ideal S512x3328 .bf16) (W' : FVec Ideal S1024x3328 .bf16)
    (x7 : FVec Ideal S512x1024 .f32) (X : FVec Ideal S4096x1024 .f32) (G : FVec Ideal S1024 .f32) (W : FVec Ideal S1024x3264 .f32)
    (D : FVec Ideal S4096x3264 .f32) (DH : FVec Ideal S4096x1024 .f32) (i : Fin 4096) (r : Fin 512)
    (h0 : ∀ k, x0 (ix2 r k) = X (ix2 i k)) (h1 : ∀ k, x1 (ix2 0 k) = G (ix1 k)) (h7 : ∀ k, x7 (ix2 r k) = DH (ix2 i k))
    (h8 : ∀ k, k0_pay8 L W' (ix2 r k) = InReferenceIdeal.In.dNormed W D (ix2 i k)) (j : Fin 1024) :
    k0_pay11 x0 (k0_pay2 x1) L W' x7 (ix2 r j) = InReferenceIdeal.In.dRows X G DH (InReferenceIdeal.In.dNormed W D) (ix2 i j) := by
  rw [InReferenceIdeal.In.dRows_apply]
  pointwise [k0_pay11, k0_pay10, k0_pay9, k0_pay2, InReferenceIdeal.In.meanSq]
  simp only [h0, h1, h7, h8, Norm.div_1024]

theorem sum_at (x0 : FVec Ideal S512x1024 .f32) (L : FVec Ideal S512x3328 .bf16) (W' : FVec Ideal S1024x3328 .bf16)
    (X : FVec Ideal S4096x1024 .f32) (W : FVec Ideal S1024x3264 .f32)
    (D : FVec Ideal S4096x3264 .f32) (i : Fin 512 → Fin 4096)
    (h0 : ∀ r k, x0 (ix2 r k) = X (ix2 (i r) k))
    (h8 : ∀ r k, k0_pay8 L W' (ix2 r k) = InReferenceIdeal.In.dNormed W D (ix2 (i r) k)) (j : Fin 1024) :
    k0_pay12 x0 L W' (ix2 0 j) = ∑ r, InReferenceIdeal.In.unit X (ix2 (i r) j) * InReferenceIdeal.In.dNormed W D (ix2 (i r) j) := by
  pointwise [k0_pay12, k0_pay10, k0_pay9, InReferenceIdeal.In.meanSq, InReferenceIdeal.In.unit]
  simp only [h0, h8, Norm.div_1024]
  exact Finset.sum_congr rfl fun r _ => mul_comm (_ : EReal) _

/-- The weight product over the padded columns is the one over the columns. -/
theorem dNormed_at (L : FVec Ideal S512x3328 .bf16) (W' : FVec Ideal S1024x3328 .bf16) (W : FVec Ideal S1024x3264 .f32) (D : FVec Ideal S4096x3264 .f32)
    (i : Fin 4096) (r : Fin 512) (hL : ∀ k, L (ix2 r k) = InReferenceIdeal.In.dProj D (ix2 i k))
    (hW : ∀ j k, W' (ix2 j k) = if h : k.val < 1216 then W (ix2 j ⟨k.val, by omega⟩) else if h' : k.val < 1280 then 0 else W (ix2 j ⟨k.val - 64, by omega⟩))
    (j : Fin 1024) : k0_pay8 L W' (ix2 r j) = InReferenceIdeal.In.dNormed W D (ix2 i j) := by
  pointwise [k0_pay8, InReferenceIdeal.In.dNormed]
  simp only [hL, hW, InReferenceIdeal.In.dProj_apply]
  refine sum_gap _ _ (fun k => ?_) (fun k => ?_) fun k => ?_
  · rw [dif_pos k.isLt, dif_pos k.isLt]
  · rw [dif_neg (by simp), dif_pos (by simp; omega)]
    exact zero_mul _
  · rw [dif_neg (by simp; omega), dif_neg (by simp), dif_neg (by simp; omega), dif_neg (by simp)]
    exact Ideal.mul_congr (congrArg (fun l => D (ix2 i l)) (Fin.ext (by simp; omega))) (congrArg (fun l => W (ix2 j l)) (Fin.ext (by simp; omega)))

theorem piece4 (c : Dev nD) (t : Fin cfg0.N) (r : Fin 512) (x : Fin 512) (k : Fin 3328) (hk : k.val = x.val) :
    k0_pay4 (iblk m c 3 t) (ix2 r x) = InReferenceIdeal.In.dProj (D m c) (ix2 (row t r) k) := by
  rw [InReferenceIdeal.In.dProj_apply, dif_pos (by omega)]
  pointwise [k0_pay4]
  exact (iblk3 m c t r x).trans (congrArg (fun l => D m c (ix2 (row t r) l)) (Fin.ext (by simp; omega)))
theorem piece5 (c : Dev nD) (t : Fin cfg0.N) (r : Fin 512) (x : Fin 768) (k : Fin 3328) (hk : k.val = 512 + x.val) :
    k0_pay5 (iblk m c 4 t) (ix2 r x) = InReferenceIdeal.In.dProj (D m c) (ix2 (row t r) k) := by
  rw [InReferenceIdeal.In.dProj_apply]
  pointwise [k0_pay5]
  refine (iblk4 m c t r x).trans ?_
  by_cases h : x.val < 704
  · rw [dif_pos h, dif_pos (by omega)]
    exact congrArg (fun l => D m c (ix2 (row t r) l)) (Fin.ext (by simp; omega))
  · rw [dif_neg h, dif_neg (by omega), dif_pos (by omega)]
theorem piece6 (c : Dev nD) (t : Fin cfg0.N) (r : Fin 512) (x : Fin 1024) (k : Fin 3328) (hk : k.val = 1280 + x.val) :
    k0_pay6 (iblk m c 5 t) (ix2 r x) = InReferenceIdeal.In.dProj (D m c) (ix2 (row t r) k) := by
  rw [InReferenceIdeal.In.dProj_apply, dif_neg (by omega), dif_neg (by omega)]
  pointwise [k0_pay6]
  exact (iblk5 m c t r x).trans (congrArg (fun l => D m c (ix2 (row t r) l)) (Fin.ext (by simp; omega)))
theorem piece7 (c : Dev nD) (t : Fin cfg0.N) (r : Fin 512) (x : Fin 1024) (k : Fin 3328) (hk : k.val = 2304 + x.val) :
    k0_pay7 (iblk m c 6 t) (ix2 r x) = InReferenceIdeal.In.dProj (D m c) (ix2 (row t r) k) := by
  rw [InReferenceIdeal.In.dProj_apply, dif_neg (by omega), dif_neg (by omega)]
  pointwise [k0_pay7]
  exact (iblk6 m c t r x).trans (congrArg (fun l => D m c (ix2 (row t r) l)) (Fin.ext (by simp; omega)))

/-- The load of the whole block is at the block's own index. -/
theorem idx_whole (r : Fin 512) (k : Fin 3328) :
    (Rect.unit (s := S512x3328) ![0, 0] ![512, 3328] inb_S512x3328_S512x3328_0_0).toLoadRect.idx (ix2 r k) = ix2 r k := by
  funext a
  fin_cases a <;> exact Fin.ext (by simp [LoadRect.idx, Rect.unit, ix2])

theorem normed_at (x0 : FVec Ideal S512x1024 .f32) (x1 : FVec Ideal S1x1024 .f32) (X : FVec Ideal S4096x1024 .f32) (G : FVec Ideal S1024 .f32)
    (i : Fin 4096) (r : Fin 512) (h0 : ∀ k, x0 (ix2 r k) = X (ix2 i k)) (h1 : ∀ k, x1 (ix2 0 k) = G (ix1 k)) (j : Fin 1024) :
    k0_pay3 x0 x1 (ix2 r j) = InReferenceIdeal.In.normed X G (ix2 i j) := by
  pointwise [k0_pay3, k0_pay2, InReferenceIdeal.In.normed, InReferenceIdeal.In.unit, InReferenceIdeal.In.meanSq, InReferenceIdeal.In.scale]
  simp only [h0, h1, Norm.div_1024]

theorem final8 (c : Dev nD) : (dats m 0 c).arrAt 8 cfg0.N = InReferenceIdeal.In.dRows (X m c) (G m c) (DH m c) (InReferenceIdeal.In.dNormed (W m c) (D m c)) := by
  refine (dats m 0 c).arrAt_eq_of_covers 8 _ (by decide +kernel) fun t _ y => ?_
  blk_simp
  rw [after0_8]
  idx_vars y
  have e : ((View.whole main_v27_0).slice (win0_8.rect t)).emb (ix2 y0 y1) = ix2 (row t y0) y1 := by blk_ext [idx t]
  rw [e]
  rcases first_or_later t with ⟨e0, e1⟩ | ⟨e0, e1⟩
  · rw [outsAt0_A m c t e0 e1]; frame_out
    refine rows_at _ _ _ _ _ _ _ _ _ _ _ _ (iblk0 m c t y0) (iblk1 m c t) (iblk7 m c t y0) (dNormed_at _ _ _ _ _ _ (fun k => ?_) (iblk2 m c t)) y1
    rw [View.readCov_eq_canon']
    beta_reduce
    rw [idx_whole]
    canon_tiles x h using View.cover_of_tiledBy _ ![512, 256] (by sl_kernel_rfl) _
    all_goals idx_vars x
    all_goals obtain rfl := Fin.ext h0
    · exact piece7 m c t _ _ k h1
    · exact piece6 m c t _ _ k h1
    · exact piece5 m c t _ _ k h1
    · exact piece4 m c t _ _ k h1
  · rw [outsAt0_B m c t e0 e1]; frame_out
    refine rows_at _ _ _ _ _ _ _ _ _ _ _ _ (iblk0 m c t y0) (iblk1 m c t) (iblk7 m c t y0) (dNormed_at _ _ _ _ _ _ (fun k => ?_) (iblk2 m c t)) y1
    rw [View.readCov_eq_canon']
    beta_reduce
    rw [idx_whole]
    canon_tiles x h using View.cover_of_tiledBy _ ![512, 256] (by sl_kernel_rfl) _
    all_goals idx_vars x
    all_goals obtain rfl := Fin.ext h0
    · exact piece7 m c t _ _ k h1
    · exact piece6 m c t _ _ k h1
    · exact piece5 m c t _ _ k h1
    · exact piece4 m c t _ _ k h1

theorem final9 (c : Dev nD) : (dats m 0 c).arrAt 9 cfg0.N = InReferenceIdeal.In.normed (X m c) (G m c) := by
  refine (dats m 0 c).arrAt_eq_of_covers 9 _ (by decide +kernel) fun t _ y => ?_
  blk_simp
  rw [after0_9]
  idx_vars y
  have e : ((View.whole main_v27_1).slice (win0_9.rect t)).emb (ix2 y0 y1) = ix2 (row t y0) y1 := by blk_ext [idx t]
  rw [e]
  rcases first_or_later t with ⟨e0, e1⟩ | ⟨e0, e1⟩
  · rw [outsAt0_A m c t e0 e1]; frame_out
    exact normed_at _ _ _ _ _ _ (iblk0 m c t y0) (iblk1 m c t) y1
  · rw [outsAt0_B m c t e0 e1]; frame_out
    exact normed_at _ _ _ _ _ _ (iblk0 m c t y0) (iblk1 m c t) y1

theorem final10 (c : Dev nD) : (dats m 0 c).arrAt 10 cfg0.N = InReferenceIdeal.In.dProj (D m c) := by
  refine (dats m 0 c).arrAt_eq_of_covers 10 _ (by decide +kernel) fun t _ y => ?_
  blk_simp
  rw [after0_10]
  idx_vars y
  have e : ((View.whole main_v27_2).slice (win0_10.rect t)).emb (ix2 y0 y1) = ix2 (row t y0) y1 := by blk_ext [idx t]
  rw [e]
  rcases first_or_later t with ⟨e0, e1⟩ | ⟨e0, e1⟩
  · rw [outsAt0_A m c t e0 e1]; frame_out
    canon_tiles x h using View.cover_of_tiledBy _ ![512, 256] (by sl_kernel_rfl) _
    all_goals idx_vars x
    all_goals obtain rfl := Fin.ext h0
    · exact piece7 m c t _ _ y1 h1
    · exact piece6 m c t _ _ y1 h1
    · exact piece5 m c t _ _ y1 h1
    · exact piece4 m c t _ _ y1 h1
  · rw [outsAt0_B m c t e0 e1]; frame_out
    canon_tiles x h using View.cover_of_tiledBy _ ![512, 256] (by sl_kernel_rfl) _
    all_goals idx_vars x
    all_goals obtain rfl := Fin.ext h0
    · exact piece7 m c t _ _ y1 h1
    · exact piece6 m c t _ _ y1 h1
    · exact piece5 m c t _ _ y1 h1
    · exact piece4 m c t _ _ y1 h1

theorem added (p v : FVec Ideal S1x1024 .f32) (j : Fin 1024) : k0_pay1 v p (ix2 0 j) = p (ix2 0 j) + v (ix2 0 j) := by
  pointwise [k0_pay1]

theorem final11 (c : Dev nD) : (dats m 0 c).arrAt 11 cfg0.N = InReferenceIdeal.In.dScale (X m c) (InReferenceIdeal.In.dNormed (W m c) (D m c)) := by
  refine (dats m 0 c).arrAt_eq_of_after_last 11 t0_7 (by decide +kernel) _ fun y => ?_
  blk_simp
  rw [after0_11, Pipeline.eq_sum_fin_of_reset_step_apply_last (fun n h => (outsAt0 m c n h).2.2.2) 8 (fun _ => 0)
    (fun p j => ∑ r : Fin 512, (InReferenceIdeal.In.unit (X m c) (ix2 (row p r) (j 1)) * InReferenceIdeal.In.dNormed (W m c) (D m c) (ix2 (row p r) (j 1)) : EReal))
    (fun t e0 j => by
      rw [outsAt0_A m c t e0 (by have := first_or_later t; omega)]; frame_out
      idx_vars j
      obtain rfl := Subsingleton.elim j0 0
      refine (sum_at _ _ _ _ (W m c) _ (row t) (iblk0 m c t) (fun r => dNormed_at _ _ _ _ (row t r) r (fun k => ?_) (iblk2 m c t)) j1).trans (zero_add (_ : EReal)).symm
      rw [View.readCov_eq_canon']
      beta_reduce
      rw [idx_whole]
      canon_tiles x h using View.cover_of_tiledBy _ ![512, 256] (by sl_kernel_rfl) _
      all_goals idx_vars x
      all_goals obtain rfl := Fin.ext h0
      · exact piece7 m c t _ _ k h1
      · exact piece6 m c t _ _ k h1
      · exact piece5 m c t _ _ k h1
      · exact piece4 m c t _ _ k h1)
    (fun t e0 j => by
      rw [outsAt0_B m c t e0 (by have := first_or_later t; omega)]; frame_out
      idx_vars j
      obtain rfl := Subsingleton.elim j0 0
      refine (added _ _ j1).trans ?_
      refine congrArg (((outsAt0 m c (t.val - 1) _).2.2.2 (ix2 0 j1) : EReal) + ·) (sum_at _ _ _ _ (W m c) _ (row t) (iblk0 m c t) (fun r => dNormed_at _ _ _ _ (row t r) r (fun k => ?_) (iblk2 m c t)) j1)
      rw [View.readCov_eq_canon']
      beta_reduce
      rw [idx_whole]
      canon_tiles x h using View.cover_of_tiledBy _ ![512, 256] (by sl_kernel_rfl) _
      all_goals idx_vars x
      all_goals obtain rfl := Fin.ext h0
      · exact piece7 m c t _ _ k h1
      · exact piece6 m c t _ _ k h1
      · exact piece5 m c t _ _ k h1
      · exact piece4 m c t _ _ k h1)
    (le_of_eq N_0) t0_7 rfl y]
  idx_vars y
  obtain rfl := Subsingleton.elim y0 0
  rw [zero_add, InReferenceIdeal.In.dScale_apply]
  exact Fin.sum_mul_add_congr fun p r h => rfl

end Cert.InKernelIdeal.In

end

end
-- ==== Proof.InClaim.lean ====
module

public import proofs.«01_k».proof.Proof.In
public import proofs.«01_k».proof.Proof.Gen.InReferenceIdeal.Run

@[expose] public section

set_option maxRecDepth 16384

noncomputable section

open Idealize.ShloMosaic Idealize.ShloMosaic.TcCoe Idealize.SL.Sem

namespace Cert.InReferenceIdeal.In

open Cert.InReferenceIdeal

theorem run_dRows (m : (ℓ : Loc nD τ sig) → Buf (Elt Ideal) ℓ) (c : Dev nD) :
    Value.res_main_v38 m c = dRows (m ((c : Thread nD τ).loc main_arg0)) (m ((c : Thread nD τ).loc main_arg1))
      (m ((c : Thread nD τ).loc main_arg4)) (dNormed (m ((c : Thread nD τ).loc main_arg2)) (m ((c : Thread nD τ).loc main_arg3))) := rfl

end Cert.InReferenceIdeal.In

namespace Cert.InKernelIdeal.In

/-- The backward kernel of the norm and the input projection computes the gradient `jax.vjp` gives. -/
theorem algebraic : Cert.algebraic_InKernelIdeal_InReferenceIdeal := by
  intro m g m' g' _ hm
  refine ⟨_, _, _, _, (θ_run _ _ _).mono (fun r h c => ⟨(h.1 c).1 8, (h.1 c).1 9, (h.1 c).1 10, (h.1 c).1 11, h.2 c⟩)
    (θ_run_and (Cert.InKernelIdeal.Gen.run_main m g) (Cert.InKernelIdeal.Gen.unchanged m g)), ?_⟩
  refine (θ_run _ _ _).mono (fun r h c => ?_) (Cert.InReferenceIdeal.Value.run m' g')
  obtain ⟨h0, h1, h2, h3, h4⟩ := hm c
  obtain ⟨r0, r1, r2, r3, rest⟩ := h c
  rw [InReferenceIdeal.In.run_dRows, h0, h1, h2, h3, h4] at r0
  rw [h0, h1] at r1
  rw [h3] at r2
  rw [h0, h2, h3] at r3
  exact ⟨r0.trans (final8 m c).symm, r1.trans (final9 m c).symm, r2.trans (final10 m c).symm, r3.trans (final11 m c).symm, rest⟩

theorem frame_reference : Cert.quiescent_InReferenceIdeal := by
  intro m ρ _
  exact (θ_run _ _ _).mono (fun r h => ⟨fun c => (h c).2.2.2.2, sem_eq_zero_of_no_sems (by decide) r.2⟩)
    (Cert.InReferenceIdeal.Value.run m ρ)

end Cert.InKernelIdeal.In

end

end
-- ==== Proof.MergeF.lean ====
module

public import proofs.«01_k».proof.Defs
public import proofs.«01_k».proof.Proof.Gen.MergeFKernelIdeal.Frame
public import proofs.«01_k».proof.Proof.Gen.MergeFReferenceIdeal
public import Idealize.ShloMosaic.Lib.Pipeline.ValueKit
public import Idealize.ShloMosaic.Lib.Pointwise
public import Idealize.ShloMosaic.Lib.Claim
public import proofs.«01_k».proof.Proof.Weights

@[expose] public section

/-!
# The gated merge's forward call

A grid point takes 512 rows. It multiplies by the two square weights a quarter at a time, 256 columns of the rows by 256 rows
of the weight, and adds the four products up; the reference multiplies by the whole weight.
-/

set_option maxRecDepth 16384

noncomputable section

open Idealize.ShloMosaic Idealize.ShloMosaic.TcCoe Idealize.SL.Sem

namespace Cert.MergeFReferenceIdeal.MergeF

open Cert.MergeFReferenceIdeal Cert.MergeFReferenceIdeal.Gen

/-- `1 / (1 + exp (-g))`. -/
def gate (g : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf g)))
/-- `x w`. -/
def times (x : FVec Ideal S4096x1024 .f32) (w : FVec Ideal S1024x1024 .f32) : FVec Ideal S4096x1024 .f32 :=
  Host.dotGeneral dot_S4096x1024_S1024x1024_S4096x1024_1_0_0_1_n_n none x w
/-- The gated sum of the two branches, the second being `attn wo`. -/
def mixed (attn ys gs gm : FVec Ideal S4096x1024 .f32) (wo : FVec Ideal S1024x1024 .f32) : FVec Ideal S4096x1024 .f32 :=
  addf (mulf (gate gs) ys) (mulf (gate gm) (times attn wo))
/-- The gated sum's projection, added to the layer's input. -/
def result (attn ys gs gm x : FVec Ideal S4096x1024 .f32) (wo wout : FVec Ideal S1024x1024 .f32) : FVec Ideal S4096x1024 .f32 :=
  addf x (times (mixed attn ys gs gm wo) wout)

end Cert.MergeFReferenceIdeal.MergeF

namespace Cert.MergeFKernelIdeal.MergeF

open Cert.MergeFKernelIdeal Cert.MergeFKernelIdeal.Gen
open Cert.MergeFReferenceIdeal.MergeF (gate times mixed result)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 8, 0] ∧ win0_6.index t = ![0, 9, 0]
    ∧ win0_7.index t = ![t.val, 0] ∧ win0_8.index t = ![t.val, 0] ∧ win0_9.index t = ![t.val, 0] :=
  (by decide +kernel : ∀ t : Fin grid0.N, _)

/-- The grouped weights as the kernel finds them. -/
theorem V_group (c : Dev nD) : (V m c main_v9 : FVec Ideal S4x2560x1024 .bf16) = truncf .bf16 (Weights.group
    concatenates_S4x1024x1024_S4x1024x1024_S4x256x1024_S4x256x1024_S4x2560x1024_d1
    (shapeCast S4x1024x1024 (m ((c : Thread nD τ).loc main_arg8)) shapeCasts_S4096x1024_S4x1024x1024)
    (transpose S4x1024x1024 [1, 0, 2] (shapeCast S1024x4x1024 (m ((c : Thread nD τ).loc main_arg7)) shapeCasts_S1024x4096_S1024x4x1024) transposes_S1024x4x1024_S4x1024x1024_1_0_2)
    (shapeCast S4x256x1024 (m ((c : Thread nD τ).loc main_arg5)) shapeCasts_S1024x1024_S4x256x1024)
    (shapeCast S4x256x1024 (m ((c : Thread nD τ).loc main_arg6)) shapeCasts_S1024x1024_S4x256x1024)) bitsLt_bf16_f32 := by
  unfold V
  after_results
  rfl

/-- Row `r` of the block of 512 rows that grid point `t` takes. -/
abbrev row (t : Fin cfg0.N) (r : Fin 512) : Fin 4096 := ⟨t.val * 512 + r.val, by have h := lt_of_lt_of_eq t.isLt N_0; omega⟩

/-! ## The blocks a grid point reads -/

section
variable (c : Dev nD) (t : Fin cfg0.N)

abbrev ATTN : FVec Ideal S4096x1024 .f32 := m ((c : Thread nD τ).loc main_arg0)
abbrev YS : FVec Ideal S4096x1024 .f32 := m ((c : Thread nD τ).loc main_arg1)
abbrev GS : FVec Ideal S4096x1024 .f32 := m ((c : Thread nD τ).loc main_arg2)
abbrev GM : FVec Ideal S4096x1024 .f32 := m ((c : Thread nD τ).loc main_arg3)
abbrev X : FVec Ideal S4096x1024 .f32 := m ((c : Thread nD τ).loc main_arg4)
abbrev WO : FVec Ideal S1024x1024 .f32 := m ((c : Thread nD τ).loc main_arg5)
abbrev WOUT : FVec Ideal S1024x1024 .f32 := m ((c : Thread nD τ).loc main_arg6)

theorem iblk0 (r : Fin 512) (k : Fin 1024) : (iblk m c 0 t : FVec Ideal S512x1024 .f32) (ix2 r k) = ATTN m c (ix2 (row t r) k) := by
  blk_ext [iblk, V, idx t]
theorem iblk1 (r : Fin 512) (k : Fin 1024) : (iblk m c 1 t : FVec Ideal S512x1024 .bf16) (ix2 r k) = YS m c (ix2 (row t r) k) := by
  have h : iblk m c 1 t (ix2 r k) = V m c main_v0 (ix2 (row t r) k) := by blk_ext [iblk, idx t]
  rw [h]; entry_read; rfl
theorem iblk2 (r : Fin 512) (k : Fin 1024) : (iblk m c 2 t : FVec Ideal S512x1024 .bf16) (ix2 r k) = GS m c (ix2 (row t r) k) := by
  have h : iblk m c 2 t (ix2 r k) = V m c main_v1 (ix2 (row t r) k) := by blk_ext [iblk, idx t]
  rw [h]; entry_read; rfl
theorem iblk3 (r : Fin 512) (k : Fin 1024) : (iblk m c 3 t : FVec Ideal S512x1024 .bf16) (ix2 r k) = GM m c (ix2 (row t r) k) := by
  have h : iblk m c 3 t (ix2 r k) = V m c main_v2 (ix2 (row t r) k) := by blk_ext [iblk, idx t]
  rw [h]; entry_read; rfl
theorem iblk4 (r : Fin 512) (k : Fin 1024) : (iblk m c 4 t : FVec Ideal S512x1024 .f32) (ix2 r k) = X m c (ix2 (row t r) k) := by
  blk_ext [iblk, V, idx t]

theorem iblk5 (a : Fin 4) (r : Fin 256) (k : Fin 1024) :
    (iblk m c 5 t : FVec Ideal S4x256x1024 .bf16) (ix3 a r k) = WO m c (ix2 ⟨a * 256 + r, by omega⟩ k) := by
  have h : iblk m c 5 t (ix3 a r k) = V m c main_v9 (ix3 a ⟨2048 + r.val, by omega⟩ k) := by
    blk_ext [iblk, idx t]
  refine h.trans ((congrFun (V_group m c) _).trans ((Weights.group_o_mla
    concatenates_S4x1024x1024_S4x1024x1024_S4x256x1024_S4x256x1024_S4x2560x1024_d1 _ _ _ _ a ⟨2048 + r.val, by omega⟩ k
    (Nat.le_add_right _ _) (by dsimp only; omega)).trans ?_))
  refine (Weights.rows256 _ _ a _ k).trans ?_
  blk_ext

theorem iblk6 (a : Fin 4) (r : Fin 256) (k : Fin 1024) :
    (iblk m c 6 t : FVec Ideal S4x256x1024 .bf16) (ix3 a r k) = WOUT m c (ix2 ⟨a * 256 + r, by omega⟩ k) := by
  have h : iblk m c 6 t (ix3 a r k) = V m c main_v9 (ix3 a ⟨2304 + r.val, by omega⟩ k) := by
    blk_ext [iblk, idx t]
  refine h.trans ((congrFun (V_group m c) _).trans ((Weights.group_out
    concatenates_S4x1024x1024_S4x1024x1024_S4x256x1024_S4x256x1024_S4x2560x1024_d1 _ _ _ _ a ⟨2304 + r.val, by omega⟩ k
    (Nat.le_add_right _ _)).trans ?_))
  refine (Weights.rows256 _ _ a _ k).trans ?_
  blk_ext
end

/-! ## What a grid point computes -/

/-- A sum over 1024 entries, a quarter at a time. -/
theorem sum_quarters (F : Fin 1024 → EReal) : ∑ k, F k = (∑ k : Fin 256, F ⟨k, by omega⟩) + (∑ k : Fin 256, F ⟨256 + k, by omega⟩)
    + (∑ k : Fin 256, F ⟨512 + k, by omega⟩) + (∑ k : Fin 256, F ⟨768 + k, by omega⟩) := by
  rw [show ∑ k, F k = _ from Fin.sum_univ_add (a := 768) (b := 256) F,
    show ∑ k : Fin 768, F (Fin.castAdd 256 k) = _ from Fin.sum_univ_add (a := 512) (b := 256) fun k => F (Fin.castAdd 256 k),
    show ∑ k : Fin 512, F (Fin.castAdd 256 (Fin.castAdd 256 k)) = _ from
      Fin.sum_univ_add (a := 256) (b := 256) fun k => F (Fin.castAdd 256 (Fin.castAdd 256 k))]
  refine congrArg₂ (· + ·) (congrArg₂ (· + ·) (congrArg₂ (· + ·) ?_ ?_) ?_) ?_ <;>
    exact Fin.sum_fin_congr fun k => congrArg F (Fin.ext (by simp <;> omega))

/-- The four quarters of a square weight. -/
structure Quarters (a0 a1 a2 a3 : FVec Ideal S1x256x1024 .bf16) (W : FVec Ideal S1024x1024 .f32) : Prop where
  q0 : ∀ (j : Fin 256) (k : Fin 1024), a0 (ix3 0 j k) = W (ix2 ⟨j, by omega⟩ k)
  q1 : ∀ (j : Fin 256) (k : Fin 1024), a1 (ix3 0 j k) = W (ix2 ⟨256 + j, by omega⟩ k)
  q2 : ∀ (j : Fin 256) (k : Fin 1024), a2 (ix3 0 j k) = W (ix2 ⟨512 + j, by omega⟩ k)
  q3 : ∀ (j : Fin 256) (k : Fin 1024), a3 (ix3 0 j k) = W (ix2 ⟨768 + j, by omega⟩ k)

section
variable {x0 x4 : FVec Ideal S512x1024 .f32} {x1 x2 x3 : FVec Ideal S512x1024 .bf16} {a0 a1 a2 a3 b0 b1 b2 b3 : FVec Ideal S1x256x1024 .bf16}
variable {A Y G H Z : FVec Ideal S4096x1024 .f32} {W U : FVec Ideal S1024x1024 .f32} {i : Fin 4096} {r : Fin 512}

theorem branch (ha : Quarters a0 a1 a2 a3 W) (h0 : ∀ k, x0 (ix2 r k) = A (ix2 i k)) (j : Fin 1024) :
    k0_pay2 x0 a0 a1 a2 a3 (ix2 r j) = times A W (ix2 i j) := by
  pointwise [k0_pay2, times]
  simp only [h0, ha.q0, ha.q1, ha.q2, ha.q3, zero_add]
  exact (sum_quarters fun k => A (ix2 i k) * W (ix2 k j)).symm

theorem sum_at {p2 p4 : FVec Ideal S512x1024 .f32} (h2 : ∀ k, p2 (ix2 r k) = times A W (ix2 i k))
    (h4 : ∀ k, p4 (ix2 r k) = k0_pay4 x2 (ix2 r k)) (hY : ∀ k, x1 (ix2 r k) = Y (ix2 i k)) (hG : ∀ k, x2 (ix2 r k) = G (ix2 i k))
    (hH : ∀ k, x3 (ix2 r k) = H (ix2 i k)) (j : Fin 1024) : k0_pay5 p2 p4 x1 x3 (ix2 r j) = mixed A Y G H W (ix2 i j) := by
  pointwise [k0_pay5, mixed, gate]
  rw [h4]
  pointwise [k0_pay4]
  simp only [h2, hY, hG, hH, sub_eq_add_neg, zero_add]

theorem out_at {p2 p4 : FVec Ideal S512x1024 .f32} (h5 : ∀ k, k0_pay5 p2 p4 x1 x3 (ix2 r k) = mixed A Y G H W (ix2 i k))
    (hb : Quarters b0 b1 b2 b3 U) (h4 : ∀ k, x4 (ix2 r k) = Z (ix2 i k)) (j : Fin 1024) :
    k0_pay1 (k0_pay5 p2 p4 x1 x3) x4 (k0_pay6 p2 p4 x1 x3 b0 b1) (k0_pay7 p2 p4 x1 x3) (k0_pay8 b2) b3 (ix2 r j)
      = result A Y G H Z W U (ix2 i j) := by
  pointwise [k0_pay1, k0_pay6, k0_pay7, k0_pay8, result, times]
  simp only [h4, h5, hb.q0, hb.q1, hb.q2, hb.q3, zero_add]
  exact congrArg (Z (ix2 i j) + ·) (sum_quarters fun k => mixed A Y G H W (ix2 i k) * U (ix2 k j)).symm
end

/-- A load of one quarter is of that quarter. -/
theorem load {e : EltTy} (f : S4x256x1024.Idx → Elt Ideal e) (a : Fin 4) (h : ∀ d, (![a.val, 0, 0] : Fin 3 → ℕ) d + (![1, 256, 1024] : Fin 3 → ℕ) d ≤ S4x256x1024.size d)
    (j : Fin 256) (k : Fin 1024) :
    View.ld (Val := Elt Ideal) f (Rect.unit (s := S4x256x1024) ![a.val, 0, 0] ![1, 256, 1024] h) (ix3 0 j k) = f (ix3 a j k) := by
  refine congrArg f (funext fun d => Fin.ext ?_)
  match d with
  | 0 => exact Nat.add_zero _
  | 1 => exact (Nat.zero_add _).trans (Nat.one_mul _)
  | 2 => exact (Nat.zero_add _).trans (Nat.one_mul _)

/-- The four loads of a weight's shards are its quarters. -/
theorem quarters {f : S4x256x1024.Idx → Elt Ideal .bf16} {W : FVec Ideal S1024x1024 .f32}
    (h : ∀ (a : Fin 4) (j : Fin 256) (k : Fin 1024), f (ix3 a j k) = W (ix2 ⟨a * 256 + j, by omega⟩ k)) :
    Quarters (View.ld (Val := Elt Ideal) (e' := .bf16) f (Rect.unit (s := S4x256x1024) ![0, 0, 0] ![1, 256, 1024] inb_S4x256x1024_S1x256x1024_0_0_0))
      (View.ld (Val := Elt Ideal) (e' := .bf16) f (Rect.unit (s := S4x256x1024) ![1, 0, 0] ![1, 256, 1024] inb_S4x256x1024_S1x256x1024_1_0_0))
      (View.ld (Val := Elt Ideal) (e' := .bf16) f (Rect.unit (s := S4x256x1024) ![2, 0, 0] ![1, 256, 1024] inb_S4x256x1024_S1x256x1024_2_0_0))
      (View.ld (Val := Elt Ideal) (e' := .bf16) f (Rect.unit (s := S4x256x1024) ![3, 0, 0] ![1, 256, 1024] inb_S4x256x1024_S1x256x1024_3_0_0)) W where
  q0 j k := ((load (e := .bf16) f 0 _ j k).trans (h 0 j k)).trans (congrArg (fun l => W (ix2 l k)) (Fin.ext (by simp)))
  q1 j k := ((load (e := .bf16) f 1 _ j k).trans (h 1 j k)).trans (congrArg (fun l => W (ix2 l k)) (Fin.ext (by simp)))
  q2 j k := ((load (e := .bf16) f 2 _ j k).trans (h 2 j k)).trans (congrArg (fun l => W (ix2 l k)) (Fin.ext (by simp)))
  q3 j k := ((load (e := .bf16) f 3 _ j k).trans (h 3 j k)).trans (congrArg (fun l => W (ix2 l k)) (Fin.ext (by simp)))

section
variable {x0 x4 : FVec Ideal S512x1024 .f32} {x1 x2 x3 : FVec Ideal S512x1024 .bf16} {x5 x6 : FVec Ideal S4x256x1024 .bf16}

theorem denominator_at (r : Fin 512) (j : Fin 1024) :
    (show FVec Ideal S512x1024 .f32 from k0_pay10 (F := Ideal) x0 x1 x2 x3 x4 x5 x6) (ix2 r j) = k0_pay4 x2 (ix2 r j) := by
  dsimp only
  unfold k0_pay10 r0_0
  rw [View.ld_unit_lit _ _ (by decide)]

theorem branch_at {A : FVec Ideal S4096x1024 .f32} {W : FVec Ideal S1024x1024 .f32} {i : Fin 4096} {r : Fin 512}
    (h5 : ∀ (a : Fin 4) (j : Fin 256) (k : Fin 1024), x5 (ix3 a j k) = W (ix2 ⟨a * 256 + j, by omega⟩ k))
    (h0 : ∀ k, x0 (ix2 r k) = A (ix2 i k)) (j : Fin 1024) :
    (show FVec Ideal S512x1024 .f32 from k0_pay9 (F := Ideal) x0 x1 x2 x3 x4 x5 x6) (ix2 r j) = times A W (ix2 i j) := by
  dsimp only
  unfold k0_pay9 r0_0
  rw [View.ld_unit_lit _ _ (by decide)]
  exact branch (quarters h5) h0 j
end

/-! ## The results -/

variable (c : Dev nD)

theorem final7 : (dats m 0 c).arrAt 7 (cfgs 0).N = truncf .bf16 (times (ATTN m c) (WO m c)) bitsLt_bf16_f32 := by
  refine (dats m 0 c).arrAt_eq_of_covers 7 _ (by decide +kernel) fun t _ y => ?_
  blk_simp
  rw [after0_7]; frame_out
  idx_vars y
  have e : ((View.whole main_v10_0).slice (win0_7.rect t)).emb (ix2 y0 y1) = ix2 (row t y0) y1 := by blk_ext [idx t]
  rw [e]
  exact branch (quarters (iblk5 m c t)) (iblk0 m c t y0) y1

theorem final8 : (dats m 0 c).arrAt 8 (cfgs 0).N
    = truncf .bf16 (mixed (ATTN m c) (YS m c) (GS m c) (GM m c) (WO m c)) bitsLt_bf16_f32 := by
  refine (dats m 0 c).arrAt_eq_of_covers 8 _ (by decide +kernel) fun t _ y => ?_
  blk_simp
  rw [after0_8]; frame_out
  idx_vars y
  have e : ((View.whole main_v10_1).slice (win0_8.rect t)).emb (ix2 y0 y1) = ix2 (row t y0) y1 := by blk_ext [idx t]
  rw [e]
  exact sum_at (branch_at (iblk5 m c t) (iblk0 m c t y0)) (denominator_at y0) (iblk1 m c t y0) (iblk2 m c t y0) (iblk3 m c t y0) y1

theorem final9 : (dats m 0 c).arrAt 9 (cfgs 0).N
    = result (ATTN m c) (YS m c) (GS m c) (GM m c) (X m c) (WO m c) (WOUT m c) := by
  refine (dats m 0 c).arrAt_eq_of_covers 9 _ (by decide +kernel) fun t _ y => ?_
  blk_simp
  rw [after0_9]; frame_out
  idx_vars y
  have e : ((View.whole main_v10_2).slice (win0_9.rect t)).emb (ix2 y0 y1) = ix2 (row t y0) y1 := by blk_ext [idx t]
  rw [e]
  exact out_at (sum_at (branch_at (iblk5 m c t) (iblk0 m c t y0)) (denominator_at y0) (iblk1 m c t y0) (iblk2 m c t y0) (iblk3 m c t y0))
    (quarters (iblk6 m c t)) (iblk4 m c t y0) y1

end Cert.MergeFKernelIdeal.MergeF

end

end
-- ==== Proof.MergeFClaim.lean ====
module

public import proofs.«01_k».proof.Proof.MergeF
public import proofs.«01_k».proof.Proof.Gen.MergeFReferenceIdeal.Run

@[expose] public section

set_option maxRecDepth 16384

noncomputable section

open Idealize.ShloMosaic Idealize.ShloMosaic.TcCoe Idealize.SL.Sem

namespace Cert.MergeFKernelIdeal.MergeF

/-- The merge's forward kernel computes the gated merge, its projection with the residual, and the two values it saves. -/
theorem algebraic : Cert.algebraic_MergeFKernelIdeal_MergeFReferenceIdeal := by
  intro m g m' g' _ hm
  refine ⟨_, _, _, (θ_run _ _ _).mono (fun r h c => ⟨(h.1 c).1 7, (h.1 c).1 8, (h.1 c).1 9, h.2 c⟩)
    (θ_run_and (Cert.MergeFKernelIdeal.Gen.run_main m g) (Cert.MergeFKernelIdeal.Gen.unchanged m g)), ?_⟩
  refine (θ_run _ _ _).mono (fun r h c => ?_) (Cert.MergeFReferenceIdeal.Value.run m' g')
  obtain ⟨h0, h1, h2, h3, h4, h5, h6, -⟩ := hm c
  obtain ⟨r0, r1, r2, rest⟩ := h c
  rw [h0, h5] at r0
  rw [h0, h1, h2, h3, h5] at r1
  rw [h0, h1, h2, h3, h4, h5, h6] at r2
  exact ⟨r0.trans (final7 m c).symm, r1.trans (final8 m c).symm, r2.trans (final9 m c).symm, rest⟩

theorem frame_reference : Cert.quiescent_MergeFReferenceIdeal := by
  intro m ρ _
  exact (θ_run _ _ _).mono (fun r h => ⟨fun c => (h c).2.2.2, sem_eq_zero_of_no_sems (by decide) r.2⟩)
    (Cert.MergeFReferenceIdeal.Value.run m ρ)

end Cert.MergeFKernelIdeal.MergeF

end

end
-- ==== Proof.InF.lean ====
module

public import proofs.«01_k».proof.Defs
public import proofs.«01_k».proof.Proof.In
public import proofs.«01_k».proof.Proof.Gen.InFKernelIdeal.Frame
public import proofs.«01_k».proof.Proof.Gen.InFReferenceIdeal
public import Idealize.ShloMosaic.Lib.Pipeline.ValueKit
public import Idealize.ShloMosaic.Lib.Pointwise
public import Idealize.ShloMosaic.Lib.Claim

@[expose] public section

/-!
# The input projection's forward call

A grid point norms 512 rows and multiplies them by four ranges of the padded columns of the weight: 512, then the 704 latent
columns with the 64 zero columns, then twice 1024. The norm and the padded columns are those of the backward call (`In`).
-/

set_option maxRecDepth 16384

noncomputable section

open Idealize.ShloMosaic Idealize.ShloMosaic.TcCoe Idealize.SL.Sem

namespace Cert.InFReferenceIdeal.InF

open Cert.InFReferenceIdeal Cert.InFReferenceIdeal.Gen

variable (x : FVec Ideal S4096x1024 .f32) (g : FVec Ideal S1024 .f32) (w : FVec Ideal S1024x3264 .f32)

/-- The normed rows' projection, all columns. -/
def proj : FVec Ideal S4096x3264 .f32 :=
  Host.dotGeneral dot_S4096x1024_S1024x3264_S4096x3264_1_0_0_1_n_n none
    (mulf (InReferenceIdeal.In.unit x) (InReferenceIdeal.In.scale g)) w
/-- The columns of the recurrence's input, of the latents, padded, and of the two gates. -/
def ssm : FVec Ideal S4096x512 .f32 := extractStridedSlice S4096x512 ![0, 0] (proj x g w) slices_S4096x3264_S4096x512_0_0
def latent : FVec Ideal S4096x768 .f32 :=
  pad S4096x768 ![0, 0] ![0, 64] ![0, 0] (extractStridedSlice S4096x704 ![0, 512] (proj x g w) slices_S4096x3264_S4096x704_0_512)
    (sitofp .f32 (constantI S_ 32 0#32)) pads_S4096x704_S4096x768_000_0640 h_S_
def gate1 : FVec Ideal S4096x1024 .bf16 :=
  truncf .bf16 (extractStridedSlice S4096x1024 ![0, 1216] (proj x g w) slices_S4096x3264_S4096x1024_0_1216) bitsLt_bf16_f32
def gate2 : FVec Ideal S4096x1024 .bf16 :=
  truncf .bf16 (extractStridedSlice S4096x1024 ![0, 2240] (proj x g w) slices_S4096x3264_S4096x1024_0_2240) bitsLt_bf16_f32

theorem proj_apply (i : Fin 4096) (l : Fin 3264) :
    proj x g w (ix2 i l) = ∑ k, (InReferenceIdeal.In.normed x g (ix2 i k) : EReal) * w (ix2 k l) := by
  pointwise [proj, InReferenceIdeal.In.normed]

theorem latent_apply (i : Fin 4096) (l : Fin 768) :
    latent x g w (ix2 i l) = if h : l.val < 704 then proj x g w (ix2 i ⟨512 + l.val, by omega⟩) else 0 := by
  pointwise [latent]
  split_ifs
  · rfl
  · simp [FloatOps.sitofp]

end Cert.InFReferenceIdeal.InF

namespace Cert.InFKernelIdeal.InF

open Cert.InFKernelIdeal Cert.InFKernelIdeal.Gen
open Cert.InFReferenceIdeal.InF (proj ssm latent gate1 gate2 proj_apply latent_apply)
open Cert.InKernelIdeal.In (padded shard0 shard1 shard2 shard3 shardArr padded_apply)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `r` of the block of 512 rows that grid point `t` takes. -/
abbrev row (t : Fin cfg0.N) (r : Fin 512) : Fin 4096 := ⟨t.val * 512 + r.val, by have h := lt_of_lt_of_eq t.isLt N_0; omega⟩

/-! ## The blocks a grid point reads -/

section
variable (c : Dev nD) (t : Fin cfg0.N)

abbrev X : FVec Ideal S4096x1024 .f32 := m ((c : Thread nD τ).loc main_arg0)
abbrev G : FVec Ideal S1024 .f32 := m ((c : Thread nD τ).loc main_arg1)
abbrev W : FVec Ideal S1024x3264 .f32 := m ((c : Thread nD τ).loc main_arg2)

theorem V_w : V m c main_v17 = padded (shard0 (shardArr (W m c))) (shard1 (shardArr (W m c))) (shard2 (shardArr (W m c)))
    (shard3 (shardArr (W m c))) := by
  unfold V; after_results; rfl
theorem V_scale : V m c main_v0 = shapeCast S1x1024 (G m c) shapeCasts_S1024_S1x1024 := by
  unfold V; after_results; rfl

theorem iblk0 (r : Fin 512) (j : Fin 1024) : (show FVec Ideal S512x1024 .f32 from iblk m c 0 t) (ix2 r j) = X m c (ix2 (row t r) j) := by
  blk_ext [iblk, V, idx t]
theorem iblk1 (j : Fin 1024) : (show FVec Ideal S1x1024 .f32 from iblk m c 1 t) (ix2 0 j) = G m c (ix1 j) := by
  have h : iblk m c 1 t (ix2 0 j) = V m c main_v0 (ix2 0 j) := by blk_ext [iblk, idx t]
  refine (h.trans (congrFun (V_scale m c) _)).trans ?_
  pointwise []
theorem iblk2 (j : Fin 1024) (k : Fin 3328) : (show FVec Ideal S1024x3328 .bf16 from iblk m c 2 t) (ix2 j k)
    = if h : k.val < 1216 then W m c (ix2 j ⟨k.val, by omega⟩) else if h' : k.val < 1280 then 0 else W m c (ix2 j ⟨k.val - 64, by omega⟩) := by
  have h : iblk m c 2 t (ix2 j k) = V m c main_v17 (ix2 j k) := by blk_ext [iblk, idx t]
  exact (h.trans (congrFun (V_w m c) _)).trans (padded_apply _ j k)
end

/-! ## What a grid point computes -/

section
variable {x0 : FVec Ideal S512x1024 .f32} {x1 : FVec Ideal S1x1024 .f32} {X : FVec Ideal S4096x1024 .f32} {G : FVec Ideal S1024 .f32}
variable {W : FVec Ideal S1024x3264 .f32} {i : Fin 4096} {r : Fin 512}

theorem normed_at (h0 : ∀ k, x0 (ix2 r k) = X (ix2 i k)) (h1 : ∀ k, x1 (ix2 0 k) = G (ix1 k)) (j : Fin 1024) :
    k0_pay2 x0 x1 (ix2 r j) = InReferenceIdeal.In.normed X G (ix2 i j) := by
  pointwise [k0_pay2, InReferenceIdeal.In.normed, InReferenceIdeal.In.unit, InReferenceIdeal.In.meanSq, InReferenceIdeal.In.scale]
  simp only [h0, h1, Norm.div_1024]

theorem gap_at {a : FVec Ideal S1024x768 .bf16} (j : Fin 768) (ha : ∀ k, a (ix2 k j) = (0 : EReal)) :
    (show FVec Ideal S512x768 .f32 from k0_pay4 x0 x1 a) (ix2 r j) = (0 : EReal) := by
  pointwise [k0_pay4]
  simp only [ha, mul_zero, Finset.sum_const_zero]

variable (hn : ∀ k, k0_pay2 x0 x1 (ix2 r k) = InReferenceIdeal.In.normed X G (ix2 i k))
include hn

theorem ssm_at {a : FVec Ideal S1024x512 .bf16} (j : Fin 512) (l : Fin 3264) (ha : ∀ k, a (ix2 k j) = W (ix2 k l)) :
    (show FVec Ideal S512x512 .f32 from k0_pay3 x0 x1 a) (ix2 r j) = proj X G W (ix2 i l) := by
  rw [proj_apply]
  pointwise [k0_pay3]
  simp only [hn, ha]
theorem latent_at {a : FVec Ideal S1024x768 .bf16} (j : Fin 768) (l : Fin 3264) (ha : ∀ k, a (ix2 k j) = W (ix2 k l)) :
    (show FVec Ideal S512x768 .f32 from k0_pay4 x0 x1 a) (ix2 r j) = proj X G W (ix2 i l) := by
  rw [proj_apply]
  pointwise [k0_pay4]
  simp only [hn, ha]
theorem gate1_at {a : FVec Ideal S1024x1024 .bf16} (j : Fin 1024) (l : Fin 3264) (ha : ∀ k, a (ix2 k j) = W (ix2 k l)) :
    (show FVec Ideal S512x1024 .bf16 from k0_pay5 x0 x1 a) (ix2 r j) = proj X G W (ix2 i l) := by
  rw [proj_apply]
  pointwise [k0_pay5]
  simp only [hn, ha]
theorem gate2_at {a : FVec Ideal S1024x1024 .bf16} (j : Fin 1024) (l : Fin 3264) (ha : ∀ k, a (ix2 k j) = W (ix2 k l)) :
    (show FVec Ideal S512x1024 .bf16 from k0_pay1 (k0_pay2 x0 x1) (k0_pay6 a) (constant S512x1024 .f32 0x00000000#32)) (ix2 r j) = proj X G W (ix2 i l) := by
  rw [proj_apply]
  pointwise [k0_pay1, k0_pay6]
  simp only [hn, ha]
end

/-- A load of `n` columns from column `o` on. -/
theorem load {e : EltTy} (f : S1024x3328.Idx → Elt Ideal e) {o n : ℕ} (h : ∀ d, (![0, o] : Fin 2 → ℕ) d + (![1024, n] : Fin 2 → ℕ) d ≤ S1024x3328.size d)
    (j : Fin 1024) (k : Fin n) (l : Fin 3328) (hl : l.val = o + k.val) :
    View.ld (Val := Elt Ideal) f (Rect.unit (s := S1024x3328) ![0, o] ![1024, n] h) (ix2 j k) = f (ix2 j l) := by
  refine congrArg f (funext fun d => Fin.ext ?_)
  match d with
  | 0 => exact (Nat.zero_add _).trans (Nat.one_mul _)
  | 1 => exact (congrArg (o + ·) (Nat.one_mul _)).trans hl.symm

/-- A column of the padded weight before the gap, and one after it. -/
theorem before (c : Dev nD) (t : Fin cfg0.N) (j : Fin 1024) (k : Fin 3328) (l : Fin 3264) (h : k.val < 1216) (hl : k.val = l.val) :
    (show FVec Ideal S1024x3328 .bf16 from iblk m c 2 t) (ix2 j k) = W m c (ix2 j l) := by
  rw [iblk2, dif_pos h]
  exact congrArg (fun l => W m c (ix2 j l)) (Fin.ext hl)
theorem after (c : Dev nD) (t : Fin cfg0.N) (j : Fin 1024) (k : Fin 3328) (l : Fin 3264) (h : 1280 ≤ k.val) (hl : k.val = 64 + l.val) :
    (show FVec Ideal S1024x3328 .bf16 from iblk m c 2 t) (ix2 j k) = W m c (ix2 j l) := by
  rw [iblk2, dif_neg (by omega), dif_neg (by omega)]
  exact congrArg (fun l => W m c (ix2 j l)) (Fin.ext (by dsimp only; omega))
theorem within (c : Dev nD) (t : Fin cfg0.N) (j : Fin 1024) (k : Fin 3328) (h : 1216 ≤ k.val) (h' : k.val < 1280) :
    (show FVec Ideal S1024x3328 .bf16 from iblk m c 2 t) (ix2 j k) = (0 : EReal) := by
  rw [iblk2, dif_neg (by omega), dif_pos h']

/-! ## The results -/

variable (c : Dev nD)

theorem final3 : (dats m 0 c).arrAt 3 cfg0.N = ssm (X m c) (G m c) (W m c) := by
  refine (dats m 0 c).arrAt_eq_of_covers 3 _ (by decide +kernel) fun t _ y => ?_
  blk_simp
  rw [after0_3]; unfold outsAt0 out0_A_3; frame_out
  idx_vars y
  have e : ((View.whole main_v19_0).slice (win0_3.rect t)).emb (ix2 y0 y1) = ix2 (row t y0) y1 := by blk_ext [idx t]
  rw [e]
  refine (ssm_at (W := W m c) (normed_at (iblk0 m c t y0) (iblk1 m c t)) y1 ⟨y1.val, by omega⟩ fun k =>
    (load _ _ k y1 ⟨y1.val, by omega⟩ (Nat.zero_add _).symm).trans (before m c t k _ _ (by dsimp only; omega) rfl)).trans ?_
  pointwise [ssm]

theorem final4 : (dats m 0 c).arrAt 4 cfg0.N = latent (X m c) (G m c) (W m c) := by
  refine (dats m 0 c).arrAt_eq_of_covers 4 _ (by decide +kernel) fun t _ y => ?_
  blk_simp
  rw [after0_4]; unfold outsAt0 out0_A_4; frame_out
  idx_vars y
  have e : ((View.whole main_v19_1).slice (win0_4.rect t)).emb (ix2 y0 y1) = ix2 (row t y0) y1 := by blk_ext [idx t]
  rw [e, latent_apply]
  split_ifs with h
  · exact latent_at (W := W m c) (normed_at (iblk0 m c t y0) (iblk1 m c t)) y1 ⟨512 + y1.val, by omega⟩ fun k =>
      (load _ _ k y1 ⟨512 + y1.val, by omega⟩ rfl).trans (before m c t k _ _ (by dsimp only; omega) rfl)
  · exact gap_at y1 fun k => (load _ _ k y1 ⟨512 + y1.val, by omega⟩ rfl).trans (within m c t k _ (by dsimp only; omega) (by dsimp only; omega))

theorem final5 : (dats m 0 c).arrAt 5 cfg0.N = gate1 (X m c) (G m c) (W m c) := by
  refine (dats m 0 c).arrAt_eq_of_covers 5 _ (by decide +kernel) fun t _ y => ?_
  blk_simp
  rw [after0_5]; unfold outsAt0 out0_A_5; frame_out
  idx_vars y
  have e : ((View.whole main_v19_2).slice (win0_5.rect t)).emb (ix2 y0 y1) = ix2 (row t y0) y1 := by blk_ext [idx t]
  rw [e]
  refine (gate1_at (W := W m c) (normed_at (iblk0 m c t y0) (iblk1 m c t)) y1 ⟨1216 + y1.val, by omega⟩ fun k =>
    (load _ _ k y1 ⟨1280 + y1.val, by omega⟩ rfl).trans (after m c t k _ _ (by dsimp only; omega) (by dsimp only; omega))).trans ?_
  pointwise [gate1]

theorem final6 : (dats m 0 c).arrAt 6 cfg0.N = gate2 (X m c) (G m c) (W m c) := by
  refine (dats m 0 c).arrAt_eq_of_covers 6 _ (by decide +kernel) fun t _ y => ?_
  blk_simp
  rw [after0_6]; unfold outsAt0 out0_A_6; frame_out
  idx_vars y
  have e : ((View.whole main_v19_3).slice (win0_6.rect t)).emb (ix2 y0 y1) = ix2 (row t y0) y1 := by blk_ext [idx t]
  rw [e]
  refine (gate2_at (W := W m c) (normed_at (iblk0 m c t y0) (iblk1 m c t)) y1 ⟨2240 + y1.val, by omega⟩ fun k =>
    (load _ _ k y1 ⟨2304 + y1.val, by omega⟩ rfl).trans (after m c t k _ _ (by dsimp only; omega) (by dsimp only; omega))).trans ?_
  pointwise [gate2]

end Cert.InFKernelIdeal.InF

end

end
-- ==== Proof.InFClaim.lean ====
module

public import proofs.«01_k».proof.Proof.InF
public import proofs.«01_k».proof.Proof.Gen.InFReferenceIdeal.Run

@[expose] public section

set_option maxRecDepth 16384

noncomputable section

open Idealize.ShloMosaic Idealize.ShloMosaic.TcCoe Idealize.SL.Sem

namespace Cert.InFKernelIdeal.InF

/-- The forward kernel of the norm and the input projection computes the projection's four ranges of columns. -/
theorem algebraic : Cert.algebraic_InFKernelIdeal_InFReferenceIdeal := by
  intro m g m' g' _ hm
  refine ⟨_, _, _, _, (θ_run _ _ _).mono (fun r h c => ⟨(h.1 c).1 3, (h.1 c).1 4, (h.1 c).1 5, (h.1 c).1 6, h.2 c⟩)
    (θ_run_and (Cert.InFKernelIdeal.Gen.run_main m g) (Cert.InFKernelIdeal.Gen.unchanged m g)), ?_⟩
  refine (θ_run _ _ _).mono (fun r h c => ?_) (Cert.InFReferenceIdeal.Value.run m' g')
  obtain ⟨h0, h1, h2⟩ := hm c
  obtain ⟨r0, r1, r2, r3, rest⟩ := h c
  rw [h0, h1, h2] at r0 r1 r2 r3
  exact ⟨r0.trans (final3 m c).symm, r1.trans (final4 m c).symm, r2.trans (final5 m c).symm, r3.trans (final6 m c).symm, rest⟩

theorem frame_reference : Cert.quiescent_InFReferenceIdeal := by
  intro m ρ _
  exact (θ_run _ _ _).mono (fun r h => ⟨fun c => (h c).2.2.2.2, sem_eq_zero_of_no_sems (by decide) r.2⟩)
    (Cert.InFReferenceIdeal.Value.run m ρ)

end Cert.InFKernelIdeal.InF

end

end
-- ==== Proof.Mlp.lean ====
module

public import proofs.«01_k».proof.Defs
public import proofs.«01_k».proof.Proof.In
public import proofs.«01_k».proof.Proof.Weights
public import proofs.«01_k».proof.Proof.Gen.MlpKernelIdeal.Frame
public import proofs.«01_k».proof.Proof.Gen.MlpReferenceIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Cert.InReferenceIdeal.In (unit scale meanSq dRows dScale dRows_apply)

namespace Cert.MlpReferenceIdeal.Mlp

open Cert.MlpReferenceIdeal Cert.MlpReferenceIdeal.Gen

/-! ## The reference's terms -/

variable (x y : FVec Ideal S4096x1024 .f32) (g : FVec Ideal S1024 .f32) (wu : FVec Ideal S1024x4096 .f32) (wd : FVec Ideal S4096x1024 .f32)

/-- The normed rows. -/
def normed : FVec Ideal S4096x1024 .f32 := mulf (unit x) (scale g)
/-- The hidden layer before the rectifier. -/
def pre : FVec Ideal S4096x4096 .f32 :=
  addf (Host.dotGeneral dot_S4096x1024_S1024x4096_S4096x4096_1_0_0_1_n_n none (normed x g) wu)
    (broadcastInDim S4096x4096 ![] bcast_S_S4096x4096 (constant S_ .f32 0x00000000#32))
/-- The rectified layer. -/
def relu : FVec Ideal S4096x4096 .f32 :=
  maximumf (pre x g wu) (broadcastInDim S4096x4096 ![] bcast_S_S4096x4096 (constant S_ .f32 0x00000000#32))
/-- Its square. -/
def hid : FVec Ideal S4096x4096 .f32 := mulf (relu x g wu) (relu x g wu)
/-- The layer's result less the target. -/
def err : FVec Ideal S4096x1024 .f32 :=
  subf (addf (addf x (Host.dotGeneral dot_S4096x4096_S4096x1024_S4096x1024_1_0_0_1_n_n none (hid x g wu) wd))
    (broadcastInDim S4096x1024 ![] bcast_S_S4096x1024 (constant S_ .f32 0x00000000#32))) y
/-- The gradient of the layer's result. -/
def dOut : FVec Ideal S4096x1024 .f32 :=
  mulf (broadcastInDim S4096x1024 ![0] bcast_S4096_S4096x1024_0 (Host.divf
      (broadcastInDim S4096 ![] bcast_S_S4096 (mulf (constant S_ .f32 0x3F000000#32) (constant S_ .f32 0x3F800000#32)))
      (broadcastInDim S4096 ![] bcast_S_S4096 (constant S_ .f32 0x44800000#32))))
    (mulf (broadcastInDim S4096x1024 ![] bcast_S_S4096x1024 (constant S_ .f32 0x40000000#32)) (err x y g wu wd))
/-- The gradient of the hidden layer before the rectifier. -/
def dPre : FVec Ideal S4096x4096 .f32 :=
  select (cmpf .ogt (pre x g wu) (broadcastInDim S4096x4096 ![] bcast_S_S4096x4096 (constant S_ .f32 0x00000000#32)))
    (mulf (Host.dotGeneral dot_S4096x1024_S4096x1024_S4096x4096_1_1_0_0_n_n none (dOut x y g wu wd) wd)
      (mulf (broadcastInDim S4096x4096 ![] bcast_S_S4096x4096 (constant S_ .f32 0x40000000#32)) (relu x g wu)))
    (broadcastInDim S4096x4096 ![] bcast_S_S4096x4096 (constant S_ .f32 0x00000000#32))
/-- The gradient of the normed rows. -/
def dNormed : FVec Ideal S4096x1024 .f32 :=
  Host.dotGeneral dot_S4096x4096_S1024x4096_S4096x1024_1_1_0_0_n_n none (dPre x y g wu wd) wu
/-- The loss, on every entry of a block. -/
def loss : FVec Ideal S8x128 .f32 :=
  broadcastInDim S8x128 ![] bcast_S_S8x128 (mulf (constant S_ .f32 0x3F000000#32) (Host.reduceAdd (Host.divf
    (Host.reduceAdd (mulf (err x y g wu wd) (err x y g wu wd)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))

theorem relu_apply (i : Fin 4096) (k : Fin 4096) : relu x g wu (ix2 i k) = max (∑ j, normed x g (ix2 i j) * wu (ix2 j k)) 0 := by
  pointwise [relu, pre]
theorem err_apply (i : Fin 4096) (k : Fin 1024) : err x y g wu wd (ix2 i k)
    = x (ix2 i k) + (∑ j, hid x g wu (ix2 i j) * wd (ix2 j k)) - y (ix2 i k) := by
  pointwise [err]
theorem dOut_apply (i : Fin 4096) (k : Fin 1024) : dOut x y g wu wd (ix2 i k) = err x y g wu wd (ix2 i k) * Ideal.ofBits .f32 0x3A800000#32 := by
  pointwise [dOut]
  rw [Norm.div_1024, Norm.ofBits_half, Norm.ofBits_two, Norm.ofBits_inv_1024, ← EReal.coe_mul, ← mul_assoc, ← EReal.coe_mul, mul_comm]
  norm_num
theorem dPre_apply (i : Fin 4096) (k : Fin 4096) : dPre x y g wu wd (ix2 i k)
    = (∑ j, dOut x y g wu wd (ix2 i j) * wd (ix2 k j)) * (Ideal.ofBits .f32 0x40000000#32 * relu x g wu (ix2 i k)) := by
  pointwise [dPre, relu]
  by_cases h : 0 < pre x g wu (ix2 i k)
  · rw [if_pos h]
  · rw [if_neg h, max_eq_right (not_lt.mp h), mul_zero, mul_zero]
theorem loss_apply (i : Fin 8) (k : Fin 128) : loss x y g wu wd (ix2 i k)
    = ∑ r, (∑ j, err x y g wu wd (ix2 r j) * err x y g wu wd (ix2 r j)) * Ideal.ofBits .f32 0x3A000000#32 := by
  pointwise [loss]
  simp only [Norm.div_1024]
  rw [mul_comm (_ : EReal), Norm.sum_mul_of_nonneg _ _ (by rw [Norm.ofBits_half]; exact EReal.coe_nonneg.mpr (by norm_num))
    (by rw [Norm.ofBits_half]; exact EReal.coe_ne_top _)]
  refine Fin.sum_fin_congr fun r => ?_
  rw [mul_assoc, Norm.ofBits_half, Norm.ofBits_inv_1024, Norm.ofBits_inv_2048, ← EReal.coe_mul]
  norm_num

end Cert.MlpReferenceIdeal.Mlp

namespace Cert.MlpKernelIdeal.Mlp

open Cert.MlpKernelIdeal Cert.MlpKernelIdeal.Gen Cert.MlpReferenceIdeal.Mlp

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 1, 0] ∧ win0_4.index t = ![0, 0, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![0, 0] ∧ win0_11.index t = ![0, 0] := (by decide +kernel : ∀ t : Fin grid0.N, _)

/-- Row `r` of the block of 256 rows that grid point `t` takes. -/
abbrev row (t : Fin cfg0.N) (r : Fin 256) : Fin 4096 := ⟨t.val * 256 + r.val, by have h := lt_of_lt_of_eq t.isLt N_0; omega⟩

/-- A point is the first one, which stores the loss and the norm weights' gradient, or a later one, which adds to them. -/
theorem first_or_later (t : Fin cfg0.N) : (t.val % 16 = 0 ∧ ¬1 ≤ t.val) ∨ (¬t.val % 16 = 0 ∧ 1 ≤ t.val) := by
  have h := lt_of_lt_of_eq t.isLt N_0
  omega

/-! ## The blocks a grid point reads -/

section
variable (c : Dev nD) (t : Fin cfg0.N)

abbrev X : FVec Ideal S4096x1024 .f32 := m ((c : Thread nD τ).loc main_arg0)
abbrev Y : FVec Ideal S4096x1024 .f32 := m ((c : Thread nD τ).loc main_arg1)
abbrev G : FVec Ideal S1024 .f32 := m ((c : Thread nD τ).loc main_arg2)
abbrev WU : FVec Ideal S1024x4096 .f32 := m ((c : Thread nD τ).loc main_arg3)
abbrev WD : FVec Ideal S4096x1024 .f32 := m ((c : Thread nD τ).loc main_arg4)

theorem V_group : (V m c main_v7 : FVec Ideal S4x2560x1024 .bf16) = truncf .bf16 (Weights.group
    concatenates_S4x1024x1024_S4x1024x1024_S4x256x1024_S4x256x1024_S4x2560x1024_d1
    (shapeCast S4x1024x1024 (WD m c) shapeCasts_S4096x1024_S4x1024x1024)
    (transpose S4x1024x1024 [1, 0, 2] (shapeCast S1024x4x1024 (WU m c) shapeCasts_S1024x4096_S1024x4x1024) transposes_S1024x4x1024_S4x1024x1024_1_0_2)
    (shapeCast S4x256x1024 (m ((c : Thread nD τ).loc main_arg5)) shapeCasts_S1024x1024_S4x256x1024)
    (shapeCast S4x256x1024 (m ((c : Thread nD τ).loc main_arg6)) shapeCasts_S1024x1024_S4x256x1024)) bitsLt_bf16_f32 := by
  unfold V
  after_results
  rfl
theorem V_scale : V m c main_v0 = shapeCast S1x1024 (G m c) shapeCasts_S1024_S1x1024 := by
  unfold V
  after_results
  rfl

theorem iblk0 (r : Fin 256) (j : Fin 1024) : (show FVec Ideal S256x1024 .f32 from iblk m c 0 t) (ix2 r j) = X m c (ix2 (row t r) j) := by
  blk_ext [iblk, V, idx t]
theorem iblk1 (r : Fin 256) (j : Fin 1024) : (show FVec Ideal S256x1024 .f32 from iblk m c 1 t) (ix2 r j) = Y m c (ix2 (row t r) j) := by
  blk_ext [iblk, V, idx t]
theorem iblk2 (j : Fin 1024) : (show FVec Ideal S1x1024 .f32 from iblk m c 2 t) (ix2 0 j) = G m c (ix1 j) := by
  have h : iblk m c 2 t (ix2 0 j) = V m c main_v0 (ix2 0 j) := by blk_ext [iblk, idx t]
  refine (h.trans (congrFun (V_scale m c) _)).trans ?_
  pointwise []
theorem iblk3 (a : Fin 4) (j k : Fin 1024) {l : Fin 4096} (hl : l.val = a * 1024 + k) :
    (show FVec Ideal S4x1024x1024 .bf16 from X0_3 m c t) (ix3 a j k) = WU m c (ix2 j l) := by
  have h : X0_3 m c t (ix3 a j k) = V m c main_v7 (ix3 a ⟨1024 + j.val, by omega⟩ k) := by
    unfold X0_3 Pipeline.Window.fill
    rw [dif_pos (moved0_3 t _)]
    blk_ext [iblk, idx t]
  refine h.trans ((congrFun (V_group m c) _).trans ((Weights.group_up
    concatenates_S4x1024x1024_S4x1024x1024_S4x256x1024_S4x256x1024_S4x2560x1024_d1 _ _ _ _ a ⟨1024 + j.val, by omega⟩ k
    (Nat.le_add_right _ _) (by dsimp only; omega)).trans ?_))
  refine (Weights.cols1024 _ _ _ a _ k).trans ?_
  rw [← show l = ⟨a * 1024 + k, by omega⟩ from Fin.ext hl]
  blk_ext
theorem iblk4 (a : Fin 4) (j k : Fin 1024) {l : Fin 4096} (hl : l.val = a * 1024 + j) :
    (show FVec Ideal S4x1024x1024 .bf16 from X0_4 m c t) (ix3 a j k) = WD m c (ix2 l k) := by
  have h : X0_4 m c t (ix3 a j k) = V m c main_v7 (ix3 a ⟨j.val, by omega⟩ k) := by
    unfold X0_4 Pipeline.Window.fill
    rw [dif_pos (moved0_4 t _)]
    blk_ext [iblk, idx t]
  refine h.trans ((congrFun (V_group m c) _).trans ((Weights.group_down
    concatenates_S4x1024x1024_S4x1024x1024_S4x256x1024_S4x256x1024_S4x2560x1024_d1 _ _ _ _ a ⟨j.val, by omega⟩ k j.isLt).trans ?_))
  rw [show l = ⟨a * 1024 + j, by omega⟩ from Fin.ext hl]
  exact Weights.rows1024 _ _ a _ k
end

/-- A sum over the hidden layer's 4096 entries, a quarter at a time. -/
theorem sum_quarters (F : Fin 4096 → EReal) : ∑ k, F k = (∑ k : Fin 1024, F ⟨k, by omega⟩) + (∑ k : Fin 1024, F ⟨1024 + k, by omega⟩)
    + (∑ k : Fin 1024, F ⟨2048 + k, by omega⟩) + (∑ k : Fin 1024, F ⟨3072 + k, by omega⟩) := by
  rw [show ∑ k, F k = _ from Fin.sum_univ_add (a := 3072) (b := 1024) F,
    show ∑ k : Fin 3072, F (Fin.castAdd 1024 k) = _ from Fin.sum_univ_add (a := 2048) (b := 1024) fun k => F (Fin.castAdd 1024 k),
    show ∑ k : Fin 2048, F (Fin.castAdd 1024 (Fin.castAdd 1024 k)) = _ from
      Fin.sum_univ_add (a := 1024) (b := 1024) fun k => F (Fin.castAdd 1024 (Fin.castAdd 1024 k))]
  refine congrArg₂ (· + ·) (congrArg₂ (· + ·) (congrArg₂ (· + ·) ?_ ?_) ?_) ?_ <;>
    exact Fin.sum_fin_congr fun k => congrArg F (Fin.ext (by simp <;> omega))

/-! ## What a grid point computes, from what it reads -/

/-- Row `r` of the point's blocks is row `i` of the arrays, and the two weights' quarters are theirs. -/
structure Reads (x0 x1 : FVec Ideal S256x1024 .f32) (x2 : FVec Ideal S1x1024 .f32) (a0 a1 a2 a3 b0 b1 b2 b3 : FVec Ideal S1x1024x1024 .bf16)
    (X Y : FVec Ideal S4096x1024 .f32) (G : FVec Ideal S1024 .f32) (WU : FVec Ideal S1024x4096 .f32) (WD : FVec Ideal S4096x1024 .f32)
    (i : Fin 4096) (r : Fin 256) : Prop where
  x : ∀ k, x0 (ix2 r k) = X (ix2 i k)
  y : ∀ k, x1 (ix2 r k) = Y (ix2 i k)
  g : ∀ k, x2 (ix2 0 k) = G (ix1 k)
  up0 : ∀ j k : Fin 1024, a0 (ix3 0 j k) = WU (ix2 j ⟨k, by omega⟩)
  up1 : ∀ j k : Fin 1024, a1 (ix3 0 j k) = WU (ix2 j ⟨1024 + k, by omega⟩)
  up2 : ∀ j k : Fin 1024, a2 (ix3 0 j k) = WU (ix2 j ⟨2048 + k, by omega⟩)
  up3 : ∀ j k : Fin 1024, a3 (ix3 0 j k) = WU (ix2 j ⟨3072 + k, by omega⟩)
  down0 : ∀ j k : Fin 1024, b0 (ix3 0 j k) = WD (ix2 ⟨j, by omega⟩ k)
  down1 : ∀ j k : Fin 1024, b1 (ix3 0 j k) = WD (ix2 ⟨1024 + j, by omega⟩ k)
  down2 : ∀ j k : Fin 1024, b2 (ix3 0 j k) = WD (ix2 ⟨2048 + j, by omega⟩ k)
  down3 : ∀ j k : Fin 1024, b3 (ix3 0 j k) = WD (ix2 ⟨3072 + j, by omega⟩ k)

section
variable (x0 x1 : FVec Ideal S256x1024 .f32) (x2 : FVec Ideal S1x1024 .f32) (a0 a1 a2 a3 b0 b1 b2 b3 : FVec Ideal S1x1024x1024 .bf16)

/-! The body's values: the rectified quarters, the gradient of the result, the quarters of the gradient before the rectifier. -/

abbrev relu0 : FVec Ideal S256x1024 .f32 := k0_pay4 x0 x2 a0
abbrev relu1 : FVec Ideal S256x1024 .f32 := k0_pay8 (k0_pay3 x0 x2) (k0_pay7 a1) (constant S256x1024 .f32 0x00000000#32)
abbrev relu2 : FVec Ideal S256x1024 .f32 := k0_pay10 (k0_pay3 x0 x2) a2
abbrev relu3 : FVec Ideal S256x1024 .f32 := k0_pay13 (k0_pay3 x0 x2) a3
abbrev sum3 : FVec Ideal S256x1024 .f32 :=
  k0_pay12 (k0_pay3 x0 x2) (k0_pay6 x0 x2 a0 b0) (k0_pay7 a1) (constant S256x1024 .f32 0x00000000#32) b1 a2 b2
abbrev errB : FVec Ideal S256x1024 .f32 := k0_pay15 (sum3 x0 x2 a0 a1 a2 b0 b1 b2) (k0_pay14 (k0_pay3 x0 x2) a3) b3 x1
abbrev dOutB : FVec Ideal S256x1024 .bf16 := k0_pay19 (sum3 x0 x2 a0 a1 a2 b0 b1 b2) (k0_pay14 (k0_pay3 x0 x2) a3) b3 x1
abbrev dPre0 : FVec Ideal S256x1024 .bf16 := k0_pay21 (relu0 x0 x2 a0) (sum3 x0 x2 a0 a1 a2 b0 b1 b2) (k0_pay14 (k0_pay3 x0 x2) a3) b3 x1 b0
abbrev dPre1 : FVec Ideal S256x1024 .bf16 := k0_pay23 (relu1 x0 x2 a1) (dOutB x0 x1 x2 a0 a1 a2 a3 b0 b1 b2 b3) b1
abbrev dPre2 : FVec Ideal S256x1024 .bf16 := k0_pay24 (relu2 x0 x2 a2) (dOutB x0 x1 x2 a0 a1 a2 a3 b0 b1 b2 b3) b2
abbrev dPre3 : FVec Ideal S256x1024 .bf16 := k0_pay28 (relu3 x0 x2 a3) (k0_pay26 (dOutB x0 x1 x2 a0 a1 a2 a3 b0 b1 b2 b3) b3) k0_pay27
abbrev dNormed3 : FVec Ideal S256x1024 .f32 := k0_pay25 (relu1 x0 x2 a1) (relu2 x0 x2 a2) (dOutB x0 x1 x2 a0 a1 a2 a3 b0 b1 b2 b3) k0_pay20
  (dPre0 x0 x1 x2 a0 a1 a2 a3 b0 b1 b2 b3) (k0_pay22 a0) b1 a1 b2 a2
abbrev dNormedB : FVec Ideal S256x1024 .f32 := k0_pay29 (relu3 x0 x2 a3) (dNormed3 x0 x1 x2 a0 a1 a2 a3 b0 b1 b2 b3)
  (k0_pay26 (dOutB x0 x1 x2 a0 a1 a2 a3 b0 b1 b2 b3) b3) k0_pay27 a3

variable {x0 x1 x2 a0 a1 a2 a3 b0 b1 b2 b3}
variable {X Y : FVec Ideal S4096x1024 .f32} {G : FVec Ideal S1024 .f32} {WU : FVec Ideal S1024x4096 .f32} {WD : FVec Ideal S4096x1024 .f32}
  {i : Fin 4096} {r : Fin 256} (h : Reads x0 x1 x2 a0 a1 a2 a3 b0 b1 b2 b3 X Y G WU WD i r)
include h

theorem normed_at (j : Fin 1024) : k0_pay3 (F := Ideal) x0 x2 (ix2 r j) = normed X G (ix2 i j) := by
  pointwise [k0_pay3, k0_pay2, normed, unit, meanSq, scale]
  simp only [h.x, h.g, Norm.div_1024]
theorem relu0_at (k : Fin 1024) : relu0 x0 x2 a0 (ix2 r k) = relu X G WU (ix2 i ⟨k, by omega⟩) := by
  rw [relu_apply]
  pointwise [k0_pay4]
  simp only [normed_at h, h.up0]
theorem relu1_at (k : Fin 1024) : relu1 x0 x2 a1 (ix2 r k) = relu X G WU (ix2 i ⟨1024 + k, by omega⟩) := by
  rw [relu_apply]
  pointwise [k0_pay8, k0_pay7]
  simp only [normed_at h, h.up1]
theorem relu2_at (k : Fin 1024) : relu2 x0 x2 a2 (ix2 r k) = relu X G WU (ix2 i ⟨2048 + k, by omega⟩) := by
  rw [relu_apply]
  pointwise [k0_pay10]
  simp only [normed_at h, h.up2]
theorem relu3_at (k : Fin 1024) : relu3 x0 x2 a3 (ix2 r k) = relu X G WU (ix2 i ⟨3072 + k, by omega⟩) := by
  rw [relu_apply]
  pointwise [k0_pay13]
  simp only [normed_at h, h.up3]
theorem hidden0_at (k : Fin 1024) : k0_pay5 (F := Ideal) x0 x2 a0 (ix2 r k) = hid X G WU (ix2 i ⟨k, by omega⟩) := by
  pointwise [k0_pay5, hid]
  simp only [relu0_at h]
theorem hidden1_at (k : Fin 1024) : k0_pay9 (F := Ideal) (k0_pay3 x0 x2) (k0_pay7 a1) (constant S256x1024 .f32 0x00000000#32) (ix2 r k) = hid X G WU (ix2 i ⟨1024 + k, by omega⟩) := by
  pointwise [k0_pay9, hid]
  simp only [relu1_at h]
theorem hidden2_at (k : Fin 1024) : k0_pay11 (F := Ideal) (k0_pay3 x0 x2) a2 (ix2 r k) = hid X G WU (ix2 i ⟨2048 + k, by omega⟩) := by
  pointwise [k0_pay11, hid]
  simp only [relu2_at h]
theorem hidden3_at (k : Fin 1024) : k0_pay14 (F := Ideal) (k0_pay3 x0 x2) a3 (ix2 r k) = hid X G WU (ix2 i ⟨3072 + k, by omega⟩) := by
  pointwise [k0_pay14, hid]
  simp only [relu3_at h]
theorem err_at (k : Fin 1024) : errB x0 x1 x2 a0 a1 a2 a3 b0 b1 b2 b3 (ix2 r k) = err X Y G WU WD (ix2 i k) := by
  rw [err_apply, sum_quarters]
  pointwise [k0_pay15, k0_pay12, k0_pay6]
  simp only [hidden0_at h, hidden1_at h, hidden2_at h, hidden3_at h, h.x, h.y, h.down0, h.down1, h.down2, h.down3, add_assoc]
theorem dOut_at (k : Fin 1024) : dOutB x0 x1 x2 a0 a1 a2 a3 b0 b1 b2 b3 (ix2 r k) = dOut X Y G WU WD (ix2 i k) := by
  rw [dOut_apply]
  pointwise [k0_pay19, k0_pay18]
  simp only [err_at h]
theorem dPre0_at (k : Fin 1024) : dPre0 x0 x1 x2 a0 a1 a2 a3 b0 b1 b2 b3 (ix2 r k) = dPre X Y G WU WD (ix2 i ⟨k, by omega⟩) := by
  rw [dPre_apply]
  pointwise [k0_pay21]
  simp only [dOut_at h, relu0_at h, h.down0]
theorem dPre1_at (k : Fin 1024) : dPre1 x0 x1 x2 a0 a1 a2 a3 b0 b1 b2 b3 (ix2 r k) = dPre X Y G WU WD (ix2 i ⟨1024 + k, by omega⟩) := by
  rw [dPre_apply]
  pointwise [k0_pay23]
  simp only [dOut_at h, relu1_at h, h.down1]
theorem dPre2_at (k : Fin 1024) : dPre2 x0 x1 x2 a0 a1 a2 a3 b0 b1 b2 b3 (ix2 r k) = dPre X Y G WU WD (ix2 i ⟨2048 + k, by omega⟩) := by
  rw [dPre_apply]
  pointwise [k0_pay24]
  simp only [dOut_at h, relu2_at h, h.down2]
theorem dPre3_at (k : Fin 1024) : dPre3 x0 x1 x2 a0 a1 a2 a3 b0 b1 b2 b3 (ix2 r k) = dPre X Y G WU WD (ix2 i ⟨3072 + k, by omega⟩) := by
  rw [dPre_apply]
  pointwise [k0_pay28, k0_pay26, k0_pay27]
  simp only [dOut_at h, relu3_at h, h.down3]
theorem dNormed_at (j : Fin 1024) : dNormedB x0 x1 x2 a0 a1 a2 a3 b0 b1 b2 b3 (ix2 r j) = dNormed X Y G WU WD (ix2 i j) := by
  pointwise [dNormed]
  rw [sum_quarters]
  pointwise [k0_pay29, k0_pay25, k0_pay22, k0_pay20]
  simp only [dPre0_at h, dPre1_at h, dPre2_at h, dPre3_at h, h.up0, h.up1, h.up2, h.up3, zero_add]
theorem dRows_at (j : Fin 1024) :
    k0_pay32 x0 (k0_pay2 x2) (relu3 x0 x2 a3) (k0_pay18 (sum3 x0 x2 a0 a1 a2 b0 b1 b2) (k0_pay14 (k0_pay3 x0 x2) a3) b3 x1)
      (dNormed3 x0 x1 x2 a0 a1 a2 a3 b0 b1 b2 b3) (k0_pay26 (dOutB x0 x1 x2 a0 a1 a2 a3 b0 b1 b2 b3) b3) k0_pay27 a3 (ix2 r j)
    = dRows X G (dOut X Y G WU WD) (dNormed X Y G WU WD) (ix2 i j) := by
  rw [dRows_apply]
  have e := dOut_at h j
  pointwise [k0_pay19] at e
  pointwise [k0_pay32, k0_pay31, k0_pay30, k0_pay2, meanSq]
  simp only [e, dNormed_at h, h.x, h.g, Norm.div_1024]
omit h
theorem loss_at {i : Fin 256 → Fin 4096} (h : ∀ r, Reads x0 x1 x2 a0 a1 a2 a3 b0 b1 b2 b3 X Y G WU WD (i r) r) (j : Fin 8) (k : Fin 128) :
    k0_pay16 (sum3 x0 x2 a0 a1 a2 b0 b1 b2) (k0_pay14 (k0_pay3 x0 x2) a3) b3 x1 (ix2 j k)
      = ∑ r, (∑ l, err X Y G WU WD (ix2 (i r) l) * err X Y G WU WD (ix2 (i r) l)) * Ideal.ofBits .f32 0x3A000000#32 := by
  rw [← Norm.sum_mul_of_nonneg _ _ (by rw [Norm.ofBits_inv_2048]; exact EReal.coe_nonneg.mpr (by norm_num))
    (by rw [Norm.ofBits_inv_2048]; exact EReal.coe_ne_top _)]
  pointwise [k0_pay16]
  simp only [err_at (h _)]
theorem dScale_at {i : Fin 256 → Fin 4096} (h : ∀ r, Reads x0 x1 x2 a0 a1 a2 a3 b0 b1 b2 b3 X Y G WU WD (i r) r) (j : Fin 1024) :
    k0_pay33 x0 (relu3 x0 x2 a3) (dNormed3 x0 x1 x2 a0 a1 a2 a3 b0 b1 b2 b3) (k0_pay26 (dOutB x0 x1 x2 a0 a1 a2 a3 b0 b1 b2 b3) b3) k0_pay27 a3 (ix2 0 j)
      = ∑ r, unit X (ix2 (i r) j) * dNormed X Y G WU WD (ix2 (i r) j) := by
  pointwise [k0_pay33, k0_pay31, k0_pay30, meanSq, unit]
  simp only [dNormed_at (h _), (h _).x, Norm.div_1024]
  exact Finset.sum_congr rfl fun r _ => mul_comm (_ : EReal) _
end

theorem load0 {e : EltTy} (f : S4x1024x1024.Idx → Elt Ideal e) (j k : Fin 1024) :
    View.ld (Val := Elt Ideal) f (Rect.unit (s := S4x1024x1024) ![0, 0, 0] ![1, 1024, 1024] inb_S4x1024x1024_S1x1024x1024_0_0_0) (ix3 0 j k)
      = f (ix3 0 j k) := by
  refine congrArg f (funext fun d => Fin.ext ?_)
  match d with
  | 0 => rfl
  | 1 => exact (Nat.zero_add _).trans (Nat.one_mul _)
  | 2 => exact (Nat.zero_add _).trans (Nat.one_mul _)
theorem load1 {e : EltTy} (f : S4x1024x1024.Idx → Elt Ideal e) (j k : Fin 1024) :
    View.ld (Val := Elt Ideal) f (Rect.unit (s := S4x1024x1024) ![1, 0, 0] ![1, 1024, 1024] inb_S4x1024x1024_S1x1024x1024_1_0_0) (ix3 0 j k)
      = f (ix3 1 j k) := by
  refine congrArg f (funext fun d => Fin.ext ?_)
  match d with
  | 0 => rfl
  | 1 => exact (Nat.zero_add _).trans (Nat.one_mul _)
  | 2 => exact (Nat.zero_add _).trans (Nat.one_mul _)
theorem load2 {e : EltTy} (f : S4x1024x1024.Idx → Elt Ideal e) (j k : Fin 1024) :
    View.ld (Val := Elt Ideal) f (Rect.unit (s := S4x1024x1024) ![2, 0, 0] ![1, 1024, 1024] inb_S4x1024x1024_S1x1024x1024_2_0_0) (ix3 0 j k)
      = f (ix3 2 j k) := by
  refine congrArg f (funext fun d => Fin.ext ?_)
  match d with
  | 0 => rfl
  | 1 => exact (Nat.zero_add _).trans (Nat.one_mul _)
  | 2 => exact (Nat.zero_add _).trans (Nat.one_mul _)
theorem load3 {e : EltTy} (f : S4x1024x1024.Idx → Elt Ideal e) (j k : Fin 1024) :
    View.ld (Val := Elt Ideal) f (Rect.unit (s := S4x1024x1024) ![3, 0, 0] ![1, 1024, 1024] inb_S4x1024x1024_S1x1024x1024_3_0_0) (ix3 0 j k)
      = f (ix3 3 j k) := by
  refine congrArg f (funext fun d => Fin.ext ?_)
  match d with
  | 0 => rfl
  | 1 => exact (Nat.zero_add _).trans (Nat.one_mul _)
  | 2 => exact (Nat.zero_add _).trans (Nat.one_mul _)

/-- What grid point `t` reads. -/
theorem reads (c : Dev nD) (t : Fin cfg0.N) (r : Fin 256) : Reads (iblk m c 0 t) (iblk m c 1 t) (iblk m c 2 t)
    (View.ld (X0_3 m c t) (Rect.unit ![0, 0, 0] ![1, 1024, 1024] inb_S4x1024x1024_S1x1024x1024_0_0_0))
    (View.ld (X0_3 m c t) (Rect.unit ![1, 0, 0] ![1, 1024, 1024] inb_S4x1024x1024_S1x1024x1024_1_0_0))
    (View.ld (X0_3 m c t) (Rect.unit ![2, 0, 0] ![1, 1024, 1024] inb_S4x1024x1024_S1x1024x1024_2_0_0))
    (View.ld (X0_3 m c t) (Rect.unit ![3, 0, 0] ![1, 1024, 1024] inb_S4x1024x1024_S1x1024x1024_3_0_0))
    (View.ld (X0_4 m c t) (Rect.unit ![0, 0, 0] ![1, 1024, 1024] inb_S4x1024x1024_S1x1024x1024_0_0_0))
    (View.ld (X0_4 m c t) (Rect.unit ![1, 0, 0] ![1, 1024, 1024] inb_S4x1024x1024_S1x1024x1024_1_0_0))
    (View.ld (X0_4 m c t) (Rect.unit ![2, 0, 0] ![1, 1024, 1024] inb_S4x1024x1024_S1x1024x1024_2_0_0))
    (View.ld (X0_4 m c t) (Rect.unit ![3, 0, 0] ![1, 1024, 1024] inb_S4x1024x1024_S1x1024x1024_3_0_0))
    (X m c) (Y m c) (G m c) (WU m c) (WD m c) (row t r) r where
  x := iblk0 m c t r
  y := iblk1 m c t r
  g := iblk2 m c t
  up0 j k := (load0 _ j k).trans (iblk3 m c t 0 j k (by simp))
  up1 j k := (load1 _ j k).trans (iblk3 m c t 1 j k (by simp))
  up2 j k := (load2 _ j k).trans (iblk3 m c t 2 j k (by simp))
  up3 j k := (load3 _ j k).trans (iblk3 m c t 3 j k (by simp))
  down0 j k := (load0 _ j k).trans (iblk4 m c t 0 j k (by simp))
  down1 j k := (load1 _ j k).trans (iblk4 m c t 1 j k (by simp))
  down2 j k := (load2 _ j k).trans (iblk4 m c t 2 j k (by simp))
  down3 j k := (load3 _ j k).trans (iblk4 m c t 3 j k (by simp))

/-! ## The results -/

theorem final5 (c : Dev nD) : (dats m 0 c).arrAt 5 cfg0.N
    = dRows (X m c) (G m c) (dOut (X m c) (Y m c) (G m c) (WU m c) (WD m c)) (dNormed (X m c) (Y m c) (G m c) (WU m c) (WD m c)) := by
  refine (dats m 0 c).arrAt_eq_of_covers 5 _ (by decide +kernel) fun t _ y => ?_
  blk_simp
  rw [after0_5]
  idx_vars y
  have e : ((View.whole main_v8_0).slice (win0_5.rect t)).emb (ix2 y0 y1) = ix2 (row t y0) y1 := by blk_ext [idx t]
  rw [e]
  rcases first_or_later t with ⟨e0, e1⟩ | ⟨e0, e1⟩
  · rw [outsAt0_A m c t e0 e1 e0 e1]; frame_out
    exact dRows_at (reads m c t y0) y1
  · rw [outsAt0_B m c t e0 e1 e0 e1]; frame_out
    exact dRows_at (reads m c t y0) y1

theorem final6 (c : Dev nD) : (dats m 0 c).arrAt 6 cfg0.N = truncf .bf16 (normed (X m c) (G m c)) Gen.bitsLt_bf16_f32 := by
  refine (dats m 0 c).arrAt_eq_of_covers 6 _ (by decide +kernel) fun t _ y => ?_
  blk_simp
  rw [after0_6]
  idx_vars y
  have e : ((View.whole main_v8_1).slice (win0_6.rect t)).emb (ix2 y0 y1) = ix2 (row t y0) y1 := by blk_ext [idx t]
  rw [e]
  rcases first_or_later t with ⟨e0, e1⟩ | ⟨e0, e1⟩
  · rw [outsAt0_A m c t e0 e1 e0 e1]; frame_out
    exact normed_at (reads m c t y0) y1
  · rw [outsAt0_B m c t e0 e1 e0 e1]; frame_out
    exact normed_at (reads m c t y0) y1

theorem at_column (f : FVec Ideal S4096x4096 .bf16) (i : Fin 4096) {k l : Fin 4096} (h : k.val = l.val) : f (ix2 i k) = f (ix2 i l) := by
  rw [Fin.ext h]

theorem final7 (c : Dev nD) : (dats m 0 c).arrAt 7 cfg0.N = truncf .bf16 (dPre (X m c) (Y m c) (G m c) (WU m c) (WD m c)) Gen.bitsLt_bf16_f32 := by
  refine (dats m 0 c).arrAt_eq_of_covers 7 _ (by decide +kernel) fun t _ y => ?_
  blk_simp
  rw [after0_7]
  idx_vars y
  have e : ((View.whole main_v8_2).slice (win0_7.rect t)).emb (ix2 y0 y1) = ix2 (row t y0) y1 := by blk_ext [idx t]
  rw [e]
  rcases first_or_later t with ⟨e0, e1⟩ | ⟨e0, e1⟩
  · rw [outsAt0_A m c t e0 e1 e0 e1]; frame_out
    canon_tiles x h
    all_goals idx_vars x
    all_goals obtain rfl := Fin.ext h0
    · exact (dPre3_at (reads m c t _) x1).trans (at_column _ _ (by dsimp only; omega))
    · exact (dPre2_at (reads m c t _) x1).trans (at_column _ _ (by dsimp only; omega))
    · exact (dPre1_at (reads m c t _) x1).trans (at_column _ _ (by dsimp only; omega))
    · exact (dPre0_at (reads m c t _) x1).trans (at_column _ _ (by dsimp only; omega))
  · rw [outsAt0_B m c t e0 e1 e0 e1]; frame_out
    canon_tiles x h
    all_goals idx_vars x
    all_goals obtain rfl := Fin.ext h0
    · exact (dPre3_at (reads m c t _) x1).trans (at_column _ _ (by dsimp only; omega))
    · exact (dPre2_at (reads m c t _) x1).trans (at_column _ _ (by dsimp only; omega))
    · exact (dPre1_at (reads m c t _) x1).trans (at_column _ _ (by dsimp only; omega))
    · exact (dPre0_at (reads m c t _) x1).trans (at_column _ _ (by dsimp only; omega))

theorem final8 (c : Dev nD) : (dats m 0 c).arrAt 8 cfg0.N = truncf .bf16 (hid (X m c) (G m c) (WU m c)) Gen.bitsLt_bf16_f32 := by
  refine (dats m 0 c).arrAt_eq_of_covers 8 _ (by decide +kernel) fun t _ y => ?_
  blk_simp
  rw [after0_8]
  idx_vars y
  have e : ((View.whole main_v8_3).slice (win0_8.rect t)).emb (ix2 y0 y1) = ix2 (row t y0) y1 := by blk_ext [idx t]
  rw [e]
  rcases first_or_later t with ⟨e0, e1⟩ | ⟨e0, e1⟩
  · rw [outsAt0_A m c t e0 e1 e0 e1]; frame_out
    canon_tiles x h
    all_goals idx_vars x
    all_goals obtain rfl := Fin.ext h0
    · exact (hidden3_at (reads m c t _) x1).trans (at_column _ _ (by dsimp only; omega))
    · exact (hidden2_at (reads m c t _) x1).trans (at_column _ _ (by dsimp only; omega))
    · exact (hidden1_at (reads m c t _) x1).trans (at_column _ _ (by dsimp only; omega))
    · exact (hidden0_at (reads m c t _) x1).trans (at_column _ _ (by dsimp only; omega))
  · rw [outsAt0_B m c t e0 e1 e0 e1]; frame_out
    canon_tiles x h
    all_goals idx_vars x
    all_goals obtain rfl := Fin.ext h0
    · exact (hidden3_at (reads m c t _) x1).trans (at_column _ _ (by dsimp only; omega))
    · exact (hidden2_at (reads m c t _) x1).trans (at_column _ _ (by dsimp only; omega))
    · exact (hidden1_at (reads m c t _) x1).trans (at_column _ _ (by dsimp only; omega))
    · exact (hidden0_at (reads m c t _) x1).trans (at_column _ _ (by dsimp only; omega))

theorem final9 (c : Dev nD) : (dats m 0 c).arrAt 9 cfg0.N = truncf .bf16 (dOut (X m c) (Y m c) (G m c) (WU m c) (WD m c)) Gen.bitsLt_bf16_f32 := by
  refine (dats m 0 c).arrAt_eq_of_covers 9 _ (by decide +kernel) fun t _ y => ?_
  blk_simp
  rw [after0_9]
  idx_vars y
  have e : ((View.whole main_v8_4).slice (win0_9.rect t)).emb (ix2 y0 y1) = ix2 (row t y0) y1 := by blk_ext [idx t]
  rw [e]
  rcases first_or_later t with ⟨e0, e1⟩ | ⟨e0, e1⟩
  · rw [outsAt0_A m c t e0 e1 e0 e1]; frame_out
    exact dOut_at (reads m c t y0) y1
  · rw [outsAt0_B m c t e0 e1 e0 e1]; frame_out
    exact dOut_at (reads m c t y0) y1

theorem added10 (v53 : FVec Ideal S256x1024 .f32) (v60 : FVec Ideal S256x1024 .bf16) (v62 : FVec Ideal S1x1024x1024 .bf16) (v66 : FVec Ideal S256x1024 .f32)
    (p : FVec Ideal S8x128 .f32) (j : Fin 8) (k : Fin 128) : k0_pay17 v53 v60 v62 v66 p (ix2 j k) = p (ix2 j k) + k0_pay16 v53 v60 v62 v66 (ix2 j k) := by
  pointwise [k0_pay17]
theorem added11 (p v : FVec Ideal S1x1024 .f32) (j : Fin 1024) : k0_pay1 v p (ix2 0 j) = p (ix2 0 j) + v (ix2 0 j) := by
  pointwise [k0_pay1]

theorem final10 (c : Dev nD) : (dats m 0 c).arrAt 10 cfg0.N = loss (X m c) (Y m c) (G m c) (WU m c) (WD m c) := by
  refine (dats m 0 c).arrAt_eq_of_after_last 10 t0_15 (by decide +kernel) _ fun y => ?_
  blk_simp
  rw [after0_10, Pipeline.eq_sum_fin_of_reset_step_apply_last (fun n h => (outsAt0 m c n h).2.2.2.2.2.1) 16 (fun _ => 0)
    (fun p j => ∑ r : Fin 256, ((∑ l, err (X m c) (Y m c) (G m c) (WU m c) (WD m c) (ix2 (row p r) l)
      * err (X m c) (Y m c) (G m c) (WU m c) (WD m c) (ix2 (row p r) l)) * Ideal.ofBits .f32 0x3A000000#32 : EReal))
    (fun t e0 j => by
      have e1 : ¬1 ≤ t.val := by have := first_or_later t; omega
      rw [outsAt0_A m c t e0 e1 e0 e1]; frame_out
      idx_vars j
      exact (loss_at (fun r => reads m c t r) j0 j1).trans (zero_add (_ : EReal)).symm)
    (fun t e0 j => by
      have e1 : 1 ≤ t.val := by have := first_or_later t; omega
      rw [outsAt0_B m c t e0 e1 e0 e1]; frame_out
      idx_vars j
      refine (added10 _ _ _ _ _ j0 j1).trans ?_
      exact congrArg (((outsAt0 m c (t.val - 1) _).2.2.2.2.2.1 (ix2 j0 j1) : EReal) + ·) (loss_at (fun r => reads m c t r) j0 j1))
    (le_of_eq N_0) t0_15 rfl y]
  idx_vars y
  rw [zero_add, loss_apply]
  exact Fin.sum_mul_add_congr fun p r h => rfl

theorem final11 (c : Dev nD) : (dats m 0 c).arrAt 11 cfg0.N = dScale (X m c) (dNormed (X m c) (Y m c) (G m c) (WU m c) (WD m c)) := by
  refine (dats m 0 c).arrAt_eq_of_after_last 11 t0_15 (by decide +kernel) _ fun y => ?_
  blk_simp
  rw [after0_11, Pipeline.eq_sum_fin_of_reset_step_apply_last (fun n h => (outsAt0 m c n h).2.2.2.2.2.2) 16 (fun _ => 0)
    (fun p j => ∑ r : Fin 256, (unit (X m c) (ix2 (row p r) (j 1)) * dNormed (X m c) (Y m c) (G m c) (WU m c) (WD m c) (ix2 (row p r) (j 1)) : EReal))
    (fun t e0 j => by
      have e1 : ¬1 ≤ t.val := by have := first_or_later t; omega
      rw [outsAt0_A m c t e0 e1 e0 e1]; frame_out
      idx_vars j
      obtain rfl := Subsingleton.elim j0 0
      exact (dScale_at (fun r => reads m c t r) j1).trans (zero_add (_ : EReal)).symm)
    (fun t e0 j => by
      have e1 : 1 ≤ t.val := by have := first_or_later t; omega
      rw [outsAt0_B m c t e0 e1 e0 e1]; frame_out
      idx_vars j
      obtain rfl := Subsingleton.elim j0 0
      refine (added11 _ _ j1).trans ?_
      exact congrArg (((outsAt0 m c (t.val - 1) _).2.2.2.2.2.2 (ix2 0 j1) : EReal) + ·) (dScale_at (fun r => reads m c t r) j1))
    (le_of_eq N_0) t0_15 rfl y]
  idx_vars y
  obtain rfl := Subsingleton.elim y0 0
  rw [zero_add, Cert.InReferenceIdeal.In.dScale_apply]
  exact Fin.sum_mul_add_congr fun p r h => rfl

end Cert.MlpKernelIdeal.Mlp

end

end
-- ==== Proof.MlpClaim.lean ====
module

public import proofs.«01_k».proof.Proof.Mlp
public import proofs.«01_k».proof.Proof.Gen.MlpReferenceIdeal.Run

@[expose] public section

set_option maxRecDepth 16384

noncomputable section

open Idealize.ShloMosaic Idealize.ShloMosaic.TcCoe Idealize.SL.Sem

namespace Cert.MlpReferenceIdeal.Mlp

open Cert.MlpReferenceIdeal
open Cert.InReferenceIdeal.In (dRows dScale)

variable (m : (ℓ : Loc nD τ sig) → Buf (Elt Ideal) ℓ) (c : Dev nD)

abbrev X : FVec Ideal S4096x1024 .f32 := m ((c : Thread nD τ).loc main_arg0)
abbrev Y : FVec Ideal S4096x1024 .f32 := m ((c : Thread nD τ).loc main_arg1)
abbrev G : FVec Ideal S1024 .f32 := m ((c : Thread nD τ).loc main_arg2)
abbrev WU : FVec Ideal S1024x4096 .f32 := m ((c : Thread nD τ).loc main_arg3)
abbrev WD : FVec Ideal S4096x1024 .f32 := m ((c : Thread nD τ).loc main_arg4)

theorem run_dRows : Value.res_main_v70 m c
    = dRows (X m c) (G m c) (dOut (X m c) (Y m c) (G m c) (WU m c) (WD m c)) (dNormed (X m c) (Y m c) (G m c) (WU m c) (WD m c)) := rfl
theorem run_dPre : Value.res_main_v72 m c = truncf .bf16 (dPre (X m c) (Y m c) (G m c) (WU m c) (WD m c)) Gen.bitsLt_bf16_f32 := rfl
theorem run_loss : Value.res_main_v75 m c = loss (X m c) (Y m c) (G m c) (WU m c) (WD m c) := rfl
theorem run_dScale : Value.res_main_v76 m c = dScale (X m c) (dNormed (X m c) (Y m c) (G m c) (WU m c) (WD m c)) := rfl

end Cert.MlpReferenceIdeal.Mlp

namespace Cert.MlpKernelIdeal.Mlp

/-- The kernel of the loss and of the squared rectifier's layer, with its norm, computes what `jax.vjp` gives. -/
theorem algebraic : Cert.algebraic_MlpKernelIdeal_MlpReferenceIdeal := by
  intro m g m' g' _ hm
  refine ⟨_, _, _, _, _, _, _, (θ_run _ _ _).mono (fun r h c => ⟨(h.1 c).1 5, (h.1 c).1 6, (h.1 c).1 7, (h.1 c).1 8, (h.1 c).1 9, (h.1 c).1 10, (h.1 c).1 11, h.2 c⟩)
    (θ_run_and (Cert.MlpKernelIdeal.Gen.run_main m g) (Cert.MlpKernelIdeal.Gen.unchanged m g)), ?_⟩
  refine (θ_run _ _ _).mono (fun r h c => ?_) (Cert.MlpReferenceIdeal.Value.run m' g')
  obtain ⟨h0, h1, h2, h3, h4, -⟩ := hm c
  obtain ⟨r0, r1, r2, r3, r4, r5, r6, rest⟩ := h c
  rw [MlpReferenceIdeal.Mlp.run_dRows] at r0
  rw [MlpReferenceIdeal.Mlp.run_dPre] at r2
  rw [MlpReferenceIdeal.Mlp.run_loss] at r5
  rw [MlpReferenceIdeal.Mlp.run_dScale] at r6
  simp only [MlpReferenceIdeal.Mlp.X, MlpReferenceIdeal.Mlp.Y, MlpReferenceIdeal.Mlp.G, MlpReferenceIdeal.Mlp.WU, MlpReferenceIdeal.Mlp.WD,
    h0, h1, h2, h3, h4] at r0 r1 r2 r3 r4 r5 r6
  exact ⟨r0.trans (final5 m c).symm, r1.trans (final6 m c).symm, r2.trans (final7 m c).symm, r3.trans (final8 m c).symm,
    r4.trans (final9 m c).symm, r5.trans (final10 m c).symm, r6.trans (final11 m c).symm, rest⟩

theorem frame_reference : Cert.quiescent_MlpReferenceIdeal := by
  intro m ρ _
  exact (θ_run _ _ _).mono (fun r h => ⟨fun c => (h c).2.2.2.2.2.2.2, sem_eq_zero_of_no_sems (by decide) r.2⟩)
    (Cert.MlpReferenceIdeal.Value.run m ρ)

end Cert.MlpKernelIdeal.Mlp

end

end
-- ==== Proof.MlaBody.lean ====
module

public import proofs.«01_k».proof.Proof.Gen.MlaKernelIdeal.Frame.Runs
public import Idealize.ShloMosaic.Lib.Claim

@[expose] public section

/-! The run of the latent projections' backward call: every point runs, leaves the blocks it reads as they were and
whatever it computes in the others, so a run ends with every argument as it was and every semaphore at zero. -/

set_option maxRecDepth 16384

noncomputable section

namespace Cert.MlaKernelIdeal.Mla

open Cert.MlaKernelIdeal Cert.MlaKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer with something in it. -/
abbrev held (c : Dev nD) {S : Shape} {e : EltTy} (r : Memref sig .tc .vmem S e) : sProp 𝕄 := iprop(∃ d, owns (c : Thread nD τ) r fullShare d)

theorem held_of (c : Dev nD) {S : Shape} {e : EltTy} (r : Memref sig .tc .vmem S e) (f : BufTy.Contents (Elt F) r.view.ty) :
    (r.view.loc (c : Thread nD τ) ↦[r.view.set]{fullShare} f : sProp 𝕄) ⊢ iprop(∃ d f, ⌜View.read (Elt F) r.view f = d⌝ ∗ r.view.loc (c : Thread nD τ) ↦[r.view.set]{fullShare} f) := by
  iintro H
  iexists _; iexists f; isplitr; · ipureintro; rfl
  iexact H

/-- The body's tests ask for the grid's first point, or for a later one. -/
def atFirst (i : grid0.Coords) : Prop :=
  cond0_0 i ∧ ¬cond0_1 i ∧ cond0_2 i ∧ ¬cond0_3 i ∧ cond0_4 i ∧ ¬cond0_5 i ∧ cond0_6 i ∧ ¬cond0_7 i
def atLater (i : grid0.Coords) : Prop :=
  ¬cond0_0 i ∧ cond0_1 i ∧ ¬cond0_2 i ∧ cond0_3 i ∧ ¬cond0_4 i ∧ cond0_5 i ∧ ¬cond0_6 i ∧ cond0_7 i

theorem first_or_later (t : Fin cfg0.N) : atFirst (grid0.coords t) ∨ atLater (grid0.coords t) := by
  have ht : t.val < 8 := Nat.lt_of_lt_of_eq t.isLt N_0
  unfold atFirst atLater
  rw [hcond0_0 t, hcond0_1 t, hcond0_2 t, hcond0_3 t, hcond0_4 t, hcond0_5 t, hcond0_6 t, hcond0_7 t]
  omega

set_option maxHeartbeats 16000000 in
/-- The body at a point: the blocks it reads come back as they were, the others hold something. -/
theorem point_sound (c : Dev nD) (i : grid0.Coords) (hi : atFirst i ∨ atLater i)
    (arg1 : Memref sig .tc .vmem S512x768 .f32) (harg1 : arg1.IsWhole) (arg2 : Memref sig .tc .vmem S512x1 .i32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x384 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S384x2048 .bf16) (harg9 : arg9.IsWhole) (arg10 : Memref sig .tc .vmem S4x256x512 .bf16) (harg10 : arg10.IsWhole) (arg11 : Memref sig .tc .vmem S8x512x256 .f32) (harg11 : arg11.IsWhole) (arg12 : Memref sig .tc .vmem S8x512x256 .f32) (harg12 : arg12.IsWhole) (arg13 : Memref sig .tc .vmem S8x512x128 .f32) (harg13 : arg13.IsWhole) (arg15 : Memref sig .tc .vmem S512x768 .bf16) (harg15 : arg15.IsWhole) (arg16 : Memref sig .tc .vmem S512x384 .bf16) (harg16 : arg16.IsWhole) (arg17 : Memref sig .tc .vmem S512x2048 .bf16) (harg17 : arg17.IsWhole) (arg18 : Memref sig .tc .vmem S512x256 .bf16) (harg18 : arg18.IsWhole) (arg19 : Memref sig .tc .vmem S512x2048 .bf16) (harg19 : arg19.IsWhole) (arg20 : Memref sig .tc .vmem S1x384 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole)
    (x0 : Vec F S512x768 .f32) (x1 : Vec F S512x1 .i32) (x2 : Vec F S1x128 .f32) (x3 : Vec F S1x128 .f32) (x4 : Vec F S1x384 .f32) (x5 : Vec F S1x256 .f32) (x6 : Vec F S1x256 .f32) (x7 : Vec F S1x256 .f32) (x8 : Vec F S384x2048 .bf16) (x9 : Vec F S4x256x512 .bf16) (x10 : Vec F S8x512x256 .f32) (x11 : Vec F S8x512x256 .f32) (x12 : Vec F S8x512x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ held c arg15 ∗ held c arg16 ∗ held c arg17 ∗ held c arg18 ∗ held c arg19 ∗ held c arg20 ∗ held c arg21 ∗ held c arg22 ∗ held c arg23
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ held c arg15 ∗ held c arg16 ∗ held c arg17 ∗ held c arg18 ∗ held c arg19 ∗ held c arg20 ∗ held c arg21 ∗ held c arg22 ∗ held c arg23) -∗ K ⟨⟩))
      ⊢ wp frame (wpE (defs₀ (F := F)) Variants.none c none) E (cc0_mla_pre_bwd i arg1 harg1 arg2 harg2 arg3 harg3 arg4 harg4 arg5 harg5 arg6 harg6 arg7 harg7 arg8 harg8 arg9 harg9 arg10 harg10 arg11 harg11 arg12 harg12 arg13 harg13 (Memref.whole main_v38) (Memref.isWhole_whole _) arg15 harg15 arg16 harg16 arg17 harg17 arg18 harg18 arg19 harg19 arg20 harg20 arg21 harg21 arg22 harg22 arg23 harg23) K := by
  simp only [cc0_mla_pre_bwd_eq_skeleton]; unfold cc0_mla_pre_bwd_skel
  simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  obtain ⟨hc0, hc1, hc2, hc3, hc4, hc5, hc6, hc7⟩ | ⟨hc0, hc1, hc2, hc3, hc4, hc5, hc6, hc7⟩ := hi <;>
  ( sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iapply held_of; iexact H13
    isplitl [H14]
    · iapply held_of; iexact H14
    isplitl [H15]
    · iapply held_of; iexact H15
    isplitl [H16]
    · iapply held_of; iexact H16
    isplitl [H17]
    · iapply held_of; iexact H17
    isplitl [H18]
    · iapply held_of; iexact H18
    isplitl [H19]
    · iapply held_of; iexact H19
    isplitl [H20]
    · iapply held_of; iexact H20
    iapply held_of; iexact H21)

section Frame

variable (m : (ℓ : Loc nD τ sig) → Buf (Elt F) ℓ) (ρ : Dev nD → PrngReg)

/-- The results: what a point leaves in them is not named. -/
def results : Fin cfg0.W → Bool := fun w => decide (13 ≤ w.val)

/-- The proof data: the arrays as the region finds them; the inputs hold their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => X0_9 m c t
    | ⟨10, _⟩ => iblk m c 10 t
    | ⟨11, _⟩ => iblk m c 11 t
    | ⟨12, _⟩ => iblk m c 12 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = X0_9 m c t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation and the run -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ held c (st0_13 t) ∗ held c (st0_14 t) ∗ held c (st0_15 t) ∗ held c (st0_16 t) ∗ held c (st0_17 t) ∗ held c (st0_18 t) ∗ held c (st0_19 t) ∗ held c (st0_20 t) ∗ held c (st0_21 t))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ held c (st0_13 t) ∗ held c (st0_14 t) ∗ held c (st0_15 t) ∗ held c (st0_16 t) ∗ held c (st0_17 t) ∗ held c (st0_18 t) ∗ held c (st0_19 t) ∗ held c (st0_20 t) ∗ held c (st0_21 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, after0_0, after0_1, after0_2, after0_3, after0_4, after0_5, after0_6, after0_7, after0_8, after0_9, after0_10, after0_11, after0_12]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20, H21⟩
  iapply point_sound c (grid0.coords t) (first_or_later t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ results := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget results) (V m) r ∧ r.2.sem = fun _ => 0) :=
  Pipeline.θ_run_frame_forget (Q' := _) cfgs (dats m) (0 : Fin 1) launch0 defs₀ Variants.none results m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments come back as they went in, and every semaphore is at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) ∧ r.2.sem = fun _ => 0) :=
  (θ_run defs _ _).mono (fun r h => ⟨fun c => by
    have rest {b : Ref sig .tc} (hb : b ∈ Pipeline.restRefs sig spec0) := (h.1 c).2 b hb
    refine ⟨?_, ?_, ?_, ?_, ?_, ?_, ?_, ?_, ?_, ?_, ?_, ?_⟩
    · exact (rest (Pipeline.mem_restRefs_of main_arg0 (by decide) (by decide))).trans (V_main_arg0 m c)
    · exact (rest (Pipeline.mem_restRefs_of main_arg1 (by decide) (by decide))).trans (V_main_arg1 m c)
    · exact (rest (Pipeline.mem_restRefs_of main_arg2 (by decide) (by decide))).trans (V_main_arg2 m c)
    · exact (rest (Pipeline.mem_restRefs_of main_arg3 (by decide) (by decide))).trans (V_main_arg3 m c)
    · exact (rest (Pipeline.mem_restRefs_of main_arg4 (by decide) (by decide))).trans (V_main_arg4 m c)
    · exact (rest (Pipeline.mem_restRefs_of main_arg5 (by decide) (by decide))).trans (V_main_arg5 m c)
    · exact (rest (Pipeline.mem_restRefs_of main_arg6 (by decide) (by decide))).trans (V_main_arg6 m c)
    · exact (rest (Pipeline.mem_restRefs_of main_arg7 (by decide) (by decide))).trans (V_main_arg7 m c)
    · exact (rest (Pipeline.mem_restRefs_of main_arg8 (by decide) (by decide))).trans (V_main_arg8 m c)
    · exact (rest (Pipeline.mem_restRefs_of main_arg9 (by decide) (by decide))).trans (V_main_arg9 m c)
    · exact (rest (Pipeline.mem_restRefs_of main_arg10 (by decide) (by decide))).trans (V_main_arg10 m c)
    · exact (rest (Pipeline.mem_restRefs_of main_arg11 (by decide) (by decide))).trans (V_main_arg11 m c)
    , h.2⟩) (run_main m ρ)

end Frame

end Cert.MlaKernelIdeal.Mla

end

end
-- ==== Proof.MlaClaim.lean ====
module

public import proofs.«01_k».proof.Defs
public import proofs.«01_k».proof.Proof.Gen.MlaKernel
public import proofs.«01_k».proof.Proof.MlaBody
public import proofs.«01_k».proof.Proof.Gen.MlaReferenceIdeal.Run

@[expose] public section

set_option maxRecDepth 16384

noncomputable section

open Idealize.ShloMosaic Idealize.ShloMosaic.TcCoe Idealize.ShloMosaic.Tactic Idealize.SL.Sem

namespace Cert.MlaKernelIdeal.Mla

/-- A named constant read as the literal it stands for. -/
abbrev literals : Named Bits := ⟨fun _ _ _ b => FloatOps.ofBits _ b⟩

/-- The program is its idealization with the names read as the literals. -/
theorem main_eq : Cert.MlaKernel.main (F := Bits) = Cert.MlaKernelIdeal.main (F := Bits) := by sl_kernel_rfl
theorem defs_eq : Cert.MlaKernel.defs (F := Bits) = @Cert.MlaKernelIdeal.defs Bits _ literals _ := by sl_kernel_rfl

set_option maxHeartbeats 4000000 in
theorem frame_kernel : Cert.quiescent_MlaKernel := by
  intro m ρ _
  refine Eq.mp ?_ (@frame_run Bits _ literals m ρ)
  congr 1
  rw [show Cert.MlaKernel.main (F := Bits) = Cert.MlaKernelIdeal.main (F := Bits) from main_eq]
  exact congrArg (fun d => θ_run d _ _) defs_eq.symm

theorem frame_ideal : Cert.quiescent_MlaKernelIdeal := fun m ρ _ => frame_run m ρ
theorem frame_reference : Cert.quiescent_MlaReferenceIdeal := by
  intro m ρ _
  exact (θ_run _ _ _).mono (fun r h => ⟨fun c => (h c).2.2.2.2.2.2.2.2.2, sem_eq_zero_of_no_sems (by decide) r.2⟩)
    (Cert.MlaReferenceIdeal.Value.run m ρ)

/-- The two literals are the roundings of 1/384 and 1/192. -/
theorem preserves : Cert.preserves_MlaKernel_MlaKernelIdeal :=
  ⟨IdealRules.named_const.statement Cert.MlaKernelIdeal.κ "inv_384" .f32 0x3B2AAAAB#32 ((1 / 384 : ℝ) : EReal) rfl,
    IdealRules.named_const.statement Cert.MlaKernelIdeal.κ "inv_192" .f32 0x3BAAAAAB#32 ((1 / 192 : ℝ) : EReal) rfl⟩

end Cert.MlaKernelIdeal.Mla

end

end
-- ==== Proof.Softmax.lean ====
module

public import Idealize.ShloMosaic.Lib.Pointwise
public import Mathlib.Data.EReal.Inv

@[expose] public section

/-!
# A masked softmax row and its gradient, on real scores

A row's scores are real numbers, some of them masked by `⊥`; at least one is not. Subtracting any real number before the
exponential leaves the weights what they are, whether they are divided by the row's sum or the logarithm of that sum is
subtracted with the maximum.
-/

open Idealize.ShloMosaic

namespace Softmax

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a : ℝ) {b : ℝ} (h : b ≠ 0) : Ideal.div (a : EReal) (b : EReal) = ((a / b : ℝ) : EReal) := by
  rw [Ideal.div_coe h, ← EReal.coe_mul, mul_one_div]

variable {n : ℕ} (s : Fin n → ℝ) (keep : Fin n → Prop) [DecidablePred keep]

/-- The masked scores. -/
noncomputable def masked (c : Fin n) : EReal := if keep c then (s c : EReal) else ⊥
/-- The sum of the exponentials of the scores that are kept. -/
noncomputable def den : ℝ := ∑ c, if keep c then Real.exp (s c) else 0
/-- The weights. -/
noncomputable def weight (c : Fin n) : ℝ := if keep c then Real.exp (s c) / den s keep else 0
/-- The exponentials after subtracting `m`. -/
noncomputable def shifted (m : ℝ) (c : Fin n) : ℝ := if keep c then Real.exp (s c - m) else 0

variable {s keep}

theorem weight_of_not {c : Fin n} (h : ¬keep c) : weight s keep c = 0 := if_neg h

theorem den_pos (hk : ∃ c, keep c) : 0 < den s keep := by
  obtain ⟨c, hc⟩ := hk
  refine Finset.sum_pos' (fun i _ => ?_) ⟨c, Finset.mem_univ c, ?_⟩
  · split <;> positivity
  · rw [if_pos hc]; positivity

/-- A row's maximum is a real number. -/
theorem fold_max (hk : ∃ c, keep c) : ∃ m : ℝ, (Finset.univ : Finset (Fin n)).fold max ⊥ (masked s keep) = m := by
  obtain ⟨c, hc⟩ := hk
  have hle : masked s keep c ≤ Finset.univ.sup (masked s keep) := Finset.le_sup (Finset.mem_univ c)
  obtain ⟨i, -, hi⟩ := Finset.exists_mem_eq_sup Finset.univ ⟨c, Finset.mem_univ c⟩ (masked s keep)
  have hfold : (Finset.univ : Finset (Fin n)).fold max ⊥ (masked s keep) = Finset.univ.sup (masked s keep) := rfl
  by_cases h : keep i
  · exact ⟨s i, by rw [hfold, hi]; exact if_pos h⟩
  · rw [hi, show masked s keep i = ⊥ from if_neg h, show masked s keep c = s c from if_pos hc] at hle
    exact absurd (le_bot_iff.mp hle) (EReal.coe_ne_bot _)

theorem exp_masked (m : ℝ) (c : Fin n) : Ideal.exp (masked s keep c - (m : EReal)) = (shifted s keep m c : EReal) := by
  unfold masked shifted
  split
  · rw [← EReal.coe_sub, Ideal.exp_coe]
  · rw [EReal.bot_sub, Ideal.exp_bot, EReal.coe_zero]

theorem shifted_eq (m : ℝ) (c : Fin n) : shifted s keep m c = (if keep c then Real.exp (s c) else 0) / Real.exp m := by
  unfold shifted
  split
  · exact Real.exp_sub _ _
  · rw [zero_div]

theorem sum_shifted (m : ℝ) : ∑ c, shifted s keep m c = den s keep / Real.exp m := by
  simp only [shifted_eq, ← Finset.sum_div]
  rfl

theorem sum_shifted_pos (hk : ∃ c, keep c) (m : ℝ) : 0 < ∑ c, shifted s keep m c := by
  rw [sum_shifted]
  exact div_pos (den_pos hk) (Real.exp_pos m)

/-- The weights, divided by the row's sum. -/
theorem weight_div (hk : ∃ c, keep c) (m : ℝ) (c : Fin n) : shifted s keep m c / ∑ i, shifted s keep m i = weight s keep c := by
  have hd := (den_pos (s := s) hk).ne'
  have he := (Real.exp_pos m).ne'
  rw [sum_shifted, shifted_eq]
  unfold weight
  split
  · field_simp
  · rw [zero_div, zero_div]

/-- The maximum and the logarithm of the row's sum. -/
theorem log_sum (hk : ∃ c, keep c) (m : ℝ) :
    (m : EReal) + Ideal.log (∑ c, (shifted s keep m c : EReal)) = (Real.log (den s keep) : EReal) := by
  rw [← coe_sum, Ideal.log_coe, if_neg (not_le.mpr (sum_shifted_pos hk m)), ← EReal.coe_add, sum_shifted,
    Real.log_div (den_pos hk).ne' (Real.exp_pos m).ne', Real.log_exp, add_sub_cancel]

/-- The weights, from the saved logarithm. -/
theorem exp_sub_log (hk : ∃ c, keep c) (c : Fin n) :
    Ideal.exp (masked s keep c - (Real.log (den s keep) : EReal)) = (weight s keep c : EReal) := by
  rw [exp_masked]
  unfold shifted weight
  split
  · rw [Real.exp_sub, Real.exp_log (den_pos hk)]
  · rfl

theorem exp_sub_log_of_keep (hk : ∃ c, keep c) {c : Fin n} (hc : keep c) :
    Ideal.exp ((s c : EReal) - (Real.log (den s keep) : EReal)) = (weight s keep c : EReal) := by
  rw [← exp_sub_log hk c]
  exact congrArg (fun a => Ideal.exp (a - _)) (if_pos hc).symm

/-- The gradient of a weight's score: the derivative of a quotient is the weight times the distance from the row's mean. -/
theorem grad (hk : ∃ c, keep c) (m : ℝ) (d : Fin n → ℝ) (c : Fin n) :
    (d c / (∑ i, shifted s keep m i) + -(∑ i, d i * (1 / ((∑ i, shifted s keep m i) * ∑ i, shifted s keep m i)) * shifted s keep m i))
        * shifted s keep m c
      = weight s keep c * (d c - ∑ i, weight s keep i * d i) := by
  have hp := (sum_shifted_pos (s := s) hk m).ne'
  simp only [← weight_div hk m]
  generalize (∑ i, shifted s keep m i) = D at hp
  have e : ∀ f : Fin n → ℝ, (∑ i, d i * (1 / (D * D)) * f i) = (∑ i, f i / D * d i) / D := fun f => by
    rw [Finset.sum_div]
    refine Finset.sum_congr rfl fun i _ => ?_
    field_simp
  rw [e]
  field_simp
  ring

/-- A number's three parts add up to it. -/
theorem three_parts (x : ℝ) : (x : EReal) - x = 0 := by
  rw [← EReal.coe_sub, sub_self, EReal.coe_zero]

/-! ## Sums over blocks of 1024 -/

variable {A : Type*} [AddCommMonoid A]

/-- A function of an array's rows, zero outside it. -/
noncomputable def ext (f : Fin 4096 → A) (x : ℕ) : A := if h : x < 4096 then f ⟨x, h⟩ else 0

theorem sum_block (f : Fin 4096 → A) (b : ℕ) (R : Fin 1024 → Fin 4096) (hR : ∀ r, (R r).val = 1024 * b + r.val) :
    ∑ r, f (R r) = ∑ x ∈ Finset.Ico (1024 * b) (1024 * (b + 1)), ext f x := by
  rw [Finset.sum_Ico_eq_sum_range, show 1024 * (b + 1) - 1024 * b = 1024 by omega, Finset.sum_range]
  refine Finset.sum_congr rfl fun r _ => ?_
  rw [ext, dif_pos (hR r ▸ (R r).isLt)]
  exact congrArg f (Fin.ext (hR r))

theorem sum_all (f : Fin 4096 → A) : ∑ r, f r = ∑ x ∈ Finset.Ico 0 4096, ext f x := by
  rw [← Finset.range_eq_Ico, Finset.sum_range]
  refine Finset.sum_congr rfl fun r _ => ?_
  rw [ext, dif_pos r.isLt]

/-- A sum whose terms before `a` are zero. -/
theorem sum_from (f : Fin 4096 → A) (a : ℕ) (ha : a ≤ 4096) (h : ∀ r : Fin 4096, r.val < a → f r = 0) :
    ∑ r, f r = ∑ x ∈ Finset.Ico a 4096, ext f x := by
  rw [sum_all, ← Finset.sum_Ico_consecutive _ (Nat.zero_le a) ha, Finset.sum_eq_zero (s := Finset.Ico 0 a), zero_add]
  intro x hx
  rw [ext]
  split
  · exact h _ (Finset.mem_Ico.mp hx).2
  · rfl

end Softmax
-- ==== Proof.Online.lean ====
module

public import proofs.«01_k».proof.Proof.Softmax

@[expose] public section

/-!
# A softmax row by tiles

The row's maximum so far, the sum of the exponentials after subtracting it, and their sum weighted by the values. A new tile
raises the maximum and rescales both sums. Times the exponential of the maximum the sums are those of the scores themselves,
whatever the maximum is.
-/

open Idealize.ShloMosaic

namespace Softmax

/-- A nonnegative number multiplies a sum term by term, infinite terms included. -/
theorem coe_mul_sum {ι : Type*} {c : ℝ} (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- Nothing has been read, or the maximum is a real number, and `E` and `V` are the sums without its subtraction. -/
def Running {p : ℕ} (m d : EReal) (a : Fin p → EReal) (E : ℝ) (V : Fin p → EReal) : Prop :=
  (m = ⊥ ∧ d = 0 ∧ (∀ e, a e = 0) ∧ E = 0 ∧ ∀ e, V e = 0) ∨
    ∃ M : ℝ, m = (M : EReal) ∧ d = ((E / Real.exp M : ℝ) : EReal) ∧ ∀ e, a e = ((1 / Real.exp M : ℝ) : EReal) * V e

variable {n p : ℕ} {s : Fin n → ℝ} {keep : Fin n → Prop} [DecidablePred keep]
variable {m d : EReal} {a : Fin p → EReal} {E : ℝ} {V : Fin p → EReal}

theorem Running.max_real (h : Running m d a E V) (hk : ∃ c, keep c) :
    ∃ M : ℝ, max m ((Finset.univ : Finset (Fin n)).fold max ⊥ (masked s keep)) = (M : EReal) := by
  obtain ⟨x, hx⟩ := fold_max (s := s) hk
  rw [hx]
  rcases h with ⟨rfl, -⟩ | ⟨M, rfl, -⟩
  · exact ⟨x, max_eq_right bot_le⟩
  · rcases le_total M x with hle | hle
    · exact ⟨x, max_eq_right (EReal.coe_le_coe_iff.mpr hle)⟩
    · exact ⟨M, max_eq_left (EReal.coe_le_coe_iff.mpr hle)⟩

/-- One tile more. -/
theorem Running.step (h : Running m d a E V) (w : Fin n → Fin p → EReal) {m' : EReal} {M : ℝ} (hM : m' = (M : EReal)) :
    Running m' (Ideal.exp (m - m') * d + ∑ c, Ideal.exp (masked s keep c - m'))
      (fun e => Ideal.exp (m - m') * a e + ∑ c, Ideal.exp (masked s keep c - m') * w c e)
      (E + ∑ c, if keep c then Real.exp (s c) else 0) (fun e => V e + ∑ c, ((if keep c then Real.exp (s c) else 0 : ℝ) : EReal) * w c e) := by
  subst hM
  have hM := (Real.exp_pos M).ne'
  have hn : 0 ≤ 1 / Real.exp M := one_div_nonneg.mpr (Real.exp_pos M).le
  simp only [exp_masked, shifted_eq, ← coe_sum]
  have e1 : ∑ c, (if keep c then Real.exp (s c) else 0) / Real.exp M = (∑ c, if keep c then Real.exp (s c) else 0) / Real.exp M :=
    (Finset.sum_div _ _ _).symm
  have e2 : ∀ e, ∑ c, (((if keep c then Real.exp (s c) else 0) / Real.exp M : ℝ) : EReal) * w c e
      = ((1 / Real.exp M : ℝ) : EReal) * ∑ c, ((if keep c then Real.exp (s c) else 0 : ℝ) : EReal) * w c e := fun e => by
    rw [coe_mul_sum hn]
    refine Finset.sum_congr rfl fun c _ => ?_
    rw [← mul_assoc, ← EReal.coe_mul, one_div_mul_eq_div]
  simp only [e1, e2]
  refine .inr ⟨M, rfl, ?_⟩
  rcases h with ⟨rfl, rfl, ha, rfl, hV⟩ | ⟨M0, rfl, rfl, ha⟩
  · refine ⟨?_, fun e => ?_⟩
    · rw [EReal.bot_sub, Ideal.exp_bot, zero_mul, zero_add, zero_add]
    · beta_reduce
      rw [ha, EReal.bot_sub, Ideal.exp_bot, zero_mul, zero_add, hV, zero_add]
  · have h0 := (Real.exp_pos M0).ne'
    refine ⟨?_, fun e => ?_⟩
    · rw [← EReal.coe_sub, Ideal.exp_coe, ← EReal.coe_mul, ← EReal.coe_add, Real.exp_sub]
      refine congrArg _ ?_
      field_simp
    · beta_reduce
      rw [ha, ← EReal.coe_sub, Ideal.exp_coe, ← mul_assoc, ← EReal.coe_mul, EReal.left_distrib_of_nonneg_of_ne_top (EReal.coe_nonneg.mpr hn) (EReal.coe_ne_top _),
        show Real.exp (M0 - M) * (1 / Real.exp M0) = 1 / Real.exp M by rw [Real.exp_sub]; field_simp]

/-- The quotient and the logarithm at the row's end. -/
theorem Running.quotient (h : Running m d a E V) (hE : 0 < E) (e : Fin p) : Ideal.div (a e) d = ((1 / E : ℝ) : EReal) * V e := by
  rcases h with ⟨-, -, -, rfl, -⟩ | ⟨M, -, rfl, ha⟩
  · exact absurd hE (lt_irrefl _)
  · have hM := (Real.exp_pos M).ne'
    rw [ha, Ideal.div_coe (div_ne_zero hE.ne' hM), mul_right_comm, ← EReal.coe_mul]
    refine congrArg (fun x : ℝ => (x : EReal) * V e) ?_
    field_simp
theorem Running.logarithm (h : Running m d a E V) (hE : 0 < E) : m + Ideal.log d = (Real.log E : EReal) := by
  rcases h with ⟨-, -, -, rfl, -⟩ | ⟨M, rfl, rfl, -⟩
  · exact absurd hE (lt_irrefl _)
  · rw [Ideal.log_coe, if_neg (not_le.mpr (div_pos hE (Real.exp_pos M))), ← EReal.coe_add, Real.log_div hE.ne' (Real.exp_pos M).ne',
      Real.log_exp, add_sub_cancel]

/-- A sum whose terms from `b` on are zero. -/
theorem sum_until {A : Type*} [AddCommMonoid A] (f : Fin 4096 → A) (b : ℕ) (hb : b ≤ 4096) (h : ∀ r : Fin 4096, b ≤ r.val → f r = 0) :
    ∑ r, f r = ∑ x ∈ Finset.Ico 0 b, ext f x := by
  rw [sum_all, ← Finset.sum_Ico_consecutive _ (Nat.zero_le b) hb, Finset.sum_eq_zero (s := Finset.Ico b 4096), add_zero]
  intro x hx
  rw [ext]
  split
  · exact h _ (Finset.mem_Ico.mp hx).1
  · rfl

end Softmax
-- ==== Proof.AttnReference.lean ====
module

public import proofs.«01_k».proof.Defs
public import proofs.«01_k».proof.Proof.Softmax
public import proofs.«01_k».proof.Proof.Gen.AttnReferenceIdeal
public import proofs.«01_k».proof.Proof.Gen.AttnReferenceIdeal.Run
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem

namespace Cert.AttnReferenceIdeal.Attn

open Cert.AttnReferenceIdeal Cert.AttnReferenceIdeal.Gen

/-! ## The reference's terms -/

variable (q k : FVec Ideal S4096x8x192 .f32) (v : FVec Ideal S4096x8x128 .f32) (g : FVec Ideal S4096x1024 .f32)

/-- A key is kept where it does not come after the query. -/
def kept : IVec S8x4096x4096 1 :=
  broadcastInDim S8x4096x4096 ![1, 2] bcast_S4096x4096_S8x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- The scaled queries. -/
def scaled : FVec Ideal S4096x8x192 .f32 := mulf q (broadcastInDim S4096x8x192 ![] bcast_S_S4096x8x192 (constant S_ .f32 0x3D93CD3A#32))
/-- The masked scores. -/
def scores : FVec Ideal S8x4096x4096 .f32 :=
  select kept (Host.dotGeneral dot_S4096x8x192_S4096x8x192_S8x4096x4096_2_2_0_0_1_1 none (scaled q) k)
    (broadcastInDim S8x4096x4096 ![] bcast_S_S8x4096x4096 (id (constant S_ .f32 0xFF800000#32)))
/-- Each row's maximum. -/
def rowMax : FVec Ideal S8x4096 .f32 :=
  maximumf (broadcastInDim S8x4096 ![] bcast_S_S8x4096 (constant S_ .f32 0xFF800000#32))
    (Host.reduce FloatOps.maximumf (scores q k) (constant S_ .f32 0xFF800000#32) reducesTo_S8x4096x4096_S8x4096_d2 h_S_)
/-- The exponentials. -/
def expo : FVec Ideal S8x4096x4096 .f32 :=
  Host.exp (subf (scores q k) (broadcastInDim S8x4096x4096 ![0, 1, 2] bcast_S8x4096x1_S8x4096x4096_0_1_2
    (broadcastInDim S8x4096x1 ![0, 1] bcast_S8x4096_S8x4096x1_0_1 (rowMax q k))))
/-- Their sum over a row. -/
def total : FVec Ideal S8x4096x1 .f32 :=
  broadcastInDim S8x4096x1 ![0, 1] bcast_S8x4096_S8x4096x1_0_1
    (Host.reduceAdd (expo q k) (constant S_ .f32 0x00000000#32) reducesTo_S8x4096x4096_S8x4096_d2 h_S_)
/-- The weights. -/
def weights : FVec Ideal S8x4096x4096 .f32 :=
  Host.divf (expo q k) (broadcastInDim S8x4096x4096 ![0, 1, 2] bcast_S8x4096x1_S8x4096x4096_0_1_2 (total q k))
/-- The output's gradient by head. -/
def dOut : FVec Ideal S8x128x4096 .f32 :=
  transpose S8x128x4096 [1, 2, 0] (shapeCast _ g shapeCasts_S4096x1024_S4096x8x128) transposes_S4096x8x128_S8x128x4096_1_2_0
/-- The weights' gradient. -/
def dWeights : FVec Ideal S8x4096x4096 .f32 := Host.dotGeneral dot_S8x128x4096_S4096x8x128_S8x4096x4096_1_2_2_0_0_1 none (dOut g) v
/-- The gradient of a row's sum. -/
def dTotal : FVec Ideal S8x4096 .f32 :=
  Host.reduceAdd (Host.negf (shapeCast _ (Host.reduceAdd (mulf (mulf (dWeights v g)
      (broadcastInDim S8x4096x4096 ![0, 1, 2] bcast_S8x4096x1_S8x4096x4096_0_1_2 (Host.divf
        (broadcastInDim S8x4096x1 ![] bcast_S_S8x4096x1 (constant S_ .f32 0x3F800000#32)) (mulf (total q k) (total q k))))) (expo q k))
      (constant S_ .f32 0x00000000#32) reducesTo_S8x4096x4096_S8x4096_d2 h_S_) shapeCasts_S8x4096_S8x4096x1))
    (constant S_ .f32 0x00000000#32) reducesTo_S8x4096x1_S8x4096_d2 h_S_
/-- The scores' gradient. -/
def dScores : FVec Ideal S8x4096x4096 .f32 :=
  select kept (mulf (addf (Host.divf (dWeights v g) (broadcastInDim S8x4096x4096 ![0, 1, 2] bcast_S8x4096x1_S8x4096x4096_0_1_2 (total q k)))
      (broadcastInDim S8x4096x4096 ![0, 1] bcast_S8x4096_S8x4096x4096_0_1 (dTotal q k v g))) (expo q k))
    (broadcastInDim S8x4096x4096 ![] bcast_S_S8x4096x4096 (constant S_ .f32 0x00000000#32))
/-- The three results. -/
def dQuery : FVec Ideal S8x4096x256 .f32 :=
  pad S8x4096x256 ![0, 0, 0] ![0, 0, 64] ![0, 0, 0] (transpose S8x4096x192 [1, 0, 2] (transpose S4096x8x192 [1, 0, 2]
    (Host.dotGeneral dot_S8x4096x4096_S4096x8x192_S8x4096x192_2_0_1_2_0_1 none (dScores q k v g) k)
    transposes_S8x4096x192_S4096x8x192_1_0_2) transposes_S4096x8x192_S8x4096x192_1_0_2)
    (sitofp .f32 (constantI S_ 32 0#32)) pads_S8x4096x192_S8x4096x256_000_000_0640 h_S_
def dKey : FVec Ideal S8x4096x256 .f32 :=
  pad S8x4096x256 ![0, 0, 0] ![0, 0, 64] ![0, 0, 0] (transpose S8x4096x192 [1, 0, 2] (transpose S4096x8x192 [1, 0, 2]
    (Host.dotGeneral dot_S8x4096x4096_S4096x8x192_S8x4096x192_1_0_2_2_0_1 none (dScores q k v g) (scaled q))
    transposes_S8x4096x192_S4096x8x192_1_0_2) transposes_S4096x8x192_S8x4096x192_1_0_2)
    (sitofp .f32 (constantI S_ 32 0#32)) pads_S8x4096x192_S8x4096x256_000_000_0640 h_S_
def dValue : FVec Ideal S8x4096x128 .f32 :=
  transpose S8x4096x128 [1, 0, 2] (transpose S4096x8x128 [2, 0, 1]
    (Host.dotGeneral dot_S8x128x4096_S8x4096x4096_S8x128x4096_2_1_1_2_0_0 none (dOut g) (weights q k))
    transposes_S8x128x4096_S4096x8x128_2_0_1) transposes_S4096x8x128_S8x4096x128_1_0_2

section
variable (m : (ℓ : Loc nD τ sig) → Buf (Elt Ideal) ℓ) (c : Dev nD)
theorem run_dQuery : Value.res_main_v64 m c = dQuery (m ((c.tc : Thread nD τ).loc main_arg0)) (m ((c.tc : Thread nD τ).loc main_arg1))
  (m ((c.tc : Thread nD τ).loc main_arg2)) (m ((c.tc : Thread nD τ).loc main_arg3)) := rfl
theorem run_dKey : Value.res_main_v66 m c = dKey (m ((c.tc : Thread nD τ).loc main_arg0)) (m ((c.tc : Thread nD τ).loc main_arg1))
  (m ((c.tc : Thread nD τ).loc main_arg2)) (m ((c.tc : Thread nD τ).loc main_arg3)) := rfl
theorem run_dValue : Value.res_main_v67 m c = dValue (m ((c.tc : Thread nD τ).loc main_arg0)) (m ((c.tc : Thread nD τ).loc main_arg1))
  (m ((c.tc : Thread nD τ).loc main_arg3)) := rfl
end

/-! ## Their entries, for real arrays -/

variable (Q K : S4096x8x192.Idx → ℝ) (W : S4096x8x128.Idx → ℝ) (G : S4096x1024.Idx → ℝ)

/-- The factor of the scores. -/
def factor : ℝ := (Ideal.ofBits .f32 0x3D93CD3A#32).toReal
theorem ofBits_factor : Ideal.ofBits .f32 0x3D93CD3A#32 = (factor : EReal) := by
  unfold factor
  simp [Ideal.ofBits, Ideal.ieee, -EReal.coe_mul, -EReal.coe_neg]

/-- The array of a head's column. -/
abbrev col (h : Fin 8) (e : Fin 128) : Fin 1024 := ⟨h.val * 128 + e.val, by omega⟩

def query (h : Fin 8) (r : Fin 4096) (j : Fin 192) : ℝ := Q (ix3 r h j) * factor
def score (h : Fin 8) (r c : Fin 4096) : ℝ := ∑ j, query Q h r j * K (ix3 c h j)
abbrev keep (r c : Fin 4096) : Prop := c.val ≤ r.val
def weight (h : Fin 8) (r c : Fin 4096) : ℝ := Softmax.weight (score Q K h r) (keep r) c
def dWeight (h : Fin 8) (r c : Fin 4096) : ℝ := ∑ e, G (ix2 r (col h e)) * W (ix3 c h e)
def dScore (h : Fin 8) (r c : Fin 4096) : ℝ := weight Q K h r c * (dWeight W G h r c - ∑ i, weight Q K h r i * dWeight W G h r i)
/-- The gradients of a head's queries, keys and values. -/
def dQueryR (h : Fin 8) (r : Fin 4096) (j : Fin 192) : ℝ := ∑ c, dScore Q K W G h r c * K (ix3 c h j)
def dKeyR (h : Fin 8) (c : Fin 4096) (j : Fin 192) : ℝ := ∑ r, dScore Q K W G h r c * query Q h r j
def dValueR (h : Fin 8) (c : Fin 4096) (e : Fin 128) : ℝ := ∑ r, weight Q K h r c * G (ix2 r (col h e))

theorem keeps (r : Fin 4096) : ∃ c, keep r c := ⟨r, le_refl _⟩

variable {q k v g Q K W G}

theorem kept_apply (h : Fin 8) (r c : Fin 4096) : kept (ix3 h r c) = 1#1 ↔ keep r c := by
  pointwise [kept]
  exact WordCmp.cmpi_sle_ofNat_eq_one_iff (by omega) (by omega)

theorem zero_word : (FloatOps.sitofp (F := Ideal) .f32 0#32 : EReal) = ((0 : ℝ) : EReal) := by
  show ((((0#32 : BitVec 32).toInt : ℝ)) : EReal) = _
  simp

theorem ofBits_neg_inf : Ideal.ofBits .f32 0xFF800000#32 = ⊥ := by
  simp [Ideal.ofBits, Ideal.ieee, -EReal.coe_mul, -EReal.coe_neg]

/-- A maximum over the last axis. -/
theorem reduce_max {n0 n1 n2 : ℕ} (x : FVec Ideal (⟨3, ![n0, n1, n2]⟩ : Shape) .f32) (b : FVec Ideal S_ .f32)
    (hr : (⟨3, ![n0, n1, n2]⟩ : Shape).ReducesTo [2] ⟨2, ![n0, n1]⟩) (h0 : 0 < S_.numel) (h : Fin n0) (r : Fin n1) :
    Host.reduce FloatOps.maximumf x b hr h0 (ix2 h r) = (Finset.univ : Finset (Fin n2)).fold max (b (Shape.Idx.first h0)) fun c => x (ix3 h r c) := by
  pointwise []

theorem scaled_at (hq : ∀ i, q i = (Q i : EReal)) (h : Fin 8) (r : Fin 4096) (j : Fin 192) : scaled q (ix3 r h j) = (query Q h r j : EReal) := by
  pointwise [scaled]
  rw [hq, ofBits_factor, ← EReal.coe_mul]
  rfl

section
variable (hq : ∀ i, q i = (Q i : EReal)) (hk : ∀ i, k i = (K i : EReal))
include hq hk

theorem scores_at (h : Fin 8) (r c : Fin 4096) : scores q k (ix3 h r c) = Softmax.masked (score Q K h r) (keep r) c := by
  pointwise [scores]
  rw [Scalar.select_def]
  simp only [kept_apply, scaled_at hq, hk, ← EReal.coe_mul, ← Softmax.coe_sum]
  show (if _ then _ else Ideal.ofBits .f32 0xFF800000#32) = _
  rw [ofBits_neg_inf]
  exact if_congr (kept_apply h r c) rfl rfl

theorem rowMax_at (h : Fin 8) (r : Fin 4096) : ∃ m : ℝ, rowMax q k (ix2 h r) = m := by
  obtain ⟨m, hm⟩ := Softmax.fold_max (s := score Q K h r) (keeps r)
  refine ⟨m, ?_⟩
  have e : Host.reduce FloatOps.maximumf (scores q k) (constant S_ .f32 0xFF800000#32) reducesTo_S8x4096x4096_S8x4096_d2 h_S_ (ix2 h r) = (m : EReal) := by
    rw [reduce_max, ← hm]
    exact congrArg₂ (fun a f => (Finset.univ : Finset (Fin 4096)).fold max a f) (show Ideal.ofBits .f32 0xFF800000#32 = _ from ofBits_neg_inf) (funext fun c => scores_at hq hk h r c)
  unfold rowMax
  rw [maximumf_apply, e]
  exact max_eq_right ((show Ideal.ofBits .f32 0xFF800000#32 = _ from ofBits_neg_inf).trans_le bot_le)

theorem expo_at (h : Fin 8) (r : Fin 4096) : ∃ m : ℝ, ∀ c, expo q k (ix3 h r c) = (Softmax.shifted (score Q K h r) (keep r) m c : EReal) := by
  obtain ⟨m, hm⟩ := rowMax_at hq hk h r
  refine ⟨m, fun c => ?_⟩
  pointwise [expo]
  rw [hm, scores_at hq hk, Softmax.exp_masked]

theorem weights_at (h : Fin 8) (r c : Fin 4096) : weights q k (ix3 h r c) = (weight Q K h r c : EReal) := by
  obtain ⟨m, hm⟩ := expo_at hq hk h r
  pointwise [weights, total]
  simp only [hm, ← Softmax.coe_sum]
  rw [Softmax.div_coe _ (Softmax.sum_shifted_pos (keeps r) m).ne', Softmax.weight_div (keeps r)]
  rfl

variable (hv : ∀ i, v i = (W i : EReal)) (hg : ∀ i, g i = (G i : EReal))
include hv hg

omit hq hk in
theorem dWeights_at (h : Fin 8) (r c : Fin 4096) : dWeights v g (ix3 h r c) = (dWeight W G h r c : EReal) := by
  pointwise [dWeights, dOut]
  simp only [hv, hg, ← EReal.coe_mul, ← Softmax.coe_sum]
  rfl

theorem dScores_at (h : Fin 8) (r c : Fin 4096) : dScores q k v g (ix3 h r c) = (dScore Q K W G h r c : EReal) := by
  obtain ⟨m, hm⟩ := expo_at hq hk h r
  have hp := (Softmax.sum_shifted_pos (s := score Q K h r) (keeps r) m).ne'
  pointwise [dScores, dTotal, total]
  rw [Scalar.select_def]
  simp only [hm, dWeights_at hv hg, ← Softmax.coe_sum]
  refine (if_congr (kept_apply h r c) rfl rfl).trans ?_
  split
  next hc =>
    rw [Fin.sum_univ_one]
    simp only [← EReal.coe_mul, ← EReal.coe_one]
    rw [Softmax.div_coe _ hp, Softmax.div_coe _ (mul_ne_zero hp hp)]
    simp only [← EReal.coe_mul, ← Softmax.coe_sum, ← EReal.coe_neg, ← EReal.coe_add]
    exact congrArg _ (Softmax.grad (keeps r) m _ c)
  next hc =>
    rw [dScore, show weight Q K h r c = 0 from Softmax.weight_of_not hc, zero_mul, EReal.coe_zero]

theorem dQuery_at (h : Fin 8) (r : Fin 4096) (j : Fin 256) :
    dQuery q k v g (ix3 h r j) = ((if hj : j.val < 192 then dQueryR Q K W G h r ⟨j, hj⟩ else 0 : ℝ) : EReal) := by
  pointwise [dQuery]
  split
  · simp only [dScores_at hq hk hv hg, hk, ← EReal.coe_mul, ← Softmax.coe_sum]
    rfl
  · exact zero_word
theorem dKey_at (h : Fin 8) (c : Fin 4096) (j : Fin 256) :
    dKey q k v g (ix3 h c j) = ((if hj : j.val < 192 then dKeyR Q K W G h c ⟨j, hj⟩ else 0 : ℝ) : EReal) := by
  pointwise [dKey]
  split
  · simp only [dScores_at hq hk hv hg, scaled_at hq, ← EReal.coe_mul, ← Softmax.coe_sum]
    rfl
  · exact zero_word
omit hv in
theorem dValue_at (h : Fin 8) (c : Fin 4096) (e : Fin 128) :
    dValue q k g (ix3 h c e) = (dValueR Q K G h c e : EReal) := by
  pointwise [dValue, dOut]
  simp only [weights_at hq hk, hg, ← EReal.coe_mul, ← Softmax.coe_sum]
  exact congrArg _ (Finset.sum_congr rfl fun r _ => mul_comm _ _)
end

end Cert.AttnReferenceIdeal.Attn
-- ==== Proof.AttnBody.lean ====
module

public import proofs.«01_k».proof.Proof.Gen.AttnKernelIdeal.Frame
public import proofs.«01_k».proof.Proof.Gen.AttnKernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.AttnKernelIdeal.Attn

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (UR sig nD τ) ℕ

/-! ## What a point computes, as pure functions of the staged blocks -/

/-- The blocks a point reads: the head's queries, the point's keys and values, the head's outputs, cotangents and row log-sums. -/
structure Staged (F : FTy → Type) where
  q : Vec F S1x4096x256 .bf16
  k : Vec F S1x1024x256 .bf16
  v : Vec F S1x1024x128 .bf16
  o : Vec F S4096x128 .f32
  d : Vec F S4096x128 .f32
  l : Vec F S1x4x1x1024 .f32

variable (x : Staged F) (i : grid0.Coords)

/-- The rows of the diagonal tile. -/
def q0 : Vec F S1x1024x256 .bf16 := window x.q (k0_off1 i) S1x1024x256.size (k0_off1_inb i)
def o0 : Vec F S1024x128 .f32 := window x.o (k0_off2 i) S1024x128.size (k0_off2_inb i)
def d0 : Vec F S1024x128 .f32 := window x.d (k0_off2 i) S1024x128.size (k0_off2_inb i)
def l0 : Vec F S1x1x1x1024 .f32 := window x.l (k0_off3 i) S1x1x1x1024.size (k0_off3_inb i)

/-- The rows of a later tile. -/
def qn (n : Fin (k0_t1_loop i).trips) : Vec F S1x1024x256 .bf16 := window x.q (k0_off4 i n) S1x1024x256.size (k0_off4_inb i n)
def on (n : Fin (k0_t1_loop i).trips) : Vec F S1024x128 .f32 := window x.o (k0_off5 i n) S1024x128.size (k0_off5_inb i n)
def dn (n : Fin (k0_t1_loop i).trips) : Vec F S1024x128 .f32 := window x.d (k0_off5 i n) S1024x128.size (k0_off5_inb i n)
def ln (n : Fin (k0_t1_loop i).trips) : Vec F S1x1x1x1024 .f32 := window x.l (k0_off6 i n) S1x1x1x1024.size (k0_off6_inb i n)

/-- The queries' gradient with the diagonal tile's rows added to. -/
def diag (g : FVec F S1x4096x256 .f32) : FVec F S1x4096x256 .f32 :=
  put g (k0_off1 i) S1x1024x256.size
    (k0_pay33 (k0_pay16 x.k) (k0_pay17 x.v) (k0_pay21 (q0 x i)) (k0_pay22 (d0 x i)) (k0_pay27 (d0 x i) (o0 x i)) (k0_pay28 (d0 x i) (o0 x i)) (l0 x i)
      (window g (k0_off1 i) S1x1024x256.size (k0_off1_inb i)))

/-- The keys' and the values' gradients from the diagonal tile. -/
def carry0 : FVec F S1024x256 .f32 × FVec F S1024x128 .f32 :=
  (k0_pay32 (k0_pay16 x.k) (k0_pay17 x.v) k0_pay19 (k0_pay21 (q0 x i)) (k0_pay22 (d0 x i)) (k0_pay27 (d0 x i) (o0 x i)) (k0_pay28 (d0 x i) (o0 x i)) (l0 x i),
    k0_pay30 (k0_pay16 x.k) k0_pay20 (k0_pay21 (q0 x i)) (k0_pay22 (d0 x i)) (l0 x i))

/-- The gradient of the scores of a later tile. -/
def ds (n : Fin (k0_t1_loop i).trips) : FVec F S1024x1024 .bf16 :=
  k0_pay7 (k0_pay16 x.k) (k0_pay17 x.v) k0_pay18 (qn x i n) (dn x i n) (on x i n) (ln x i n)

/-- A later tile: the queries' gradient, -/
def stepDq (n : Fin (k0_t1_loop i).trips) (g : FVec F S1x4096x256 .f32) : FVec F S1x4096x256 .f32 :=
  put g (k0_off4 i n) S1x1024x256.size (k0_pay35 (k0_pay16 x.k) (ds x i n) (window g (k0_off4 i n) S1x1024x256.size (k0_off4_inb i n)))

/-- and the keys' and the values'. -/
def stepCarry (n : Fin (k0_t1_loop i).trips) (a : FVec F S1024x256 .f32 × FVec F S1024x128 .f32) : FVec F S1024x256 .f32 × FVec F S1024x128 .f32 :=
  (k0_pay34 a.1 (k0_pay8 (k0_pay16 x.k) (k0_pay17 x.v) k0_pay18 (qn x i n) (dn x i n) (on x i n) (ln x i n)),
    k0_pay6 (k0_pay16 x.k) a.2 (qn x i n) (dn x i n) (ln x i n))

/-- After the diagonal tile and `n` later ones. -/
def dqAfter (g : FVec F S1x4096x256 .f32) : ℕ → FVec F S1x4096x256 .f32
  | 0 => diag x i g
  | n + 1 => if h : n < (k0_t1_loop i).trips then stepDq x i ⟨n, h⟩ (dqAfter g n) else dqAfter g n

def carryAfter : ℕ → FVec F S1024x256 .f32 × FVec F S1024x128 .f32
  | 0 => carry0 x i
  | n + 1 => if h : n < (k0_t1_loop i).trips then stepCarry x i ⟨n, h⟩ (carryAfter n) else carryAfter n

theorem dqAfter_succ (g : FVec F S1x4096x256 .f32) (n : Fin (k0_t1_loop i).trips) : dqAfter x i g (n.val + 1) = stepDq x i n (dqAfter x i g n.val) :=
  dif_pos n.isLt

theorem carryAfter_succ (n : Fin (k0_t1_loop i).trips) : carryAfter x i (n.val + 1) = stepCarry x i n (carryAfter x i n.val) :=
  dif_pos n.isLt

/-- What the point leaves in its three outputs. -/
def outDq (g : FVec F S1x4096x256 .f32) : FVec F S1x4096x256 .f32 := dqAfter x i g (k0_t1_loop i).trips
def outDk : FVec F S1x1024x256 .f32 := k0_pay1 (carryAfter x i (k0_t1_loop i).trips).1
def outDv : FVec F S1x1024x128 .f32 := k0_pay2 (carryAfter x i (k0_t1_loop i).trips).2

theorem no_trips : ∀ i : grid0.Coords, (k0_t2_loop i).trips = 0 := fun i => Nat.le_zero.mp (k0_t2_abs i).2.1

/-! ## The run of one trip and of one point -/

section Run

variable (c : Dev nD) (arg2 : Memref sig .tc .vmem S1x4096x256 .bf16) (harg2 : arg2.IsWhole) (arg3 : Memref sig .tc .vmem S1x1024x256 .bf16) (harg3 : arg3.IsWhole)
  (arg4 : Memref sig .tc .vmem S1x1024x128 .bf16) (harg4 : arg4.IsWhole) (arg5 : Memref sig .tc .vmem S4096x128 .f32) (harg5 : arg5.IsWhole)
  (arg6 : Memref sig .tc .vmem S4096x128 .f32) (harg6 : arg6.IsWhole) (arg7 : Memref sig .tc .vmem S1x4x1x1024 .f32) (harg7 : arg7.IsWhole)
  (arg8 : Memref sig .tc .hbm S8x128 .f32) (harg8 : arg8.IsWhole) (arg9 : Memref sig .tc .vmem S1x4096x256 .f32) (harg9 : arg9.IsWhole)
  (arg10 : Memref sig .tc .vmem S1x1024x256 .f32) (harg10 : arg10.IsWhole) (arg11 : Memref sig .tc .vmem S1x1024x128 .f32) (harg11 : arg11.IsWhole)

/-- Between trips: the blocks the loop reads are held, the queries' gradient and the carried values are those after `n` tiles. -/
def between (g : FVec F S1x4096x256 .f32) (n : ℕ) (a : FVec F S1024x256 .f32 × FVec F S1024x128 .f32) : sProp 𝕄 :=
  iprop(⌜a = carryAfter x i n⌝ ∗ owns (c : Thread nD τ) arg2 fullShare x.q ∗ owns (c : Thread nD τ) arg5 fullShare x.o
    ∗ owns (c : Thread nD τ) arg6 fullShare x.d ∗ owns (c : Thread nD τ) arg7 fullShare x.l ∗ owns (c : Thread nD τ) arg9 fullShare (dqAfter x i g n))

set_option maxHeartbeats 1000000 in
theorem trip_sound (g : FVec F S1x4096x256 .f32) (n : Fin (k0_t1_loop i).trips) (a : FVec F S1024x256 .f32 × FVec F S1024x128 .f32)
    (arg1 : BitVec 32) {v4 : FVec F S1024x256 .bf16} {v6 : FVec F S1024x128 .bf16} (h4 : v4 = k0_pay16 x.k) (h6 : v6 = k0_pay17 x.v) (v8 : FVec F S1024x256 .f32) (v9 : FVec F S1024x128 .f32) (v10 v12 : BitVec 32)
    (v15 : FVec F S1024x256 .bf16) (v18 : FVec F S1024x128 .bf16) (v34 v35 : FVec F S8x1024 .f32) :
    between x i c arg2 arg5 arg6 arg7 arg9 g n.val a
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 arg1
            v4 v6 k0_pay18 v8 v9 v10 v12 v15 v18 v34 v35 n a)
          (between x i c arg2 arg5 arg6 arg7 arg9 g (n.val + 1)) := by
  subst h4 h6
  obtain ⟨a1, a2⟩ := a
  unfold between k0_t1_body owns
  simp only [k0_part1_eq_skeleton]
  iintro ⟨%ha, ⟨%f2, %h2, H2⟩, ⟨%f5, %h5, H5⟩, ⟨%f6, %h6, H6⟩, ⟨%f7, %h7, H7⟩, ⟨%f9, %h9, H9⟩⟩
  sl_exec
  sl_step
  isplitr
  · ipureintro
    unfold trip_sound.sl.r trip_sound.sl.r_2
    rw [carryAfter_succ, ← ha]
    unfold stepCarry qn dn on ln
    rw [← h2, ← h5, ← h6, ← h7]
    rfl
  isplitl [H2]
  · iexists _; isplitr; · ipureintro; exact h2
    iexact H2
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  iexists _
  isplitr
  rotate_left
  · iexact H9
  ipureintro
  rw [dqAfter_succ]
  unfold stepDq ds qn dn on ln
  rw [View.read_writes_cons_put _ _ _ _ _ rfl, ← h2, ← h5, ← h6, ← h7, ← h9]
  rfl

/-- The point is the first of its head, as the body decides it. -/
def first : Prop := Scalar.cmpi .ne (Scalar.extui (Scalar.cmpi .eq (BitVec.ofNat 32 (i 1).val) 0#32) : BitVec 32) 0#32 = 1#1

instance : Decidable (first i) := by unfold first; infer_instance

/-- The queries' gradient a point starts from. -/
def base (g : FVec F S1x4096x256 .f32) : FVec F S1x4096x256 .f32 := if first i then k0_pay15 else g

attribute [local irreducible] k0_t1_body

set_option maxHeartbeats 4000000 in
theorem point_sound (g : FVec F S1x4096x256 .f32) (b10 : FVec F S1x1024x256 .f32) (b11 : FVec F S1x1024x128 .f32) (Q : sProp 𝕄) :
    iprop(owns (c : Thread nD τ) arg2 fullShare x.q ∗ owns (c : Thread nD τ) arg3 fullShare x.k ∗ owns (c : Thread nD τ) arg4 fullShare x.v
        ∗ owns (c : Thread nD τ) arg5 fullShare x.o ∗ owns (c : Thread nD τ) arg6 fullShare x.d ∗ owns (c : Thread nD τ) arg7 fullShare x.l
        ∗ owns (c : Thread nD τ) arg9 fullShare g ∗ owns (c : Thread nD τ) arg10 fullShare b10 ∗ owns (c : Thread nD τ) arg11 fullShare b11
        ∗ (iprop(owns (c : Thread nD τ) arg2 fullShare x.q ∗ owns (c : Thread nD τ) arg3 fullShare x.k ∗ owns (c : Thread nD τ) arg4 fullShare x.v
            ∗ owns (c : Thread nD τ) arg5 fullShare x.o ∗ owns (c : Thread nD τ) arg6 fullShare x.d ∗ owns (c : Thread nD τ) arg7 fullShare x.l
            ∗ owns (c : Thread nD τ) arg9 fullShare (outDq x i (base i g)) ∗ owns (c : Thread nD τ) arg10 fullShare (outDk x i)
            ∗ owns (c : Thread nD τ) arg11 fullShare (outDv x i)) -∗ Q))
      ⊢ wp (M := 𝕄) frame (wpE (defs₀ (F := F)) Variants.none (c : Thread nD τ) none) Set.univ
          (cc0_attn_bwd i arg2 harg2 arg3 harg3 arg4 harg4 arg5 harg5 arg6 harg6 arg7 harg7 arg8 harg8 arg9 harg9 arg10 harg10 arg11 harg11)
          (fun _ => Q) := by
  simp only [cc0_attn_bwd_eq_skeleton]
  unfold cc0_attn_bwd_skel
  simp only [k0_part3_eq_skeleton, k0_part4_eq_skeleton]
  have htr := no_trips i
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f9, %h9, H9⟩, ⟨%f10, -, H10⟩, ⟨%f11, -, H11⟩, Hk⟩
  have ek : x.k = arg3.view.readAt (Elt F) (Rect.unit (s := S1x1024x256) ![0, 0, 0] S1x1024x256.size inb_S1x1024x256_S1x1024x256_0_0_0).toLoadRect f3 :=
    h3.symm.trans (View.readAt_full ..).symm
  have ev : x.v = arg4.view.readAt (Elt F) (Rect.unit (s := S1x1024x128) ![0, 0, 0] S1x1024x128.size inb_S1x1024x128_S1x1024x128_0_0_0).toLoadRect f4 :=
    h4.symm.trans (View.readAt_full ..).symm
  by_cases hc : first i
  on_goal 1 =>
    have hb : base i g = arg9.view.read (Elt F) (arg9.view.writes (Elt F) arg9.view.junk
        [⟨Rect.unit (s := S1x4096x256) ![0, 0, 0] S1x4096x256.size inb_S1x4096x256_S1x4096x256_0_0_0, k0_pay15⟩]) := by
      rw [View.read_writes_full]; exact if_pos hc
  on_goal 2 =>
    have hb : base i g = arg9.view.read (Elt F) (arg9.view.writes (Elt F) f9 []) := (if_neg hc).trans h9.symm
  all_goals
    sl_exec (disch := sl_exact hc)
    sl_for (between x i c arg2 arg5 arg6 arg7 arg9 (base i g)) $$ [H2 H5 H6 H7 H9]
    case region =>
      exact fun k a => trip_sound x i c arg2 harg2 arg3 harg3 arg4 harg4 arg5 harg5 arg6 harg6 arg7 harg7 arg8 harg8 arg9 harg9 arg10 harg10 arg11 harg11
        (base i g) k a _ (congrArg k0_pay16 ek.symm) (congrArg k0_pay17 ev.symm) _ _ _ _ _ _ _ _
    · unfold between owns
      isplitr
      · ipureintro
        show _ = carry0 x i
        unfold carry0 q0 o0 d0 l0
        rw [ek, ev, ← h2, ← h5, ← h6, ← h7]
        rfl
      isplitl [H2]
      · iexists _; isplitr; · ipureintro; exact h2
        iexact H2
      isplitl [H5]
      · iexists _; isplitr; · ipureintro; exact h5
        iexact H5
      isplitl [H6]
      · iexists _; isplitr; · ipureintro; exact h6
        iexact H6
      isplitl [H7]
      · iexists _; isplitr; · ipureintro; exact h7
        iexact H7
      iexists _
      isplitr
      rotate_left
      · iexact H9
      ipureintro
      show _ = diag x i (base i g)
      unfold diag q0 o0 d0 l0
      rw [View.read_writes_cons_put _ _ _ _ _ rfl, hb, ek, ev, ← h2, ← h5, ← h6, ← h7]
      rfl
    iintro %acc HI
    sl_exec
    sl_step
    unfold between owns
    clear h2 h5 h6 h7 ek ev hb
    icases HI with ⟨%ha, ⟨%f2, %h2, H2⟩, ⟨%f5, %h5, H5⟩, ⟨%f6, %h6, H6⟩, ⟨%f7, %h7, H7⟩, ⟨%f9, %h9, H9⟩⟩
    iapply Hk
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H7]
    · iexists _; isplitr; · ipureintro; exact h7
      iexact H7
    isplitl [H9]
    · iexists _; isplitr; · ipureintro; exact h9
      iexact H9
    isplitl [H10]
    · iexists _
      isplitr
      rotate_left
      · iexact H10
      ipureintro
      rw [View.read_writes_full]
      exact congrArg (fun a => k0_pay1 a.1) ha
    iexists _
    isplitr
    rotate_left
    · iexact H11
    ipureintro
    rw [View.read_writes_full]
    exact congrArg (fun a => k0_pay2 a.2) ha

end Run

/-! ## What the pipeline's windows hold -/

section Frame

variable (m : (ℓ : Loc nD τ sig) → Buf (Elt F) ℓ) (ρ : Dev nD → PrngReg)

/-- The blocks staged at point `t`. -/
def staged (c : Dev nD) (t : Fin cfg0.N) : Staged F where
  q := iblk m c 0 t
  k := iblk m c 1 t
  v := iblk m c 2 t
  o := iblk m c 3 t
  d := iblk m c 4 t
  l := iblk m c 5 t

/-- The queries' gradient after point `n`. -/
def dqAt (c : Dev nD) : (n : ℕ) → n < cfg0.N → FVec F S1x4096x256 .f32
  | 0, h => outDq (staged m c ⟨0, h⟩) (grid0.coords ⟨0, h⟩) (base (grid0.coords ⟨0, h⟩) k0_pay15)
  | n + 1, h => outDq (staged m c ⟨n + 1, h⟩) (grid0.coords ⟨n + 1, h⟩) (base (grid0.coords ⟨n + 1, h⟩) (dqAt c n (Nat.lt_of_succ_lt h)))

/-- The proof data: the arrays as the region finds them; inputs hold their blocks, outputs what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => outDk (staged m c t) (grid0.coords t)
    | ⟨8, _⟩ => outDv (staged m c t) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t.val t.isLt := by dsimp only [dats]
theorem after0_7 (c : Dev nD) (t : Fin cfg0.N) : (dats m 0 c).after 7 t = outDk (staged m c t) (grid0.coords t) := by dsimp only [dats]
theorem after0_8 (c : Dev nD) (t : Fin cfg0.N) : (dats m 0 c).after 8 t = outDv (staged m c t) (grid0.coords t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- No window is ever idle. -/
theorem live (w : Fin cfg0.W) (t : Fin cfg0.N) : cfg0.idle w (grid0.coords t) = false := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-- The body's own test is on the point's number. -/
theorem first_iff (t : Fin cfg0.N) : first (grid0.coords t) ↔ t.val % 4 = 0 := by
  have ht : t.val < 32 := Nat.lt_of_lt_of_eq t.isLt N_0
  have e1 : (grid0.coords t 1).val = t.val / 1 % 4 := Pipeline.Grid.coords_val t 1 (by decide) rfl
  simp only [first, e1]
  word_cmp

/-- The queries' gradient is written back after a head's last point only. -/
theorem notFresh (n : ℕ) (h : n + 1 < cfg0.N) (hn : ¬(n + 1) % 4 = 0) : cfg0.fresh 6 (n + 1) = false := by
  rw [cfg0.fresh_succ 6 n (Nat.lt_of_succ_lt h), live 6 ⟨n, Nat.lt_of_succ_lt h⟩]
  have : ¬(cfg0.win 6).flush ⟨n, Nat.lt_of_succ_lt h⟩ = true := fun hf => by
    have := (flush0_6 ⟨n, Nat.lt_of_succ_lt h⟩).mp hf
    simp only at this
    omega
  simpa using this

/-- A point starts from the queries' gradient the point before left, or from zero. -/
theorem step6 (c : Dev nD) (t : Fin cfg0.N) (d) :
    outDq (staged m c t) (grid0.coords t) (base (grid0.coords t) ((dats m 0 c).before 6 t d)) = (dats m 0 c).after 6 t := by
  rw [after0_6]
  obtain ⟨n, h⟩ := t
  cases n with
  | zero =>
    have hf := (first_iff ⟨0, h⟩).mpr rfl
    unfold dqAt base
    rw [if_pos hf, if_pos hf]
  | succ n =>
    show _ = dqAt m c (n + 1) h
    unfold dqAt
    by_cases hf : first (grid0.coords ⟨n + 1, h⟩)
    · unfold base
      rw [if_pos hf, if_pos hf]
    · have hn : ¬(n + 1) % 4 = 0 := fun e => hf ((first_iff _).mpr e)
      rw [Dat.before_out_traj _ 6 rfl (fun _ _ => rfl) (fun t _ hi => absurd ((live 6 t).symm.trans hi) Bool.false_ne_true) (n + 1) ⟨n + 1, h⟩ rfl d,
        if_neg (by rw [notFresh n h hn]; exact Bool.false_ne_true)]
      dsimp only [dats]
      rfl

/-! ## The body obligation and the run -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves, after0_0, after0_1, after0_2, after0_3, after0_4, after0_5, after0_7, after0_8]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← step6 m c t d6]
  generalize hx : staged m c t = x
  rw [show iblk m c 0 t = x.q from congrArg Staged.q hx, show iblk m c 1 t = x.k from congrArg Staged.k hx, show iblk m c 2 t = x.v from congrArg Staged.v hx,
    show iblk m c 3 t = x.o from congrArg Staged.o hx, show iblk m c 4 t = x.d from congrArg Staged.d hx, show iblk m c 5 t = x.l from congrArg Staged.l hx]
  iapply point_sound x (grid0.coords t) c
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main (hbody := fun c => (body_obligation m c).loose)
    (hshare := fun c => (dats m 0 c).share_full fun _ => rfl) (howed := fun _ _ => rfl) (V := V m) (hmain := hmain m Variants.none) (hA := A_eq m)
    (hΦ := fun _ _ => rfl)

/-- Every run ends with each result array at what the points left in it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments come back as they went in, -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of m ρ (dats m) (A_eq m) (run_main m ρ)

/-- and every semaphore at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Frame

end Cert.AttnKernelIdeal.Attn

end

end
-- ==== Proof.AttnTile.lean ====
module

public import proofs.«01_k».proof.Proof.AttnReference
public import proofs.«01_k».proof.Proof.AttnBody
public import Idealize.ShloMosaic.Lib.Pipeline.ValueKit

@[expose] public section

set_option maxRecDepth 16384

noncomputable section

open Idealize.ShloMosaic Idealize.ShloMosaic.TcCoe Idealize.SL.Sem
open Cert.AttnReferenceIdeal.Attn (query score keep weight dWeight dScore col keeps ofBits_neg_inf)

namespace Cert.AttnKernelIdeal.Attn

open Cert.AttnKernelIdeal Cert.AttnKernelIdeal.Gen

/-! ## What a tile adds to the gradients, for real arrays -/

variable (Q K : S4096x8x192.Idx → ℝ) (W : S4096x8x128.Idx → ℝ) (G : S4096x1024.Idx → ℝ)

/-- A head's queries and keys, padded with zeros. -/
def queryP (h : Fin 8) (r : Fin 4096) (j : Fin 256) : ℝ := if hj : j.val < 192 then query Q h r ⟨j, hj⟩ else 0
def keyP (h : Fin 8) (c : Fin 4096) (j : Fin 256) : ℝ := if hj : j.val < 192 then K (ix3 c h ⟨j, hj⟩) else 0
/-- The attention's output. -/
def out (h : Fin 8) (r : Fin 4096) (e : Fin 128) : ℝ := ∑ c, weight Q K h r c * W (ix3 c h e)
/-- The logarithm of a row's sum. -/
def lse (h : Fin 8) (r : Fin 4096) : ℝ := Real.log (Softmax.den (score Q K h r) (keep r))

theorem score_eq (h : Fin 8) (r c : Fin 4096) : ∑ j, keyP K h c j * queryP Q h r j = score Q K h r c := by
  rw [show ∑ j, keyP K h c j * queryP Q h r j = _ from Fin.sum_univ_add (a := 192) (b := 64) _, Finset.sum_eq_zero (f := fun j : Fin 64 => _), add_zero]
  · refine Finset.sum_congr rfl fun j _ => ?_
    rw [keyP, queryP, dif_pos (show (Fin.castAdd 64 j).val < 192 from j.isLt), dif_pos (show (Fin.castAdd 64 j).val < 192 from j.isLt), mul_comm]
    rfl
  · intro j _
    rw [keyP, dif_neg (show ¬(Fin.natAdd 192 j).val < 192 from Nat.not_lt.mpr (Nat.le_add_right _ _)), zero_mul]

theorem delta_eq (h : Fin 8) (r : Fin 4096) : ∑ e, G (ix2 r (col h e)) * out Q K W h r e = ∑ c, weight Q K h r c * dWeight W G h r c := by
  simp only [out, dWeight, Finset.mul_sum]
  rw [Finset.sum_comm]
  exact Finset.sum_congr rfl fun c _ => Finset.sum_congr rfl fun e _ => by ring

/-- The blocks of a tile: keys and values at the columns `C`, queries, cotangents, outputs and log-sums at the rows `R`. -/
structure Tile (h : Fin 8) (C R : Fin 1024 → Fin 4096) (kb : FVec Ideal S1x1024x256 .bf16) (vb : FVec Ideal S1x1024x128 .bf16)
    (qb : FVec Ideal S1x1024x256 .bf16) (db ob : FVec Ideal S1024x128 .f32) (lb : FVec Ideal S1x1x1x1024 .f32) : Prop where
  k : ∀ c j, kb (ix3 0 c j) = (keyP K h (C c) j : EReal)
  v : ∀ c e, vb (ix3 0 c e) = (W (ix3 (C c) h e) : EReal)
  q : ∀ r j, qb (ix3 0 r j) = (queryP Q h (R r) j : EReal)
  d : ∀ r e, db (ix2 r e) = (G (ix2 (R r) (col h e)) : EReal)
  o : ∀ r e, ob (ix2 r e) = (out Q K W h (R r) e : EReal)
  l : ∀ r, lb (ix4 0 0 0 r) = (lse Q K h (R r) : EReal)

variable {Q K W G}
variable {h : Fin 8} {C R : Fin 1024 → Fin 4096} {kb : FVec Ideal S1x1024x256 .bf16} {vb : FVec Ideal S1x1024x128 .bf16}
  {qb : FVec Ideal S1x1024x256 .bf16} {db ob : FVec Ideal S1024x128 .f32} {lb : FVec Ideal S1x1x1x1024 .f32}
  (T : Tile Q K W G h C R kb vb qb db ob lb)
include T

/-- The weights of a tile on the diagonal, whose own mask is the array's, -/
theorem diag_weight (hm : ∀ c r : Fin 1024, c.val ≤ r.val ↔ (C c).val ≤ (R r).val) (c r : Fin 1024) :
    k0_pay29 (F := Ideal) (k0_pay16 kb) (k0_pay21 qb) lb (ix2 c r) = (weight Q K h (R r) (C c) : EReal) := by
  pointwise [k0_pay29, k0_pay16, k0_pay21]
  simp only [T.k, T.q, T.l, ← EReal.coe_mul, ← Softmax.coe_sum, score_eq]
  rw [Scalar.select_def, ofBits_neg_inf]
  refine Eq.trans (congrArg (fun a => Ideal.exp (a - _)) ?_) (Softmax.exp_sub_log (keeps (R r)) (C c))
  exact if_congr ((WordCmp.cmpi_sle_ofNat_eq_one_iff (by omega) (by omega)).trans (hm c r)) rfl rfl
/-- and of a later one, where every key is kept. -/
theorem later_weight (hm : ∀ c r : Fin 1024, (C c).val ≤ (R r).val) (c r : Fin 1024) :
    k0_pay5 (F := Ideal) (k0_pay16 kb) qb lb (ix2 c r) = (weight Q K h (R r) (C c) : EReal) := by
  pointwise [k0_pay5, k0_pay16, k0_pay3]
  simp only [T.k, T.q, T.l, ← EReal.coe_mul, ← Softmax.coe_sum, score_eq]
  exact Softmax.exp_sub_log_of_keep (keeps (R r)) (hm c r)

theorem dScore_of (p : EReal) (c r : Fin 1024) (hp : p = (weight Q K h (R r) (C c) : EReal)) :
    p * (∑ x, vb (ix3 0 c x) * db (ix2 r x) -
        (∑ x, db (ix2 r x) * ob (ix2 r x) + ∑ x, (db (ix2 r x) * ob (ix2 r x) - db (ix2 r x) * ob (ix2 r x)) +
          ∑ x, (db (ix2 r x) * ob (ix2 r x) - db (ix2 r x) * ob (ix2 r x) - (db (ix2 r x) * ob (ix2 r x) - db (ix2 r x) * ob (ix2 r x)))))
      = (dScore Q K W G h (R r) (C c) : EReal) := by
  subst hp
  simp only [T.v, T.d, T.o, ← EReal.coe_mul, ← EReal.coe_sub, ← EReal.coe_add, ← Softmax.coe_sum, sub_self, Finset.sum_const_zero, add_zero, delta_eq]
  refine congrArg _ (congrArg (_ * ·) (congrArg (· - _) ?_))
  exact Finset.sum_congr rfl fun e _ => mul_comm _ _

theorem later_dScore (hm : ∀ c r : Fin 1024, (C c).val ≤ (R r).val) (c r : Fin 1024) :
    k0_pay7 (F := Ideal) (k0_pay16 kb) (k0_pay17 vb) k0_pay18 qb db ob lb (ix2 c r) = (dScore Q K W G h (R r) (C c) : EReal) := by
  pointwise [k0_pay7, k0_pay17, k0_pay18, k0_pay4]
  exact dScore_of T _ c r (later_weight T hm c r)
theorem diag_dScore (hm : ∀ c r : Fin 1024, c.val ≤ r.val ↔ (C c).val ≤ (R r).val) (c r : Fin 1024) :
    k0_pay31 (F := Ideal) (k0_pay16 kb) (k0_pay17 vb) (k0_pay21 qb) (k0_pay22 db) (k0_pay27 db ob) (k0_pay28 db ob) lb (ix2 c r)
      = (dScore Q K W G h (R r) (C c) : EReal) := by
  pointwise [k0_pay31, k0_pay17, k0_pay22, k0_pay28, k0_pay27, k0_pay26, k0_pay25, k0_pay24, k0_pay23, k0_pay18]
  exact dScore_of T _ c r (diag_weight T hm c r)

/-! The three gradients' terms: of the diagonal tile, -/

theorem diag_dKey (hm : ∀ c r : Fin 1024, c.val ≤ r.val ↔ (C c).val ≤ (R r).val) (c : Fin 1024) (j : Fin 256) :
    k0_pay32 (F := Ideal) (k0_pay16 kb) (k0_pay17 vb) k0_pay19 (k0_pay21 qb) (k0_pay22 db) (k0_pay27 db ob) (k0_pay28 db ob) lb (ix2 c j)
      = ((∑ r, dScore Q K W G h (R r) (C c) * queryP Q h (R r) j : ℝ) : EReal) := by
  pointwise [k0_pay32, k0_pay19]
  simp only [diag_dScore T hm]
  pointwise [k0_pay21]
  simp only [T.q, ← EReal.coe_mul, ← Softmax.coe_sum]
theorem diag_dValue (hm : ∀ c r : Fin 1024, c.val ≤ r.val ↔ (C c).val ≤ (R r).val) (c : Fin 1024) (e : Fin 128) :
    k0_pay30 (F := Ideal) (k0_pay16 kb) k0_pay20 (k0_pay21 qb) (k0_pay22 db) lb (ix2 c e)
      = ((∑ r, weight Q K h (R r) (C c) * G (ix2 (R r) (col h e)) : ℝ) : EReal) := by
  pointwise [k0_pay30, k0_pay20]
  simp only [diag_weight T hm]
  pointwise [k0_pay22]
  simp only [T.d, ← EReal.coe_mul, ← Softmax.coe_sum]
theorem diag_dQuery (hm : ∀ c r : Fin 1024, c.val ≤ r.val ↔ (C c).val ≤ (R r).val) (w : FVec Ideal S1x1024x256 .f32) (r : Fin 1024) (j : Fin 256) :
    k0_pay33 (F := Ideal) (k0_pay16 kb) (k0_pay17 vb) (k0_pay21 qb) (k0_pay22 db) (k0_pay27 db ob) (k0_pay28 db ob) lb w (ix3 0 r j)
      = w (ix3 0 r j) + ((∑ c, dScore Q K W G h (R r) (C c) * keyP K h (C c) j : ℝ) : EReal) := by
  pointwise [k0_pay33]
  simp only [diag_dScore T hm]
  pointwise [k0_pay16]
  simp only [T.k, ← EReal.coe_mul, ← Softmax.coe_sum]

/-! and of a later one. -/

theorem later_dKey (hm : ∀ c r : Fin 1024, (C c).val ≤ (R r).val) (a : FVec Ideal S1024x256 .f32) (c : Fin 1024) (j : Fin 256) :
    k0_pay34 (F := Ideal) a (k0_pay8 (k0_pay16 kb) (k0_pay17 vb) k0_pay18 qb db ob lb) (ix2 c j)
      = a (ix2 c j) + ((∑ r, dScore Q K W G h (R r) (C c) * queryP Q h (R r) j : ℝ) : EReal) := by
  pointwise [k0_pay34, k0_pay8]
  simp only [later_dScore T hm]
  pointwise [k0_pay3]
  simp only [T.q, ← EReal.coe_mul, ← Softmax.coe_sum]
theorem later_dValue (hm : ∀ c r : Fin 1024, (C c).val ≤ (R r).val) (a : FVec Ideal S1024x128 .f32) (c : Fin 1024) (e : Fin 128) :
    k0_pay6 (F := Ideal) (k0_pay16 kb) a qb db lb (ix2 c e)
      = a (ix2 c e) + ((∑ r, weight Q K h (R r) (C c) * G (ix2 (R r) (col h e)) : ℝ) : EReal) := by
  pointwise [k0_pay6]
  simp only [later_weight T hm]
  pointwise [k0_pay4]
  simp only [T.d, ← EReal.coe_mul, ← Softmax.coe_sum]
theorem later_dQuery (hm : ∀ c r : Fin 1024, (C c).val ≤ (R r).val) (w : FVec Ideal S1x1024x256 .f32) (r : Fin 1024) (j : Fin 256) :
    k0_pay35 (F := Ideal) (k0_pay16 kb) (k0_pay7 (k0_pay16 kb) (k0_pay17 vb) k0_pay18 qb db ob lb) w (ix3 0 r j)
      = w (ix3 0 r j) + ((∑ c, dScore Q K W G h (R r) (C c) * keyP K h (C c) j : ℝ) : EReal) := by
  pointwise [k0_pay35]
  simp only [later_dScore T hm]
  pointwise [k0_pay16]
  simp only [T.k, ← EReal.coe_mul, ← Softmax.coe_sum]

end Cert.AttnKernelIdeal.Attn
-- ==== Proof.AttnSum.lean ====
module

public import proofs.«01_k».proof.Proof.AttnTile

@[expose] public section

set_option maxRecDepth 16384

noncomputable section

open Idealize.ShloMosaic Idealize.ShloMosaic.TcCoe Idealize.SL.Sem
open Idealize.ShloMosaic.VecWindow (window put)
open Cert.AttnReferenceIdeal.Attn (query score keep weight dWeight dScore col keeps)

namespace Cert.AttnKernelIdeal.Attn

open Cert.AttnKernelIdeal Cert.AttnKernelIdeal.Gen

/-! ## Where the tiles lie -/

theorem off1_at : ∀ i : grid0.Coords, k0_off1 i = ![0, 1024 * (i 1).val, 0] := by decide +kernel
theorem off2_at : ∀ i : grid0.Coords, k0_off2 i = ![1024 * (i 1).val, 0] := by decide +kernel
theorem off3_at : ∀ i : grid0.Coords, k0_off3 i = ![0, (i 1).val, 0, 0] := by decide +kernel
theorem off4_at : ∀ (i : grid0.Coords) (n : Fin (k0_t1_loop i).trips), k0_off4 i n = ![0, 1024 * ((i 1).val + n.val + 1), 0] := by decide +kernel
theorem off5_at : ∀ (i : grid0.Coords) (n : Fin (k0_t1_loop i).trips), k0_off5 i n = ![1024 * ((i 1).val + n.val + 1), 0] := by decide +kernel
theorem off6_at : ∀ (i : grid0.Coords) (n : Fin (k0_t1_loop i).trips), k0_off6 i n = ![0, (i 1).val + n.val + 1, 0, 0] := by decide +kernel
theorem trips_at : ∀ i : grid0.Coords, (k0_t1_loop i).trips = 3 - (i 1).val := by decide +kernel

/-- Row `r` of block `b`. -/
def row (b : Fin 4) (r : Fin 1024) : Fin 4096 := ⟨1024 * b.val + r.val, by omega⟩
/-- A point's block of keys, -/
def here (i : grid0.Coords) : Fin 4 := ⟨(i 1).val, (i 1).isLt⟩
/-- and a later one of queries. -/
def there (i : grid0.Coords) (n : Fin (k0_t1_loop i).trips) : Fin 4 :=
  ⟨(i 1).val + n.val + 1, by have h := n.isLt.trans_eq (trips_at i); omega⟩

theorem row_val (b : Fin 4) (r : Fin 1024) : (row b r).val = 1024 * b.val + r.val := rfl
theorem here_val (i : grid0.Coords) : (here i).val = (i 1).val := rfl
theorem there_val (i : grid0.Coords) (n : Fin (k0_t1_loop i).trips) : (there i n).val = (i 1).val + n.val + 1 := rfl

theorem not_keep (b : Fin 4) (c : Fin 1024) {r : Fin 4096} (h : r.val < 1024 * b.val) : ¬keep r (row b c) :=
  Nat.not_le.mpr (h.trans_le (Nat.le_add_right _ _))

section
variable {α : Type} (b : Fin 4) (r : Fin 1024)

theorem window3 {p : ℕ} (x : (⟨3, ![1, 4096, p]⟩ : Shape).Idx → α) (off : Fin 3 → ℕ) (inb) (ho : off = ![0, 1024 * b.val, 0]) (j : Fin p) :
    window (s := ⟨3, ![1, 4096, p]⟩) x off ![1, 1024, p] inb (ix3 0 r j) = x (ix3 0 (row b r) j) := by
  subst ho
  refine congrArg x (funext fun a => Fin.ext ?_)
  match a with
  | ⟨0, _⟩ => rfl
  | ⟨1, _⟩ => exact congrArg (1024 * b.val + ·) (Nat.one_mul r.val)
  | ⟨2, _⟩ => exact (Nat.zero_add (1 * j.val)).trans (Nat.one_mul j.val)
theorem window2 {p : ℕ} (x : (⟨2, ![4096, p]⟩ : Shape).Idx → α) (off : Fin 2 → ℕ) (inb) (ho : off = ![1024 * b.val, 0]) (j : Fin p) :
    window (s := ⟨2, ![4096, p]⟩) x off ![1024, p] inb (ix2 r j) = x (ix2 (row b r) j) := by
  subst ho
  refine congrArg x (funext fun a => Fin.ext ?_)
  match a with
  | ⟨0, _⟩ => exact congrArg (1024 * b.val + ·) (Nat.one_mul r.val)
  | ⟨1, _⟩ => exact (Nat.zero_add (1 * j.val)).trans (Nat.one_mul j.val)
theorem window4 (x : (⟨4, ![1, 4, 1, 1024]⟩ : Shape).Idx → α) (off : Fin 4 → ℕ) (inb) (ho : off = ![0, b.val, 0, 0]) :
    window (s := ⟨4, ![1, 4, 1, 1024]⟩) x off ![1, 1, 1, 1024] inb (ix4 0 0 0 r) = x (ix4 0 b 0 r) := by
  subst ho
  refine congrArg x (funext fun a => Fin.ext ?_)
  match a with
  | ⟨0, _⟩ => rfl
  | ⟨1, _⟩ => rfl
  | ⟨2, _⟩ => rfl
  | ⟨3, _⟩ => exact (Nat.zero_add (1 * r.val)).trans (Nat.one_mul r.val)

theorem put_in (x : S1x4096x256.Idx → α) (off : Fin 3 → ℕ) (w : S1x1024x256.Idx → α) (ho : off = ![0, 1024 * b.val, 0]) (j : Fin 256) :
    put (s := S1x4096x256) x off S1x1024x256.size w (ix3 0 (row b r) j) = w (ix3 0 r j) := by
  subst ho
  unfold put
  rw [dif_pos]
  · refine congrArg w (funext fun a => Fin.ext ?_)
    rw [Rect.unitLocal_val]
    match a with
    | ⟨0, _⟩ => rfl
    | ⟨1, _⟩ => exact Nat.add_sub_cancel_left (1024 * b.val) r.val
    | ⟨2, _⟩ => exact Nat.sub_zero j.val
  · intro a
    match a with
    | ⟨0, _⟩ => exact ⟨le_rfl, Nat.one_pos⟩
    | ⟨1, _⟩ => exact ⟨Nat.le_add_right _ _, Nat.add_lt_add_left r.isLt _⟩
    | ⟨2, _⟩ => exact ⟨Nat.zero_le _, (Nat.zero_add 256).symm ▸ j.isLt⟩
theorem put_out (x : S1x4096x256.Idx → α) (off : Fin 3 → ℕ) (w : S1x1024x256.Idx → α) (ho : off = ![0, 1024 * b.val, 0]) (r : Fin 4096) (j : Fin 256)
    (hr : ¬(1024 * b.val ≤ r.val ∧ r.val < 1024 * b.val + 1024)) :
    put (s := S1x4096x256) x off S1x1024x256.size w (ix3 0 r j) = x (ix3 0 r j) := by
  subst ho
  unfold put
  rw [dif_neg]
  exact fun h => hr (h 1)
end

/-! ## A point's sums -/

variable (Q K : S4096x8x192.Idx → ℝ) (W : S4096x8x128.Idx → ℝ) (G : S4096x1024.Idx → ℝ)

/-- What the staged blocks hold. -/
structure Holds (x : Staged Ideal) (h : Fin 8) (i : grid0.Coords) : Prop where
  q : ∀ r j, x.q (ix3 0 r j) = (queryP Q h r j : EReal)
  k : ∀ c j, x.k (ix3 0 c j) = (keyP K h (row (here i) c) j : EReal)
  v : ∀ c e, x.v (ix3 0 c e) = (W (ix3 (row (here i) c) h e) : EReal)
  o : ∀ r e, x.o (ix2 r e) = (out Q K W h r e : EReal)
  d : ∀ r e, x.d (ix2 r e) = (G (ix2 r (col h e)) : EReal)
  l : ∀ b r, x.l (ix4 0 b 0 r) = (lse Q K h (row b r) : EReal)

/-- What block `b`'s keys add to a row of the queries' gradient. -/
def part (h : Fin 8) (b : Fin 4) (r : Fin 4096) (j : Fin 256) : ℝ := ∑ c, dScore Q K W G h r (row b c) * keyP K h (row b c) j

/-- A key after the query has no weight. -/
theorem dScore_zero (h : Fin 8) {r c : Fin 4096} (hc : ¬keep r c) : dScore Q K W G h r c = 0 := by
  rw [dScore, weight, Softmax.weight_of_not hc, zero_mul]

variable {Q K W G}
variable {x : Staged Ideal} {h : Fin 8} {i : grid0.Coords} (H : Holds Q K W G x h i)
include H

theorem tile0 : Tile Q K W G h (row (here i)) (row (here i)) x.k x.v (q0 x i) (d0 x i) (o0 x i) (l0 x i) where
  k := H.k
  v := H.v
  q r j := (window3 (here i) r x.q _ _ (off1_at i) j).trans (H.q _ _)
  d r e := (window2 (here i) r x.d _ _ (off2_at i) e).trans (H.d _ _)
  o r e := (window2 (here i) r x.o _ _ (off2_at i) e).trans (H.o _ _)
  l r := (window4 (here i) r x.l _ _ (off3_at i)).trans (H.l _ _)

theorem tile (n : Fin (k0_t1_loop i).trips) :
    Tile Q K W G h (row (here i)) (row (there i n)) x.k x.v (qn x i n) (dn x i n) (on x i n) (ln x i n) where
  k := H.k
  v := H.v
  q r j := (window3 (there i n) r x.q _ _ (off4_at i n) j).trans (H.q _ _)
  d r e := (window2 (there i n) r x.d _ _ (off5_at i n) e).trans (H.d _ _)
  o r e := (window2 (there i n) r x.o _ _ (off5_at i n) e).trans (H.o _ _)
  l r := (window4 (there i n) r x.l _ _ (off6_at i n)).trans (H.l _ _)

omit H in
theorem mask0 (c r : Fin 1024) : c.val ≤ r.val ↔ (row (here i) c).val ≤ (row (here i) r).val := by simp only [row_val]; omega
omit H in
theorem mask (n : Fin (k0_t1_loop i).trips) (c r : Fin 1024) : (row (here i) c).val ≤ (row (there i n) r).val := by
  simp only [row_val, here_val, there_val]; omega

/-- The keys' and the values' gradients after the diagonal tile and `n` later ones. -/
theorem carry_at (c : Fin 1024) (n : ℕ) (hn : n ≤ (k0_t1_loop i).trips) :
    (∀ j, (carryAfter x i n).1 (ix2 c j) = ((∑ y ∈ Finset.Ico (1024 * (i 1).val) (1024 * ((i 1).val + n + 1)),
        Softmax.ext (fun r => dScore Q K W G h r (row (here i) c) * queryP Q h r j) y : ℝ) : EReal)) ∧
    (∀ e, (carryAfter x i n).2 (ix2 c e) = ((∑ y ∈ Finset.Ico (1024 * (i 1).val) (1024 * ((i 1).val + n + 1)),
        Softmax.ext (fun r => weight Q K h r (row (here i) c) * G (ix2 r (col h e))) y : ℝ) : EReal)) := by
  induction n with
  | zero =>
    refine ⟨fun j => (diag_dKey (tile0 H) mask0 c j).trans (congrArg _ ?_), fun e => (diag_dValue (tile0 H) mask0 c e).trans (congrArg _ ?_)⟩
    · exact Softmax.sum_block (fun r => dScore Q K W G h r (row (here i) c) * queryP Q h r j) (i 1).val _ fun r => rfl
    · exact Softmax.sum_block (fun r => weight Q K h r (row (here i) c) * G (ix2 r (col h e))) (i 1).val _ fun r => rfl
  | succ n ih =>
    obtain ⟨hk, hv⟩ := ih (Nat.le_of_succ_le hn)
    rw [carryAfter_succ x i ⟨n, hn⟩]
    refine ⟨fun j => (later_dKey (tile H ⟨n, hn⟩) (mask ⟨n, hn⟩) _ c j).trans ?_, fun e => (later_dValue (tile H ⟨n, hn⟩) (mask ⟨n, hn⟩) _ c e).trans ?_⟩
    · rw [hk, ← EReal.coe_add, ← Finset.sum_Ico_consecutive _ (Nat.mul_le_mul_left 1024 (show (i 1).val ≤ (i 1).val + n + 1 by omega))
        (Nat.mul_le_mul_left 1024 (show (i 1).val + n + 1 ≤ (i 1).val + (n + 1) + 1 by omega))]
      refine congrArg _ (congrArg (_ + ·) ?_)
      exact Softmax.sum_block (fun r => dScore Q K W G h r (row (here i) c) * queryP Q h r j) ((i 1).val + n + 1) _ fun r => rfl
    · rw [hv, ← EReal.coe_add, ← Finset.sum_Ico_consecutive _ (Nat.mul_le_mul_left 1024 (show (i 1).val ≤ (i 1).val + n + 1 by omega))
        (Nat.mul_le_mul_left 1024 (show (i 1).val + n + 1 ≤ (i 1).val + (n + 1) + 1 by omega))]
      refine congrArg _ (congrArg (_ + ·) ?_)
      exact Softmax.sum_block (fun r => weight Q K h r (row (here i) c) * G (ix2 r (col h e))) ((i 1).val + n + 1) _ fun r => rfl

omit H in
theorem last_row (i : grid0.Coords) : 1024 * ((i 1).val + (k0_t1_loop i).trips + 1) = 4096 := by
  have h : (i 1).val < 4 := (i 1).isLt
  rw [trips_at]; omega

/-- The gradients of the point's keys, -/
theorem outDk_at (c : Fin 1024) (j : Fin 256) :
    outDk x i (ix3 0 c j) = ((∑ r, dScore Q K W G h r (row (here i) c) * queryP Q h r j : ℝ) : EReal) := by
  pointwise [outDk, k0_pay1]
  rw [(carry_at H c _ le_rfl).1 j, last_row, ← Softmax.sum_from _ _ (by have h : (i 1).val < 4 := (i 1).isLt; omega)]
  intro r hr
  rw [dScore_zero _ _ _ _ _ (not_keep (here i) c hr), zero_mul]
/-- and of its values. -/
theorem outDv_at (c : Fin 1024) (e : Fin 128) :
    outDv x i (ix3 0 c e) = ((∑ r, weight Q K h r (row (here i) c) * G (ix2 r (col h e)) : ℝ) : EReal) := by
  pointwise [outDv, k0_pay2]
  rw [(carry_at H c _ le_rfl).2 e, last_row, ← Softmax.sum_from _ _ (by have h : (i 1).val < 4 := (i 1).isLt; omega)]
  intro r hr
  rw [weight, Softmax.weight_of_not (not_keep (here i) c hr), zero_mul]

/-- The queries' gradient after the diagonal tile and `n` later ones. -/
theorem dqAfter_at (g : FVec Ideal S1x4096x256 .f32) (r : Fin 4096) (j : Fin 256) (n : ℕ) (hn : n ≤ (k0_t1_loop i).trips) :
    dqAfter x i g n (ix3 0 r j) = if r.val < 1024 * ((i 1).val + n + 1) then g (ix3 0 r j) + (part Q K W G h (here i) r j : EReal) else g (ix3 0 r j) := by
  induction n with
  | zero =>
    show diag x i g _ = _
    unfold diag
    by_cases hr : 1024 * (here i).val ≤ r.val ∧ r.val < 1024 * (here i).val + 1024
    · obtain ⟨r, rfl⟩ : ∃ r', r = row (here i) r' := ⟨⟨r.val - 1024 * (here i).val, by omega⟩, Fin.ext (by simp only [row_val]; omega)⟩
      rw [put_in (here i) r _ _ _ (off1_at i), if_pos (by simp only [row_val, here_val]; omega)]
      refine (diag_dQuery (tile0 H) mask0 _ r j).trans (congrArg (· + _) ?_)
      exact window3 (here i) r g _ _ (off1_at i) j
    · rw [put_out (here i) _ _ _ (off1_at i) r j hr]
      split
      · rename_i hlt
        rw [part, Finset.sum_eq_zero, EReal.coe_zero, add_zero]
        intro c _
        rw [dScore_zero _ _ _ _ _ (not_keep (here i) c (by rw [here_val] at hr ⊢; omega)), zero_mul]
      · rfl
  | succ n ih =>
    rw [dqAfter_succ x i g ⟨n, hn⟩]
    unfold stepDq
    by_cases hr : 1024 * (there i ⟨n, hn⟩).val ≤ r.val ∧ r.val < 1024 * (there i ⟨n, hn⟩).val + 1024
    · obtain ⟨r, rfl⟩ : ∃ r', r = row (there i ⟨n, hn⟩) r' := ⟨⟨r.val - 1024 * (there i ⟨n, hn⟩).val, by omega⟩, Fin.ext (by simp only [row_val]; omega)⟩
      rw [put_in (there i ⟨n, hn⟩) r _ _ _ (off4_at i ⟨n, hn⟩), if_pos (by simp only [row_val, there_val]; omega)]
      refine (later_dQuery (tile H ⟨n, hn⟩) (mask ⟨n, hn⟩) _ r j).trans (congrArg (· + _) ?_)
      refine (window3 (there i ⟨n, hn⟩) r _ _ _ (off4_at i ⟨n, hn⟩) j).trans ?_
      rw [ih (Nat.le_of_succ_le hn), if_neg (by simp only [row_val, there_val]; omega)]
    · rw [put_out (there i ⟨n, hn⟩) _ _ _ (off4_at i ⟨n, hn⟩) r j hr, ih (Nat.le_of_succ_le hn)]
      refine if_congr ?_ rfl rfl
      simp only [there_val] at hr
      omega

/-- The point adds its keys' part to the queries' gradient. -/
theorem outDq_at (g : FVec Ideal S1x4096x256 .f32) (r : Fin 4096) (j : Fin 256) :
    outDq x i g (ix3 0 r j) = g (ix3 0 r j) + (part Q K W G h (here i) r j : EReal) := by
  refine (dqAfter_at H g r j _ le_rfl).trans (if_pos ?_)
  rw [last_row]
  exact r.isLt

end Cert.AttnKernelIdeal.Attn
-- ==== Proof.AttnSaved.lean ====
module

public import proofs.«01_k».proof.Proof.AttnSum

@[expose] public section

set_option maxRecDepth 16384

noncomputable section

open Idealize.ShloMosaic Idealize.ShloMosaic.TcCoe Idealize.SL.Sem
open Cert.AttnReferenceIdeal.Attn (query score keep weight dWeight dScore col keeps factor ofBits_factor ofBits_neg_inf zero_word reduce_max)

namespace Cert.AttnKernelIdeal.Attn

open Cert.AttnKernelIdeal Cert.AttnKernelIdeal.Gen

/-! ## The arrays the host hands to the kernel -/

section
variable (q k : FVec Ideal S4096x8x192 .f32) (v : FVec Ideal S4096x8x128 .f32)

/-- Where the key does not come after the query. -/
def lower : IVec S4096x4096 1 :=
  select (cmpi .sge (addi (iotaInDim S4096x4096 32 0) (broadcastInDim S4096x4096 ![] bcast_S_S4096x4096 (constantI S_ 32 0#32))) (iotaInDim S4096x4096 32 1))
    (broadcastInDim S4096x4096 ![] bcast_S_S4096x4096 (constantI S_ 1 1#1)) (broadcastInDim S4096x4096 ![] bcast_S_S4096x4096 (constantI S_ 1 0#1))
/-- The scaled queries. -/
def scaled : FVec Ideal S4096x8x192 .f32 := mulf q (broadcastInDim S4096x8x192 ![] bcast_S_S4096x8x192 (constant S_ .f32 0x3D93CD3A#32))
/-- The masked scores. -/
def scores : FVec Ideal S8x4096x4096 .f32 :=
  select (broadcastInDim S8x4096x4096 ![1, 2] bcast_S4096x4096_S8x4096x4096_1_2 lower)
    (Host.dotGeneral dot_S4096x8x192_S4096x8x192_S8x4096x4096_2_2_0_0_1_1 none (scaled q) k)
    (broadcastInDim S8x4096x4096 ![] bcast_S_S8x4096x4096 (id (constant S_ .f32 0xFF800000#32)))
/-- Each row's maximum. -/
def rowMax : FVec Ideal S8x4096x1 .f32 :=
  broadcastInDim S8x4096x1 ![0, 1] bcast_S8x4096_S8x4096x1_0_1
    (Host.reduce FloatOps.maximumf (scores q k) (constant S_ .f32 0xFF800000#32) reducesTo_S8x4096x4096_S8x4096_d2 h_S_)
/-- The exponentials. -/
def expo : FVec Ideal S8x4096x4096 .f32 :=
  Host.exp (subf (scores q k) (broadcastInDim S8x4096x4096 ![0, 1, 2] bcast_S8x4096x1_S8x4096x4096_0_1_2 (rowMax q k)))
/-- Their sum over a row. -/
def total : FVec Ideal S8x4096x1 .f32 :=
  broadcastInDim S8x4096x1 ![0, 1] bcast_S8x4096_S8x4096x1_0_1
    (Host.reduceAdd (expo q k) (constant S_ .f32 0x00000000#32) reducesTo_S8x4096x4096_S8x4096_d2 h_S_)
/-- The weights. -/
def weights : FVec Ideal S8x4096x4096 .f32 :=
  Host.divf (expo q k) (broadcastInDim S8x4096x4096 ![0, 1, 2] bcast_S8x4096x1_S8x4096x4096_0_1_2 (total q k))
/-- The attention's output. -/
def savedOut : FVec Ideal S4096x1024 .f32 :=
  shapeCast S4096x1024 (transpose S4096x8x128 [2, 0, 1] (Host.dotGeneral dot_S4096x8x128_S8x4096x4096_S8x128x4096_0_2_2_1_1_0 none v (weights q k))
    transposes_S8x128x4096_S4096x8x128_2_0_1) shapeCasts_S4096x8x128_S4096x1024
/-- The logarithms of the rows' sums. -/
def savedLse : FVec Ideal S8x4x1x1024 .f32 :=
  shapeCast S8x4x1x1024 (addf (rowMax q k) (Host.log (total q k))) shapeCasts_S8x4096x1_S8x4x1x1024
/-- The heads' queries, keys and values. -/
def padQuery : FVec Ideal S8x4096x256 .bf16 :=
  truncf .bf16 (pad S8x4096x256 ![0, 0, 0] ![0, 0, 64] ![0, 0, 0] (transpose S8x4096x192 [1, 0, 2] (scaled q) transposes_S4096x8x192_S8x4096x192_1_0_2)
    (sitofp .f32 (constantI S_ 32 0#32)) pads_S8x4096x192_S8x4096x256_000_000_0640 h_S_) bitsLt_bf16_f32
def padKey : FVec Ideal S8x4096x256 .bf16 :=
  truncf .bf16 (pad S8x4096x256 ![0, 0, 0] ![0, 0, 64] ![0, 0, 0] (transpose S8x4096x192 [1, 0, 2] k transposes_S4096x8x192_S8x4096x192_1_0_2)
    (sitofp .f32 (constantI S_ 32 0#32)) pads_S8x4096x192_S8x4096x256_000_000_0640 h_S_) bitsLt_bf16_f32
def padValue : FVec Ideal S8x4096x128 .bf16 :=
  truncf .bf16 (pad S8x4096x128 ![0, 0, 0] ![0, 0, 0] ![0, 0, 0] (transpose S8x4096x128 [1, 0, 2] v transposes_S4096x8x128_S8x4096x128_1_0_2)
    (sitofp .f32 (constantI S_ 32 0#32)) pads_S8x4096x128_S8x4096x128_000_000_000 h_S_) bitsLt_bf16_f32
end

section
variable (m : (ℓ : Loc nD τ sig) → Buf (Elt Ideal) ℓ) (c : Dev nD)

abbrev argQ : FVec Ideal S4096x8x192 .f32 := m ((c : Thread nD τ).loc main_arg0)
abbrev argK : FVec Ideal S4096x8x192 .f32 := m ((c : Thread nD τ).loc main_arg1)
abbrev argV : FVec Ideal S4096x8x128 .f32 := m ((c : Thread nD τ).loc main_arg2)
abbrev argG : FVec Ideal S4096x1024 .f32 := m ((c : Thread nD τ).loc main_arg3)

theorem V_query : V m c main_v22 = padQuery (argQ m c) := by
  unfold V; simp only [List.flatten_cons, List.flatten_nil, List.cons_append, List.nil_append]; after_results; rfl
theorem V_key : V m c main_v25 = padKey (argK m c) := by
  unfold V; simp only [List.flatten_cons, List.flatten_nil, List.cons_append, List.nil_append]; after_results; rfl
theorem V_value : V m c main_v28 = padValue (argV m c) := by
  unfold V; simp only [List.flatten_cons, List.flatten_nil, List.cons_append, List.nil_append]; after_results; rfl
theorem V_out : V m c main_v17 = savedOut (argQ m c) (argK m c) (argV m c) := by
  unfold V; simp only [List.flatten_cons, List.flatten_nil, List.cons_append, List.nil_append]; after_results; rfl
theorem V_lse : V m c main_v29 = savedLse (argQ m c) (argK m c) := by
  unfold V; simp only [List.flatten_cons, List.flatten_nil, List.cons_append, List.nil_append]; after_results; rfl
theorem V_dOut : V m c main_arg3 = argG m c := by
  unfold V; simp only [List.flatten_cons, List.flatten_nil, List.cons_append, List.nil_append]; after_results
end

/-! ## Their entries, for real arguments -/

variable {q k : FVec Ideal S4096x8x192 .f32} {v : FVec Ideal S4096x8x128 .f32} {Q K : S4096x8x192.Idx → ℝ} {W : S4096x8x128.Idx → ℝ}

theorem lower_apply (r c : Fin 4096) : lower (ix2 r c) = 1#1 ↔ keep r c := by
  pointwise [lower]
  rw [Scalar.select_def, show IntOp.addi (BitVec.ofNat 32 r.val) 0#32 = BitVec.ofNat 32 r.val from BitVec.add_zero _]
  have h := WordCmp.cmpi_sge_ofNat_eq_one_iff (w := 32) (a := r.val) (b := c.val) (by omega) (by omega)
  split
  · rename_i e
    exact ⟨fun _ => h.mp e, fun _ => rfl⟩
  · rename_i e
    exact ⟨fun a => absurd a (by decide), fun a => absurd (h.mpr a) e⟩

theorem scaled_at (hq : ∀ i, q i = (Q i : EReal)) (h : Fin 8) (r : Fin 4096) (j : Fin 192) : scaled q (ix3 r h j) = (query Q h r j : EReal) := by
  pointwise [scaled]
  rw [hq, ofBits_factor, ← EReal.coe_mul]
  rfl

theorem padQuery_at (hq : ∀ i, q i = (Q i : EReal)) (h : Fin 8) (r : Fin 4096) (j : Fin 256) : padQuery q (ix3 h r j) = (queryP Q h r j : EReal) := by
  unfold queryP
  pointwise [padQuery]
  split
  · exact scaled_at hq h r _
  · exact zero_word
theorem padKey_at (hk : ∀ i, k i = (K i : EReal)) (h : Fin 8) (r : Fin 4096) (j : Fin 256) : padKey k (ix3 h r j) = (keyP K h r j : EReal) := by
  unfold keyP
  pointwise [padKey]
  split
  · exact hk _
  · exact zero_word
theorem padValue_at (hv : ∀ i, v i = (W i : EReal)) (h : Fin 8) (r : Fin 4096) (e : Fin 128) : padValue v (ix3 h r e) = (W (ix3 r h e) : EReal) := by
  pointwise [padValue]
  exact hv _

/-- A column of 4096 rows as four blocks of 1024. -/
theorem byBlocks_apply (f : FVec Ideal S8x4096x1 .f32) (h : Fin 8) (b : Fin 4) (r : Fin 1024) :
    shapeCast S8x4x1x1024 f shapeCasts_S8x4096x1_S8x4x1x1024 (ix4 h b 0 r) = f (ix3 h (row b r) 0) := by
  pointwise []
  rw [show (⟨b.val * 1024 + r.val, by omega⟩ : Fin 4096) = row b r from Fin.ext (by rw [row_val]; dsimp only; omega)]

theorem total_apply (h : Fin 8) (r : Fin 4096) : total q k (ix3 h r 0) = ∑ c, expo q k (ix3 h r c) := by
  unfold total
  generalize expo q k = f
  pointwise []

section
variable (hq : ∀ i, q i = (Q i : EReal)) (hk : ∀ i, k i = (K i : EReal))
include hq hk

theorem scores_at (h : Fin 8) (r c : Fin 4096) : scores q k (ix3 h r c) = Softmax.masked (score Q K h r) (keep r) c := by
  pointwise [scores]
  rw [Scalar.select_def]
  simp only [lower_apply, scaled_at hq, hk, ← EReal.coe_mul, ← Softmax.coe_sum]
  show (if _ then _ else Ideal.ofBits .f32 0xFF800000#32) = _
  rw [ofBits_neg_inf]
  exact if_congr (lower_apply r c) rfl rfl

theorem reduce_scores (h : Fin 8) (r : Fin 4096) : ∃ m : ℝ,
    Host.reduce FloatOps.maximumf (scores q k) (constant S_ .f32 0xFF800000#32) reducesTo_S8x4096x4096_S8x4096_d2 h_S_ (ix2 h r) = (m : EReal) := by
  obtain ⟨m, hm⟩ := Softmax.fold_max (s := score Q K h r) (keeps r)
  refine ⟨m, ?_⟩
  rw [reduce_max, ← hm]
  exact congrArg₂ (fun a f => (Finset.univ : Finset (Fin 4096)).fold max a f) (show Ideal.ofBits .f32 0xFF800000#32 = _ from ofBits_neg_inf) (funext fun c => scores_at hq hk h r c)

theorem rowMax_at (h : Fin 8) (r : Fin 4096) : ∃ m : ℝ, rowMax q k (ix3 h r 0) = (m : EReal) ∧
    ∀ c, expo q k (ix3 h r c) = (Softmax.shifted (score Q K h r) (keep r) m c : EReal) := by
  obtain ⟨m, hm⟩ := reduce_scores hq hk h r
  have e : rowMax q k (ix3 h r 0) = (m : EReal) := by
    refine Eq.trans ?_ hm
    unfold rowMax
    generalize Host.reduce FloatOps.maximumf (scores q k) (constant S_ .f32 0xFF800000#32) reducesTo_S8x4096x4096_S8x4096_d2 h_S_ = f
    pointwise []
  refine ⟨m, e, fun c => ?_⟩
  pointwise [expo]
  rw [e, scores_at hq hk, Softmax.exp_masked]

theorem weights_at (h : Fin 8) (r c : Fin 4096) : weights q k (ix3 h r c) = (weight Q K h r c : EReal) := by
  obtain ⟨m, -, hm⟩ := rowMax_at hq hk h r
  pointwise [weights, total]
  simp only [hm, ← Softmax.coe_sum]
  rw [Softmax.div_coe _ (Softmax.sum_shifted_pos (keeps r) m).ne', Softmax.weight_div (keeps r)]
  rfl

theorem savedOut_at (hv : ∀ i, v i = (W i : EReal)) (h : Fin 8) (r : Fin 4096) (e : Fin 128) :
    savedOut q k v (ix2 r (col h e)) = (out Q K W h r e : EReal) := by
  pointwise [savedOut]
  have h0 : (⟨(h.val * 128 + e.val) / 128, by omega⟩ : Fin 8) = h := Fin.ext (by dsimp only; omega)
  have h1 : (⟨(h.val * 128 + e.val) % 128, by omega⟩ : Fin 128) = e := Fin.ext (by dsimp only; omega)
  simp only [h0, h1, hv, weights_at hq hk, ← EReal.coe_mul, ← Softmax.coe_sum]
  exact congrArg _ (Finset.sum_congr rfl fun c _ => mul_comm _ _)

theorem savedLse_at (h : Fin 8) (b : Fin 4) (r : Fin 1024) : savedLse q k (ix4 h b 0 r) = (lse Q K h (row b r) : EReal) := by
  obtain ⟨m, hm, he⟩ := rowMax_at hq hk h (row b r)
  refine (byBlocks_apply _ h b r).trans ((addf_apply _ _ _).trans ?_)
  rw [hm]
  refine Eq.trans (congrArg (fun a => (m : EReal) + Ideal.log a) ((total_apply h (row b r)).trans (Finset.sum_congr rfl fun c _ => he c))) ?_
  exact Softmax.log_sum (keeps _) m
end

end Cert.AttnKernelIdeal.Attn
-- ==== Proof.AttnFReference.lean ====
module

public import proofs.«01_k».proof.Proof.Gen.AttnFReferenceIdeal
public import proofs.«01_k».proof.Proof.Gen.AttnFReferenceIdeal.Run
public import proofs.«01_k».proof.Proof.AttnSaved

@[expose] public section

set_option maxRecDepth 16384

noncomputable section

open Idealize.ShloMosaic Idealize.ShloMosaic.TcCoe Idealize.SL.Sem
open Cert.AttnReferenceIdeal.Attn (query score keep weight col keeps factor ofBits_factor ofBits_neg_inf)
open Cert.AttnKernelIdeal.Attn (lse row row_val)

namespace Cert.AttnFReferenceIdeal.AttnF

open Cert.AttnFReferenceIdeal Cert.AttnFReferenceIdeal.Gen

/-! ## The reference's terms -/

section
variable (q k : FVec Ideal S4096x8x192 .f32) (v : FVec Ideal S4096x8x128 .f32) (s : FVec Ideal S8x4096x4096 .f32)

/-- The masked scores: the products of queries and keys, times the factor. -/
def scores : FVec Ideal S8x4096x4096 .f32 :=
  select AttnReferenceIdeal.Attn.kept (mulf (Host.dotGeneral dot_S4096x8x192_S4096x8x192_S8x4096x4096_2_2_0_0_1_1 none q k)
      (broadcastInDim S8x4096x4096 ![] bcast_S_S8x4096x4096 (constant S_ .f32 0x3D93CD3A#32)))
    (broadcastInDim S8x4096x4096 ![] bcast_S_S8x4096x4096 (id (constant S_ .f32 0xFF800000#32)))
/-- Each row's maximum, -/
def rowMax : FVec Ideal S8x4096 .f32 :=
  Host.reduce FloatOps.maximumf s (constant S_ .f32 0xFF800000#32) reducesTo_S8x4096x4096_S8x4096_d2 h_S_
/-- the exponentials after subtracting `mx`, -/
def expo (mx : FVec Ideal S8x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 mx)))
/-- and their sums. -/
def total (x : FVec Ideal S8x4096x4096 .f32) : FVec Ideal S8x4096 .f32 :=
  Host.reduceAdd x (constant S_ .f32 0x00000000#32) reducesTo_S8x4096x4096_S8x4096_d2 h_S_
/-- The output, from the masked scores. -/
def outOf : FVec Ideal S4096x1024 .f32 :=
  shapeCast S4096x1024 (transpose S4096x8x128 [2, 0, 1] (Host.dotGeneral dot_S4096x8x128_S8x4096x4096_S8x128x4096_0_2_2_1_1_0 none v
    (let x := expo s (maximumf (broadcastInDim S8x4096 ![] bcast_S_S8x4096 (constant S_ .f32 0xFF800000#32)) (rowMax s))
     Host.divf x (broadcastInDim S8x4096x4096 ![0, 1, 2] bcast_S8x4096x1_S8x4096x4096_0_1_2 (broadcastInDim S8x4096x1 ![0, 1] bcast_S8x4096_S8x4096x1_0_1 (total x)))))
    transposes_S8x128x4096_S4096x8x128_2_0_1) shapeCasts_S4096x8x128_S4096x1024
/-- The logarithms of the rows' sums. -/
def lseOf : FVec Ideal S8x4x1x1024 .f32 :=
  shapeCast S8x4x1x1024 (addf (rowMax s) (Host.log (total (expo s (rowMax s))))) shapeCasts_S8x4096_S8x4x1x1024
end

section
variable (m : (ℓ : Loc nD τ sig) → Buf (Elt Ideal) ℓ) (c : Dev nD)

theorem run_out : Value.res_main_v32 m c = outOf (m ((c.tc : Thread nD τ).loc main_arg2))
    (scores (m ((c.tc : Thread nD τ).loc main_arg0)) (m ((c.tc : Thread nD τ).loc main_arg1))) := rfl
end

/-! ## Their entries, for real queries and keys -/

/-- A row's output: the values, which may be infinite, by the weights. -/
def out (Q K : S4096x8x192.Idx → ℝ) (v : S4096x8x128.Idx → EReal) (h : Fin 8) (r : Fin 4096) (e : Fin 128) : EReal :=
  ∑ c, (weight Q K h r c : EReal) * v (ix3 c h e)

variable {q k : FVec Ideal S4096x8x192 .f32} {v : FVec Ideal S4096x8x128 .f32} {Q K : S4096x8x192.Idx → ℝ}
variable (hq : ∀ i, q i = (Q i : EReal)) (hk : ∀ i, k i = (K i : EReal))
include hq hk

theorem scores_at (h : Fin 8) (r c : Fin 4096) : scores q k (ix3 h r c) = Softmax.masked (score Q K h r) (keep r) c := by
  have e : Host.dotGeneral dot_S4096x8x192_S4096x8x192_S8x4096x4096_2_2_0_0_1_1 none q k (ix3 h r c) * (factor : EReal) = (score Q K h r c : EReal) := by
    pointwise []
    simp only [hq, hk, ← EReal.coe_mul, ← Softmax.coe_sum]
    refine congrArg _ ?_
    rw [Finset.sum_mul]
    exact Finset.sum_congr rfl fun j _ => mul_right_comm _ _ _
  unfold scores
  generalize Host.dotGeneral dot_S4096x8x192_S4096x8x192_S8x4096x4096_2_2_0_0_1_1 none q k = f at e
  pointwise []
  rw [Scalar.select_def, ofBits_factor, e]
  show (if _ then _ else Ideal.ofBits .f32 0xFF800000#32) = _
  rw [ofBits_neg_inf]
  exact if_congr (AttnReferenceIdeal.Attn.kept_apply h r c) rfl rfl

theorem scores_eq : scores q k = AttnReferenceIdeal.Attn.scores q k := by
  funext y
  idx_vars y
  exact (scores_at hq hk _ _ _).trans (AttnReferenceIdeal.Attn.scores_at hq hk _ _ _).symm
theorem scores_saved : scores q k = AttnKernelIdeal.Attn.scores q k := by
  funext y
  idx_vars y
  exact (scores_at hq hk _ _ _).trans (AttnKernelIdeal.Attn.scores_at hq hk _ _ _).symm

theorem out_at (h : Fin 8) (r : Fin 4096) (e : Fin 128) :
    outOf v (scores q k) (ix2 r (col h e)) = out Q K v h r e := by
  have e0 : outOf v (scores q k) = shapeCast S4096x1024 (transpose S4096x8x128 [2, 0, 1]
      (Host.dotGeneral dot_S4096x8x128_S8x4096x4096_S8x128x4096_0_2_2_1_1_0 none v (AttnReferenceIdeal.Attn.weights q k))
      transposes_S8x128x4096_S4096x8x128_2_0_1) shapeCasts_S4096x8x128_S4096x1024 := by
    rw [scores_eq hq hk]
    rfl
  have w := AttnReferenceIdeal.Attn.weights_at hq hk
  rw [e0]
  generalize AttnReferenceIdeal.Attn.weights q k = f at w
  pointwise []
  have h0 : (⟨(h.val * 128 + e.val) / 128, by omega⟩ : Fin 8) = h := Fin.ext (by dsimp only; omega)
  have h1 : (⟨(h.val * 128 + e.val) % 128, by omega⟩ : Fin 128) = e := Fin.ext (by dsimp only; omega)
  simp only [h0, h1, w]
  exact Finset.sum_congr rfl fun c _ => mul_comm _ _

omit hq hk in
/-- A column of 4096 rows as four blocks of 1024. -/
theorem byBlocks_apply (f : FVec Ideal S8x4096 .f32) (h : Fin 8) (b : Fin 4) (r : Fin 1024) :
    shapeCast S8x4x1x1024 f shapeCasts_S8x4096_S8x4x1x1024 (ix4 h b 0 r) = f (ix2 h (row b r)) := by
  pointwise []
  rw [show (⟨b.val * 1024 + r.val, by omega⟩ : Fin 4096) = row b r from Fin.ext (by rw [row_val]; dsimp only; omega)]

omit hq hk in
theorem total_apply (x : FVec Ideal S8x4096x4096 .f32) (h : Fin 8) (r : Fin 4096) : total x (ix2 h r) = ∑ c, x (ix3 h r c) := by
  pointwise [total]

theorem lse_at (h : Fin 8) (b : Fin 4) (r : Fin 1024) : lseOf (scores q k) (ix4 h b 0 r) = (lse Q K h (row b r) : EReal) := by
  rw [scores_saved hq hk]
  obtain ⟨m, hm, he⟩ := AttnKernelIdeal.Attn.rowMax_at hq hk h (row b r)
  have e : rowMax (AttnKernelIdeal.Attn.scores q k) (ix2 h (row b r)) = (m : EReal) := by
    refine Eq.trans ?_ hm
    unfold rowMax AttnKernelIdeal.Attn.rowMax
    generalize Host.reduce FloatOps.maximumf (AttnKernelIdeal.Attn.scores q k) _ _ _ = f
    pointwise []
  refine (byBlocks_apply _ h b r).trans ((addf_apply _ _ _).trans ?_)
  rw [e]
  refine Eq.trans (congrArg (fun a => (m : EReal) + Ideal.log a) ((total_apply _ h (row b r)).trans (Finset.sum_congr rfl fun c _ => he c))) ?_
  exact Softmax.log_sum (keeps _) m

end Cert.AttnFReferenceIdeal.AttnF
-- ==== Proof.AttnFTile.lean ====
module

public import proofs.«01_k».proof.Proof.Gen.AttnFKernelIdeal.Skeleton
public import proofs.«01_k».proof.Proof.Online
public import proofs.«01_k».proof.Proof.AttnFReference
public import Idealize.ShloMosaic.Lib.Pipeline.ValueKit

@[expose] public section

set_option maxRecDepth 16384

noncomputable section

open Idealize.ShloMosaic Idealize.ShloMosaic.TcCoe Idealize.SL.Sem
open Cert.AttnReferenceIdeal.Attn (score keep weight keeps ofBits_neg_inf)
open Cert.AttnKernelIdeal.Attn (queryP keyP lse row row_val score_eq not_keep)
open Cert.AttnFReferenceIdeal.AttnF (out)
open Softmax (Running ext)

namespace Cert.AttnFKernelIdeal.AttnF

open Cert.AttnFKernelIdeal Cert.AttnFKernelIdeal.Gen

/-! ## One tile of one head -/

section
variable (s : FVec Ideal S1024x1024 .f32) (m d : FVec Ideal S1024x1 .f32) (a : FVec Ideal S1024x128 .f32) (w : Vec Ideal S1x1024x128 .bf16)

/-- The rows' maxima with the tile's scores, -/
def newMax : FVec Ideal S1024x1 .f32 :=
  maximumf m (shapeCast S1024x1 (multiReduction .maximumf [1] S1024 s 0xFF800000#32 reduces_S1024x1024_S1024 (.inl rfl) rfl) shapeCasts_S1024_S1024x1)
/-- what the sums so far are multiplied by, -/
def scale : FVec Ideal S1024x1 .f32 := exp (subf m (newMax s m))
/-- the tile's exponentials, -/
def expos : FVec Ideal S1024x1024 .f32 := exp (subf s (broadcastTo S1024x1024 (newMax s m) broadcasts_S1024x1_S1024x1024))
/-- the sums with them, -/
def newSum : FVec Ideal S1024x1 .f32 :=
  addf (mulf (scale s m) d)
    (shapeCast S1024x1 (multiReduction .add [1] S1024 (expos s m) 0x00000000#32 reduces_S1024x1024_S1024 (.inl rfl) rfl) shapeCasts_S1024_S1024x1)
/-- and the weighted sums. -/
def newOut : FVec Ideal S1024x128 .f32 :=
  addf (mulf (broadcastTo S1024x128 (scale s m) broadcasts_S1024x1_S1024x128) a)
    (matmul dot_S1024x1024_S1024x128_S1024x128_1_0_0_1_n_n none (truncf .bf16 (expos s m) bitsLt_bf16_f32)
      (shapeCast S1024x128 w shapeCasts_S1x1024x128_S1024x128 : FVec Ideal S1024x128 .bf16) (constant S1024x128 .f32 0x00000000#32))

theorem newMax_apply (r : Fin 1024) : newMax s m (ix2 r 0) = max (m (ix2 r 0)) ((Finset.univ : Finset (Fin 1024)).fold max ⊥ fun c => s (ix2 r c)) := by
  pointwise [newMax]
  rw [show Ideal.ofBits .f32 0xFF800000#32 = ⊥ from ofBits_neg_inf]
theorem scale_apply (r : Fin 1024) : scale s m (ix2 r 0) = Ideal.exp (m (ix2 r 0) - newMax s m (ix2 r 0)) := rfl
theorem expos_apply (r c : Fin 1024) : expos s m (ix2 r c) = Ideal.exp (s (ix2 r c) - newMax s m (ix2 r 0)) := by
  unfold expos
  generalize newMax s m = f
  pointwise []
theorem newSum_apply (r : Fin 1024) : newSum s m d (ix2 r 0) = Ideal.exp (m (ix2 r 0) - newMax s m (ix2 r 0)) * d (ix2 r 0)
    + ∑ c, Ideal.exp (s (ix2 r c) - newMax s m (ix2 r 0)) := by
  simp only [← expos_apply, ← scale_apply]
  unfold newSum
  generalize scale s m = f
  generalize expos s m = g
  pointwise []
theorem newOut_apply (r : Fin 1024) (e : Fin 128) : newOut s m a w (ix2 r e) = Ideal.exp (m (ix2 r 0) - newMax s m (ix2 r 0)) * a (ix2 r e)
    + ∑ c, Ideal.exp (s (ix2 r c) - newMax s m (ix2 r 0)) * w (ix3 0 c e) := by
  simp only [← expos_apply, ← scale_apply]
  unfold newOut
  generalize scale s m = f
  generalize expos s m = g
  pointwise []
end

/-! ## The scores of a tile -/

variable (Q K : S4096x8x192.Idx → ℝ) (v : S4096x8x128.Idx → EReal) (h : Fin 8)

section
variable {Q K h} {q : FVec Ideal S1024x256 .bf16} {kb : Vec Ideal S1x1024x256 .bf16} {b n : Fin 4}
  (hq : ∀ r j, q (ix2 r j) = (queryP Q h (row b r) j : EReal)) (hk : ∀ c j, kb (ix3 0 c j) = (keyP K h (row n c) j : EReal))
include hq hk

theorem tile_scores (r c : Fin 1024) : k0_pay4 q kb (ix2 r c) = (score Q K h (row b r) (row n c) : EReal) := by
  pointwise [k0_pay4]
  simp only [hq, hk, ← EReal.coe_mul, ← Softmax.coe_sum]
  exact congrArg _ ((Finset.sum_congr rfl fun j _ => mul_comm _ _).trans (score_eq Q K h _ _))

theorem tile_before (hn : n.val < b.val) (r c : Fin 1024) :
    k0_pay4 q kb (ix2 r c) = Softmax.masked (fun c => score Q K h (row b r) (row n c)) (fun c => keep (row b r) (row n c)) c :=
  (tile_scores hq hk r c).trans (if_pos (show (row n c).val ≤ (row b r).val by rw [row_val, row_val]; omega)).symm

theorem tile_diagonal (hn : n = b) (r c : Fin 1024) :
    k0_pay43 q kb (ix2 r c) = Softmax.masked (fun c => score Q K h (row b r) (row n c)) (fun c => keep (row b r) (row n c)) c := by
  have e : k0_pay43 q kb = select (cmpi .sle (iota .tc S1024x1024 32 [1] iota_S1024x1024_d1_w32) (iota .tc S1024x1024 32 [0] iota_S1024x1024_d0_w32))
      (k0_pay4 q kb) (broadcast S1024x1024 (Scalar.ofBits .f32 0xFF800000#32)) := rfl
  have t := tile_scores hq hk r c
  rw [e]
  generalize k0_pay4 q kb = f at t
  pointwise []
  rw [Scalar.select_def, t, show Ideal.ofBits .f32 0xFF800000#32 = ⊥ from ofBits_neg_inf]
  subst hn
  exact if_congr ((WordCmp.cmpi_sle_ofNat_eq_one_iff (by omega) (by omega)).trans
    (show c.val ≤ r.val ↔ (row n c).val ≤ (row n r).val by rw [row_val, row_val]; omega)) rfl rfl
end

/-! ## A head's state after some tiles -/

/-- A kept score's exponential, zero for another. -/
def kept (r c : Fin 4096) : ℝ := if keep r c then Real.exp (score Q K h r c) else 0

/-- The state after the tiles of the keys before `t`. -/
def After (b : Fin 4) (t : ℕ) (m d : FVec Ideal S1024x1 .f32) (a : FVec Ideal S1024x128 .f32) : Prop :=
  ∀ r : Fin 1024, Running (m (ix2 r 0)) (d (ix2 r 0)) (fun e : Fin 128 => a (ix2 r e))
    (∑ x ∈ Finset.Ico 0 t, ext (kept Q K h (row b r)) x)
    (fun e => ∑ x ∈ Finset.Ico 0 t, ext (fun c => (kept Q K h (row b r) c : EReal) * v (ix3 c h e)) x)

variable {Q K v h} {b : Fin 4} {m d : FVec Ideal S1024x1 .f32} {a : FVec Ideal S1024x128 .f32}

theorem After.init : After Q K v h b (1024 * 0) k0_pay30 k0_pay31 k0_pay32 := by
  intro r
  refine .inl ⟨?_, ?_, fun e => ?_, Finset.sum_empty, fun e => Finset.sum_empty⟩
  · exact ofBits_neg_inf
  · pointwise [k0_pay31]
  · pointwise [k0_pay32]

theorem After.step {n : Fin 4} (hs : After Q K v h b (1024 * n.val) m d a) {s : FVec Ideal S1024x1024 .f32} {w : Vec Ideal S1x1024x128 .bf16}
    (e : ∀ r c, s (ix2 r c) = Softmax.masked (fun c => score Q K h (row b r) (row n c)) (fun c => keep (row b r) (row n c)) c)
    (hw : ∀ c e, w (ix3 0 c e) = v (ix3 (row n c) h e)) (hn : n.val ≤ b.val) :
    After Q K v h b (1024 * (n.val + 1)) (newMax s m) (newSum s m d) (newOut s m a w) := by
  intro r
  have hk : ∃ c, keep (row b r) (row n c) := ⟨0, show (row n 0).val ≤ (row b r).val by
    rw [row_val, row_val]; have : ((0 : Fin 1024) : ℕ) = 0 := rfl; omega⟩
  obtain ⟨M, hM⟩ := (hs r).max_real (s := fun c => score Q K h (row b r) (row n c)) hk
  have eM : newMax s m (ix2 r 0) = (M : EReal) := by
    rw [newMax_apply, ← hM]
    exact congrArg (fun f => max _ (Finset.fold max ⊥ f _)) (funext fun c => e r c)
  have := (hs r).step (s := fun c => score Q K h (row b r) (row n c)) (keep := fun c => keep (row b r) (row n c)) (fun c e => v (ix3 (row n c) h e)) eM
  simp only [newSum_apply, newOut_apply, e, hw]
  have e1 := Softmax.sum_block (kept Q K h (row b r)) n.val (row n) (row_val n)
  have e2 := fun e => Softmax.sum_block (fun c => (kept Q K h (row b r) c : EReal) * v (ix3 c h e)) n.val (row n) (row_val n)
  have l1 := Nat.zero_le (1024 * n.val)
  have l2 : 1024 * n.val ≤ 1024 * (n.val + 1) := by omega
  simp only [← Finset.sum_Ico_consecutive _ l1 l2, ← e1, ← e2]
  exact this

/-! ## The end of a row -/

theorem sum_kept (r : Fin 4096) (b : Fin 4) (hr : r.val < 1024 * (b.val + 1)) (f : Fin 4096 → EReal) :
    ∑ x ∈ Finset.Ico 0 (1024 * (b.val + 1)), ext (fun c => (kept Q K h r c : EReal) * f c) x = ∑ c, (kept Q K h r c : EReal) * f c := by
  refine (Softmax.sum_until _ _ (by omega) fun c hc => ?_).symm
  rw [kept, if_neg (show ¬c.val ≤ r.val by omega), EReal.coe_zero, zero_mul]

theorem sum_den (r : Fin 4096) (b : Fin 4) (hr : r.val < 1024 * (b.val + 1)) :
    ∑ x ∈ Finset.Ico 0 (1024 * (b.val + 1)), ext (kept Q K h r) x = Softmax.den (score Q K h r) (keep r) :=
  (Softmax.sum_until _ _ (by omega) fun c hc => if_neg (show ¬c.val ≤ r.val by omega)).symm

theorem After.out (hs : After Q K v h b (1024 * (b.val + 1)) m d a) (r : Fin 1024) (e : Fin 128) :
    k0_pay2 d a (ix2 r e) = out Q K v h (row b r) e := by
  have hr : (row b r).val < 1024 * (b.val + 1) := by rw [row_val]; omega
  have := hs r
  rw [sum_den _ b hr] at this
  pointwise [k0_pay2]
  have hd : 0 < Softmax.den (score Q K h (row b r)) (keep (row b r)) := Softmax.den_pos (keeps _)
  rw [this.quotient hd e, sum_kept _ b hr, Softmax.coe_mul_sum (one_div_nonneg.mpr hd.le)]
  refine Finset.sum_congr rfl fun c _ => ?_
  rw [← mul_assoc, ← EReal.coe_mul]
  refine congrArg (fun x : ℝ => (x : EReal) * v (ix3 c h e)) ?_
  unfold kept weight Softmax.weight
  split
  · ring
  · simp

theorem After.lse (hs : After Q K v h b (1024 * (b.val + 1)) m d a) (r : Fin 1024) :
    k0_pay1 m d (ix4 0 0 0 r) = (lse Q K h (row b r) : EReal) := by
  have hr : (row b r).val < 1024 * (b.val + 1) := by rw [row_val]; omega
  have := hs r
  rw [sum_den _ b hr] at this
  have l := this.logarithm (Softmax.den_pos (keeps _))
  refine Eq.trans ?_ l
  have e : addf m (log d) (ix2 r 0) = m (ix2 r 0) + Ideal.log (d (ix2 r 0)) := rfl
  rw [← e]
  unfold k0_pay1
  generalize addf m (log d) = f
  pointwise []
  rw [Finset.sum_eq_single r (fun x _ hx => ?_) fun hx => absurd (Finset.mem_univ r) hx]
  · rw [Scalar.select_def]
    exact if_pos ((WordCmp.cmpi_eq_ofNat_eq_one_iff (by omega) (by omega)).mpr rfl)
  · rw [Scalar.select_def]
    exact if_neg fun hc => hx (Fin.ext ((WordCmp.cmpi_eq_ofNat_eq_one_iff (by omega) (by omega)).mp hc))

end Cert.AttnFKernelIdeal.AttnF
-- ==== Proof.AttnF.lean ====
module

public import proofs.«01_k».proof.Proof.Gen.AttnFKernelIdeal.Frame
public import proofs.«01_k».proof.Proof.AttnFTile
public import Idealize.ShloMosaic.Lib.VecWindow

@[expose] public section

set_option maxRecDepth 16384

noncomputable section

open Idealize.ShloMosaic Idealize.ShloMosaic.TcCoe Idealize.SL.Sem
open Idealize.ShloMosaic.VecWindow (window)
open Cert.AttnKernelIdeal.Attn (queryP keyP lse row row_val padQuery padKey padValue padQuery_at padKey_at)
open Cert.AttnReferenceIdeal.Attn (col)
open Cert.AttnFReferenceIdeal.AttnF (out scores outOf lseOf)

namespace Cert.AttnFKernelIdeal.AttnF

open Cert.AttnFKernelIdeal Cert.AttnFKernelIdeal.Gen

/-! ## Where the tiles lie -/

theorem trips_at : ∀ i : grid0.Coords, (k0_t1_loop i).trips = (i 1).val := by decide +kernel
theorem no_trips : ∀ i : grid0.Coords, (k0_t2_loop i).trips = 0 := fun i => Nat.le_zero.mp (k0_t2_abs i).2.1
theorem off1_at : ∀ (i : grid0.Coords) (n : Fin (k0_t1_loop i).trips), k0_off1 i n = ![0, 1024 * n.val, 0] := by decide +kernel
theorem off2_at : ∀ (i : grid0.Coords) (n : Fin (k0_t1_loop i).trips), k0_off2 i n = ![0, 1024 * n.val, 0] := by decide +kernel
theorem off3_at : ∀ (i : grid0.Coords) (n : Fin (k0_t1_loop i).trips), k0_off3 i n = ![1, 1024 * n.val, 0] := by decide +kernel
theorem off4_at : ∀ (i : grid0.Coords) (n : Fin (k0_t1_loop i).trips), k0_off4 i n = ![1, 1024 * n.val, 0] := by decide +kernel
theorem off9_at : ∀ i : grid0.Coords, k0_off9 i = ![0, 1024 * (i 1).val, 0] := by decide +kernel
theorem off10_at : ∀ i : grid0.Coords, k0_off10 i = ![0, 1024 * (i 1).val, 0] := by decide +kernel
theorem off11_at : ∀ i : grid0.Coords, k0_off11 i = ![1, 1024 * (i 1).val, 0] := by decide +kernel
theorem off12_at : ∀ i : grid0.Coords, k0_off12 i = ![1, 1024 * (i 1).val, 0] := by decide +kernel

/-- A block of 1024 rows of one of the two heads. -/
theorem window_at {α : Type} {p : ℕ} (n : Fin 4) (a : Fin 2) (x : (⟨3, ![2, 4096, p]⟩ : Shape).Idx → α) (off : Fin 3 → ℕ) (inb)
    (ho : off = ![a.val, 1024 * n.val, 0]) (r : Fin 1024) (j : Fin p) :
    window (s := ⟨3, ![2, 4096, p]⟩) x off ![1, 1024, p] inb (ix3 0 r j) = x (ix3 a (row n r) j) := by
  subst ho
  refine congrArg x (funext fun d => Fin.ext ?_)
  match d with
  | ⟨0, _⟩ => rfl
  | ⟨1, _⟩ => exact congrArg (1024 * n.val + ·) (Nat.one_mul r.val)
  | ⟨2, _⟩ => exact (Nat.zero_add (1 * j.val)).trans (Nat.one_mul j.val)
/-- One of the two heads' queries. -/
theorem head_at {α : Type} (a : Fin 2) (x : S2x1024x256.Idx → α) (off : Fin 3 → ℕ) (inb) (ho : off = ![a.val, 0, 0]) (r : Fin 1024) (j : Fin 256) :
    window (s := S2x1024x256) x off ![1, 1024, 256] inb (ix3 0 r j) = x (ix3 a r j) := by
  subst ho
  refine congrArg x (funext fun d => Fin.ext ?_)
  match d with
  | ⟨0, _⟩ => rfl
  | ⟨1, _⟩ => exact (Nat.zero_add (1 * r.val)).trans (Nat.one_mul r.val)
  | ⟨2, _⟩ => exact (Nat.zero_add (1 * j.val)).trans (Nat.one_mul j.val)

/-- What a load of a whole buffer's rectangle reads. -/
theorem readAt_window {s : Shape} {e : EltTy} (v : Memref sig .tc .vmem s e) (hv : v.IsWhole) (x : Vec Ideal s e) (off size : Fin s.rank → ℕ) (inb) :
    View.readAt (Elt Ideal) v.view (Rect.unit off size inb).toLoadRect (hv.unread x) = window x off size inb := by
  conv_rhs => rw [← hv.read_unread x]
  rfl

/-! ## A point's run -/

section
variable (c : Dev nD) (i : grid0.Coords) (arg2 : Memref sig .tc .vmem S2x1024x256 .bf16) (harg2 : arg2.IsWhole) (arg3 : Memref sig .tc .vmem S2x4096x256 .bf16) (harg3 : arg3.IsWhole)
  (arg4 : Memref sig .tc .vmem S2x4096x128 .bf16) (harg4 : arg4.IsWhole) (arg5 : Memref sig .tc .vmem S1024x256 .f32) (harg5 : arg5.IsWhole)
  (arg6 : Memref sig .tc .vmem S2x1x1x1024 .f32) (harg6 : arg6.IsWhole)
  (x0 : Vec Ideal S2x1024x256 .bf16) (x1 : Vec Ideal S2x4096x256 .bf16) (x2 : Vec Ideal S2x4096x128 .bf16)

/-- The two heads' queries. -/
def query0 : Vec Ideal S1x1024x256 .bf16 := window x0 ![0, 0, 0] S1x1024x256.size inb_S2x1024x256_S1x1024x256_0_0_0
def query1 : Vec Ideal S1x1024x256 .bf16 := window x0 ![1, 0, 0] S1x1024x256.size inb_S2x1024x256_S1x1024x256_1_0_0
/-- Their scores of an earlier tile, -/
def before0 (n : Fin (k0_t1_loop i).trips) : FVec Ideal S1024x1024 .f32 :=
  k0_pay4 (k0_pay28 (query0 x0)) (window x1 (k0_off1 i n) S1x1024x256.size (k0_off1_inb i n))
def before1 (n : Fin (k0_t1_loop i).trips) : FVec Ideal S1024x1024 .f32 :=
  k0_pay4 (k0_pay29 (query1 x0)) (window x1 (k0_off3 i n) S1x1024x256.size (k0_off3_inb i n))
/-- and of the diagonal one. -/
def diagonal0 : FVec Ideal S1024x1024 .f32 := k0_pay43 (k0_pay28 (query0 x0)) (window x1 (k0_off9 i) S1x1024x256.size (k0_off9_inb i))
def diagonal1 : FVec Ideal S1024x1024 .f32 := k0_pay43 (k0_pay29 (query1 x0)) (window x1 (k0_off11 i) S1x1024x256.size (k0_off11_inb i))

/-- The state before an earlier tile: of the first head, then of the second. -/
abbrev State : Type :=
  FVec Ideal S1024x1 .f32 × FVec Ideal S1024x1 .f32 × FVec Ideal S1024x128 .f32 × FVec Ideal S1024x1 .f32 × FVec Ideal S1024x1 .f32 × FVec Ideal S1024x128 .f32
def state (n : ℕ) : State :=
  st_k0_t1 (F := Ideal) Variants.none c none i arg2 harg2 arg3 harg3 arg4 harg4 arg5 harg5 arg6 harg6 (query0 x0) (query1 x0) (harg3.unread x1) (harg4.unread x2)
    (k0_pay30, k0_pay31, k0_pay32, k0_pay33, k0_pay34, k0_pay35) n

theorem trip_eq (n : Fin (k0_t1_loop i).trips) (s : State) :
    tripR_k0_t1 (F := Ideal) Variants.none c none i arg2 harg2 arg3 harg3 arg4 harg4 arg5 harg5 arg6 harg6 (query0 x0) (query1 x0) (harg3.unread x1) (harg4.unread x2) n s
      = (newMax (before0 i x0 x1 n) s.1, newSum (before0 i x0 x1 n) s.1 s.2.1,
          newOut (before0 i x0 x1 n) s.1 s.2.2.1 (window x2 (k0_off2 i n) S1x1024x128.size (k0_off2_inb i n)),
          newMax (before1 i x0 x1 n) s.2.2.2.1, newSum (before1 i x0 x1 n) s.2.2.2.1 s.2.2.2.2.1,
          newOut (before1 i x0 x1 n) s.2.2.2.1 s.2.2.2.2.2 (window x2 (k0_off4 i n) S1x1024x128.size (k0_off4_inb i n))) := by
  unfold before0 before1
  simp only [← readAt_window arg3 harg3, ← readAt_window arg4 harg4]
  unfold tripR_k0_t1 trip_k0_t1
  rfl

theorem state_zero : state c i arg2 harg2 arg3 harg3 arg4 harg4 arg5 harg5 arg6 harg6 x0 x1 x2 0
    = (k0_pay30, k0_pay31, k0_pay32, k0_pay33, k0_pay34, k0_pay35) := rfl
theorem state_succ (n : Fin (k0_t1_loop i).trips) :
    state c i arg2 harg2 arg3 harg3 arg4 harg4 arg5 harg5 arg6 harg6 x0 x1 x2 (n.val + 1)
      = tripR_k0_t1 (F := Ideal) Variants.none c none i arg2 harg2 arg3 harg3 arg4 harg4 arg5 harg5 arg6 harg6 (query0 x0) (query1 x0) (harg3.unread x1) (harg4.unread x2) n
          (state c i arg2 harg2 arg3 harg3 arg4 harg4 arg5 harg5 arg6 harg6 x0 x1 x2 n.val) := st_k0_t1_succ ..

/-- The second loop makes no trip. -/
theorem rest_eq (v0 v2 : Vec Ideal S1x1024x256 .bf16) (v14) (X3 X4) (s : State) :
    st_k0_t2 (F := Ideal) Variants.none c none i arg2 harg2 arg3 harg3 arg4 harg4 arg5 harg5 arg6 harg6 v0 v2 v14 X3 X4 s
      (Scf.trips (k0_t2_loop i).lb (k0_t2_loop i).ub (k0_t2_loop i).st) = s := by
  rw [show Scf.trips (k0_t2_loop i).lb (k0_t2_loop i).ub (k0_t2_loop i).st = 0 from no_trips i]
  rfl

/-- The state before the diagonal tile. -/
abbrev last : State := state c i arg2 harg2 arg3 harg3 arg4 harg4 arg5 harg5 arg6 harg6 x0 x1 x2 (k0_t1_loop i).trips

/-! The values the run names. -/

theorem r_eq : kernelRun0_A.sl.r c arg2 harg2 x0 = k0_pay29 (query1 x0) := by
  unfold kernelRun0_A.sl.r
  simp only [readAt_window]
  rfl
theorem r_1_eq : kernelRun0_A.sl.r_1 c i arg2 harg2 arg3 harg3 arg4 harg4 arg5 harg5 arg6 harg6 x0 x1 x2 = (last c i arg2 harg2 arg3 harg3 arg4 harg4 arg5 harg5 arg6 harg6 x0 x1 x2).2.1 := by
  unfold kernelRun0_A.sl.r_1
  rw [rest_eq]
  simp only [readAt_window]
  rfl
theorem r_2_eq : kernelRun0_A.sl.r_2 c i arg2 harg2 arg3 harg3 arg4 harg4 arg5 harg5 arg6 harg6 x0 x1 x2 = (last c i arg2 harg2 arg3 harg3 arg4 harg4 arg5 harg5 arg6 harg6 x0 x1 x2).2.2.1 := by
  unfold kernelRun0_A.sl.r_2
  rw [rest_eq]
  simp only [readAt_window]
  rfl
theorem r_3_eq : kernelRun0_A.sl.r_3 c i arg2 harg2 arg3 harg3 arg4 harg4 arg5 harg5 arg6 harg6 x0 x1 x2 = (last c i arg2 harg2 arg3 harg3 arg4 harg4 arg5 harg5 arg6 harg6 x0 x1 x2).2.2.2.1 := by
  unfold kernelRun0_A.sl.r_3
  rw [rest_eq]
  simp only [readAt_window]
  rfl
theorem r_4_eq : kernelRun0_A.sl.r_4 c i arg2 harg2 arg3 harg3 arg4 harg4 arg5 harg5 arg6 harg6 x0 x1 x2 = (last c i arg2 harg2 arg3 harg3 arg4 harg4 arg5 harg5 arg6 harg6 x0 x1 x2).2.2.2.2.1 := by
  unfold kernelRun0_A.sl.r_4
  rw [rest_eq]
  simp only [readAt_window]
  rfl
theorem r_5_eq : kernelRun0_A.sl.r_5 c i arg2 harg2 arg3 harg3 arg4 harg4 arg5 harg5 arg6 harg6 x0 x1 x2 = (last c i arg2 harg2 arg3 harg3 arg4 harg4 arg5 harg5 arg6 harg6 x0 x1 x2).2.2.2.2.2 := by
  unfold kernelRun0_A.sl.r_5
  rw [rest_eq]
  simp only [readAt_window]
  rfl
theorem r_6_eq : kernelRun0_A.sl.r_6 c i arg2 harg2 arg3 harg3 arg4 harg4 arg5 harg5 arg6 harg6 x0 x1 x2 = newMax (diagonal0 i x0 x1) (last c i arg2 harg2 arg3 harg3 arg4 harg4 arg5 harg5 arg6 harg6 x0 x1 x2).1 := by
  unfold kernelRun0_A.sl.r_6
  rw [rest_eq]
  simp only [readAt_window]
  rfl
theorem r_7_eq : kernelRun0_A.sl.r_7 c i arg2 harg2 arg3 harg3 arg4 harg4 arg5 harg5 arg6 harg6 x0 x1 x2 = scale (diagonal0 i x0 x1) (last c i arg2 harg2 arg3 harg3 arg4 harg4 arg5 harg5 arg6 harg6 x0 x1 x2).1 := by
  unfold kernelRun0_A.sl.r_7
  rw [rest_eq]
  simp only [readAt_window]
  rfl
theorem r_8_eq : kernelRun0_A.sl.r_8 c i arg2 harg2 arg3 harg3 arg4 harg4 arg5 harg5 arg6 harg6 x0 x1 x2 = expos (diagonal0 i x0 x1) (last c i arg2 harg2 arg3 harg3 arg4 harg4 arg5 harg5 arg6 harg6 x0 x1 x2).1 := by
  unfold kernelRun0_A.sl.r_8
  rw [rest_eq]
  simp only [readAt_window]
  rfl
theorem r_9_eq : kernelRun0_A.sl.r_9 c i arg2 harg2 arg3 harg3 arg4 harg4 arg5 harg5 arg6 harg6 x0 x1 x2 = newSum (diagonal0 i x0 x1) (last c i arg2 harg2 arg3 harg3 arg4 harg4 arg5 harg5 arg6 harg6 x0 x1 x2).1 (last c i arg2 harg2 arg3 harg3 arg4 harg4 arg5 harg5 arg6 harg6 x0 x1 x2).2.1 := by
  unfold kernelRun0_A.sl.r_9
  rw [r_1_eq, r_7_eq, r_8_eq]
  rfl
theorem r_10_eq : kernelRun0_A.sl.r_10 c i arg2 harg2 arg3 harg3 arg4 harg4 arg5 harg5 arg6 harg6 x0 x1 x2 = newMax (diagonal1 i x0 x1) (last c i arg2 harg2 arg3 harg3 arg4 harg4 arg5 harg5 arg6 harg6 x0 x1 x2).2.2.2.1 := by
  unfold kernelRun0_A.sl.r_10
  rw [r_eq, r_3_eq]
  simp only [readAt_window]
  rfl
theorem r_11_eq : kernelRun0_A.sl.r_11 c i arg2 harg2 arg3 harg3 arg4 harg4 arg5 harg5 arg6 harg6 x0 x1 x2 = newSum (diagonal1 i x0 x1) (last c i arg2 harg2 arg3 harg3 arg4 harg4 arg5 harg5 arg6 harg6 x0 x1 x2).2.2.2.1 (last c i arg2 harg2 arg3 harg3 arg4 harg4 arg5 harg5 arg6 harg6 x0 x1 x2).2.2.2.2.1 := by
  unfold kernelRun0_A.sl.r_11
  rw [r_eq, r_3_eq, r_4_eq]
  simp only [readAt_window]
  rfl
theorem r_12_eq : kernelRun0_A.sl.r_12 c i arg2 harg2 arg3 harg3 arg4 harg4 arg5 harg5 arg6 harg6 x0 x1 x2 = newOut (diagonal1 i x0 x1) (last c i arg2 harg2 arg3 harg3 arg4 harg4 arg5 harg5 arg6 harg6 x0 x1 x2).2.2.2.1 (last c i arg2 harg2 arg3 harg3 arg4 harg4 arg5 harg5 arg6 harg6 x0 x1 x2).2.2.2.2.2 (window x2 (k0_off12 i) S1x1024x128.size (k0_off12_inb i)) := by
  unfold kernelRun0_A.sl.r_12
  rw [r_eq, r_3_eq, r_5_eq]
  simp only [readAt_window]
  rfl

/-! ## What the point computes, for real arguments -/

/-- The two heads' results are computed alike. -/
theorem pay3_eq (m d : FVec Ideal S1024x1 .f32) : k0_pay3 m d = k0_pay1 m d := rfl
theorem pay49_eq (s : FVec Ideal S1024x1024 .f32) (m d : FVec Ideal S1024x1 .f32) (a : FVec Ideal S1024x128 .f32) (w : Vec Ideal S1x1024x128 .bf16) :
    k0_pay49 d a (scale s m) (expos s m) w = k0_pay2 (newSum s m d) (newOut s m a w) := rfl

theorem query0_at (r : Fin 1024) (j : Fin 256) : k0_pay28 (query0 x0) (ix2 r j) = x0 (ix3 0 r j) := by
  pointwise [k0_pay28]
  exact head_at 0 x0 _ _ rfl r j
theorem query1_at (r : Fin 1024) (j : Fin 256) : k0_pay29 (query1 x0) (ix2 r j) = x0 (ix3 1 r j) := by
  pointwise [k0_pay29]
  exact head_at 1 x0 _ _ rfl r j

variable {i x0 x1 x2} {Q K : S4096x8x192.Idx → ℝ} {v : S4096x8x128.Idx → EReal} {h0 h1 : Fin 8} {b : Fin 4}
  (hb : (i 1).val = b.val)
  (hq0 : ∀ r j, x0 (ix3 0 r j) = (queryP Q h0 (row b r) j : EReal)) (hq1 : ∀ r j, x0 (ix3 1 r j) = (queryP Q h1 (row b r) j : EReal))
  (hk0 : ∀ r j, x1 (ix3 0 r j) = (keyP K h0 r j : EReal)) (hk1 : ∀ r j, x1 (ix3 1 r j) = (keyP K h1 r j : EReal))
  (hw0 : ∀ r e, x2 (ix3 0 r e) = v (ix3 r h0 e)) (hw1 : ∀ r e, x2 (ix3 1 r e) = v (ix3 r h1 e))
include hb hq0 hq1 hk0 hk1 hw0 hw1

theorem state_after : ∀ n : ℕ, n ≤ (k0_t1_loop i).trips →
    After Q K v h0 b (1024 * n) (state c i arg2 harg2 arg3 harg3 arg4 harg4 arg5 harg5 arg6 harg6 x0 x1 x2 n).1 (state c i arg2 harg2 arg3 harg3 arg4 harg4 arg5 harg5 arg6 harg6 x0 x1 x2 n).2.1 (state c i arg2 harg2 arg3 harg3 arg4 harg4 arg5 harg5 arg6 harg6 x0 x1 x2 n).2.2.1
    ∧ After Q K v h1 b (1024 * n) (state c i arg2 harg2 arg3 harg3 arg4 harg4 arg5 harg5 arg6 harg6 x0 x1 x2 n).2.2.2.1 (state c i arg2 harg2 arg3 harg3 arg4 harg4 arg5 harg5 arg6 harg6 x0 x1 x2 n).2.2.2.2.1 (state c i arg2 harg2 arg3 harg3 arg4 harg4 arg5 harg5 arg6 harg6 x0 x1 x2 n).2.2.2.2.2
  | 0, _ => ⟨After.init, After.init⟩
  | n + 1, hn => by
    have hlt : n < b.val := by have := trips_at i; omega
    obtain ⟨s0, s1⟩ := state_after n (by omega)
    rw [state_succ c i arg2 harg2 arg3 harg3 arg4 harg4 arg5 harg5 arg6 harg6 x0 x1 x2 ⟨n, hn⟩, trip_eq]
    have hn4 : n < 4 := by omega
    refine ⟨After.step (n := ⟨n, hn4⟩) s0 (tile_before (n := ⟨n, hn4⟩) (fun r j => (query0_at x0 r j).trans (hq0 r j)) (fun c j => ?_) hlt) (fun c e => ?_) hlt.le,
      After.step (n := ⟨n, hn4⟩) s1 (tile_before (n := ⟨n, hn4⟩) (fun r j => (query1_at x0 r j).trans (hq1 r j)) (fun c j => ?_) hlt) (fun c e => ?_) hlt.le⟩
    · exact (window_at ⟨n, hn4⟩ 0 x1 _ _ (off1_at i ⟨n, hn⟩) c j).trans (hk0 _ j)
    · exact (window_at ⟨n, hn4⟩ 0 x2 _ _ (off2_at i ⟨n, hn⟩) c e).trans (hw0 _ e)
    · exact (window_at ⟨n, hn4⟩ 1 x1 _ _ (off3_at i ⟨n, hn⟩) c j).trans (hk1 _ j)
    · exact (window_at ⟨n, hn4⟩ 1 x2 _ _ (off4_at i ⟨n, hn⟩) c e).trans (hw1 _ e)

theorem point_after0 : After Q K v h0 b (1024 * (b.val + 1)) (newMax (diagonal0 i x0 x1) (last c i arg2 harg2 arg3 harg3 arg4 harg4 arg5 harg5 arg6 harg6 x0 x1 x2).1) (newSum (diagonal0 i x0 x1) (last c i arg2 harg2 arg3 harg3 arg4 harg4 arg5 harg5 arg6 harg6 x0 x1 x2).1 (last c i arg2 harg2 arg3 harg3 arg4 harg4 arg5 harg5 arg6 harg6 x0 x1 x2).2.1)
    (newOut (diagonal0 i x0 x1) (last c i arg2 harg2 arg3 harg3 arg4 harg4 arg5 harg5 arg6 harg6 x0 x1 x2).1 (last c i arg2 harg2 arg3 harg3 arg4 harg4 arg5 harg5 arg6 harg6 x0 x1 x2).2.2.1 (window x2 (k0_off10 i) S1x1024x128.size (k0_off10_inb i))) := by
  have s0 := (state_after c arg2 harg2 arg3 harg3 arg4 harg4 arg5 harg5 arg6 harg6 hb hq0 hq1 hk0 hk1 hw0 hw1 _ le_rfl).1
  have e : 1024 * (k0_t1_loop i).trips = 1024 * b.val := by rw [trips_at i, hb]
  rw [e] at s0
  refine After.step (n := b) s0 (tile_diagonal (fun r j => (query0_at x0 r j).trans (hq0 r j)) (fun c j => ?_) rfl) (fun c e => ?_) le_rfl
  · exact (window_at b 0 x1 _ _ ((off9_at i).trans (by rw [hb]; rfl)) c j).trans (hk0 _ j)
  · exact (window_at b 0 x2 _ _ ((off10_at i).trans (by rw [hb]; rfl)) c e).trans (hw0 _ e)
theorem point_after1 : After Q K v h1 b (1024 * (b.val + 1)) (newMax (diagonal1 i x0 x1) (last c i arg2 harg2 arg3 harg3 arg4 harg4 arg5 harg5 arg6 harg6 x0 x1 x2).2.2.2.1) (newSum (diagonal1 i x0 x1) (last c i arg2 harg2 arg3 harg3 arg4 harg4 arg5 harg5 arg6 harg6 x0 x1 x2).2.2.2.1 (last c i arg2 harg2 arg3 harg3 arg4 harg4 arg5 harg5 arg6 harg6 x0 x1 x2).2.2.2.2.1)
    (newOut (diagonal1 i x0 x1) (last c i arg2 harg2 arg3 harg3 arg4 harg4 arg5 harg5 arg6 harg6 x0 x1 x2).2.2.2.1 (last c i arg2 harg2 arg3 harg3 arg4 harg4 arg5 harg5 arg6 harg6 x0 x1 x2).2.2.2.2.2 (window x2 (k0_off12 i) S1x1024x128.size (k0_off12_inb i))) := by
  have s1 := (state_after c arg2 harg2 arg3 harg3 arg4 harg4 arg5 harg5 arg6 harg6 hb hq0 hq1 hk0 hk1 hw0 hw1 _ le_rfl).2
  have e : 1024 * (k0_t1_loop i).trips = 1024 * b.val := by rw [trips_at i, hb]
  rw [e] at s1
  refine After.step (n := b) s1 (tile_diagonal (fun r j => (query1_at x0 r j).trans (hq1 r j)) (fun c j => ?_) rfl) (fun c e => ?_) le_rfl
  · exact (window_at b 1 x1 _ _ ((off11_at i).trans (by rw [hb]; rfl)) c j).trans (hk1 _ j)
  · exact (window_at b 1 x2 _ _ ((off12_at i).trans (by rw [hb]; rfl)) c e).trans (hw1 _ e)

/-- The two heads of a point's columns. -/
theorem out3_at (y0 : Fin 1024) (y1 : Fin 256) (h : Fin 8) (e : Fin 128) (he : (y1.val < 128 → h = h0 ∧ e.val = y1.val) ∧ (128 ≤ y1.val → h = h1 ∧ e.val = y1.val - 128)) :
    out0_A_3 c i arg2 harg2 arg3 harg3 arg4 harg4 arg5 harg5 arg6 harg6 x0 x1 x2 (ix2 y0 y1) = out Q K v h (row b y0) e := by
  have p0 := point_after0 c arg2 harg2 arg3 harg3 arg4 harg4 arg5 harg5 arg6 harg6 hb hq0 hq1 hk0 hk1 hw0 hw1
  have p1 := point_after1 c arg2 harg2 arg3 harg3 arg4 harg4 arg5 harg5 arg6 harg6 hb hq0 hq1 hk0 hk1 hw0 hw1
  unfold out0_A_3 kernelRun0_A
  dsimp only
  rw [r_1_eq, r_2_eq, r_7_eq, r_8_eq, r_11_eq, r_12_eq, readAt_window]
  frame_out
  canon_tiles x hx
  all_goals idx_vars x
  · obtain ⟨rfl, h2⟩ := he.2 (show 128 ≤ y1.val by have := hx1; dsimp at this; omega)
    obtain rfl : y0 = x0 := Fin.ext (by have := hx0; dsimp at this; omega)
    obtain rfl : e = x1 := Fin.ext (by have := hx1; dsimp at this; omega)
    exact p1.out _ _
  · obtain ⟨rfl, h2⟩ := he.1 (show y1.val < 128 by have := hx1; dsimp at this; omega)
    obtain rfl : y0 = x0 := Fin.ext (by have := hx0; dsimp at this; omega)
    obtain rfl : e = x1 := Fin.ext (by have := hx1; dsimp at this; omega)
    rw [pay49_eq]
    exact p0.out _ _
theorem out4_at (y0 : Fin 2) (y3 : Fin 1024) (h : Fin 8) (he : (y0.val = 0 → h = h0) ∧ (y0.val = 1 → h = h1)) :
    out0_A_4 c i arg2 harg2 arg3 harg3 arg4 harg4 arg5 harg5 arg6 harg6 x0 x1 x2 (ix4 y0 0 0 y3) = (lse Q K h (row b y3) : EReal) := by
  have p0 := point_after0 c arg2 harg2 arg3 harg3 arg4 harg4 arg5 harg5 arg6 harg6 hb hq0 hq1 hk0 hk1 hw0 hw1
  have p1 := point_after1 c arg2 harg2 arg3 harg3 arg4 harg4 arg5 harg5 arg6 harg6 hb hq0 hq1 hk0 hk1 hw0 hw1
  unfold out0_A_4 kernelRun0_A
  dsimp only
  rw [r_6_eq, r_9_eq, r_10_eq, r_11_eq]
  frame_out
  canon_tiles x hx
  all_goals idx_vars x
  · obtain rfl := he.2 (show y0.val = 1 by have := hx0; dsimp at this; omega)
    obtain rfl : y3 = x3 := Fin.ext hx3
    rw [pay3_eq, show x0 = 0 from Subsingleton.elim _ _, show x1 = 0 from Subsingleton.elim _ _, show x2 = 0 from Subsingleton.elim _ _]
    exact p1.lse _
  · obtain rfl := he.1 (show y0.val = 0 by have := hx0; dsimp at this; omega)
    obtain rfl : y3 = x3 := Fin.ext hx3
    rw [show x0 = 0 from Subsingleton.elim _ _, show x1 = 0 from Subsingleton.elim _ _, show x2 = 0 from Subsingleton.elim _ _]
    exact p0.lse _

end

/-! ## The program's results -/

theorem idx : ∀ t : Fin cfg0.N, win0_0.index t = ![t.val / 4, t.val % 4, 0] ∧ win0_1.index t = ![t.val / 4, 0, 0]
    ∧ win0_2.index t = ![t.val / 4, 0, 0] ∧ win0_3.index t = ![t.val % 4, t.val / 4]
    ∧ win0_4.index t = ![t.val / 4, t.val % 4, 0, 0] := (by decide +kernel : ∀ t : Fin grid0.N, _)

/-- A point's two heads and its block of queries. -/
abbrev head (t : Fin cfg0.N) (a : Fin 2) : Fin 8 := ⟨t.val / 4 * 2 + a.val, by have h := lt_of_lt_of_eq t.isLt N_0; omega⟩
abbrev block (t : Fin cfg0.N) : Fin 4 := ⟨t.val % 4, Nat.mod_lt _ (by decide)⟩
theorem block_at : ∀ t : Fin cfg0.N, (grid0.coords t 1).val = (block t).val := (by decide +kernel : ∀ t : Fin grid0.N, _)
theorem row_block (t : Fin cfg0.N) (r : Fin 1024) : row (block t) r = ⟨t.val % 4 * 1024 + r.val, by omega⟩ :=
  Fin.ext (by rw [row_val]; dsimp only; omega)

section
variable (m : (ℓ : Loc nD τ sig) → Buf (Elt Ideal) ℓ) (c : Dev nD)

abbrev argQ : FVec Ideal S4096x8x192 .f32 := m ((c : Thread nD τ).loc main_arg0)
abbrev argK : FVec Ideal S4096x8x192 .f32 := m ((c : Thread nD τ).loc main_arg1)
abbrev argV : FVec Ideal S4096x8x128 .f32 := m ((c : Thread nD τ).loc main_arg2)

theorem V_query : V m c main_v4 = padQuery (argQ m c) := by
  unfold V; simp only [List.flatten_cons, List.flatten_nil, List.cons_append, List.nil_append]; after_results; rfl
theorem V_key : V m c main_v7 = padKey (argK m c) := by
  unfold V; simp only [List.flatten_cons, List.flatten_nil, List.cons_append, List.nil_append]; after_results; rfl
theorem V_value : V m c main_v10 = padValue (argV m c) := by
  unfold V; simp only [List.flatten_cons, List.flatten_nil, List.cons_append, List.nil_append]; after_results; rfl

/-- The values are transposed. -/
theorem padValue_apply (v : FVec Ideal S4096x8x128 .f32) (h : Fin 8) (r : Fin 4096) (e : Fin 128) : padValue v (ix3 h r e) = v (ix3 r h e) := by
  pointwise [padValue]

theorem block0 (t : Fin cfg0.N) (a : Fin 2) (r : Fin 1024) (j : Fin 256) :
    (show FVec Ideal S2x1024x256 .bf16 from iblk m c 0 t) (ix3 a r j) = padQuery (argQ m c) (ix3 (head t a) (row (block t) r) j) := by
  rw [row_block]
  have h : iblk m c 0 t (ix3 a r j) = V m c main_v4 (ix3 (head t a) ⟨t.val % 4 * 1024 + r.val, by omega⟩ j) := by blk_ext [iblk, idx t]
  exact h.trans (congrFun (V_query m c) _)
theorem block1 (t : Fin cfg0.N) (a : Fin 2) (r : Fin 4096) (j : Fin 256) :
    (show FVec Ideal S2x4096x256 .bf16 from iblk m c 1 t) (ix3 a r j) = padKey (argK m c) (ix3 (head t a) r j) := by
  have h : iblk m c 1 t (ix3 a r j) = V m c main_v7 (ix3 (head t a) r j) := by blk_ext [iblk, idx t]
  exact h.trans (congrFun (V_key m c) _)
theorem block2 (t : Fin cfg0.N) (a : Fin 2) (r : Fin 4096) (e : Fin 128) :
    (show FVec Ideal S2x4096x128 .bf16 from iblk m c 2 t) (ix3 a r e) = padValue (argV m c) (ix3 (head t a) r e) := by
  have h : iblk m c 2 t (ix3 a r e) = V m c main_v10 (ix3 (head t a) r e) := by blk_ext [iblk, idx t]
  exact h.trans (congrFun (V_value m c) _)

variable {Q K : S4096x8x192.Idx → ℝ} (hq : ∀ i, argQ m c i = (Q i : EReal)) (hk : ∀ i, argK m c i = (K i : EReal))
include hq hk

theorem query_at (t : Fin cfg0.N) (a : Fin 2) (r : Fin 1024) (j : Fin 256) :
    (show FVec Ideal S2x1024x256 .bf16 from iblk m c 0 t) (ix3 a r j) = (queryP Q (head t a) (row (block t) r) j : EReal) :=
  (block0 m c t a r j).trans (padQuery_at hq _ _ j)
theorem key_at (t : Fin cfg0.N) (a : Fin 2) (r : Fin 4096) (j : Fin 256) :
    (show FVec Ideal S2x4096x256 .bf16 from iblk m c 1 t) (ix3 a r j) = (keyP K (head t a) r j : EReal) :=
  (block1 m c t a r j).trans (padKey_at hk _ _ j)
theorem value_at (t : Fin cfg0.N) (a : Fin 2) (r : Fin 4096) (e : Fin 128) :
    (show FVec Ideal S2x4096x128 .bf16 from iblk m c 2 t) (ix3 a r e) = argV m c (ix3 r (head t a) e) :=
  (block2 m c t a r e).trans (padValue_apply _ _ _ _)

/-- What a point leaves of the outputs and of the logarithms. -/
theorem point_out (t : Fin cfg0.N) (y0 : Fin 1024) (y1 : Fin 256) (h : Fin 8) (e : Fin 128)
    (he : (y1.val < 128 → h = head t 0 ∧ e.val = y1.val) ∧ (128 ≤ y1.val → h = head t 1 ∧ e.val = y1.val - 128)) :
    (outsAt0 m c t).1 (ix2 y0 y1) = out Q K (argV m c) h (row (block t) y0) e := by
  have p := out3_at (i := grid0.coords t) (x0 := iblk m c 0 t) (x1 := iblk m c 1 t) (x2 := iblk m c 2 t) (b := block t) (h0 := head t 0) (h1 := head t 1) (v := argV m c)
    c (ms0_0 t) (hs0_0 t) (ms0_1 t) (hs0_1 t) (ms0_2 t) (hs0_2 t) (ms0_3 t) (hs0_3 t) (ms0_4 t) (hs0_4 t) (block_at t) (query_at m c hq hk t 0) (query_at m c hq hk t 1) (key_at m c hq hk t 0) (key_at m c hq hk t 1)
    (value_at m c hq hk t 0) (value_at m c hq hk t 1) y0 y1 h e he
  unfold outsAt0
  dsimp only
  refine Eq.trans (?_ : _ = _) p
  rfl
theorem point_lse (t : Fin cfg0.N) (y0 : Fin 2) (y3 : Fin 1024) : (outsAt0 m c t).2 (ix4 y0 0 0 y3) = (lse Q K (head t y0) (row (block t) y3) : EReal) := by
  have p := out4_at (i := grid0.coords t) (x0 := iblk m c 0 t) (x1 := iblk m c 1 t) (x2 := iblk m c 2 t) (b := block t) (h0 := head t 0) (h1 := head t 1) (v := argV m c)
    c (ms0_0 t) (hs0_0 t) (ms0_1 t) (hs0_1 t) (ms0_2 t) (hs0_2 t) (ms0_3 t) (hs0_3 t) (ms0_4 t) (hs0_4 t) (block_at t) (query_at m c hq hk t 0) (query_at m c hq hk t 1) (key_at m c hq hk t 0) (key_at m c hq hk t 1)
    (value_at m c hq hk t 0) (value_at m c hq hk t 1) y0 y3 (head t y0) ⟨fun h => congrArg (head t) (Fin.ext h), fun h => congrArg (head t) (Fin.ext h)⟩
  unfold outsAt0
  dsimp only
  refine Eq.trans (?_ : _ = _) p
  rfl

theorem final3 : (dats m 0 c).arrAt 3 cfg0.N = outOf (argV m c) (scores (argQ m c) (argK m c)) := by
  refine (dats m 0 c).arrAt_eq_of_covers 3 _ (by decide +kernel) fun t _ y => ?_
  blk_simp
  rw [after0_3]
  idx_vars y
  have ht := lt_of_lt_of_eq t.isLt N_0
  have e : ((View.whole main_v11_0).slice (win0_3.rect t)).emb (ix2 y0 y1)
      = ix2 (⟨t.val % 4 * 1024 + y0.val, by omega⟩ : Fin 4096) (⟨t.val / 4 * 256 + y1.val, by omega⟩ : Fin 1024) := by blk_ext [idx t]
  have e1 : (⟨t.val / 4 * 256 + y1.val, by omega⟩ : Fin 1024) = col (head t ⟨y1.val / 128, by omega⟩) ⟨y1.val % 128, by omega⟩ :=
    Fin.ext (by show t.val / 4 * 256 + y1.val = (t.val / 4 * 2 + y1.val / 128) * 128 + y1.val % 128; omega)
  rw [e, e1, ← row_block]
  refine (point_out m c hq hk t y0 y1 _ _ ⟨fun h => ⟨?_, ?_⟩, fun h => ⟨?_, ?_⟩⟩).trans
    (AttnFReferenceIdeal.AttnF.out_at hq hk _ _ _).symm
  · exact congrArg (head t) (Fin.ext (by show y1.val / 128 = 0; omega))
  · show y1.val % 128 = y1.val; omega
  · exact congrArg (head t) (Fin.ext (by show y1.val / 128 = 1; omega))
  · show y1.val % 128 = y1.val - 128; omega

theorem final4 : (dats m 0 c).arrAt 4 cfg0.N = lseOf (scores (argQ m c) (argK m c)) := by
  refine (dats m 0 c).arrAt_eq_of_covers 4 _ (by decide +kernel) fun t _ y => ?_
  blk_simp
  rw [after0_4]
  idx_vars y
  have e : ((View.whole main_v11_1).slice (win0_4.rect t)).emb (ix4 y0 y1 y2 y3) = ix4 (head t y0) (block t) 0 y3 := by
    rw [show y1 = 0 from Subsingleton.elim _ _, show y2 = 0 from Subsingleton.elim _ _]
    blk_ext [idx t]
  rw [e, show y1 = 0 from Subsingleton.elim _ _, show y2 = 0 from Subsingleton.elim _ _]
  exact (point_lse m c hq hk t y0 y3).trans (AttnFReferenceIdeal.AttnF.lse_at hq hk _ _ _).symm
end

end Cert.AttnFKernelIdeal.AttnF
-- ==== Proof.Finite.lean ====
module

public import Idealize.ShloMosaic.Lib.Pointwise
public import Idealize.ShloMosaic.Lib.StableHlo
public import Idealize.ShloMosaic.PureOps

@[expose] public section

noncomputable section

open Idealize.ShloMosaic

/-! ## Arrays without infinities -/

namespace Finite

theorem ofBits_inf : Ideal.ofBits .f32 0x7F800000#32 = ⊤ := by
  simp [Ideal.ofBits, Ideal.ieee, -EReal.coe_mul, -EReal.coe_neg]

theorem real_of_lt {x : EReal} (h : Ideal.cmp .olt (max x (-x)) (Ideal.ofBits .f32 0x7F800000#32) = 1#1) : x = (x.toReal : EReal) := by
  rw [ofBits_inf] at h
  induction x using EReal.rec with
  | bot => exact absurd h (by simp [Ideal.cmp])
  | coe a => rfl
  | top => exact absurd h (by simp [Ideal.cmp])

/-- An array all of whose absolute values are below the infinity holds real numbers. -/
theorem real_of_all {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    x i = ((x i).toReal : EReal) :=
  real_of_lt (congrFun h i)

end Finite

end

end
-- ==== Proof.AttnFClaim.lean ====
module

public import proofs.«01_k».proof.Defs
public import proofs.«01_k».proof.Proof.Gen.AttnFKernel.Frame
public import proofs.«01_k».proof.Proof.Gen.AttnFKernelIdeal.Frame
public import proofs.«01_k».proof.Proof.Gen.AttnFReferenceIdeal.Run
public import proofs.«01_k».proof.Proof.AttnF
public import proofs.«01_k».proof.Proof.Finite

@[expose] public section

set_option maxRecDepth 16384

noncomputable section

open Idealize.ShloMosaic Idealize.ShloMosaic.TcCoe Idealize.ShloMosaic.Tactic Idealize.SL.Sem

namespace Cert.AttnFKernelIdeal.AttnF

theorem frame_reference : Cert.quiescent_AttnFReferenceIdeal := by
  intro m ρ _
  exact (θ_run _ _ _).mono (fun r h => ⟨fun c => (h c).2.2, sem_eq_zero_of_no_sems (by decide) r.2⟩)
    (Cert.AttnFReferenceIdeal.Value.run m ρ)

/-! ## The value, for finite queries and keys -/

theorem facts_finite : Cert.Pre_attnf_finite.Facts := ⟨by decide⟩

theorem frame_ideal_finite : Cert.quiescent_AttnFKernelIdeal_pre_attnf_finite (hPre_attnf_finite := facts_finite) :=
  fun m ρ _ => Cert.AttnFKernelIdeal.Gen.frame m ρ
theorem frame_reference_finite : Cert.quiescent_AttnFReferenceIdeal_pre_attnf_finite (hPre_attnf_finite := facts_finite) := fun m ρ _ => frame_reference m ρ trivial

open AttnFReferenceIdeal.AttnF (scores outOf lseOf run_out)

theorem algebraic : Cert.algebraic_AttnFKernelIdeal_AttnFReferenceIdeal_pre_attnf_finite (hPre_attnf_finite := facts_finite) := by
  intro m g m' g' hf hm
  refine ⟨_, _, (θ_run _ _ _).mono (fun r h c => ⟨(h.1 c).1 3, (h.1 c).1 4, h.2 c⟩) (θ_run_and (Gen.run_main m g) (Gen.unchanged m g)), ?_⟩
  refine (θ_run _ _ _).mono (fun r h c => ?_) (Cert.AttnFReferenceIdeal.Value.run m' g')
  obtain ⟨h0, h1, h2⟩ := hm c
  obtain ⟨f0, f1⟩ := hf c
  have e0 := Finite.real_of_all (argQ m c) _ f0
  have e1 := Finite.real_of_all (argK m c) _ f1
  obtain ⟨r0, r1, rest⟩ := h c
  rw [run_out] at r0
  replace r1 : _ = lseOf (scores (m' ((c.tc : Thread AttnFReferenceIdeal.nD AttnFReferenceIdeal.τ).loc AttnFReferenceIdeal.main_arg0))
      (m' ((c.tc : Thread AttnFReferenceIdeal.nD AttnFReferenceIdeal.τ).loc AttnFReferenceIdeal.main_arg1))) := r1
  simp only [h0, h1, h2] at r0 r1
  exact ⟨r0.trans (final3 m c e0 e1).symm, r1.trans (final4 m c e0 e1).symm, rest⟩

end Cert.AttnFKernelIdeal.AttnF
-- ==== Proof.Param.lean ====
module

public import proofs.«01_k».proof.Defs
public import proofs.«01_k».proof.Proof.Softmax
public import proofs.«01_k».proof.Proof.Gen.ParamKernelIdeal.Frame
public import proofs.«01_k».proof.Proof.Gen.ParamKernelIdeal.Skeleton
public import proofs.«01_k».proof.Proof.Gen.ParamReferenceIdeal
public import proofs.«01_k».proof.Proof.Gen.ParamReferenceIdeal.Run
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ParamKernelIdeal.Param

open Cert.ParamKernelIdeal Cert.ParamKernelIdeal.Gen

/-! ## The masks and the selector of the states -/

theorem low6 : ∀ k : Fin 2048, IntOp.andi (BitVec.ofNat 32 k.val) 63#32 = BitVec.ofNat 32 (k.val % 64) := by decide +kernel
theorem high6 : ∀ k : Fin 2048, IntOp.shrsi .vector (BitVec.ofNat 32 k.val) 6#32 = BitVec.ofNat 32 (k.val / 64) := by decide +kernel
theorem group3 : ∀ r : Fin 512, IntOp.andi (IntOp.shrsi .vector (BitVec.ofNat 32 r.val) 4#32) 7#32 = BitVec.ofNat 32 (r.val / 16 % 8) := by decide +kernel
theorem whole : ∀ r : Fin 32, IntOp.shrsi .vector (BitVec.ofNat 32 r.val) 0#32 = BitVec.ofNat 32 r.val := by decide +kernel

theorem selector (p : Fin 64) (k : Fin 2048) : (k0_pay2 (F := Ideal)) (ix2 p k) = if k.val % 64 = p.val then 1 else 0 := by
  pointwise [k0_pay2, low6]
  rw [Scalar.select_def]
  exact if_congr (WordCmp.cmpi_eq_ofNat_eq_one_iff (by omega) (by omega)) rfl rfl
theorem own1 (g : Fin 32) (k : Fin 2048) : k0_pay3 (ix2 g k) = 1#1 ↔ g.val = k.val / 64 := by
  pointwise [k0_pay3, high6, whole]
  exact WordCmp.cmpi_eq_ofNat_eq_one_iff (by omega) (by omega)
theorem own (r k : Fin 512) : k0_pay4 (ix2 r k) = 1#1 ↔ r.val / 16 % 8 = k.val / 64 := by
  have h := high6 ⟨k.val, by omega⟩
  pointwise [k0_pay4, group3, h]
  exact WordCmp.cmpi_eq_ofNat_eq_one_iff (by omega) (by omega)

/-- The three parts of a masked row, gathered by a selector that takes one column only. -/
theorem collect {n : ℕ} (mask : Fin n → BitVec 1) (w s : Fin n → EReal) (j : Fin n) (hm : mask j = 1#1) (hs : s j = 1)
    (ho : ∀ k, k ≠ j → mask k = 1#1 → s k = 0) (hw : ∀ k, w k = ((w k).toReal : EReal)) :
    ∑ k, Scalar.select (mask k) (w k * s k) 0
      + ∑ k, (Scalar.select (mask k) (w k) 0 - Scalar.select (mask k) (w k) 0) * s k
      + ∑ k, (Scalar.select (mask k) (w k) 0 - Scalar.select (mask k) (w k) 0
          - (Scalar.select (mask k) (w k) 0 - Scalar.select (mask k) (w k) 0)) * s k = w j := by
  have z : ∀ k, Scalar.select (mask k) (w k) 0 - Scalar.select (mask k) (w k) 0 = 0 := fun k => by
    rw [Scalar.select_def]
    split
    · rw [hw k]; exact Softmax.three_parts _
    · exact sub_zero 0
  simp only [z, sub_zero, zero_mul, Finset.sum_const_zero, add_zero]
  rw [Finset.sum_eq_single j]
  · rw [Scalar.select_def, hs, mul_one]
    exact if_pos hm
  · intro k _ hk
    rw [Scalar.select_def]
    split
    · rw [ho k hk (by assumption), mul_zero]
    · rfl
  · exact fun h => absurd (Finset.mem_univ _) h

/-- The column of a strip that belongs to row `r` and state `p`. -/
abbrev col (r : Fin 512) (p : Fin 64) : Fin 512 := ⟨64 * (r.val / 16 % 8) + p.val, by omega⟩

section
variable (w : FVec Ideal S512x512 .f32) (hw : ∀ i, w i = ((w i).toReal : EReal)) (r : Fin 512) (p : Fin 64)
include hw

theorem collect512 :
    ∑ x : Fin 512, Scalar.select (k0_pay4 (ix2 r x)) (w (ix2 r x) * (k0_pay2 (F := Ideal)) (ix2 p ⟨x.val, by omega⟩)) 0
      + ∑ x : Fin 512, (Scalar.select (k0_pay4 (ix2 r x)) (w (ix2 r x)) 0 - Scalar.select (k0_pay4 (ix2 r x)) (w (ix2 r x)) 0)
          * (k0_pay2 (F := Ideal)) (ix2 p ⟨x.val, by omega⟩)
      + ∑ x : Fin 512, (Scalar.select (k0_pay4 (ix2 r x)) (w (ix2 r x)) 0 - Scalar.select (k0_pay4 (ix2 r x)) (w (ix2 r x)) 0
          - (Scalar.select (k0_pay4 (ix2 r x)) (w (ix2 r x)) 0 - Scalar.select (k0_pay4 (ix2 r x)) (w (ix2 r x)) 0))
          * (k0_pay2 (F := Ideal)) (ix2 p ⟨x.val, by omega⟩) = w (ix2 r (col r p)) := by
  refine collect (fun x => k0_pay4 (ix2 r x)) (fun x => w (ix2 r x)) (fun x => (k0_pay2 (F := Ideal)) (ix2 p ⟨x.val, by omega⟩))
    (col r p) ((own r _).mpr (by show _ = (64 * (r.val / 16 % 8) + p.val) / 64; omega)) ?_ ?_ fun k => hw _
  · exact (selector p _).trans (if_pos (by show (64 * (r.val / 16 % 8) + p.val) % 64 = _; omega))
  · intro k hk hm
    have := (own r k).mp hm
    refine (selector p _).trans (if_neg fun h => hk (Fin.ext ?_))
    show k.val = 64 * (r.val / 16 % 8) + p.val
    dsimp only at h
    omega

theorem collect33 : k0_pay33 (k0_pay2 (F := Ideal)) k0_pay4 w (ix2 r p) = w (ix2 r (col r p)) := by
  pointwise [k0_pay33]
  exact collect512 w hw r p
theorem collect35 : k0_pay35 (k0_pay2 (F := Ideal)) (k0_pay34 k0_pay4 w) (ix2 r p) = w (ix2 r (col r p)) := by
  pointwise [k0_pay35, k0_pay34]
  exact collect512 w hw r p
theorem collect58 : k0_pay58 (k0_pay2 (F := Ideal)) k0_pay4 w (ix2 r p) = w (ix2 r (col r p)) := by
  pointwise [k0_pay58]
  exact collect512 w hw r p
theorem collect1 : k0_pay1 (k0_pay60 (k0_pay2 (F := Ideal))) (k0_pay61 k0_pay4 w) (k0_pay62 k0_pay4 w) (k0_pay63 k0_pay4 w) (k0_pay64 k0_pay4 w) (ix2 r p)
    = -w (ix2 r (col r p)) := by
  pointwise [k0_pay1, k0_pay60, k0_pay61, k0_pay62, k0_pay63, k0_pay64, k0_pay59]
  exact (zero_sub _).trans (congrArg Neg.neg (collect512 w hw r p))
end

section
variable (v : FVec Ideal S1x2048 .f32) (hv : ∀ i, v i = ((v i).toReal : EReal)) (g : Fin 32) (p : Fin 64)
include hv

theorem collect2048 :
    ∑ x : Fin 2048, Scalar.select (k0_pay3 (ix2 g x)) (v (ix2 0 x) * (k0_pay2 (F := Ideal)) (ix2 p x)) 0
      + ∑ x : Fin 2048, (Scalar.select (k0_pay3 (ix2 g x)) (v (ix2 0 x)) 0 - Scalar.select (k0_pay3 (ix2 g x)) (v (ix2 0 x)) 0)
          * (k0_pay2 (F := Ideal)) (ix2 p x)
      + ∑ x : Fin 2048, (Scalar.select (k0_pay3 (ix2 g x)) (v (ix2 0 x)) 0 - Scalar.select (k0_pay3 (ix2 g x)) (v (ix2 0 x)) 0
          - (Scalar.select (k0_pay3 (ix2 g x)) (v (ix2 0 x)) 0 - Scalar.select (k0_pay3 (ix2 g x)) (v (ix2 0 x)) 0))
          * (k0_pay2 (F := Ideal)) (ix2 p x) = v (ix2 0 ⟨64 * g.val + p.val, by omega⟩) := by
  refine collect (fun x => k0_pay3 (ix2 g x)) (fun x => v (ix2 0 x)) (fun x => (k0_pay2 (F := Ideal)) (ix2 p x))
    ⟨64 * g.val + p.val, by omega⟩ ((own1 g _).mpr (by show _ = (64 * g.val + p.val) / 64; omega)) ?_ ?_ fun k => hv _
  · exact (selector p _).trans (if_pos (by show (64 * g.val + p.val) % 64 = _; omega))
  · intro k hk hm
    have := (own1 g k).mp hm
    refine (selector p _).trans (if_neg fun h => hk (Fin.ext ?_))
    show k.val = 64 * g.val + p.val
    omega

theorem unflat32 : k0_pay32 (k0_pay2 (F := Ideal)) k0_pay3 v (ix2 g p) = v (ix2 0 ⟨64 * g.val + p.val, by omega⟩) := by
  pointwise [k0_pay32]
  exact collect2048 v hv g p
theorem unflat31 : k0_pay31 (k0_pay2 (F := Ideal)) (k0_pay29 k0_pay3 v) (k0_pay30 (k0_pay2 (F := Ideal)) k0_pay3 v) (constant S32x64 .f32 0x00000000#32) (ix2 g p)
    = v (ix2 0 ⟨64 * g.val + p.val, by omega⟩) := by
  pointwise [k0_pay31, k0_pay29, k0_pay30, k0_pay28, k0_pay27, k0_pay26, k0_pay25]
  exact collect2048 v hv g p
end

end Cert.ParamKernelIdeal.Param

namespace Cert.ParamReferenceIdeal.Param

open Cert.ParamReferenceIdeal Cert.ParamReferenceIdeal.Gen

/-! ## The reference's blocks -/

/-- The blocks on the strips' diagonals. -/
def diagonal (w : FVec Ideal S512x512 .f32) : FVec Ideal S32x16x64 .f32 :=
  shapeCast _ (Host.reduceAdd (select (broadcastInDim S4x8x16x8x64 ![0, 1, 2, 3, 4] bcast_S1x8x1x8x1_S4x8x16x8x64_0_1_2_3_4
    (broadcastInDim S1x8x1x8x1 ![1, 3] bcast_S8x8_S1x8x1x8x1_1_3 (cmpi .eq
      (broadcastInDim S8x8 ![0, 1] bcast_S8x1_S8x8_0_1 (broadcastInDim S8x1 ![0] bcast_S8_S8x1_0 (iotaInDim S8 32 0)))
      (broadcastInDim S8x8 ![0, 1] bcast_S1x8_S8x8_0_1 (broadcastInDim S1x8 ![1] bcast_S8_S1x8_1 (iotaInDim S8 32 0))))))
    (shapeCast _ w shapeCasts_S512x512_S4x8x16x8x64) (broadcastInDim S4x8x16x8x64 ![] bcast_S_S4x8x16x8x64 (id (constant S_ .f32 0x00000000#32))))
    (constant S_ .f32 0x00000000#32) reducesTo_S4x8x16x8x64_S4x8x16x64_d3 h_S_) shapeCasts_S4x8x16x64_S32x16x64

theorem diagonal_at (w : FVec Ideal S512x512 .f32) (g : Fin 32) (c : Fin 16) (p : Fin 64) :
    diagonal w (ix3 g c p) = w (ix2 ⟨g.val * 16 + c.val, by omega⟩ ⟨64 * (g.val % 8) + p.val, by omega⟩) := by
  pointwise [diagonal]
  have z : (id (constant S_ FTy.f32 0#32) : FVec Ideal S_ .f32) ix0 = 0 := by
    show (constant S_ FTy.f32 0#32 : FVec Ideal S_ .f32) ix0 = 0
    pointwise
  rw [Finset.sum_eq_single (⟨g.val % 8, by omega⟩ : Fin 8)]
  · rw [Scalar.select_def]
    refine (if_pos ((WordCmp.cmpi_eq_ofNat_eq_one_iff (by omega) (by omega)).mpr rfl)).trans ?_
    congr 2
    · exact Fin.ext (by dsimp only; omega)
    · exact Fin.ext (by dsimp only; omega)
  · intro x _ hx
    rw [Scalar.select_def]
    refine (if_neg fun h => hx (Fin.ext ?_)).trans z
    exact ((WordCmp.cmpi_eq_ofNat_eq_one_iff (by omega) (by omega)).mp h).symm
  · exact fun h => absurd (Finset.mem_univ _) h

variable (V : Valuation τ sig (Elt Ideal))

/-- The gradients of the discretised input matrix, real and imaginary part. -/
abbrev gRe : FVec Ideal S512x512 .f32 := extractStridedSlice S512x512 ![0, 0] (V (Proc.devRef .tc main_arg7)) slices_S512x1024_S512x512_0_0
abbrev gIm : FVec Ideal S512x512 .f32 := extractStridedSlice S512x512 ![0, 512] (V (Proc.devRef .tc main_arg7)) slices_S512x1024_S512x512_0_512

theorem v63 : Value.res_main_v63 V = transpose S32x64x16 [0, 2, 1] (diagonal (gRe V)) transposes_S32x16x64_S32x64x16_0_2_1 := rfl
theorem v77 : Value.res_main_v77 V = transpose S32x64x16 [0, 2, 1] (diagonal (gIm V)) transposes_S32x16x64_S32x64x16_0_2_1 := rfl

theorem v63_at (g : Fin 32) (p : Fin 64) (c : Fin 16) : (Value.res_main_v63 V : FVec Ideal S32x64x16 .f32) (ix3 g p c)
    = (V (Proc.devRef .tc main_arg7) : FVec Ideal S512x1024 .f32) (ix2 ⟨g.val * 16 + c.val, by omega⟩ ⟨64 * (g.val % 8) + p.val, by omega⟩) := by
  rw [v63]
  pointwise [diagonal_at]
theorem v77_at (g : Fin 32) (p : Fin 64) (c : Fin 16) : (Value.res_main_v77 V : FVec Ideal S32x64x16 .f32) (ix3 g p c)
    = (V (Proc.devRef .tc main_arg7) : FVec Ideal S512x1024 .f32) (ix2 ⟨g.val * 16 + c.val, by omega⟩ ⟨512 + (64 * (g.val % 8) + p.val), by omega⟩) := by
  rw [v77]
  pointwise [diagonal_at]

/-! ## The reference's results -/

open Value

/-- The step, along a row. -/
abbrev step : FVec Ideal S32x64 .f32 := broadcastInDim S32x64 ![0, 1] bcast_S32x1_S32x64_0_1 (res_main_v1 V)
def dARe : FVec Ideal S32x64 .f32 :=
  addf (addf (addf (addf (mulf (res_main_v14 V) (res_main_v110 V)) (mulf (res_main_v19 V) (res_main_v122 V)))
    (mulf (V (Proc.devRef .tc main_arg0)) (res_main_v121 V))) (mulf (res_main_v121 V) (V (Proc.devRef .tc main_arg0)))) (mulf (res_main_v160 V) (step V))
def dAIm : FVec Ideal S32x64 .f32 :=
  addf (addf (addf (addf (addf (mulf (res_main_v29 V) (res_main_v111 V)) (mulf (res_main_v14 V) (res_main_v122 V)))
    (mulf (V (Proc.devRef .tc main_arg1)) (res_main_v121 V))) (mulf (res_main_v121 V) (V (Proc.devRef .tc main_arg1))))
    (mulf (res_main_v141 V) (step V))) (mulf (res_main_v152 V) (step V))
def dStep : FVec Ideal S32x1 .f32 :=
  shapeCast _ (mulf (Host.reduceAdd (addf (addf
      (shapeCast _ (Host.reduceAdd (mulf (V (Proc.devRef .tc main_arg1)) (res_main_v141 V)) (constant S_ .f32 0x00000000#32) reducesTo_S32x64_S32_d1 h_S_) shapeCasts_S32_S32x1)
      (shapeCast _ (Host.reduceAdd (mulf (V (Proc.devRef .tc main_arg1)) (res_main_v152 V)) (constant S_ .f32 0x00000000#32) reducesTo_S32x64_S32_d1 h_S_) shapeCasts_S32_S32x1))
      (shapeCast _ (Host.reduceAdd (mulf (V (Proc.devRef .tc main_arg0)) (res_main_v160 V)) (constant S_ .f32 0x00000000#32) reducesTo_S32x64_S32_d1 h_S_) shapeCasts_S32_S32x1))
    (constant S_ .f32 0x00000000#32) reducesTo_S32x1_S32_d1 h_S_) (res_main_v0 V)) shapeCasts_S32_S32x1
def dBRe : FVec Ideal S512x64 .f32 :=
  shapeCast _ (transpose S32x16x64 [0, 2, 1] (addf (mulf (broadcastInDim S32x64x16 ![0, 1, 2] bcast_S32x64x1_S32x64x16_0_1_2 (res_main_v46 V)) (res_main_v77 V))
    (mulf (broadcastInDim S32x64x16 ![0, 1, 2] bcast_S32x64x1_S32x64x16_0_1_2 (res_main_v36 V)) (res_main_v63 V))) transposes_S32x64x16_S32x16x64_0_2_1) shapeCasts_S32x16x64_S512x64
def dBIm : FVec Ideal S512x64 .f32 :=
  shapeCast _ (transpose S32x16x64 [0, 2, 1] (addf (mulf (broadcastInDim S32x64x16 ![0, 1, 2] bcast_S32x64x1_S32x64x16_0_1_2 (res_main_v43 V)) (res_main_v77 V))
    (mulf (broadcastInDim S32x64x16 ![0, 1, 2] bcast_S32x64x1_S32x64x16_0_1_2 (res_main_v39 V)) (res_main_v90 V))) transposes_S32x64x16_S32x16x64_0_2_1) shapeCasts_S32x16x64_S512x64
def dCRe : FVec Ideal S512x64 .f32 :=
  shapeCast _ (diagonal (extractStridedSlice S512x512 ![0, 0] (V (Proc.devRef .tc main_arg8)) slices_S512x1024_S512x512_0_0)) shapeCasts_S32x16x64_S512x64
def dCIm : FVec Ideal S512x64 .f32 :=
  Host.negf (shapeCast _ (diagonal (extractStridedSlice S512x512 ![0, 512] (V (Proc.devRef .tc main_arg8)) slices_S512x1024_S512x512_0_512)) shapeCasts_S32x16x64_S512x64)

end Cert.ParamReferenceIdeal.Param

namespace Cert.ParamKernelIdeal.Param

open Cert.ParamKernelIdeal Cert.ParamKernelIdeal.Gen
open Cert.ParamReferenceIdeal.Value
open Cert.ParamReferenceIdeal.Param (v63_at v77_at diagonal_at dARe dAIm dStep dBRe dBIm dCRe dCIm step)

/-! ## The body's values are the reference's -/

variable (V : Valuation ParamReferenceIdeal.τ ParamReferenceIdeal.sig (Elt Ideal))

abbrev AR : FVec Ideal S32x64 .f32 := V (Proc.devRef .tc ParamReferenceIdeal.main_arg0)
abbrev AI : FVec Ideal S32x64 .f32 := V (Proc.devRef .tc ParamReferenceIdeal.main_arg1)
abbrev LDT : FVec Ideal S32 .f32 := V (Proc.devRef .tc ParamReferenceIdeal.main_arg2)
abbrev BR : FVec Ideal S32x64x16 .f32 := V (Proc.devRef .tc ParamReferenceIdeal.main_arg3)
abbrev BI : FVec Ideal S32x64x16 .f32 := V (Proc.devRef .tc ParamReferenceIdeal.main_arg4)
abbrev GLR : FVec Ideal S32x64 .f32 := V (Proc.devRef .tc ParamReferenceIdeal.main_arg5)
abbrev GLI : FVec Ideal S32x64 .f32 := V (Proc.devRef .tc ParamReferenceIdeal.main_arg6)
abbrev GWB : FVec Ideal S512x1024 .f32 := V (Proc.devRef .tc ParamReferenceIdeal.main_arg7)
abbrev GWC : FVec Ideal S512x1024 .f32 := V (Proc.devRef .tc ParamReferenceIdeal.main_arg8)

/-- The blocks the body reads, from the arguments. -/
abbrev X2 : FVec Ideal S32x1 .f32 := shapeCast S32x1 (LDT V) shapeCasts_S32_S32x1
abbrev X3 : FVec Ideal S512x64 .f32 := shapeCast S512x64 (transpose S32x16x64 [0, 2, 1] (BR V) transposes_S32x64x16_S32x16x64_0_2_1) shapeCasts_S32x16x64_S512x64
abbrev X4 : FVec Ideal S512x64 .f32 := shapeCast S512x64 (transpose S32x16x64 [0, 2, 1] (BI V) transposes_S32x64x16_S32x16x64_0_2_1) shapeCasts_S32x16x64_S512x64
abbrev X5 : FVec Ideal S1x2048 .f32 := shapeCast S1x2048 (GLR V) shapeCasts_S32x64_S1x2048
abbrev X6 : FVec Ideal S1x2048 .f32 := shapeCast S1x2048 (GLI V) shapeCasts_S32x64_S1x2048

theorem e7 : k0_pay7 (F := Ideal) (X2 V) = (res_main_v1 V : FVec Ideal S32x1 .f32) := by
  ext1 y; idx_vars y
  pointwise [k0_pay7, res_main_v1, res_main_v0]
theorem e8 : k0_pay8 (F := Ideal) (AR V) (X2 V) = (res_main_v4 V : FVec Ideal S32x64 .f32) := by
  ext1 y; idx_vars y
  pointwise [k0_pay8, e7, res_main_v4]
theorem e9 : k0_pay9 (F := Ideal) (AI V) (X2 V) = (res_main_v6 V : FVec Ideal S32x64 .f32) := by
  ext1 y; idx_vars y
  pointwise [k0_pay9, e7, res_main_v6]
theorem e10 : k0_pay10 (F := Ideal) (AI V) (X2 V) = (res_main_v7 V : FVec Ideal S32x64 .f32) := by
  ext1 y; idx_vars y
  pointwise [k0_pay10, e9, res_main_v7]
theorem e11 : k0_pay11 (F := Ideal) (AI V) (X2 V) = (Host.sin (res_main_v6 V) : FVec Ideal S32x64 .f32) := by
  ext1 y; idx_vars y
  pointwise [k0_pay11, e9]
theorem e12 : k0_pay12 (F := Ideal) (AR V) (AI V) (X2 V) = (res_main_v9 V : FVec Ideal S32x64 .f32) := by
  ext1 y; idx_vars y
  pointwise [k0_pay12, e8, e10, res_main_v9]
theorem e13 : k0_pay13 (F := Ideal) (AI V) (res_main_v1 V : FVec Ideal S32x1 .f32) = (res_main_v11 V : FVec Ideal S32x64 .f32) := by
  ext1 y; idx_vars y
  pointwise [k0_pay13, res_main_v11]
theorem e14 : k0_pay14 (F := Ideal) (AI V) (res_main_v1 V : FVec Ideal S32x1 .f32) = (res_main_v12 V : FVec Ideal S32x64 .f32) := by
  ext1 y; idx_vars y
  pointwise [k0_pay14, e13, res_main_v12]
theorem e15 : k0_pay15 (F := Ideal) (AI V) (res_main_v1 V : FVec Ideal S32x1 .f32) = (Host.cos (res_main_v11 V) : FVec Ideal S32x64 .f32) := by
  ext1 y; idx_vars y
  pointwise [k0_pay15, e13]
theorem e16 : k0_pay16 (F := Ideal) (AI V) (res_main_v1 V : FVec Ideal S32x1 .f32) (res_main_v4 V : FVec Ideal S32x64 .f32) = (res_main_v14 V : FVec Ideal S32x64 .f32) := by
  ext1 y; idx_vars y
  pointwise [k0_pay16, e14, res_main_v14]
theorem e17 : k0_pay17 (F := Ideal) (AR V) (AI V) = (res_main_v17 V : FVec Ideal S32x64 .f32) := by
  ext1 y; idx_vars y
  pointwise [k0_pay17, res_main_v17]
theorem e18 : k0_pay18 (F := Ideal) (res_main_v9 V : FVec Ideal S32x64 .f32) = (res_main_v19 V : FVec Ideal S32x64 .f32) := by
  ext1 y; idx_vars y
  pointwise [k0_pay18, res_main_v19]
theorem e19 : k0_pay19 (F := Ideal) (AR V) (AI V) (res_main_v1 V : FVec Ideal S32x1 .f32) (res_main_v4 V : FVec Ideal S32x64 .f32) (res_main_v9 V : FVec Ideal S32x64 .f32)
    = (res_main_v22 V : FVec Ideal S32x64 .f32) := by
  ext1 y; idx_vars y
  pointwise [k0_pay19, e16, e18, res_main_v22]
/-- One over the square of the denominator. -/
def inv2 : FVec Ideal S32x64 .f32 := fun i => Ideal.div (Ideal.ofBits .f32 0x3F800000#32)
  (mulf (F := Ideal) (φ := .f32) (res_main_v17 V) (res_main_v17 V) i)
theorem e20 : k0_pay20 (F := Ideal) (AR V) (AI V) = inv2 V := by
  ext1 y; idx_vars y
  pointwise [k0_pay20, e17, inv2]
theorem e22 : k0_pay22 (F := Ideal) (AR V) (AI V) = inv2 V := by
  ext1 y; idx_vars y
  pointwise [k0_pay22, e17, inv2]
theorem e21 : k0_pay21 (F := Ideal) (AR V) (AI V) (res_main_v1 V : FVec Ideal S32x1 .f32) (res_main_v4 V : FVec Ideal S32x64 .f32) (res_main_v9 V : FVec Ideal S32x64 .f32)
    = (res_main_v31 V : FVec Ideal S32x64 .f32) := by
  ext1 y; idx_vars y
  pointwise [k0_pay21, e16, e18, res_main_v31, res_main_v29, res_main_v19]
theorem e23 (g : Fin 32) (c : Fin 16) (p : Fin 64) :
    k0_pay23 (F := Ideal) (AR V) (AI V) (res_main_v1 V : FVec Ideal S32x1 .f32) (res_main_v4 V : FVec Ideal S32x64 .f32) (res_main_v9 V : FVec Ideal S32x64 .f32)
      (ix2 ⟨g.val * 16 + c.val, by omega⟩ p) = (res_main_v23 V : FVec Ideal S32x64 .f32) (ix2 g p) := by
  pointwise [k0_pay23, e19, e17, res_main_v23]
theorem e24 (g : Fin 32) (c : Fin 16) (p : Fin 64) :
    k0_pay24 (F := Ideal) (AR V) (AI V) (res_main_v1 V : FVec Ideal S32x1 .f32) (res_main_v4 V : FVec Ideal S32x64 .f32) (res_main_v9 V : FVec Ideal S32x64 .f32)
      (ix2 ⟨g.val * 16 + c.val, by omega⟩ p) = (res_main_v32 V : FVec Ideal S32x64 .f32) (ix2 g p) := by
  pointwise [k0_pay24, e21, e17, res_main_v32]

section
variable (hR : ∀ i, GLR V i = ((GLR V i).toReal : EReal)) (hI : ∀ i, GLI V i = ((GLI V i).toReal : EReal))
include hR in
theorem e31 : k0_pay31 (k0_pay2 (F := Ideal)) (k0_pay29 k0_pay3 (X5 V)) (k0_pay30 (k0_pay2 (F := Ideal)) k0_pay3 (X5 V)) (constant S32x64 .f32 0x00000000#32) = GLR V := by
  ext1 y; idx_vars y
  rw [unflat31 (X5 V) (fun i => hR _)]
  pointwise
include hI in
theorem e32 : k0_pay32 (k0_pay2 (F := Ideal)) k0_pay3 (X6 V) = GLI V := by
  ext1 y; idx_vars y
  rw [unflat32 (X6 V) (fun i => hI _)]
  pointwise
end

section
variable (w : FVec Ideal S512x512 .f32) (z : FVec Ideal S512x64 .f32)
    (hz : ∀ (g : Fin 32) (c : Fin 16) (p : Fin 64), z (ix2 ⟨g.val * 16 + c.val, by omega⟩ p) = (res_main_v63 V : FVec Ideal S32x64x16 .f32) (ix3 g p c))
    (hw : ∀ (g : Fin 32) (c : Fin 16) (p : Fin 64), k0_pay35 (k0_pay2 (F := Ideal)) w (ix2 ⟨g.val * 16 + c.val, by omega⟩ p)
      = (res_main_v77 V : FVec Ideal S32x64x16 .f32) (ix3 g p c))
include hz hw

theorem e39 : k0_pay39 (k0_pay2 (F := Ideal)) (k0_pay5 (X3 V)) (k0_pay6 (X4 V)) z w = (res_main_v98 V : FVec Ideal S32x64 .f32) := by
  ext1 y; idx_vars y
  pointwise [k0_pay39, k0_pay5, k0_pay6, k0_pay36, res_main_v98, res_main_v90]
  simp only [hz, hw, zero_sub, Finset.sum_add_distrib]
theorem e40 : k0_pay40 (k0_pay2 (F := Ideal)) (k0_pay5 (X3 V)) (k0_pay6 (X4 V)) z w = (res_main_v106 V : FVec Ideal S32x64 .f32) := by
  ext1 y; idx_vars y
  pointwise [k0_pay40, k0_pay5, k0_pay6, res_main_v106]
  simp only [hz, hw, Finset.sum_add_distrib]

/-! From here on the two programs are one text, value by value. -/

theorem e41 : k0_pay41 (k0_pay2 (F := Ideal)) (k0_pay5 (X3 V)) (k0_pay6 (X4 V)) (res_main_v31 V) (inv2 V) z w
    = Host.negf (F := Ideal) (φ := .f32) (mulf (mulf (res_main_v98 V) (inv2 V)) (res_main_v31 V)) := by
  ext1 y; idx_vars y
  pointwise [k0_pay41, e39 V w z hz hw]
  exact zero_sub _
theorem e42 : k0_pay42 (k0_pay2 (F := Ideal)) (k0_pay5 (X3 V)) (k0_pay6 (X4 V)) (res_main_v17 V) z w = res_main_v110 V := by
  ext1 y; idx_vars y
  pointwise [k0_pay42, e39 V w z hz hw, res_main_v110]
theorem e43 : k0_pay43 (k0_pay2 (F := Ideal)) (k0_pay5 (X3 V)) (k0_pay6 (X4 V)) (res_main_v17 V) z w = res_main_v111 V := by
  ext1 y; idx_vars y
  pointwise [k0_pay43, e42, hz, hw, res_main_v111]
  rw [e42 V w z hz hw]
  exact zero_sub _
theorem e44 : k0_pay44 (k0_pay2 (F := Ideal)) (k0_pay5 (X3 V)) (k0_pay6 (X4 V)) (res_main_v17 V) (res_main_v19 V) z w
    = mulf (F := Ideal) (φ := .f32) (res_main_v29 V) (res_main_v111 V) := by
  ext1 y; idx_vars y
  pointwise [k0_pay44, e43 V w z hz hw, res_main_v29, res_main_v19]
theorem e45 : k0_pay45 (k0_pay2 (F := Ideal)) (AI V) (k0_pay5 (X3 V)) (k0_pay6 (X4 V)) (res_main_v17 V) (GLR V) z w
    = addf (F := Ideal) (φ := .f32) (GLR V) (mulf (res_main_v111 V) (AI V)) := by
  ext1 y; idx_vars y
  pointwise [k0_pay45, e43 V w z hz hw]
theorem e46 : k0_pay46 (k0_pay2 (F := Ideal)) (k0_pay5 (X3 V)) (k0_pay6 (X4 V)) (res_main_v14 V) (res_main_v17 V) z w
    = mulf (F := Ideal) (φ := .f32) (res_main_v14 V) (res_main_v110 V) := by
  ext1 y; idx_vars y
  pointwise [k0_pay46, e42 V w z hz hw]
theorem e47 : k0_pay47 (k0_pay2 (F := Ideal)) (AR V) (k0_pay5 (X3 V)) (k0_pay6 (X4 V)) (res_main_v17 V) z w
    = mulf (F := Ideal) (φ := .f32) (res_main_v110 V) (AR V) := by
  ext1 y; idx_vars y
  pointwise [k0_pay47, e42 V w z hz hw]
end

theorem e48 : k0_pay48 (res_main_v22 V) (inv2 V) (res_main_v106 V) (Host.negf (F := Ideal) (φ := .f32) (mulf (mulf (res_main_v98 V) (inv2 V)) (res_main_v31 V)))
    = (res_main_v121 V : FVec Ideal S32x64 .f32) := by
  ext1 y; idx_vars y
  pointwise [k0_pay48, res_main_v121, inv2]
  exact congrArg _ (zero_sub _)
theorem e49 : k0_pay49 (F := Ideal) (res_main_v17 V) (res_main_v106 V) = res_main_v122 V := by
  ext1 y; idx_vars y
  pointwise [k0_pay49, res_main_v122]
theorem e50 : k0_pay50 (F := Ideal) (AI V) (res_main_v17 V) (GLI V) (res_main_v106 V) (mulf (F := Ideal) (φ := .f32) (res_main_v110 V) (AR V)) = res_main_v126 V := by
  ext1 y; idx_vars y
  pointwise [k0_pay50, e49, res_main_v126]
theorem e51 : k0_pay51 (F := Ideal) (AR V) (res_main_v17 V) (res_main_v106 V) (addf (F := Ideal) (φ := .f32) (GLR V) (mulf (res_main_v111 V) (AI V))) = res_main_v130 V := by
  ext1 y; idx_vars y
  pointwise [k0_pay51, e49, res_main_v130]
theorem e52 : k0_pay52 (F := Ideal) (AI V) (res_main_v4 V) (Host.cos (res_main_v11 V)) (res_main_v17 V) (GLI V) (res_main_v106 V)
    (mulf (F := Ideal) (φ := .f32) (res_main_v110 V) (AR V)) = res_main_v141 V := by
  ext1 y; idx_vars y
  pointwise [k0_pay52, e50, res_main_v141]
theorem e53 : k0_pay53 (F := Ideal) (AR V) (res_main_v4 V) (Host.sin (res_main_v6 V)) (res_main_v17 V) (res_main_v106 V)
    (addf (F := Ideal) (φ := .f32) (GLR V) (mulf (res_main_v111 V) (AI V))) = res_main_v152 V := by
  ext1 y; idx_vars y
  pointwise [k0_pay53, e51, res_main_v152]
  exact congrArg (· * _) (zero_sub _)
theorem e55 : k0_pay55 (F := Ideal) (AR V) (AI V) (res_main_v4 V) (res_main_v7 V) (res_main_v12 V) (res_main_v17 V) (GLI V) (res_main_v106 V)
    (addf (F := Ideal) (φ := .f32) (GLR V) (mulf (res_main_v111 V) (AI V))) (mulf (F := Ideal) (φ := .f32) (res_main_v110 V) (AR V)) = res_main_v160 V := by
  ext1 y; idx_vars y
  pointwise [k0_pay55, e50, e51, res_main_v160]

/-! ## The seven results -/

theorem zero2 : (![0, 0] : Fin 2 → ℕ) = fun _ => 0 := by decide

theorem ld0 (x : FVec Ideal S32x64 .f32) : View.ld (Val := Elt Ideal) (e' := .f32) x r0_0 = x := View.ld_unit_zero (Val := Elt Ideal) (e := .f32) (S := S32x64) zero2 _ x
theorem ld1 (x : FVec Ideal S32x1 .f32) : View.ld (Val := Elt Ideal) (e' := .f32) x r0_1 = x := View.ld_unit_zero (Val := Elt Ideal) (e := .f32) (S := S32x1) zero2 _ x
theorem ld2 (x : FVec Ideal S512x64 .f32) : View.ld (Val := Elt Ideal) (e' := .f32) x r0_2 = x := View.ld_unit_zero (Val := Elt Ideal) (e := .f32) (S := S512x64) zero2 _ x
theorem ld3 (x : FVec Ideal S1x2048 .f32) : View.ld (Val := Elt Ideal) (e' := .f32) x r0_3 = x := View.ld_unit_zero (Val := Elt Ideal) (e := .f32) (S := S1x2048) zero2 _ x
theorem ld4 (x : FVec Ideal S512x1024 .f32) (r k : Fin 512) : View.ld (Val := Elt Ideal) (e' := .f32) x r0_4 (ix2 r k) = x (ix2 r ⟨k.val, by omega⟩) := by
  refine congrArg x (funext fun d => Fin.ext ?_)
  match d with
  | 0 => exact (Nat.zero_add _).trans (Nat.one_mul _)
  | 1 => exact (Nat.zero_add _).trans (Nat.one_mul _)
theorem ld5 (x : FVec Ideal S512x1024 .f32) (r k : Fin 512) : View.ld (Val := Elt Ideal) (e' := .f32) x r0_5 (ix2 r k) = x (ix2 r ⟨512 + k.val, by omega⟩) := by
  refine congrArg x (funext fun d => Fin.ext ?_)
  match d with
  | 0 => exact (Nat.zero_add _).trans (Nat.one_mul _)
  | 1 => exact congrArg (512 + ·) (Nat.one_mul _)

/-- Every row of a strip is a channel of a group. -/
theorem row_of (r : Fin 512) : ∃ (g : Fin 32) (c : Fin 16), r = ⟨g.val * 16 + c.val, by omega⟩ :=
  ⟨⟨r.val / 16, by omega⟩, ⟨r.val % 16, Nat.mod_lt _ (by decide)⟩, Fin.ext (by dsimp only; omega)⟩

section
variable (hR : ∀ i, GLR V i = ((GLR V i).toReal : EReal)) (hI : ∀ i, GLI V i = ((GLI V i).toReal : EReal))
    (hB : ∀ i, GWB V i = ((GWB V i).toReal : EReal)) (hC : ∀ i, GWC V i = ((GWC V i).toReal : EReal))

include hB in
theorem z_at (g : Fin 32) (c : Fin 16) (p : Fin 64) :
    k0_pay33 (k0_pay2 (F := Ideal)) k0_pay4 (View.ld (Val := Elt Ideal) (GWB V) r0_4) (ix2 ⟨g.val * 16 + c.val, by omega⟩ p)
      = (res_main_v63 V : FVec Ideal S32x64x16 .f32) (ix3 g p c) := by
  rw [collect33 (View.ld (Val := Elt Ideal) (e' := .f32) (GWB V) r0_4) fun i => hB _, v63_at]
  refine (ld4 (GWB V) _ _).trans (congrArg (GWB V) (congrArg (ix2 _) (Fin.ext ?_)))
  show 64 * ((g.val * 16 + c.val) / 16 % 8) + p.val = 64 * (g.val % 8) + p.val
  omega
include hB in
theorem w_at (g : Fin 32) (c : Fin 16) (p : Fin 64) :
    k0_pay35 (k0_pay2 (F := Ideal)) (k0_pay34 k0_pay4 (View.ld (Val := Elt Ideal) (GWB V) r0_5)) (ix2 ⟨g.val * 16 + c.val, by omega⟩ p)
      = (res_main_v77 V : FVec Ideal S32x64x16 .f32) (ix3 g p c) := by
  rw [collect35 (View.ld (Val := Elt Ideal) (e' := .f32) (GWB V) r0_5) fun i => hB _, v77_at]
  refine (ld5 (GWB V) _ _).trans (congrArg (GWB V) (congrArg (ix2 _) (Fin.ext ?_)))
  show 512 + (64 * ((g.val * 16 + c.val) / 16 % 8) + p.val) = 512 + (64 * (g.val % 8) + p.val)
  omega

include hR hI hB in
theorem out9 : out0_9 (F := Ideal) (AR V) (AI V) (X2 V) (X3 V) (X4 V) (X5 V) (X6 V) (GWB V) (GWC V) = dARe V := by
  have z := z_at V hB
  have w := w_at V hB
  unfold_out out0_9
  simp only [ld0, ld1, ld2, ld3, e7, e8, e9, e10, e11, e12, e14, e15, e16, e17, e18, e19, e20, e21, e22, e31 V hR, e32 V hI,
    e40 V _ _ z w, e41 V _ _ z w, e44 V _ _ z w, e45 V _ _ z w, e46 V _ _ z w, e47 V _ _ z w]
  refine (View.canon_unit_zero (Val := Elt Ideal) (e := .f32) (S := S32x64) zero2 _ _).trans ?_
  ext1 y; idx_vars y
  pointwise [k0_pay56, e48, e49, e55, dARe]
include hR hI hB in
theorem out10 : out0_10 (F := Ideal) (AR V) (AI V) (X2 V) (X3 V) (X4 V) (X5 V) (X6 V) (GWB V) (GWC V) = dAIm V := by
  have z := z_at V hB
  have w := w_at V hB
  unfold_out out0_10
  simp only [ld0, ld1, ld2, ld3, e7, e8, e9, e10, e11, e12, e14, e15, e16, e17, e18, e19, e20, e21, e22, e31 V hR, e32 V hI,
    e40 V _ _ z w, e41 V _ _ z w, e44 V _ _ z w, e45 V _ _ z w, e46 V _ _ z w, e47 V _ _ z w]
  refine (View.canon_unit_zero (Val := Elt Ideal) (e := .f32) (S := S32x64) zero2 _ _).trans ?_
  ext1 y; idx_vars y
  pointwise [k0_pay54, e48, e49, e52, e53, dAIm]
include hR hI hB in
theorem out11 : out0_11 (F := Ideal) (AR V) (AI V) (X2 V) (X3 V) (X4 V) (X5 V) (X6 V) (GWB V) (GWC V) = dStep V := by
  have z := z_at V hB
  have w := w_at V hB
  unfold_out out0_11
  simp only [ld0, ld1, ld2, ld3, e7, e8, e9, e10, e11, e12, e14, e15, e16, e17, e18, e19, e20, e21, e22, e31 V hR, e32 V hI,
    e40 V _ _ z w, e41 V _ _ z w, e44 V _ _ z w, e45 V _ _ z w, e46 V _ _ z w, e47 V _ _ z w]
  refine (View.canon_unit_zero (Val := Elt Ideal) (e := .f32) (S := S32x1) zero2 _ _).trans ?_
  ext1 y; idx_vars y
  pointwise [k0_pay57, e52, e53, e55, dStep, res_main_v0]
  obtain rfl := Subsingleton.elim y1 0
  rw [Fin.sum_univ_one]
  refine congrArg₂ (fun a b : EReal => a * b) rfl ?_
  pointwise [res_main_v1, res_main_v0]
include hB in
theorem out12 : out0_12 (F := Ideal) (AR V) (AI V) (X2 V) (X3 V) (X4 V) (X5 V) (X6 V) (GWB V) (GWC V) = dBRe V := by
  unfold_out out0_12
  simp only [ld0, ld1, ld2, ld3, e7, e8, e9, e10, e11, e12, e14, e15, e16, e17, e18, e19, e20, e21, e22]
  refine (View.canon_unit_zero (Val := Elt Ideal) (e := .f32) (S := S512x64) zero2 _ _).trans ?_
  ext1 y; idx_vars y
  obtain ⟨g, c, rfl⟩ := row_of y0
  pointwise [k0_pay38, e23, e24, z_at V hB, w_at V hB, dBRe, res_main_v46, res_main_v36, res_main_v43, res_main_v39, res_main_v90]
include hB in
theorem out13 : out0_13 (F := Ideal) (AR V) (AI V) (X2 V) (X3 V) (X4 V) (X5 V) (X6 V) (GWB V) (GWC V) = dBIm V := by
  unfold_out out0_13
  simp only [ld0, ld1, ld2, ld3, e7, e8, e9, e10, e11, e12, e14, e15, e16, e17, e18, e19, e20, e21, e22]
  refine (View.canon_unit_zero (Val := Elt Ideal) (e := .f32) (S := S512x64) zero2 _ _).trans ?_
  ext1 y; idx_vars y
  obtain ⟨g, c, rfl⟩ := row_of y0
  pointwise [k0_pay37, k0_pay36, e23, e24, z_at V hB, w_at V hB, dBIm, res_main_v46, res_main_v36, res_main_v43, res_main_v39, res_main_v90]
  rw [zero_sub]
include hC in
theorem out14 : out0_14 (F := Ideal) (AR V) (AI V) (X2 V) (X3 V) (X4 V) (X5 V) (X6 V) (GWB V) (GWC V) = dCRe V := by
  unfold_out out0_14
  refine (View.canon_unit_zero (Val := Elt Ideal) (e := .f32) (S := S512x64) zero2 _ _).trans ?_
  ext1 y; idx_vars y
  obtain ⟨g, c, rfl⟩ := row_of y0
  rw [collect58 (View.ld (Val := Elt Ideal) (e' := .f32) (GWC V) r0_4) fun i => hC _]
  refine (ld4 (GWC V) _ _).trans ?_
  pointwise [dCRe, diagonal_at]
  refine (congrArg (GWC V) (congrArg (ix2 _) (Fin.ext ?_)))
  dsimp only
  omega
include hC in
theorem out15 : out0_15 (F := Ideal) (AR V) (AI V) (X2 V) (X3 V) (X4 V) (X5 V) (X6 V) (GWB V) (GWC V) = dCIm V := by
  unfold_out out0_15
  refine (View.canon_unit_zero (Val := Elt Ideal) (e := .f32) (S := S512x64) zero2 _ _).trans ?_
  ext1 y; idx_vars y
  obtain ⟨g, c, rfl⟩ := row_of y0
  rw [collect1 (View.ld (Val := Elt Ideal) (e' := .f32) (GWC V) r0_5) fun i => hC _]
  refine (congrArg (fun a : EReal => -a) (ld5 (GWC V) _ _)).trans ?_
  pointwise [dCIm, diagonal_at]
  refine congrArg (fun a : EReal => -a) (congrArg (GWC V) (congrArg (ix2 _) (Fin.ext ?_)))
  dsimp only
  omega
end

/-! ## The program's own blocks -/

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] := (by decide +kernel : ∀ t : Fin grid0.N, _)

section
variable (m : (ℓ : Loc nD τ sig) → Buf (Elt Ideal) ℓ) (c : Dev nD)

theorem V0 : Gen.V m c main_v0 = shapeCast S32x1 (m ((c : Thread nD τ).loc main_arg2)) shapeCasts_S32_S32x1 := by
  unfold Gen.V; after_results; rfl
theorem V2 : Gen.V m c main_v2 = shapeCast S512x64 (transpose S32x16x64 [0, 2, 1] (m ((c : Thread nD τ).loc main_arg3)) transposes_S32x64x16_S32x16x64_0_2_1) shapeCasts_S32x16x64_S512x64 := by
  unfold Gen.V; after_results; rfl
theorem V4 : Gen.V m c main_v4 = shapeCast S512x64 (transpose S32x16x64 [0, 2, 1] (m ((c : Thread nD τ).loc main_arg4)) transposes_S32x64x16_S32x16x64_0_2_1) shapeCasts_S32x16x64_S512x64 := by
  unfold Gen.V; after_results; rfl
theorem V5 : Gen.V m c main_v5 = shapeCast S1x2048 (m ((c : Thread nD τ).loc main_arg5)) shapeCasts_S32x64_S1x2048 := by
  unfold Gen.V; after_results; rfl
theorem V6 : Gen.V m c main_v6 = shapeCast S1x2048 (m ((c : Thread nD τ).loc main_arg6)) shapeCasts_S32x64_S1x2048 := by
  unfold Gen.V; after_results; rfl

variable (W : Valuation ParamReferenceIdeal.τ ParamReferenceIdeal.sig (Elt Ideal))

/-- The reference's arguments are the program's. -/
structure Agrees : Prop where
  h0 : AR W = m ((c : Thread nD τ).loc main_arg0)
  h1 : AI W = m ((c : Thread nD τ).loc main_arg1)
  h2 : LDT W = m ((c : Thread nD τ).loc main_arg2)
  h3 : BR W = m ((c : Thread nD τ).loc main_arg3)
  h4 : BI W = m ((c : Thread nD τ).loc main_arg4)
  h5 : GLR W = m ((c : Thread nD τ).loc main_arg5)
  h6 : GLI W = m ((c : Thread nD τ).loc main_arg6)
  h7 : GWB W = m ((c : Thread nD τ).loc main_arg7)
  h8 : GWC W = m ((c : Thread nD τ).loc main_arg8)

variable {m c W} (h : Agrees m c W)
include h

theorem block0 : (show FVec Ideal S32x64 .f32 from iblk m c 0 t0_0) = AR W := by
  funext y; idx_vars y
  have e : (show FVec Ideal S32x64 .f32 from iblk m c 0 t0_0) (ix2 y0 y1) = Gen.V m c main_arg0 (ix2 y0 y1) := by blk_ext [iblk, idx t0_0]
  exact e.trans (congrFun h.h0 _).symm
theorem block1 : (show FVec Ideal S32x64 .f32 from iblk m c 1 t0_0) = AI W := by
  funext y; idx_vars y
  have e : (show FVec Ideal S32x64 .f32 from iblk m c 1 t0_0) (ix2 y0 y1) = Gen.V m c main_arg1 (ix2 y0 y1) := by blk_ext [iblk, idx t0_0]
  exact e.trans (congrFun h.h1 _).symm
theorem block2 : (show FVec Ideal S32x1 .f32 from iblk m c 2 t0_0) = X2 W := by
  funext y; idx_vars y
  have e : (show FVec Ideal S32x1 .f32 from iblk m c 2 t0_0) (ix2 y0 y1) = Gen.V m c main_v0 (ix2 y0 y1) := by blk_ext [iblk, idx t0_0]
  exact e.trans (by rw [V0, X2, h.h2])
theorem block3 : (show FVec Ideal S512x64 .f32 from iblk m c 3 t0_0) = X3 W := by
  funext y; idx_vars y
  have e : (show FVec Ideal S512x64 .f32 from iblk m c 3 t0_0) (ix2 y0 y1) = Gen.V m c main_v2 (ix2 y0 y1) := by blk_ext [iblk, idx t0_0]
  exact e.trans (by rw [V2, X3, h.h3])
theorem block4 : (show FVec Ideal S512x64 .f32 from iblk m c 4 t0_0) = X4 W := by
  funext y; idx_vars y
  have e : (show FVec Ideal S512x64 .f32 from iblk m c 4 t0_0) (ix2 y0 y1) = Gen.V m c main_v4 (ix2 y0 y1) := by blk_ext [iblk, idx t0_0]
  exact e.trans (by rw [V4, X4, h.h4])
theorem block5 : (show FVec Ideal S1x2048 .f32 from iblk m c 5 t0_0) = X5 W := by
  funext y; idx_vars y
  have e : (show FVec Ideal S1x2048 .f32 from iblk m c 5 t0_0) (ix2 y0 y1) = Gen.V m c main_v5 (ix2 y0 y1) := by blk_ext [iblk, idx t0_0]
  exact e.trans (by rw [V5, X5, h.h5])
theorem block6 : (show FVec Ideal S1x2048 .f32 from iblk m c 6 t0_0) = X6 W := by
  funext y; idx_vars y
  have e : (show FVec Ideal S1x2048 .f32 from iblk m c 6 t0_0) (ix2 y0 y1) = Gen.V m c main_v6 (ix2 y0 y1) := by blk_ext [iblk, idx t0_0]
  exact e.trans (by rw [V6, X6, h.h6])
theorem block7 : (show FVec Ideal S512x1024 .f32 from iblk m c 7 t0_0) = GWB W := by
  funext y; idx_vars y
  have e : (show FVec Ideal S512x1024 .f32 from iblk m c 7 t0_0) (ix2 y0 y1) = Gen.V m c main_arg7 (ix2 y0 y1) := by blk_ext [iblk, idx t0_0]
  exact e.trans (congrFun h.h7 _).symm
theorem block8 : (show FVec Ideal S512x1024 .f32 from iblk m c 8 t0_0) = GWC W := by
  funext y; idx_vars y
  have e : (show FVec Ideal S512x1024 .f32 from iblk m c 8 t0_0) (ix2 y0 y1) = Gen.V m c main_arg8 (ix2 y0 y1) := by blk_ext [iblk, idx t0_0]
  exact e.trans (congrFun h.h8 _).symm

variable (hR : ∀ i, GLR W i = ((GLR W i).toReal : EReal)) (hI : ∀ i, GLI W i = ((GLI W i).toReal : EReal))
    (hB : ∀ i, GWB W i = ((GWB W i).toReal : EReal)) (hC : ∀ i, GWC W i = ((GWC W i).toReal : EReal))

/-- A function of the nine blocks is that function of the arguments. -/
theorem blocks {α : Type} (f : FVec Ideal S32x64 .f32 → FVec Ideal S32x64 .f32 → FVec Ideal S32x1 .f32 → FVec Ideal S512x64 .f32 → FVec Ideal S512x64 .f32
      → FVec Ideal S1x2048 .f32 → FVec Ideal S1x2048 .f32 → FVec Ideal S512x1024 .f32 → FVec Ideal S512x1024 .f32 → α) :
    f (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)
      = f (AR W) (AI W) (X2 W) (X3 W) (X4 W) (X5 W) (X6 W) (GWB W) (GWC W) := by
  rw [← block0 h, ← block1 h, ← block2 h, ← block3 h, ← block4 h, ← block5 h, ← block6 h, ← block7 h, ← block8 h]

include hR hI hB in
theorem final9 : (dats m 0 c).arrAt 9 cfg0.N = dARe W := by
  refine (dats m 0 c).arrAt_eq_of_after_last 9 t0_0 (by decide +kernel) _ fun y => ?_
  blk_simp
  rw [after0_9]
  idx_vars y
  refine congrFun ((blocks h (out0_9 (F := Ideal))).trans (out9 W hR hI hB)) _
include hR hI hB in
theorem final10 : (dats m 0 c).arrAt 10 cfg0.N = dAIm W := by
  refine (dats m 0 c).arrAt_eq_of_after_last 10 t0_0 (by decide +kernel) _ fun y => ?_
  blk_simp
  rw [after0_10]
  idx_vars y
  refine congrFun ((blocks h (out0_10 (F := Ideal))).trans (out10 W hR hI hB)) _
include hR hI hB in
theorem final11 : (dats m 0 c).arrAt 11 cfg0.N = dStep W := by
  refine (dats m 0 c).arrAt_eq_of_after_last 11 t0_0 (by decide +kernel) _ fun y => ?_
  blk_simp
  rw [after0_11]
  idx_vars y
  refine congrFun ((blocks h (out0_11 (F := Ideal))).trans (out11 W hR hI hB)) _
include hB in
theorem final12 : (dats m 0 c).arrAt 12 cfg0.N = dBRe W := by
  refine (dats m 0 c).arrAt_eq_of_after_last 12 t0_0 (by decide +kernel) _ fun y => ?_
  blk_simp
  rw [after0_12]
  idx_vars y
  refine congrFun ((blocks h (out0_12 (F := Ideal))).trans (out12 W hB)) _
include hB in
theorem final13 : (dats m 0 c).arrAt 13 cfg0.N = dBIm W := by
  refine (dats m 0 c).arrAt_eq_of_after_last 13 t0_0 (by decide +kernel) _ fun y => ?_
  blk_simp
  rw [after0_13]
  idx_vars y
  refine congrFun ((blocks h (out0_13 (F := Ideal))).trans (out13 W hB)) _
include hC in
theorem final14 : (dats m 0 c).arrAt 14 cfg0.N = dCRe W := by
  refine (dats m 0 c).arrAt_eq_of_after_last 14 t0_0 (by decide +kernel) _ fun y => ?_
  blk_simp
  rw [after0_14]
  idx_vars y
  refine congrFun ((blocks h (out0_14 (F := Ideal))).trans (out14 W hC)) _
include hC in
theorem final15 : (dats m 0 c).arrAt 15 cfg0.N = dCIm W := by
  refine (dats m 0 c).arrAt_eq_of_after_last 15 t0_0 (by decide +kernel) _ fun y => ?_
  blk_simp
  rw [after0_15]
  idx_vars y
  refine congrFun ((blocks h (out0_15 (F := Ideal))).trans (out15 W hC)) _
end

end Cert.ParamKernelIdeal.Param

end

end
-- ==== Proof.ParamClaim.lean ====
module

public import proofs.«01_k».proof.Defs
public import proofs.«01_k».proof.Proof.Gen.ParamReferenceIdeal.Run
public import proofs.«01_k».proof.Proof.Param
public import proofs.«01_k».proof.Proof.Finite

@[expose] public section

set_option maxRecDepth 16384

noncomputable section

open Idealize.ShloMosaic Idealize.ShloMosaic.TcCoe Idealize.SL.Sem Idealize.ShloMosaic.StableHlo

namespace Cert.ParamKernelIdeal.Param

theorem frame_reference : Cert.quiescent_ParamReferenceIdeal := by
  intro m ρ _
  exact (θ_run _ _ _).mono (fun r h => ⟨fun c => (h c).2.2.2.2.2.2.2, sem_eq_zero_of_no_sems (by decide) r.2⟩)
    (Cert.ParamReferenceIdeal.Value.run m ρ)

/-! ## The value, for finite cotangents -/

open Cert.ParamKernelIdeal Cert.ParamKernelIdeal.Gen

theorem facts_finite : Cert.Pre_param_finite.Facts := ⟨by decide, by decide⟩

theorem frame_ideal_finite : Cert.quiescent_ParamKernelIdeal_pre_param_finite (hPre_param_finite := facts_finite) :=
  fun m ρ _ => Cert.ParamKernelIdeal.Gen.frame m ρ
theorem frame_reference_finite : Cert.quiescent_ParamReferenceIdeal_pre_param_finite (hPre_param_finite := facts_finite) := fun m ρ _ => frame_reference m ρ trivial

theorem algebraic : Cert.algebraic_ParamKernelIdeal_ParamReferenceIdeal_pre_param_finite (hPre_param_finite := facts_finite) := by
  intro m g m' g' hf hm
  refine ⟨_, _, _, _, _, _, _, (θ_run _ _ _).mono (fun r h c => ⟨(h.1 c).1 9, (h.1 c).1 10, (h.1 c).1 11, (h.1 c).1 12, (h.1 c).1 13,
    (h.1 c).1 14, (h.1 c).1 15, h.2 c⟩) (θ_run_and (Gen.run_main m g) (Gen.unchanged m g)), ?_⟩
  refine (θ_run _ _ _).mono (fun r h c => ?_) (Cert.ParamReferenceIdeal.Value.run m' g')
  obtain ⟨h0, h1, h2, h3, h4, h5, h6, h7, h8⟩ := hm c
  obtain ⟨f0, f1, f2, f3⟩ := hf c
  have a : Agrees m c (launchContents m' c) := ⟨h0, h1, h2, h3, h4, h5, h6, h7, h8⟩
  have hR : ∀ i, GLR (launchContents m' c) i = ((GLR (launchContents m' c) i).toReal : EReal) := by
    rw [a.h5]; exact Finite.real_of_all _ _ f0
  have hI : ∀ i, GLI (launchContents m' c) i = ((GLI (launchContents m' c) i).toReal : EReal) := by
    rw [a.h6]; exact Finite.real_of_all _ _ f1
  have hB : ∀ i, GWB (launchContents m' c) i = ((GWB (launchContents m' c) i).toReal : EReal) := by
    rw [a.h7]; exact Finite.real_of_all _ _ f2
  have hC : ∀ i, GWC (launchContents m' c) i = ((GWC (launchContents m' c) i).toReal : EReal) := by
    rw [a.h8]; exact Finite.real_of_all _ _ f3
  obtain ⟨r0, r1, r2, r3, r4, r5, r6, rest⟩ := h c
  exact ⟨r0.trans (final9 a hR hI hB).symm, r1.trans (final10 a hR hI hB).symm, r2.trans (final11 a hR hI hB).symm,
    r3.trans (final12 a hB).symm, r4.trans (final13 a hB).symm, r5.trans (final14 a hC).symm, r6.trans (final15 a hC).symm, rest⟩

end Cert.ParamKernelIdeal.Param

end

end
-- ==== Proof.Attn.lean ====
module

public import proofs.«01_k».proof.Proof.AttnSaved

@[expose] public section

set_option maxRecDepth 16384

noncomputable section

open Idealize.ShloMosaic Idealize.ShloMosaic.TcCoe Idealize.SL.Sem
open Cert.AttnReferenceIdeal.Attn (query score keep weight dWeight dScore dQueryR dKeyR dValueR col dQuery dKey dValue dQuery_at dKey_at dValue_at)

namespace Cert.AttnKernelIdeal.Attn

open Cert.AttnKernelIdeal Cert.AttnKernelIdeal.Gen

theorem idx : ∀ t : Fin cfg0.N, win0_0.index t = ![t.val / 4, 0, 0] ∧ win0_1.index t = ![t.val / 4, t.val % 4, 0]
    ∧ win0_2.index t = ![t.val / 4, t.val % 4, 0] ∧ win0_3.index t = ![0, t.val / 4] ∧ win0_4.index t = ![0, t.val / 4]
    ∧ win0_5.index t = ![t.val / 4, 0, 0, 0] ∧ win0_6.index t = ![t.val / 4, 0, 0] ∧ win0_7.index t = ![t.val / 4, t.val % 4, 0]
    ∧ win0_8.index t = ![t.val / 4, t.val % 4, 0] := (by decide +kernel : ∀ t : Fin grid0.N, _)

/-- A point's head. -/
abbrev head (t : Fin cfg0.N) : Fin 8 := ⟨t.val / 4, by have h := lt_of_lt_of_eq t.isLt N_0; omega⟩
theorem block_at : ∀ t : Fin cfg0.N, (grid0.coords t 1).val = t.val % 4 := (by decide +kernel : ∀ t : Fin grid0.N, _)
/-- Row `c` of the point's block of keys. -/
abbrev key (t : Fin cfg0.N) (c : Fin 1024) : Fin 4096 := ⟨t.val % 4 * 1024 + c.val, by omega⟩
theorem row_here (t : Fin cfg0.N) (c : Fin 1024) : row (here (grid0.coords t)) c = key t c :=
  Fin.ext (by rw [row_val, here_val, block_at]; dsimp only; omega)

variable (m : (ℓ : Loc nD τ sig) → Buf (Elt Ideal) ℓ) (c : Dev nD)
/-! ## The blocks a point reads -/

section
variable (t : Fin cfg0.N)

theorem block0 (r : Fin 4096) (j : Fin 256) : (show FVec Ideal S1x4096x256 .bf16 from iblk m c 0 t) (ix3 0 r j) = padQuery (argQ m c) (ix3 (head t) r j) := by
  have h : iblk m c 0 t (ix3 0 r j) = V m c main_v22 (ix3 (head t) r j) := by blk_ext [iblk, idx t]
  exact h.trans (congrFun (V_query m c) _)
theorem block1 (a : Fin 1024) (j : Fin 256) : (show FVec Ideal S1x1024x256 .bf16 from iblk m c 1 t) (ix3 0 a j) = padKey (argK m c) (ix3 (head t) (key t a) j) := by
  have h : iblk m c 1 t (ix3 0 a j) = V m c main_v25 (ix3 (head t) (key t a) j) := by blk_ext [iblk, idx t]
  exact h.trans (congrFun (V_key m c) _)
theorem block2 (a : Fin 1024) (e : Fin 128) : (show FVec Ideal S1x1024x128 .bf16 from iblk m c 2 t) (ix3 0 a e) = padValue (argV m c) (ix3 (head t) (key t a) e) := by
  have h : iblk m c 2 t (ix3 0 a e) = V m c main_v28 (ix3 (head t) (key t a) e) := by blk_ext [iblk, idx t]
  exact h.trans (congrFun (V_value m c) _)
theorem block3 (r : Fin 4096) (e : Fin 128) : (show FVec Ideal S4096x128 .f32 from iblk m c 3 t) (ix2 r e)
    = savedOut (argQ m c) (argK m c) (argV m c) (ix2 r (col (head t) e)) := by
  have h : iblk m c 3 t (ix2 r e) = V m c main_v17 (ix2 r ⟨t.val / 4 * 128 + e.val, by have h := lt_of_lt_of_eq t.isLt N_0; omega⟩) := by blk_ext [iblk, idx t]
  exact h.trans (congrFun (V_out m c) _)
theorem block4 (r : Fin 4096) (e : Fin 128) : (show FVec Ideal S4096x128 .f32 from iblk m c 4 t) (ix2 r e) = argG m c (ix2 r (col (head t) e)) := by
  have h : iblk m c 4 t (ix2 r e) = V m c main_arg3 (ix2 r ⟨t.val / 4 * 128 + e.val, by have h := lt_of_lt_of_eq t.isLt N_0; omega⟩) := by blk_ext [iblk, idx t]
  exact h.trans (congrFun (V_dOut m c) _)
theorem read5 (f : FVec Ideal S8x4x1x1024 .f32) (b : Fin 4) (r : Fin 1024) :
    ((cfg0.win 5).blk t).view.read (Elt Ideal) f (ix4 0 b 0 r) = f (ix4 (head t) b 0 r) := by
  refine congrArg f (funext fun a => Fin.ext ?_)
  obtain ⟨-, -, -, -, -, h, -⟩ := idx t
  match a with
  | ⟨0, _⟩ =>
    show win0_5.index t 0 * 1 + 1 * 0 = t.val / 4
    rw [h]; simp
  | ⟨1, _⟩ =>
    show win0_5.index t 1 * 4 + 1 * b.val = b.val
    rw [h]; simp
  | ⟨2, _⟩ =>
    show win0_5.index t 2 * 1 + 1 * 0 = 0
    rw [h]; simp
  | ⟨3, _⟩ =>
    show win0_5.index t 3 * 1024 + 1 * r.val = r.val
    rw [h]; simp
theorem block5 (b : Fin 4) (r : Fin 1024) : (show FVec Ideal S1x4x1x1024 .f32 from iblk m c 5 t) (ix4 0 b 0 r)
    = savedLse (argQ m c) (argK m c) (ix4 (head t) b 0 r) :=
  (read5 t (V m c main_v29) b r).trans (congrFun (V_lse m c) _)
end

variable {Q K : S4096x8x192.Idx → ℝ} {W : S4096x8x128.Idx → ℝ} {G : S4096x1024.Idx → ℝ}
variable (hq : ∀ i, argQ m c i = (Q i : EReal)) (hk : ∀ i, argK m c i = (K i : EReal))
  (hv : ∀ i, argV m c i = (W i : EReal)) (hg : ∀ i, argG m c i = (G i : EReal))
include hq hk hv hg

omit hq hk hv in
theorem dOut_at (t : Fin cfg0.N) (r : Fin 4096) (e : Fin 128) : (staged m c t).d (ix2 r e) = (G (ix2 r (col (head t) e)) : EReal) := by
  refine Eq.trans ?_ (hg (ix2 r (col (head t) e)))
  exact block4 m c t r e
omit hv hg in
theorem lse_at (t : Fin cfg0.N) (b : Fin 4) (r : Fin 1024) : (staged m c t).l (ix4 0 b 0 r) = (lse Q K (head t) (row b r) : EReal) := by
  refine Eq.trans ?_ (savedLse_at hq hk (head t) b r)
  exact block5 m c t b r

set_option maxHeartbeats 2000000 in
theorem holds (t : Fin cfg0.N) : Holds Q K W G (staged m c t) (head t) (grid0.coords t) where
  q r j := (block0 m c t r j).trans (padQuery_at hq (head t) r j)
  k a j := by
    have h := (block1 m c t a j).trans (padKey_at hk (head t) (key t a) j)
    rwa [← row_here] at h
  v a e := by
    have h := (block2 m c t a e).trans (padValue_at hv (head t) (key t a) e)
    rwa [← row_here] at h
  o r e := (block3 m c t r e).trans (savedOut_at hq hk hv (head t) r e)
  d := dOut_at m c hg t
  l := lse_at m c hq hk t

/-- A point adds its block of keys to the queries' gradient. -/
theorem step_at (t : Fin cfg0.N) (g : FVec Ideal S1x4096x256 .f32) (r : Fin 4096) (j : Fin 256)
    (hg' : g (ix3 0 r j) = ((∑ y ∈ Finset.Ico 0 (1024 * (t.val % 4)), Softmax.ext (fun a => dScore Q K W G (head t) r a * keyP K (head t) a j) y : ℝ) : EReal)) :
    outDq (staged m c t) (grid0.coords t) g (ix3 0 r j)
      = ((∑ y ∈ Finset.Ico 0 (1024 * (t.val % 4 + 1)), Softmax.ext (fun a => dScore Q K W G (head t) r a * keyP K (head t) a j) y : ℝ) : EReal) := by
  rw [outDq_at (holds m c hq hk hv hg t), hg', ← EReal.coe_add, ← Finset.sum_Ico_consecutive _ (Nat.zero_le (1024 * (t.val % 4)))
    (Nat.mul_le_mul_left 1024 (Nat.le_succ (t.val % 4)))]
  refine congrArg _ (congrArg (_ + ·) ?_)
  exact Softmax.sum_block (fun a => dScore Q K W G (head t) r a * keyP K (head t) a j) (t.val % 4) _ fun a => by rw [row_here]; dsimp only; omega

omit hq hk hv hg in
/-- Before the first block there is nothing. -/
theorem zero_at (f : ℕ → ℝ) {r : Fin 4096} {j : Fin 256} : k0_pay15 (F := Ideal) (ix3 0 r j) = ((∑ y ∈ Finset.Ico 0 (1024 * 0), f y : ℝ) : EReal) := by
  pointwise [k0_pay15]
  simp

theorem dqAt_at (r : Fin 4096) (j : Fin 256) : ∀ (n : ℕ) (h : n < cfg0.N), dqAt m c n h (ix3 0 r j)
    = ((∑ y ∈ Finset.Ico 0 (1024 * (n % 4 + 1)), Softmax.ext (fun a => dScore Q K W G (head ⟨n, h⟩) r a * keyP K (head ⟨n, h⟩) a j) y : ℝ) : EReal)
  | 0, h => by
    refine step_at m c hq hk hv hg ⟨0, h⟩ _ r j ?_
    unfold base
    rw [if_pos ((first_iff ⟨0, h⟩).mpr rfl)]
    exact zero_at _
  | n + 1, h => by
    refine step_at m c hq hk hv hg ⟨n + 1, h⟩ _ r j ?_
    unfold base
    split
    · rename_i hf
      rw [show (n + 1) % 4 = 0 from (first_iff ⟨n + 1, h⟩).mp hf]
      exact zero_at _
    · rename_i hf
      have hf : ¬(n + 1) % 4 = 0 := fun e => hf ((first_iff ⟨n + 1, h⟩).mpr e)
      rw [dqAt_at r j n (Nat.lt_of_succ_lt h), show head ⟨n, Nat.lt_of_succ_lt h⟩ = head ⟨n + 1, h⟩ from Fin.ext (by dsimp only; omega),
        show n % 4 + 1 = (n + 1) % 4 by omega]

theorem final6 : (dats m 0 c).arrAt 6 cfg0.N = dQuery (argQ m c) (argK m c) (argV m c) (argG m c) := by
  refine (dats m 0 c).arrAt_eq_of_covers 6 _ (by decide +kernel) fun t ht y => ?_
  blk_simp
  rw [after0_6]
  idx_vars y
  have e : ((View.whole main_v31_0).slice (win0_6.rect t)).emb (ix3 y0 y1 y2) = ix3 (head t) y1 y2 := by blk_ext [idx t]
  rw [e, show y0 = 0 from Subsingleton.elim _ _]
  refine (dqAt_at m c hq hk hv hg y1 y2 t.val t.isLt).trans ((congrArg _ ?_).trans (dQuery_at hq hk hv hg _ _ _).symm)
  rw [(flush0_6 t).mp ht]
  refine (Softmax.sum_all fun a => dScore Q K W G (head t) y1 a * keyP K (head t) a y2).symm.trans ?_
  simp only [keyP]
  split
  · rfl
  · simp only [mul_zero, Finset.sum_const_zero]

theorem final7 : (dats m 0 c).arrAt 7 cfg0.N = dKey (argQ m c) (argK m c) (argV m c) (argG m c) := by
  refine (dats m 0 c).arrAt_eq_of_covers 7 _ (by decide +kernel) fun t _ y => ?_
  blk_simp
  rw [after0_7]
  idx_vars y
  have e : ((View.whole main_v31_1).slice (win0_7.rect t)).emb (ix3 y0 y1 y2) = ix3 (head t) (key t y1) y2 := by blk_ext [idx t]
  rw [e, show y0 = 0 from Subsingleton.elim _ _]
  refine (outDk_at (holds m c hq hk hv hg t) y1 y2).trans ((congrArg _ ?_).trans (dKey_at hq hk hv hg _ _ _).symm)
  rw [row_here]
  simp only [queryP]
  split
  · rfl
  · simp only [mul_zero, Finset.sum_const_zero]

theorem final8 : (dats m 0 c).arrAt 8 cfg0.N = dValue (argQ m c) (argK m c) (argG m c) := by
  refine (dats m 0 c).arrAt_eq_of_covers 8 _ (by decide +kernel) fun t _ y => ?_
  blk_simp
  rw [after0_8]
  idx_vars y
  have e : ((View.whole main_v31_2).slice (win0_8.rect t)).emb (ix3 y0 y1 y2) = ix3 (head t) (key t y1) y2 := by blk_ext [idx t]
  rw [e, show y0 = 0 from Subsingleton.elim _ _]
  refine (outDv_at (holds m c hq hk hv hg t) y1 y2).trans ((congrArg _ ?_).trans (dValue_at hq hk hg _ _ _).symm)
  rw [row_here]
  rfl

end Cert.AttnKernelIdeal.Attn
-- ==== Proof.AttnClaim.lean ====
module

public import proofs.«01_k».proof.Defs
public import proofs.«01_k».proof.Proof.Gen.AttnKernel
public import proofs.«01_k».proof.Proof.Gen.AttnReferenceIdeal.Run
public import proofs.«01_k».proof.Proof.Attn
public import proofs.«01_k».proof.Proof.Finite

@[expose] public section

set_option maxRecDepth 16384

noncomputable section

open Idealize.ShloMosaic Idealize.ShloMosaic.TcCoe Idealize.ShloMosaic.Tactic Idealize.SL.Sem

namespace Cert.AttnKernelIdeal.Attn

/-- The program and its idealization are one text: -/
theorem main_eq : Cert.AttnKernel.main (F := Bits) = Cert.AttnKernelIdeal.main (F := Bits) := by sl_kernel_rfl
theorem defs_eq : Cert.AttnKernel.defs (F := Bits) = Cert.AttnKernelIdeal.defs (F := Bits) := by sl_kernel_rfl

/-- the run at the machine's floats is the program's own. -/
theorem frame_kernel : Cert.quiescent_AttnKernel := by
  intro m ρ _
  refine Eq.mp ?_ (frame_run (F := Bits) m ρ)
  congr 1
  rw [show Cert.AttnKernel.main (F := Bits) = Cert.AttnKernelIdeal.main (F := Bits) from main_eq]
  exact congrArg (fun d => θ_run d _ _) defs_eq.symm

theorem frame_ideal : Cert.quiescent_AttnKernelIdeal := fun m ρ _ => frame_run m ρ

theorem frame_reference : Cert.quiescent_AttnReferenceIdeal := by
  intro m ρ _
  exact (θ_run _ _ _).mono (fun r h => ⟨fun c => (h c).2.2.2, sem_eq_zero_of_no_sems (by decide) r.2⟩)
    (Cert.AttnReferenceIdeal.Value.run m ρ)

/-! ## The value, for finite arguments -/

theorem facts_finite : Cert.Pre_attn_finite.Facts := ⟨by decide, by decide, by decide⟩

theorem frame_ideal_finite : Cert.quiescent_AttnKernelIdeal_pre_attn_finite (hPre_attn_finite := facts_finite) := fun m ρ _ => frame_ideal m ρ trivial
theorem frame_reference_finite : Cert.quiescent_AttnReferenceIdeal_pre_attn_finite (hPre_attn_finite := facts_finite) := fun m ρ _ => frame_reference m ρ trivial

theorem algebraic : Cert.algebraic_AttnKernelIdeal_AttnReferenceIdeal_pre_attn_finite (hPre_attn_finite := facts_finite) := by
  intro m g m' g' hf hm
  refine ⟨_, _, _, (θ_run _ _ _).mono (fun r h c => ⟨(h.1 c).1 6, (h.1 c).1 7, (h.1 c).1 8, h.2 c⟩) (θ_run_and (run_main m g) (unchanged m g)), ?_⟩
  refine (θ_run _ _ _).mono (fun r h c => ?_) (Cert.AttnReferenceIdeal.Value.run m' g')
  obtain ⟨h0, h1, h2, h3⟩ := hm c
  obtain ⟨f0, f1, f2, f3⟩ := hf c
  have e0 := Finite.real_of_all (argQ m c) _ f0
  have e1 := Finite.real_of_all (argK m c) _ f1
  have e2 := Finite.real_of_all (argV m c) _ f2
  have e3 := Finite.real_of_all (argG m c) _ f3
  obtain ⟨r0, r1, r2, rest⟩ := h c
  rw [AttnReferenceIdeal.Attn.run_dQuery] at r0
  rw [AttnReferenceIdeal.Attn.run_dKey] at r1
  rw [AttnReferenceIdeal.Attn.run_dValue] at r2
  simp only [h0, h1, h2, h3] at r0 r1 r2
  exact ⟨r0.trans (final6 m c e0 e1 e2 e3).symm, r1.trans (final7 m c e0 e1 e2 e3).symm, r2.trans (final8 m c e0 e1 e2 e3).symm, rest⟩

end Cert.AttnKernelIdeal.Attn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.MergeFKernel
public import proofs.«01_k».proof.Proof.Gen.MergeFKernel.Skeleton
public import proofs.«01_k».proof.Proof.Gen.MergeFKernel.Launch
public import proofs.«01_k».proof.Proof.Gen.MergeFKernel.Points
public import proofs.«01_k».proof.Proof.Gen.MergeFKernel.Frame
public import proofs.«01_k».proof.Proof.Gen.MergeFKernelIdeal
public import proofs.«01_k».proof.Proof.Gen.MergeFKernelIdeal.Skeleton
public import proofs.«01_k».proof.Proof.Gen.MergeFKernelIdeal.Launch
public import proofs.«01_k».proof.Proof.Gen.MergeFKernelIdeal.Points
public import proofs.«01_k».proof.Proof.Gen.MergeFKernelIdeal.Frame
public import proofs.«01_k».proof.Proof.Gen.MergeFReferenceIdeal
public import proofs.«01_k».proof.Proof.Gen.MergeFReferenceIdeal.Run
public import proofs.«01_k».proof.Proof.Gen.InFKernel
public import proofs.«01_k».proof.Proof.Gen.InFKernel.Skeleton
public import proofs.«01_k».proof.Proof.Gen.InFKernel.Launch
public import proofs.«01_k».proof.Proof.Gen.InFKernel.Points
public import proofs.«01_k».proof.Proof.Gen.InFKernel.Frame
public import proofs.«01_k».proof.Proof.Gen.InFKernelIdeal
public import proofs.«01_k».proof.Proof.Gen.InFKernelIdeal.Skeleton
public import proofs.«01_k».proof.Proof.Gen.InFKernelIdeal.Launch
public import proofs.«01_k».proof.Proof.Gen.InFKernelIdeal.Points
public import proofs.«01_k».proof.Proof.Gen.InFKernelIdeal.Frame
public import proofs.«01_k».proof.Proof.Gen.InFReferenceIdeal
public import proofs.«01_k».proof.Proof.Gen.InFReferenceIdeal.Run
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.MlpReferenceIdeal.Run
public import proofs.«01_k».proof.Proof.Gen.MlaKernel
public import proofs.«01_k».proof.Proof.Gen.MlaKernelIdeal
public import proofs.«01_k».proof.Proof.Gen.MlaKernelIdeal.Skeleton
public import proofs.«01_k».proof.Proof.Gen.MlaKernelIdeal.Launch
public import proofs.«01_k».proof.Proof.Gen.MlaKernelIdeal.Points
public import proofs.«01_k».proof.Proof.Gen.MlaKernelIdeal.Frame.Runs
public import proofs.«01_k».proof.Proof.Gen.MlaReferenceIdeal
public import proofs.«01_k».proof.Proof.Gen.MlaReferenceIdeal.Run
public import proofs.«01_k».proof.Proof.Gen.AttnFKernel
public import proofs.«01_k».proof.Proof.Gen.AttnFKernel.Skeleton
public import proofs.«01_k».proof.Proof.Gen.AttnFKernel.Launch
public import proofs.«01_k».proof.Proof.Gen.AttnFKernel.Points
public import proofs.«01_k».proof.Proof.Gen.AttnFKernel.Frame
public import proofs.«01_k».proof.Proof.Gen.AttnFKernelIdeal
public import proofs.«01_k».proof.Proof.Gen.AttnFKernelIdeal.Skeleton
public import proofs.«01_k».proof.Proof.Gen.AttnFKernelIdeal.Launch
public import proofs.«01_k».proof.Proof.Gen.AttnFKernelIdeal.Points
public import proofs.«01_k».proof.Proof.Gen.AttnFKernelIdeal.Frame
public import proofs.«01_k».proof.Proof.Gen.AttnFReferenceIdeal
public import proofs.«01_k».proof.Proof.Gen.AttnFReferenceIdeal.Run
public import proofs.«01_k».proof.Proof.Gen.ParamKernel
public import proofs.«01_k».proof.Proof.Gen.ParamKernel.Skeleton
public import proofs.«01_k».proof.Proof.Gen.ParamKernel.Launch
public import proofs.«01_k».proof.Proof.Gen.ParamKernel.Points
public import proofs.«01_k».proof.Proof.Gen.ParamKernel.Frame
public import proofs.«01_k».proof.Proof.Gen.ParamKernelIdeal
public import proofs.«01_k».proof.Proof.Gen.ParamKernelIdeal.Skeleton
public import proofs.«01_k».proof.Proof.Gen.ParamKernelIdeal.Launch
public import proofs.«01_k».proof.Proof.Gen.ParamKernelIdeal.Points
public import proofs.«01_k».proof.Proof.Gen.ParamKernelIdeal.Frame
public import proofs.«01_k».proof.Proof.Gen.ParamReferenceIdeal
public import proofs.«01_k».proof.Proof.Gen.ParamReferenceIdeal.Run
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnReferenceIdeal.Run
public import proofs.«01_k».proof.Proof.MergeClaim
public import proofs.«01_k».proof.Proof.InClaim
public import proofs.«01_k».proof.Proof.MergeFClaim
public import proofs.«01_k».proof.Proof.InFClaim
public import proofs.«01_k».proof.Proof.MlpClaim
public import proofs.«01_k».proof.Proof.MlaClaim
public import proofs.«01_k».proof.Proof.AttnFClaim
public import proofs.«01_k».proof.Proof.ParamClaim
public import proofs.«01_k».proof.Proof.AttnClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InKernel.Gen.facts, Cert.InKernelIdeal.Gen.facts, Cert.InReferenceIdeal.Gen.facts,
  Cert.MergeFKernel.Gen.facts, Cert.MergeFKernelIdeal.Gen.facts, Cert.MergeFReferenceIdeal.Gen.facts,
  Cert.InFKernel.Gen.facts, Cert.InFKernelIdeal.Gen.facts, Cert.InFReferenceIdeal.Gen.facts,
  Cert.MlpKernel.Gen.facts, Cert.MlpKernelIdeal.Gen.facts, Cert.MlpReferenceIdeal.Gen.facts,
  Cert.MlaKernel.Gen.facts, Cert.MlaKernelIdeal.Gen.facts, Cert.MlaReferenceIdeal.Gen.facts,
  Cert.AttnFKernel.Gen.facts, Cert.AttnFKernelIdeal.Gen.facts, Cert.AttnFReferenceIdeal.Gen.facts,
  Cert.ParamKernel.Gen.facts, Cert.ParamKernelIdeal.Gen.facts, Cert.ParamReferenceIdeal.Gen.facts,
  Cert.AttnKernel.Gen.facts, Cert.AttnKernelIdeal.Gen.facts, Cert.AttnReferenceIdeal.Gen.facts,
  Cert.AttnFKernelIdeal.AttnF.facts_finite, Cert.ParamKernelIdeal.Param.facts_finite, Cert.AttnKernelIdeal.Attn.facts_finite,
  fun m ρ _ => Cert.Kernel.Gen.frame m ρ, fun m ρ _ => Cert.KernelIdeal.Gen.frame m ρ, Cert.KernelIdeal.Merge.frame_reference,
  fun m ρ _ => Cert.InKernel.Gen.frame m ρ, fun m ρ _ => Cert.InKernelIdeal.Gen.frame m ρ, Cert.InKernelIdeal.In.frame_reference,
  fun m ρ _ => Cert.MergeFKernel.Gen.frame m ρ, fun m ρ _ => Cert.MergeFKernelIdeal.Gen.frame m ρ, Cert.MergeFKernelIdeal.MergeF.frame_reference,
  fun m ρ _ => Cert.InFKernel.Gen.frame m ρ, fun m ρ _ => Cert.InFKernelIdeal.Gen.frame m ρ, Cert.InFKernelIdeal.InF.frame_reference,
  fun m ρ _ => Cert.MlpKernel.Gen.frame m ρ, fun m ρ _ => Cert.MlpKernelIdeal.Gen.frame m ρ, Cert.MlpKernelIdeal.Mlp.frame_reference,
  Cert.MlaKernelIdeal.Mla.frame_kernel, Cert.MlaKernelIdeal.Mla.frame_ideal, Cert.MlaKernelIdeal.Mla.frame_reference,
  fun m ρ _ => Cert.AttnFKernel.Gen.frame m ρ, fun m ρ _ => Cert.AttnFKernelIdeal.Gen.frame m ρ, Cert.AttnFKernelIdeal.AttnF.frame_ideal_finite,
  Cert.AttnFKernelIdeal.AttnF.frame_reference, Cert.AttnFKernelIdeal.AttnF.frame_reference_finite,
  fun m ρ _ => Cert.ParamKernel.Gen.frame m ρ, fun m ρ _ => Cert.ParamKernelIdeal.Gen.frame m ρ, Cert.ParamKernelIdeal.Param.frame_ideal_finite,
  Cert.ParamKernelIdeal.Param.frame_reference, Cert.ParamKernelIdeal.Param.frame_reference_finite,
  Cert.AttnKernelIdeal.Attn.frame_kernel, Cert.AttnKernelIdeal.Attn.frame_ideal, Cert.AttnKernelIdeal.Attn.frame_ideal_finite,
  Cert.AttnKernelIdeal.Attn.frame_reference, Cert.AttnKernelIdeal.Attn.frame_reference_finite,
  trivial, Cert.KernelIdeal.Merge.algebraic, trivial, Cert.InKernelIdeal.In.algebraic, trivial, Cert.MergeFKernelIdeal.MergeF.algebraic, trivial, Cert.InFKernelIdeal.InF.algebraic,
  trivial, Cert.MlpKernelIdeal.Mlp.algebraic,
  Cert.MlaKernelIdeal.Mla.preserves, trivial, Cert.AttnFKernelIdeal.AttnF.algebraic,
  trivial, Cert.ParamKernelIdeal.Param.algebraic, trivial, Cert.AttnKernelIdeal.Attn.algebraic⟩

end Cert.Proof

end
